-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_on_no_tie_pre_zero_biases [hKernelIdeal : Cert.KernelIdeal.Facts] [hReferenceIdeal : Cert.ReferenceIdeal.Facts] [hPre_zero_biases : Cert.Pre_zero_biases.Facts] [hOn_no_tie : Cert.On_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16384, 2048]⟩ : Shape).Idx, (Cert.On_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 i = 1#1 → r.2.mem ((c.tc : Thread Cert.KernelIdeal.nD Cert.KernelIdeal.τ).loc Cert.KernelIdeal.main_v6_0) i = v0 c i)
          ∧ (∀ i : (⟨2, ![16384, 1]⟩ : Shape).Idx, (Cert.On_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 i = 1#1 → r.2.mem ((c.tc : Thread Cert.KernelIdeal.nD Cert.KernelIdeal.τ).loc Cert.KernelIdeal.main_v6_1) i = v1 c i)
          ∧ (∀ i : (⟨2, ![16384, 2048]⟩ : Shape).Idx, (Cert.On_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 i = 1#1 → r.2.mem ((c.tc : Thread Cert.KernelIdeal.nD Cert.KernelIdeal.τ).loc Cert.KernelIdeal.main_v6_2) i = v2 c i)
          ∧ (∀ i : (⟨2, ![16384, 1]⟩ : Shape).Idx, (Cert.On_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2 i = 1#1 → r.2.mem ((c.tc : Thread Cert.KernelIdeal.nD Cert.KernelIdeal.τ).loc Cert.KernelIdeal.main_v6_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16384, 2048]⟩ : Shape).Idx, (Cert.On_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 i = 1#1 → r.2.mem ((c.tc : Thread Cert.ReferenceIdeal.nD Cert.ReferenceIdeal.τ).loc Cert.ReferenceIdeal.main_v464) i = v0 c i)
          ∧ (∀ i : (⟨2, ![16384, 1]⟩ : Shape).Idx, (Cert.On_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 i = 1#1 → r.2.mem ((c.tc : Thread Cert.ReferenceIdeal.nD Cert.ReferenceIdeal.τ).loc Cert.ReferenceIdeal.main_v1153) i = v1 c i)
          ∧ (∀ i : (⟨2, ![16384, 2048]⟩ : Shape).Idx, (Cert.On_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 i = 1#1 → r.2.mem ((c.tc : Thread Cert.ReferenceIdeal.nD Cert.ReferenceIdeal.τ).loc Cert.ReferenceIdeal.main_v940) i = v2 c i)
          ∧ (∀ i : (⟨2, ![16384, 1]⟩ : Shape).Idx, (Cert.On_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2 i = 1#1 → r.2.mem ((c.tc : Thread Cert.ReferenceIdeal.nD Cert.ReferenceIdeal.τ).loc Cert.ReferenceIdeal.main_v1161) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_zero_biases : Cert.Pre_zero_biases.Facts) (hOn_no_tie : Cert.On_no_tie.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_on_no_tie_pre_zero_biases (hKernelIdeal := hKernelIdeal) (hReferenceIdeal := hReferenceIdeal) (hPre_zero_biases := hPre_zero_biases) (hOn_no_tie := hOn_no_tie)
-- ==== On_no_tie.lean ====
abbrev S16384x256 : Shape := ⟨2, ![16384, 256]⟩
abbrev S256x64 : Shape := ⟨2, ![256, 64]⟩
abbrev S64 : Shape := ⟨1, ![64]⟩
abbrev S64x64 : Shape := ⟨2, ![64, 64]⟩
abbrev S64x2048 : Shape := ⟨2, ![64, 2048]⟩
abbrev S2048 : Shape := ⟨1, ![2048]⟩
abbrev S4 : Shape := ⟨1, ![4]⟩
abbrev S_ : Shape := ⟨0, ![]⟩
abbrev S1 : Shape := ⟨1, ![1]⟩
abbrev S16384x64 : Shape := ⟨2, ![16384, 64]⟩
abbrev S1x64 : Shape := ⟨2, ![1, 64]⟩
abbrev S16384x2048 : Shape := ⟨2, ![16384, 2048]⟩
abbrev S1x2048 : Shape := ⟨2, ![1, 2048]⟩
abbrev S16384x4096 : Shape := ⟨2, ![16384, 4096]⟩
abbrev S16384 : Shape := ⟨1, ![16384]⟩
abbrev S16384x1 : Shape := ⟨2, ![16384, 1]⟩

class Facts : Prop where
  bcast_S_S4 : S_.BroadcastsInDim S4 (![] : Fin 0 → Fin S4.rank)
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  concatenates_S16384x2048_S16384x2048_S16384x4096_d1 : Shape.Concatenates [S16384x2048, S16384x2048] S16384x4096 1
  bcast_S_S16384x4096 : S_.BroadcastsInDim S16384x4096 (![] : Fin 0 → Fin S16384x4096.rank)
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  natLt_1_32 : 1 < 32
  bcast_S_S16384x1 : S_.BroadcastsInDim S16384x1 (![] : Fin 0 → Fin S16384x1.rank)
  dot_S16384x256_S256x64_S16384x64_1_0_0_1_n_n_wf : DotDims.WF S16384x256 S256x64 S16384x64 [1] [0] [0] [1] [] []
  dot_S16384x64_S64x64_S16384x64_1_0_0_1_n_n_wf : DotDims.WF S16384x64 S64x64 S16384x64 [1] [0] [0] [1] [] []
  dot_S16384x64_S64x2048_S16384x2048_1_0_0_1_n_n_wf : DotDims.WF S16384x64 S64x2048 S16384x2048 [1] [0] [0] [1] [] []

variable [Facts]

def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x2048_S16384x2048_1_0_0_1_n_n : DotDims S16384x64 S64x2048 S16384x2048 where
  lhsContracting := [1]
  rhsContracting := [0]
  lhsNonContracting := [0]
  rhsNonContracting := [1]
  lhsBatch := []
  rhsBatch := []
  wf := dot_S16384x64_S64x2048_S16384x2048_1_0_0_1_n_n_wf
def fn_relu {F : FTy → Type} [FloatOps F] (arg0 : FVec F S16384x64 .f32) : FVec F S16384x64 .f32 :=
  let cst : FVec F S_ .f32 := constant S_ .f32 0x00000000#32
  let v0 : FVec F S16384x64 .f32 := broadcastInDim S16384x64 ![] bcast_S_S16384x64 cst
  let v1 : FVec F S16384x64 .f32 := maximumf arg0 v0
  v1

def fn_where {F : FTy → Type} [FloatOps F] (arg0 : IVec S16384x2048 1) (arg1 : FVec F S16384x2048 .f32) (arg2 : FVec F S16384x2048 .f32) : FVec F S16384x2048 .f32 :=
  let v0 : FVec F S16384x2048 .f32 := select arg0 arg1 arg2
  v0

def fn_where_0 {F : FTy → Type} [FloatOps F] (arg0 : IVec S16384x2048 1) (arg1 : FVec F S_ .f32) (arg2 : FVec F S_ .f32) : FVec F S16384x2048 .f32 :=
  let v0 : FVec F S16384x2048 .f32 := broadcastInDim S16384x2048 ![] bcast_S_S16384x2048 arg1
  let v1 : FVec F S16384x2048 .f32 := broadcastInDim S16384x2048 ![] bcast_S_S16384x2048 arg2
  let v2 : FVec F S16384x2048 .f32 := select arg0 v0 v1
  v2

def fn_clip {F : FTy → Type} [FloatOps F] (arg0 : FVec F S16384x2048 .f32) (arg1 : FVec F S_ .f32) (arg2 : FVec F S_ .f32) : FVec F S16384x2048 .f32 :=
  let v0 : FVec F S_ .f32 := id arg1
  let v1 : FVec F S16384x2048 .f32 := broadcastInDim S16384x2048 ![] bcast_S_S16384x2048 v0
  let v2 : FVec F S16384x2048 .f32 := maximumf v1 arg0
  let v3 : FVec F S_ .f32 := id arg2
  let v4 : FVec F S16384x2048 .f32 := broadcastInDim S16384x2048 ![] bcast_S_S16384x2048 v3
  let v5 : FVec F S16384x2048 .f32 := minimumf v4 v2
  v5

def fn_part62 {F : FTy → Type} [FloatOps F] (main_v1145 : FVec F S16384x4096 .f32) (main_v1146 : IVec S16384x2048 1) (main_v1153 : IVec S16384x1 32) : IVec S16384x2048 1 × IVec S16384x1 1 × IVec S16384x2048 1 × IVec S16384x1 1 :=
  let main_c_332 : IVec S_ 32 := constantI S_ 32 1#32
  let main_v1154 : IVec S16384x1 32 := broadcastInDim S16384x1 ![] bcast_S_S16384x1 main_c_332
  let main_v1155 : IVec S16384x1 1 := cmpi .eq main_v1153 main_v1154
  let main_cst_333 : FVec F S_ .f32 := constant S_ .f32 0xFF800000#32
  let main_v1156 : FVec F S16384 .f32 := (fun x v => Host.reduce FloatOps.maximumf x v reducesTo_S16384x4096_S16384_d1 h_S_) main_v1145 main_cst_333
  let main_v1157 : FVec F S16384x1 .f32 := broadcastInDim S16384x1 ![0] bcast_S16384_S16384x1_0 main_v1156
  let main_v1158 : FVec F S16384x4096 .f32 := broadcastInDim S16384x4096 ![0, 1] bcast_S16384x1_S16384x4096_0_1 main_v1157
  let main_v1159 : IVec S16384x4096 1 := cmpf .oeq main_v1145 main_v1158
  let main_v1160 : IVec S16384x4096 32 := (extui 32 · natLt_1_32) main_v1159
  let main_c_334 : IVec S_ 32 := constantI S_ 32 0#32
  let main_v1161 : IVec S16384 32 := (fun x v => Host.reduce IntOp.addi x v reducesTo_S16384x4096_S16384_d1 h_S_) main_v1160 main_c_334
  let main_v1162 : IVec S16384x1 32 := broadcastInDim S16384x1 ![0] bcast_S16384_S16384x1_0 main_v1161
  let main_c_335 : IVec S_ 32 := constantI S_ 32 1#32
  let main_v1163 : IVec S16384x1 32 := broadcastInDim S16384x1 ![] bcast_S_S16384x1 main_c_335
  let main_v1164 : IVec S16384x1 1 := cmpi .eq main_v1162 main_v1163
  (main_v1146, main_v1155, main_v1146, main_v1164)

def fn_part61 {F : FTy → Type} [FloatOps F] (main_v669 : FVec F S16384x4096 .f32) (main_v943 : FVec F S16384x4096 .f32) (main_v1133 : FVec F S16384x4096 .f32) (main_v1134 : FVec F S16384x4096 .f32) : IVec S16384x2048 1 × IVec S16384x1 1 × IVec S16384x2048 1 × IVec S16384x1 1 :=
  let main_v1135 : FVec F S16384x4096 .f32 := mulf main_v1133 main_v1134
  let main_cst_327 : FVec F S_ .f32 := constant S_ .f32 0x00800000#32
  let main_v1136 : FVec F S16384x4096 .f32 := broadcastInDim S16384x4096 ![] bcast_S_S16384x4096 main_cst_327
  let main_v1137 : FVec F S16384x4096 .f32 := addf main_v1135 main_v1136
  let main_cst_328 : FVec F S_ .f32 := constant S_ .f32 0x00800000#32
  let main_v1138 : FVec F S16384x4096 .f32 := broadcastInDim S16384x4096 ![] bcast_S_S16384x4096 main_cst_328
  let main_v1139 : FVec F S16384x4096 .f32 := maximumf main_v1138 main_v1137
  let main_v1140 : FVec F S16384x4096 .f32 := Host.log main_v1139
  let main_v1141 : FVec F S16384x4096 .f32 := Host.negf main_v1140
  let main_v1142 : FVec F S16384x4096 .f32 := Host.log main_v1141
  let main_v1143 : FVec F S16384x4096 .f32 := Host.negf main_v1142
  let main_v1144 : FVec F S16384x4096 .f32 := Host.log main_v943
  let main_v1145 : FVec F S16384x4096 .f32 := addf main_v1143 main_v1144
  let main_c_329 : IVec S_ 1 := constantI S_ 1 1#1
  let main_v1146 : IVec S16384x2048 1 := broadcastInDim S16384x2048 ![] bcast_S_S16384x2048 main_c_329
  let main_cst_330 : FVec F S_ .f32 := constant S_ .f32 0xFF800000#32
  let main_v1147 : FVec F S16384 .f32 := (fun x v => Host.reduce FloatOps.maximumf x v reducesTo_S16384x4096_S16384_d1 h_S_) main_v669 main_cst_330
  let main_v1148 : FVec F S16384x1 .f32 := broadcastInDim S16384x1 ![0] bcast_S16384_S16384x1_0 main_v1147
  let main_v1149 : FVec F S16384x4096 .f32 := broadcastInDim S16384x4096 ![0, 1] bcast_S16384x1_S16384x4096_0_1 main_v1148
  let main_v1150 : IVec S16384x4096 1 := cmpf .oeq main_v669 main_v1149
  let main_v1151 : IVec S16384x4096 32 := (extui 32 · natLt_1_32) main_v1150
  let main_c_331 : IVec S_ 32 := constantI S_ 32 0#32
  let main_v1152 : IVec S16384 32 := (fun x v => Host.reduce IntOp.addi x v reducesTo_S16384x4096_S16384_d1 h_S_) main_v1151 main_c_331
  let main_v1153 : IVec S16384x1 32 := broadcastInDim S16384x1 ![0] bcast_S16384_S16384x1_0 main_v1152
  fn_part62 (F := F) main_v1145 main_v1146 main_v1153

def fn_part60 {F : FTy → Type} [FloatOps F] (main_v191 : IVec S_ 32) (main_v669 : FVec F S16384x4096 .f32) (main_v943 : FVec F S16384x4096 .f32) (main_v951 : IVec S_ 32) (main_v1112 : IVec S16384x4096 32) (main_v1113 : IVec S16384x4096 32) (main_v1115 : IVec S16384x4096 32) (main_c_321 : IVec S_ 32) : IVec S16384x2048 1 × IVec S16384x1 1 × IVec S16384x2048 1 × IVec S16384x1 1 :=
  let main_v1116 : IVec S16384x4096 32 := broadcastInDim S16384x4096 ![] bcast_S_S16384x4096 main_c_321
  let main_v1117 : IVec S16384x4096 32 := Host.shrui main_v1112 main_v1116
  let main_v1118 : IVec S16384x4096 32 := ori main_v1115 main_v1117
  let main_v1119 : IVec S16384x4096 32 := xori main_v1113 main_v1118
  let main_v1120 : IVec S16384x4096 32 := broadcastInDim S16384x4096 ![] bcast_S_S16384x4096 main_v951
  let main_v1121 : IVec S16384x4096 32 := addi main_v1113 main_v1120
  let main_v1122 : IVec S16384x4096 32 := broadcastInDim S16384x4096 ![] bcast_S_S16384x4096 main_v191
  let main_v1123 : IVec S16384x4096 32 := addi main_v1119 main_v1122
  let main_c_322 : IVec S_ 32 := constantI S_ 32 5#32
  let main_v1124 : IVec S16384x4096 32 := broadcastInDim S16384x4096 ![] bcast_S_S16384x4096 main_c_322
  let main_v1125 : IVec S16384x4096 32 := addi main_v1123 main_v1124
  let main_v1126 : IVec S16384x4096 32 := xori main_v1121 main_v1125
  let main_c_323 : IVec S_ 32 := constantI S_ 32 9#32
  let main_v1127 : IVec S16384x4096 32 := broadcastInDim S16384x4096 ![] bcast_S_S16384x4096 main_c_323
  let main_v1128 : IVec S16384x4096 32 := Host.shrui main_v1126 main_v1127
  let main_c_324 : IVec S_ 32 := constantI S_ 32 1065353216#32
  let main_v1129 : IVec S16384x4096 32 := broadcastInDim S16384x4096 ![] bcast_S_S16384x4096 main_c_324
  let main_v1130 : IVec S16384x4096 32 := ori main_v1128 main_v1129
  let main_v1131 : FVec F S16384x4096 .f32 := bitcastToFloat .f32 main_v1130
  let main_cst_325 : FVec F S_ .f32 := constant S_ .f32 0x3F800000#32
  let main_v1132 : FVec F S16384x4096 .f32 := broadcastInDim S16384x4096 ![] bcast_S_S16384x4096 main_cst_325
  let main_v1133 : FVec F S16384x4096 .f32 := subf main_v1131 main_v1132
  let main_cst_326 : FVec F S_ .f32 := constant S_ .f32 0x3F800000#32
  let main_v1134 : FVec F S16384x4096 .f32 := broadcastInDim S16384x4096 ![] bcast_S_S16384x4096 main_cst_326
  fn_part61 (F := F) main_v669 main_v943 main_v1133 main_v1134

def fn_part59 {F : FTy → Type} [FloatOps F] (main_v191 : IVec S_ 32) (main_v669 : FVec F S16384x4096 .f32) (main_v943 : FVec F S16384x4096 .f32) (main_v951 : IVec S_ 32) (main_v1092 : IVec S16384x4096 32) (main_v1097 : IVec S16384x4096 32) : IVec S16384x2048 1 × IVec S16384x1 1 × IVec S16384x2048 1 × IVec S16384x1 1 :=
  let main_v1098 : IVec S16384x4096 32 := xori main_v1092 main_v1097
  let main_v1099 : IVec S16384x4096 32 := addi main_v1092 main_v1098
  let main_c_316 : IVec S_ 32 := constantI S_ 32 15#32
  let main_v1100 : IVec S16384x4096 32 := broadcastInDim S16384x4096 ![] bcast_S_S16384x4096 main_c_316
  let main_v1101 : IVec S16384x4096 32 := Host.shli main_v1098 main_v1100
  let main_c_317 : IVec S_ 32 := constantI S_ 32 17#32
  let main_v1102 : IVec S16384x4096 32 := broadcastInDim S16384x4096 ![] bcast_S_S16384x4096 main_c_317
  let main_v1103 : IVec S16384x4096 32 := Host.shrui main_v1098 main_v1102
  let main_v1104 : IVec S16384x4096 32 := ori main_v1101 main_v1103
  let main_v1105 : IVec S16384x4096 32 := xori main_v1099 main_v1104
  let main_v1106 : IVec S16384x4096 32 := addi main_v1099 main_v1105
  let main_c_318 : IVec S_ 32 := constantI S_ 32 26#32
  let main_v1107 : IVec S16384x4096 32 := broadcastInDim S16384x4096 ![] bcast_S_S16384x4096 main_c_318
  let main_v1108 : IVec S16384x4096 32 := Host.shli main_v1105 main_v1107
  let main_c_319 : IVec S_ 32 := constantI S_ 32 6#32
  let main_v1109 : IVec S16384x4096 32 := broadcastInDim S16384x4096 ![] bcast_S_S16384x4096 main_c_319
  let main_v1110 : IVec S16384x4096 32 := Host.shrui main_v1105 main_v1109
  let main_v1111 : IVec S16384x4096 32 := ori main_v1108 main_v1110
  let main_v1112 : IVec S16384x4096 32 := xori main_v1106 main_v1111
  let main_v1113 : IVec S16384x4096 32 := addi main_v1106 main_v1112
  let main_c_320 : IVec S_ 32 := constantI S_ 32 6#32
  let main_v1114 : IVec S16384x4096 32 := broadcastInDim S16384x4096 ![] bcast_S_S16384x4096 main_c_320
  let main_v1115 : IVec S16384x4096 32 := Host.shli main_v1112 main_v1114
  let main_c_321 : IVec S_ 32 := constantI S_ 32 26#32
  fn_part60 (F := F) main_v191 main_v669 main_v943 main_v951 main_v1112 main_v1113 main_v1115 main_c_321

def fn_part58 {F : FTy → Type} [FloatOps F] (main_v191 : IVec S_ 32) (main_v193 : IVec S_ 32) (main_v669 : FVec F S16384x4096 .f32) (main_v943 : FVec F S16384x4096 .f32) (main_v951 : IVec S_ 32) (main_v1072 : IVec S16384x4096 32) (main_v1078 : IVec S16384x4096 32) : IVec S16384x2048 1 × IVec S16384x1 1 × IVec S16384x2048 1 × IVec S16384x1 1 :=
  let main_v1079 : IVec S16384x4096 32 := addi main_v1072 main_v1078
  let main_c_311 : IVec S_ 32 := constantI S_ 32 24#32
  let main_v1080 : IVec S16384x4096 32 := broadcastInDim S16384x4096 ![] bcast_S_S16384x4096 main_c_311
  let main_v1081 : IVec S16384x4096 32 := Host.shli main_v1078 main_v1080
  let main_c_312 : IVec S_ 32 := constantI S_ 32 8#32
  let main_v1082 : IVec S16384x4096 32 := broadcastInDim S16384x4096 ![] bcast_S_S16384x4096 main_c_312
  let main_v1083 : IVec S16384x4096 32 := Host.shrui main_v1078 main_v1082
  let main_v1084 : IVec S16384x4096 32 := ori main_v1081 main_v1083
  let main_v1085 : IVec S16384x4096 32 := xori main_v1079 main_v1084
  let main_v1086 : IVec S16384x4096 32 := broadcastInDim S16384x4096 ![] bcast_S_S16384x4096 main_v193
  let main_v1087 : IVec S16384x4096 32 := addi main_v1079 main_v1086
  let main_v1088 : IVec S16384x4096 32 := broadcastInDim S16384x4096 ![] bcast_S_S16384x4096 main_v951
  let main_v1089 : IVec S16384x4096 32 := addi main_v1085 main_v1088
  let main_c_313 : IVec S_ 32 := constantI S_ 32 4#32
  let main_v1090 : IVec S16384x4096 32 := broadcastInDim S16384x4096 ![] bcast_S_S16384x4096 main_c_313
  let main_v1091 : IVec S16384x4096 32 := addi main_v1089 main_v1090
  let main_v1092 : IVec S16384x4096 32 := addi main_v1087 main_v1091
  let main_c_314 : IVec S_ 32 := constantI S_ 32 13#32
  let main_v1093 : IVec S16384x4096 32 := broadcastInDim S16384x4096 ![] bcast_S_S16384x4096 main_c_314
  let main_v1094 : IVec S16384x4096 32 := Host.shli main_v1091 main_v1093
  let main_c_315 : IVec S_ 32 := constantI S_ 32 19#32
  let main_v1095 : IVec S16384x4096 32 := broadcastInDim S16384x4096 ![] bcast_S_S16384x4096 main_c_315
  let main_v1096 : IVec S16384x4096 32 := Host.shrui main_v1091 main_v1095
  let main_v1097 : IVec S16384x4096 32 := ori main_v1094 main_v1096
  fn_part59 (F := F) main_v191 main_v669 main_v943 main_v951 main_v1092 main_v1097

def fn_part57 {F : FTy → Type} [FloatOps F] (main_v191 : IVec S_ 32) (main_v193 : IVec S_ 32) (main_v669 : FVec F S16384x4096 .f32) (main_v943 : FVec F S16384x4096 .f32) (main_v951 : IVec S_ 32) (main_v1057 : IVec S16384x4096 32) (main_v1058 : IVec S16384x4096 32) (main_v1059 : IVec S16384x4096 32) : IVec S16384x2048 1 × IVec S16384x1 1 × IVec S16384x2048 1 × IVec S16384x1 1 :=
  let main_v1060 : IVec S16384x4096 32 := Host.shli main_v1057 main_v1059
  let main_c_306 : IVec S_ 32 := constantI S_ 32 15#32
  let main_v1061 : IVec S16384x4096 32 := broadcastInDim S16384x4096 ![] bcast_S_S16384x4096 main_c_306
  let main_v1062 : IVec S16384x4096 32 := Host.shrui main_v1057 main_v1061
  let main_v1063 : IVec S16384x4096 32 := ori main_v1060 main_v1062
  let main_v1064 : IVec S16384x4096 32 := xori main_v1058 main_v1063
  let main_v1065 : IVec S16384x4096 32 := addi main_v1058 main_v1064
  let main_c_307 : IVec S_ 32 := constantI S_ 32 29#32
  let main_v1066 : IVec S16384x4096 32 := broadcastInDim S16384x4096 ![] bcast_S_S16384x4096 main_c_307
  let main_v1067 : IVec S16384x4096 32 := Host.shli main_v1064 main_v1066
  let main_c_308 : IVec S_ 32 := constantI S_ 32 3#32
  let main_v1068 : IVec S16384x4096 32 := broadcastInDim S16384x4096 ![] bcast_S_S16384x4096 main_c_308
  let main_v1069 : IVec S16384x4096 32 := Host.shrui main_v1064 main_v1068
  let main_v1070 : IVec S16384x4096 32 := ori main_v1067 main_v1069
  let main_v1071 : IVec S16384x4096 32 := xori main_v1065 main_v1070
  let main_v1072 : IVec S16384x4096 32 := addi main_v1065 main_v1071
  let main_c_309 : IVec S_ 32 := constantI S_ 32 16#32
  let main_v1073 : IVec S16384x4096 32 := broadcastInDim S16384x4096 ![] bcast_S_S16384x4096 main_c_309
  let main_v1074 : IVec S16384x4096 32 := Host.shli main_v1071 main_v1073
  let main_c_310 : IVec S_ 32 := constantI S_ 32 16#32
  let main_v1075 : IVec S16384x4096 32 := broadcastInDim S16384x4096 ![] bcast_S_S16384x4096 main_c_310
  let main_v1076 : IVec S16384x4096 32 := Host.shrui main_v1071 main_v1075
  let main_v1077 : IVec S16384x4096 32 := ori main_v1074 main_v1076
  let main_v1078 : IVec S16384x4096 32 := xori main_v1072 main_v1077
  fn_part58 (F := F) main_v191 main_v193 main_v669 main_v943 main_v951 main_v1072 main_v1078

def fn_part56 {F : FTy → Type} [FloatOps F] (main_v191 : IVec S_ 32) (main_v193 : IVec S_ 32) (main_v669 : FVec F S16384x4096 .f32) (main_v943 : FVec F S16384x4096 .f32) (main_v951 : IVec S_ 32) (main_v1037 : IVec S16384x4096 32) (main_v1038 : IVec S16384x4096 32) (main_v1040 : IVec S16384x4096 32) : IVec S16384x2048 1 × IVec S16384x1 1 × IVec S16384x2048 1 × IVec S16384x1 1 :=
  let main_c_301 : IVec S_ 32 := constantI S_ 32 6#32
  let main_v1041 : IVec S16384x4096 32 := broadcastInDim S16384x4096 ![] bcast_S_S16384x4096 main_c_301
  let main_v1042 : IVec S16384x4096 32 := Host.shrui main_v1037 main_v1041
  let main_v1043 : IVec S16384x4096 32 := ori main_v1040 main_v1042
  let main_v1044 : IVec S16384x4096 32 := xori main_v1038 main_v1043
  let main_v1045 : IVec S16384x4096 32 := addi main_v1038 main_v1044
  let main_c_302 : IVec S_ 32 := constantI S_ 32 6#32
  let main_v1046 : IVec S16384x4096 32 := broadcastInDim S16384x4096 ![] bcast_S_S16384x4096 main_c_302
  let main_v1047 : IVec S16384x4096 32 := Host.shli main_v1044 main_v1046
  let main_c_303 : IVec S_ 32 := constantI S_ 32 26#32
  let main_v1048 : IVec S16384x4096 32 := broadcastInDim S16384x4096 ![] bcast_S_S16384x4096 main_c_303
  let main_v1049 : IVec S16384x4096 32 := Host.shrui main_v1044 main_v1048
  let main_v1050 : IVec S16384x4096 32 := ori main_v1047 main_v1049
  let main_v1051 : IVec S16384x4096 32 := xori main_v1045 main_v1050
  let main_v1052 : IVec S16384x4096 32 := broadcastInDim S16384x4096 ![] bcast_S_S16384x4096 main_v191
  let main_v1053 : IVec S16384x4096 32 := addi main_v1045 main_v1052
  let main_v1054 : IVec S16384x4096 32 := broadcastInDim S16384x4096 ![] bcast_S_S16384x4096 main_v193
  let main_v1055 : IVec S16384x4096 32 := addi main_v1051 main_v1054
  let main_c_304 : IVec S_ 32 := constantI S_ 32 3#32
  let main_v1056 : IVec S16384x4096 32 := broadcastInDim S16384x4096 ![] bcast_S_S16384x4096 main_c_304
  let main_v1057 : IVec S16384x4096 32 := addi main_v1055 main_v1056
  let main_v1058 : IVec S16384x4096 32 := addi main_v1053 main_v1057
  let main_c_305 : IVec S_ 32 := constantI S_ 32 17#32
  let main_v1059 : IVec S16384x4096 32 := broadcastInDim S16384x4096 ![] bcast_S_S16384x4096 main_c_305
  fn_part57 (F := F) main_v191 main_v193 main_v669 main_v943 main_v951 main_v1057 main_v1058 main_v1059

def fn_part55 {F : FTy → Type} [FloatOps F] (main_v191 : IVec S_ 32) (main_v193 : IVec S_ 32) (main_v669 : FVec F S16384x4096 .f32) (main_v943 : FVec F S16384x4096 .f32) (main_v951 : IVec S_ 32) (main_v1019 : IVec S16384x4096 32) (main_v1021 : IVec S16384x4096 32) (main_c_295 : IVec S_ 32) : IVec S16384x2048 1 × IVec S16384x1 1 × IVec S16384x2048 1 × IVec S16384x1 1 :=
  let main_v1022 : IVec S16384x4096 32 := broadcastInDim S16384x4096 ![] bcast_S_S16384x4096 main_c_295
  let main_v1023 : IVec S16384x4096 32 := addi main_v1021 main_v1022
  let main_v1024 : IVec S16384x4096 32 := addi main_v1019 main_v1023
  let main_c_296 : IVec S_ 32 := constantI S_ 32 13#32
  let main_v1025 : IVec S16384x4096 32 := broadcastInDim S16384x4096 ![] bcast_S_S16384x4096 main_c_296
  let main_v1026 : IVec S16384x4096 32 := Host.shli main_v1023 main_v1025
  let main_c_297 : IVec S_ 32 := constantI S_ 32 19#32
  let main_v1027 : IVec S16384x4096 32 := broadcastInDim S16384x4096 ![] bcast_S_S16384x4096 main_c_297
  let main_v1028 : IVec S16384x4096 32 := Host.shrui main_v1023 main_v1027
  let main_v1029 : IVec S16384x4096 32 := ori main_v1026 main_v1028
  let main_v1030 : IVec S16384x4096 32 := xori main_v1024 main_v1029
  let main_v1031 : IVec S16384x4096 32 := addi main_v1024 main_v1030
  let main_c_298 : IVec S_ 32 := constantI S_ 32 15#32
  let main_v1032 : IVec S16384x4096 32 := broadcastInDim S16384x4096 ![] bcast_S_S16384x4096 main_c_298
  let main_v1033 : IVec S16384x4096 32 := Host.shli main_v1030 main_v1032
  let main_c_299 : IVec S_ 32 := constantI S_ 32 17#32
  let main_v1034 : IVec S16384x4096 32 := broadcastInDim S16384x4096 ![] bcast_S_S16384x4096 main_c_299
  let main_v1035 : IVec S16384x4096 32 := Host.shrui main_v1030 main_v1034
  let main_v1036 : IVec S16384x4096 32 := ori main_v1033 main_v1035
  let main_v1037 : IVec S16384x4096 32 := xori main_v1031 main_v1036
  let main_v1038 : IVec S16384x4096 32 := addi main_v1031 main_v1037
  let main_c_300 : IVec S_ 32 := constantI S_ 32 26#32
  let main_v1039 : IVec S16384x4096 32 := broadcastInDim S16384x4096 ![] bcast_S_S16384x4096 main_c_300
  let main_v1040 : IVec S16384x4096 32 := Host.shli main_v1037 main_v1039
  fn_part56 (F := F) main_v191 main_v193 main_v669 main_v943 main_v951 main_v1037 main_v1038 main_v1040

def fn_part54 {F : FTy → Type} [FloatOps F] (main_v191 : IVec S_ 32) (main_v193 : IVec S_ 32) (main_v669 : FVec F S16384x4096 .f32) (main_v943 : FVec F S16384x4096 .f32) (main_v951 : IVec S_ 32) (main_v997 : IVec S16384x4096 32) (main_v1002 : IVec S16384x4096 32) : IVec S16384x2048 1 × IVec S16384x1 1 × IVec S16384x2048 1 × IVec S16384x1 1 :=
  let main_v1003 : IVec S16384x4096 32 := xori main_v997 main_v1002
  let main_v1004 : IVec S16384x4096 32 := addi main_v997 main_v1003
  let main_c_291 : IVec S_ 32 := constantI S_ 32 16#32
  let main_v1005 : IVec S16384x4096 32 := broadcastInDim S16384x4096 ![] bcast_S_S16384x4096 main_c_291
  let main_v1006 : IVec S16384x4096 32 := Host.shli main_v1003 main_v1005
  let main_c_292 : IVec S_ 32 := constantI S_ 32 16#32
  let main_v1007 : IVec S16384x4096 32 := broadcastInDim S16384x4096 ![] bcast_S_S16384x4096 main_c_292
  let main_v1008 : IVec S16384x4096 32 := Host.shrui main_v1003 main_v1007
  let main_v1009 : IVec S16384x4096 32 := ori main_v1006 main_v1008
  let main_v1010 : IVec S16384x4096 32 := xori main_v1004 main_v1009
  let main_v1011 : IVec S16384x4096 32 := addi main_v1004 main_v1010
  let main_c_293 : IVec S_ 32 := constantI S_ 32 24#32
  let main_v1012 : IVec S16384x4096 32 := broadcastInDim S16384x4096 ![] bcast_S_S16384x4096 main_c_293
  let main_v1013 : IVec S16384x4096 32 := Host.shli main_v1010 main_v1012
  let main_c_294 : IVec S_ 32 := constantI S_ 32 8#32
  let main_v1014 : IVec S16384x4096 32 := broadcastInDim S16384x4096 ![] bcast_S_S16384x4096 main_c_294
  let main_v1015 : IVec S16384x4096 32 := Host.shrui main_v1010 main_v1014
  let main_v1016 : IVec S16384x4096 32 := ori main_v1013 main_v1015
  let main_v1017 : IVec S16384x4096 32 := xori main_v1011 main_v1016
  let main_v1018 : IVec S16384x4096 32 := broadcastInDim S16384x4096 ![] bcast_S_S16384x4096 main_v951
  let main_v1019 : IVec S16384x4096 32 := addi main_v1011 main_v1018
  let main_v1020 : IVec S16384x4096 32 := broadcastInDim S16384x4096 ![] bcast_S_S16384x4096 main_v191
  let main_v1021 : IVec S16384x4096 32 := addi main_v1017 main_v1020
  let main_c_295 : IVec S_ 32 := constantI S_ 32 2#32
  fn_part55 (F := F) main_v191 main_v193 main_v669 main_v943 main_v951 main_v1019 main_v1021 main_c_295

def fn_part53 {F : FTy → Type} [FloatOps F] (main_v191 : IVec S_ 32) (main_v193 : IVec S_ 32) (main_v669 : FVec F S16384x4096 .f32) (main_v943 : FVec F S16384x4096 .f32) (main_v951 : IVec S_ 32) (main_v977 : IVec S16384x4096 32) (main_v983 : IVec S16384x4096 32) : IVec S16384x2048 1 × IVec S16384x1 1 × IVec S16384x2048 1 × IVec S16384x1 1 :=
  let main_v984 : IVec S16384x4096 32 := broadcastInDim S16384x4096 ![] bcast_S_S16384x4096 main_v193
  let main_v985 : IVec S16384x4096 32 := addi main_v977 main_v984
  let main_v986 : IVec S16384x4096 32 := broadcastInDim S16384x4096 ![] bcast_S_S16384x4096 main_v951
  let main_v987 : IVec S16384x4096 32 := addi main_v983 main_v986
  let main_c_286 : IVec S_ 32 := constantI S_ 32 1#32
  let main_v988 : IVec S16384x4096 32 := broadcastInDim S16384x4096 ![] bcast_S_S16384x4096 main_c_286
  let main_v989 : IVec S16384x4096 32 := addi main_v987 main_v988
  let main_v990 : IVec S16384x4096 32 := addi main_v985 main_v989
  let main_c_287 : IVec S_ 32 := constantI S_ 32 17#32
  let main_v991 : IVec S16384x4096 32 := broadcastInDim S16384x4096 ![] bcast_S_S16384x4096 main_c_287
  let main_v992 : IVec S16384x4096 32 := Host.shli main_v989 main_v991
  let main_c_288 : IVec S_ 32 := constantI S_ 32 15#32
  let main_v993 : IVec S16384x4096 32 := broadcastInDim S16384x4096 ![] bcast_S_S16384x4096 main_c_288
  let main_v994 : IVec S16384x4096 32 := Host.shrui main_v989 main_v993
  let main_v995 : IVec S16384x4096 32 := ori main_v992 main_v994
  let main_v996 : IVec S16384x4096 32 := xori main_v990 main_v995
  let main_v997 : IVec S16384x4096 32 := addi main_v990 main_v996
  let main_c_289 : IVec S_ 32 := constantI S_ 32 29#32
  let main_v998 : IVec S16384x4096 32 := broadcastInDim S16384x4096 ![] bcast_S_S16384x4096 main_c_289
  let main_v999 : IVec S16384x4096 32 := Host.shli main_v996 main_v998
  let main_c_290 : IVec S_ 32 := constantI S_ 32 3#32
  let main_v1000 : IVec S16384x4096 32 := broadcastInDim S16384x4096 ![] bcast_S_S16384x4096 main_c_290
  let main_v1001 : IVec S16384x4096 32 := Host.shrui main_v996 main_v1000
  let main_v1002 : IVec S16384x4096 32 := ori main_v999 main_v1001
  fn_part54 (F := F) main_v191 main_v193 main_v669 main_v943 main_v951 main_v997 main_v1002

def fn_part52 {F : FTy → Type} [FloatOps F] (main_v191 : IVec S_ 32) (main_v193 : IVec S_ 32) (main_v669 : FVec F S16384x4096 .f32) (main_v943 : FVec F S16384x4096 .f32) (main_v951 : IVec S_ 32) (main_v962 : IVec S16384x4096 32) (main_v963 : IVec S16384x4096 32) (main_v964 : IVec S16384x4096 32) : IVec S16384x2048 1 × IVec S16384x1 1 × IVec S16384x2048 1 × IVec S16384x1 1 :=
  let main_v965 : IVec S16384x4096 32 := Host.shli main_v962 main_v964
  let main_c_281 : IVec S_ 32 := constantI S_ 32 17#32
  let main_v966 : IVec S16384x4096 32 := broadcastInDim S16384x4096 ![] bcast_S_S16384x4096 main_c_281
  let main_v967 : IVec S16384x4096 32 := Host.shrui main_v962 main_v966
  let main_v968 : IVec S16384x4096 32 := ori main_v965 main_v967
  let main_v969 : IVec S16384x4096 32 := xori main_v963 main_v968
  let main_v970 : IVec S16384x4096 32 := addi main_v963 main_v969
  let main_c_282 : IVec S_ 32 := constantI S_ 32 26#32
  let main_v971 : IVec S16384x4096 32 := broadcastInDim S16384x4096 ![] bcast_S_S16384x4096 main_c_282
  let main_v972 : IVec S16384x4096 32 := Host.shli main_v969 main_v971
  let main_c_283 : IVec S_ 32 := constantI S_ 32 6#32
  let main_v973 : IVec S16384x4096 32 := broadcastInDim S16384x4096 ![] bcast_S_S16384x4096 main_c_283
  let main_v974 : IVec S16384x4096 32 := Host.shrui main_v969 main_v973
  let main_v975 : IVec S16384x4096 32 := ori main_v972 main_v974
  let main_v976 : IVec S16384x4096 32 := xori main_v970 main_v975
  let main_v977 : IVec S16384x4096 32 := addi main_v970 main_v976
  let main_c_284 : IVec S_ 32 := constantI S_ 32 6#32
  let main_v978 : IVec S16384x4096 32 := broadcastInDim S16384x4096 ![] bcast_S_S16384x4096 main_c_284
  let main_v979 : IVec S16384x4096 32 := Host.shli main_v976 main_v978
  let main_c_285 : IVec S_ 32 := constantI S_ 32 26#32
  let main_v980 : IVec S16384x4096 32 := broadcastInDim S16384x4096 ![] bcast_S_S16384x4096 main_c_285
  let main_v981 : IVec S16384x4096 32 := Host.shrui main_v976 main_v980
  let main_v982 : IVec S16384x4096 32 := ori main_v979 main_v981
  let main_v983 : IVec S16384x4096 32 := xori main_v977 main_v982
  fn_part53 (F := F) main_v191 main_v193 main_v669 main_v943 main_v951 main_v977 main_v983

def fn_part51 {F : FTy → Type} [FloatOps F] (main_v191 : IVec S_ 32) (main_v193 : IVec S_ 32) (main_v669 : FVec F S16384x4096 .f32) (main_v943 : FVec F S16384x4096 .f32) (main_v944 : IVec S16384x4096 32) (main_v945 : IVec S16384x4096 32) (main_c_275 : IVec S_ 32) : IVec S16384x2048 1 × IVec S16384x1 1 × IVec S16384x2048 1 × IVec S16384x1 1 :=
  let main_v946 : IVec S16384x4096 32 := broadcastInDim S16384x4096 ![] bcast_S_S16384x4096 main_c_275
  let main_v947 : IVec S16384x4096 32 := muli main_v944 main_v946
  let main_v948 : IVec S16384x4096 32 := addi main_v947 main_v945
  let main_c_276 : IVec S_ 32 := constantI S_ 32 0#32
  let main_v949 : IVec S16384x4096 32 := broadcastInDim S16384x4096 ![] bcast_S_S16384x4096 main_c_276
  let main_v950 : IVec S_ 32 := xori main_v191 main_v193
  let main_c_277 : IVec S_ 32 := constantI S_ 32 466688986#32
  let main_v951 : IVec S_ 32 := xori main_v950 main_c_277
  let main_v952 : IVec S16384x4096 32 := broadcastInDim S16384x4096 ![] bcast_S_S16384x4096 main_v191
  let main_v953 : IVec S16384x4096 32 := addi main_v949 main_v952
  let main_v954 : IVec S16384x4096 32 := broadcastInDim S16384x4096 ![] bcast_S_S16384x4096 main_v193
  let main_v955 : IVec S16384x4096 32 := addi main_v948 main_v954
  let main_v956 : IVec S16384x4096 32 := addi main_v953 main_v955
  let main_c_278 : IVec S_ 32 := constantI S_ 32 13#32
  let main_v957 : IVec S16384x4096 32 := broadcastInDim S16384x4096 ![] bcast_S_S16384x4096 main_c_278
  let main_v958 : IVec S16384x4096 32 := Host.shli main_v955 main_v957
  let main_c_279 : IVec S_ 32 := constantI S_ 32 19#32
  let main_v959 : IVec S16384x4096 32 := broadcastInDim S16384x4096 ![] bcast_S_S16384x4096 main_c_279
  let main_v960 : IVec S16384x4096 32 := Host.shrui main_v955 main_v959
  let main_v961 : IVec S16384x4096 32 := ori main_v958 main_v960
  let main_v962 : IVec S16384x4096 32 := xori main_v956 main_v961
  let main_v963 : IVec S16384x4096 32 := addi main_v956 main_v962
  let main_c_280 : IVec S_ 32 := constantI S_ 32 15#32
  let main_v964 : IVec S16384x4096 32 := broadcastInDim S16384x4096 ![] bcast_S_S16384x4096 main_c_280
  fn_part52 (F := F) main_v191 main_v193 main_v669 main_v943 main_v951 main_v962 main_v963 main_v964

def fn_part50 {F : FTy → Type} [FloatOps F] (main_v191 : IVec S_ 32) (main_v193 : IVec S_ 32) (main_v669 : FVec F S16384x4096 .f32) (main_v689 : FVec F S16384x2048 .f32) (main_v885 : FVec F S16384x2048 .f32) (main_v897 : FVec F S16384x2048 .f32) (main_v927 : FVec F S16384x2048 .f32) (main_v928 : FVec F S16384x2048 .f32) : IVec S16384x2048 1 × IVec S16384x1 1 × IVec S16384x2048 1 × IVec S16384x1 1 :=
  let main_v929 : FVec F S16384x2048 .f32 := mulf main_v927 main_v897
  let main_v930 : FVec F S16384x2048 .f32 := id main_v928
  let main_v931 : FVec F S16384x2048 .f32 := addf main_v930 main_v929
  let main_v932 : FVec F S16384x2048 .f32 := mulf main_v931 main_v885
  let main_cst_269 : FVec F S_ .f32 := constant S_ .f32 0x3FB504F3#32
  let main_v933 : FVec F S16384x2048 .f32 := broadcastInDim S16384x2048 ![] bcast_S_S16384x2048 main_cst_269
  let main_v934 : FVec F S16384x2048 .f32 := mulf main_v933 main_v932
  let main_cst_270 : FVec F S_ .f32 := constant S_ .f32 0x3E800000#32
  let main_v935 : FVec F S16384x2048 .f32 := broadcastInDim S16384x2048 ![] bcast_S_S16384x2048 main_cst_270
  let main_v936 : FVec F S16384x2048 .f32 := mulf main_v934 main_v935
  let main_cst_271 : FVec F S_ .f32 := constant S_ .f32 0x3F000000#32
  let main_v937 : FVec F S16384x2048 .f32 := broadcastInDim S16384x2048 ![] bcast_S_S16384x2048 main_cst_271
  let main_v938 : FVec F S16384x2048 .f32 := addf main_v936 main_v937
  let main_v939 : FVec F S16384x2048 .f32 := maximumf main_v689 main_v938
  let main_cst_272 : FVec F S_ .f32 := constant S_ .f32 0x3C23D70A#32
  let main_cst_273 : FVec F S_ .f32 := constant S_ .f32 0x3F7D70A4#32
  let main_v940 : FVec F S16384x2048 .f32 := fn_clip (F := F) main_v939 main_cst_272 main_cst_273
  let main_cst_274 : FVec F S_ .f32 := constant S_ .f32 0x3F800000#32
  let main_v941 : FVec F S16384x2048 .f32 := broadcastInDim S16384x2048 ![] bcast_S_S16384x2048 main_cst_274
  let main_v942 : FVec F S16384x2048 .f32 := subf main_v941 main_v940
  let main_v943 : FVec F S16384x4096 .f32 := (fun a b => concatenate S16384x4096 1 [⟨S16384x2048, a⟩, ⟨S16384x2048, b⟩] concatenates_S16384x2048_S16384x2048_S16384x4096_d1) main_v942 main_v940
  let main_v944 : IVec S16384x4096 32 := iotaInDim S16384x4096 32 0
  let main_v945 : IVec S16384x4096 32 := iotaInDim S16384x4096 32 1
  let main_c_275 : IVec S_ 32 := constantI S_ 32 4096#32
  fn_part51 (F := F) main_v191 main_v193 main_v669 main_v943 main_v944 main_v945 main_c_275

def fn_part49 {F : FTy → Type} [FloatOps F] (main_v191 : IVec S_ 32) (main_v193 : IVec S_ 32) (main_v669 : FVec F S16384x4096 .f32) (main_v689 : FVec F S16384x2048 .f32) (main_v885 : FVec F S16384x2048 .f32) (main_v891 : IVec S16384x2048 1) (main_v897 : FVec F S16384x2048 .f32) (main_v911 : FVec F S16384x2048 .f32) (main_v912 : FVec F S16384x2048 .f32) : IVec S16384x2048 1 × IVec S16384x1 1 × IVec S16384x2048 1 × IVec S16384x1 1 :=
  let main_v913 : FVec F S16384x2048 .f32 := mulf main_v911 main_v897
  let main_v914 : FVec F S16384x2048 .f32 := id main_v912
  let main_v915 : FVec F S16384x2048 .f32 := addf main_v914 main_v913
  let main_cst_261 : FVec F S_ .f32 := constant S_ .f32 0xBAA45408#32
  let main_cst_262 : FVec F S_ .f32 := constant S_ .f32 0xBBF9C5D7#32
  let main_v916 : FVec F S16384x2048 .f32 := fn_where_0 (F := F) main_v891 main_cst_261 main_cst_262
  let main_v917 : FVec F S16384x2048 .f32 := mulf main_v915 main_v897
  let main_v918 : FVec F S16384x2048 .f32 := id main_v916
  let main_v919 : FVec F S16384x2048 .f32 := addf main_v918 main_v917
  let main_cst_263 : FVec F S_ .f32 := constant S_ .f32 0xBB88E4EF#32
  let main_cst_264 : FVec F S_ .f32 := constant S_ .f32 0x3C1AA57E#32
  let main_v920 : FVec F S16384x2048 .f32 := fn_where_0 (F := F) main_v891 main_cst_263 main_cst_264
  let main_v921 : FVec F S16384x2048 .f32 := mulf main_v919 main_v897
  let main_v922 : FVec F S16384x2048 .f32 := id main_v920
  let main_v923 : FVec F S16384x2048 .f32 := addf main_v922 main_v921
  let main_cst_265 : FVec F S_ .f32 := constant S_ .f32 0x3E7C8F63#32
  let main_cst_266 : FVec F S_ .f32 := constant S_ .f32 0x3F8036DB#32
  let main_v924 : FVec F S16384x2048 .f32 := fn_where_0 (F := F) main_v891 main_cst_265 main_cst_266
  let main_v925 : FVec F S16384x2048 .f32 := mulf main_v923 main_v897
  let main_v926 : FVec F S16384x2048 .f32 := id main_v924
  let main_v927 : FVec F S16384x2048 .f32 := addf main_v926 main_v925
  let main_cst_267 : FVec F S_ .f32 := constant S_ .f32 0x3FC02E2F#32
  let main_cst_268 : FVec F S_ .f32 := constant S_ .f32 0x40354F7E#32
  let main_v928 : FVec F S16384x2048 .f32 := fn_where_0 (F := F) main_v891 main_cst_267 main_cst_268
  fn_part50 (F := F) main_v191 main_v193 main_v669 main_v689 main_v885 main_v897 main_v927 main_v928

def fn_part48 {F : FTy → Type} [FloatOps F] (main_v191 : IVec S_ 32) (main_v193 : IVec S_ 32) (main_v669 : FVec F S16384x4096 .f32) (main_v689 : FVec F S16384x2048 .f32) (main_v885 : FVec F S16384x2048 .f32) (main_v891 : IVec S16384x2048 1) (main_v897 : FVec F S16384x2048 .f32) (main_cst_251 : FVec F S_ .f32) : IVec S16384x2048 1 × IVec S16384x1 1 × IVec S16384x2048 1 × IVec S16384x1 1 :=
  let main_cst_252 : FVec F S_ .f32 := constant S_ .f32 0xB951F09B#32
  let main_v898 : FVec F S16384x2048 .f32 := fn_where_0 (F := F) main_v891 main_cst_251 main_cst_252
  let main_cst_253 : FVec F S_ .f32 := constant S_ .f32 0x34B84B36#32
  let main_cst_254 : FVec F S_ .f32 := constant S_ .f32 0x38D3B56B#32
  let main_v899 : FVec F S16384x2048 .f32 := fn_where_0 (F := F) main_v891 main_cst_253 main_cst_254
  let main_v900 : FVec F S16384x2048 .f32 := id main_v898
  let main_v901 : FVec F S16384x2048 .f32 := mulf main_v900 main_v897
  let main_v902 : FVec F S16384x2048 .f32 := id main_v899
  let main_v903 : FVec F S16384x2048 .f32 := addf main_v902 main_v901
  let main_cst_255 : FVec F S_ .f32 := constant S_ .f32 0xB66C7357#32
  let main_cst_256 : FVec F S_ .f32 := constant S_ .f32 0x3AB0DC72#32
  let main_v904 : FVec F S16384x2048 .f32 := fn_where_0 (F := F) main_v891 main_cst_255 main_cst_256
  let main_v905 : FVec F S16384x2048 .f32 := mulf main_v903 main_v897
  let main_v906 : FVec F S16384x2048 .f32 := id main_v904
  let main_v907 : FVec F S16384x2048 .f32 := addf main_v906 main_v905
  let main_cst_257 : FVec F S_ .f32 := constant S_ .f32 0xB6935AC1#32
  let main_cst_258 : FVec F S_ .f32 := constant S_ .f32 0xBB70BDE7#32
  let main_v908 : FVec F S16384x2048 .f32 := fn_where_0 (F := F) main_v891 main_cst_257 main_cst_258
  let main_v909 : FVec F S16384x2048 .f32 := mulf main_v907 main_v897
  let main_v910 : FVec F S16384x2048 .f32 := id main_v908
  let main_v911 : FVec F S16384x2048 .f32 := addf main_v910 main_v909
  let main_cst_259 : FVec F S_ .f32 := constant S_ .f32 0x396532DB#32
  let main_cst_260 : FVec F S_ .f32 := constant S_ .f32 0x3BBC127B#32
  let main_v912 : FVec F S16384x2048 .f32 := fn_where_0 (F := F) main_v891 main_cst_259 main_cst_260
  fn_part49 (F := F) main_v191 main_v193 main_v669 main_v689 main_v885 main_v891 main_v897 main_v911 main_v912

def fn_part47 {F : FTy → Type} [FloatOps F] (main_v191 : IVec S_ 32) (main_v193 : IVec S_ 32) (main_v669 : FVec F S16384x4096 .f32) (main_v689 : FVec F S16384x2048 .f32) (main_v879 : FVec F S16384x2048 .f32) (main_cst_245 : FVec F S_ .f32) : IVec S16384x2048 1 × IVec S16384x1 1 × IVec S16384x2048 1 × IVec S16384x1 1 :=
  let main_v880 : FVec F S16384x2048 .f32 := broadcastInDim S16384x2048 ![] bcast_S_S16384x2048 main_cst_245
  let main_v881 : FVec F S16384x2048 .f32 := mulf main_v879 main_v880
  let main_cst_246 : FVec F S_ .f32 := constant S_ .f32 0xBF7FFFFF#32
  let main_v882 : FVec F S16384x2048 .f32 := broadcastInDim S16384x2048 ![] bcast_S_S16384x2048 main_cst_246
  let main_v883 : FVec F S16384x2048 .f32 := addf main_v881 main_v882
  let main_cst_247 : FVec F S_ .f32 := constant S_ .f32 0xBF7FFFFF#32
  let main_v884 : FVec F S16384x2048 .f32 := broadcastInDim S16384x2048 ![] bcast_S_S16384x2048 main_cst_247
  let main_v885 : FVec F S16384x2048 .f32 := maximumf main_v884 main_v883
  let main_v886 : FVec F S16384x2048 .f32 := Host.negf main_v885
  let main_v887 : FVec F S16384x2048 .f32 := mulf main_v886 main_v885
  let main_v888 : FVec F S16384x2048 .f32 := Host.log1p main_v887
  let main_v889 : FVec F S16384x2048 .f32 := Host.negf main_v888
  let main_cst_248 : FVec F S_ .f32 := constant S_ .f32 0x40A00000#32
  let main_v890 : FVec F S16384x2048 .f32 := broadcastInDim S16384x2048 ![] bcast_S_S16384x2048 main_cst_248
  let main_v891 : IVec S16384x2048 1 := cmpf .olt main_v889 main_v890
  let main_cst_249 : FVec F S_ .f32 := constant S_ .f32 0x40200000#32
  let main_v892 : FVec F S16384x2048 .f32 := broadcastInDim S16384x2048 ![] bcast_S_S16384x2048 main_cst_249
  let main_v893 : FVec F S16384x2048 .f32 := subf main_v889 main_v892
  let main_v894 : FVec F S16384x2048 .f32 := Host.sqrt main_v889
  let main_cst_250 : FVec F S_ .f32 := constant S_ .f32 0x40400000#32
  let main_v895 : FVec F S16384x2048 .f32 := broadcastInDim S16384x2048 ![] bcast_S_S16384x2048 main_cst_250
  let main_v896 : FVec F S16384x2048 .f32 := subf main_v894 main_v895
  let main_v897 : FVec F S16384x2048 .f32 := fn_where (F := F) main_v891 main_v893 main_v896
  let main_cst_251 : FVec F S_ .f32 := constant S_ .f32 0x32F16588#32
  fn_part48 (F := F) main_v191 main_v193 main_v669 main_v689 main_v885 main_v891 main_v897 main_cst_251

def fn_part46 {F : FTy → Type} [FloatOps F] (main_v187 : IVec S_ 32) (main_v191 : IVec S_ 32) (main_v193 : IVec S_ 32) (main_v669 : FVec F S16384x4096 .f32) (main_v689 : FVec F S16384x2048 .f32) (main_v697 : IVec S_ 32) (main_v858 : IVec S16384x2048 32) (main_v859 : IVec S16384x2048 32) (main_v861 : IVec S16384x2048 32) : IVec S16384x2048 1 × IVec S16384x1 1 × IVec S16384x2048 1 × IVec S16384x1 1 :=
  let main_c_240 : IVec S_ 32 := constantI S_ 32 26#32
  let main_v862 : IVec S16384x2048 32 := broadcastInDim S16384x2048 ![] bcast_S_S16384x2048 main_c_240
  let main_v863 : IVec S16384x2048 32 := Host.shrui main_v858 main_v862
  let main_v864 : IVec S16384x2048 32 := ori main_v861 main_v863
  let main_v865 : IVec S16384x2048 32 := xori main_v859 main_v864
  let main_v866 : IVec S16384x2048 32 := broadcastInDim S16384x2048 ![] bcast_S_S16384x2048 main_v697
  let main_v867 : IVec S16384x2048 32 := addi main_v859 main_v866
  let main_v868 : IVec S16384x2048 32 := broadcastInDim S16384x2048 ![] bcast_S_S16384x2048 main_v187
  let main_v869 : IVec S16384x2048 32 := addi main_v865 main_v868
  let main_c_241 : IVec S_ 32 := constantI S_ 32 5#32
  let main_v870 : IVec S16384x2048 32 := broadcastInDim S16384x2048 ![] bcast_S_S16384x2048 main_c_241
  let main_v871 : IVec S16384x2048 32 := addi main_v869 main_v870
  let main_v872 : IVec S16384x2048 32 := xori main_v867 main_v871
  let main_c_242 : IVec S_ 32 := constantI S_ 32 9#32
  let main_v873 : IVec S16384x2048 32 := broadcastInDim S16384x2048 ![] bcast_S_S16384x2048 main_c_242
  let main_v874 : IVec S16384x2048 32 := Host.shrui main_v872 main_v873
  let main_c_243 : IVec S_ 32 := constantI S_ 32 1065353216#32
  let main_v875 : IVec S16384x2048 32 := broadcastInDim S16384x2048 ![] bcast_S_S16384x2048 main_c_243
  let main_v876 : IVec S16384x2048 32 := ori main_v874 main_v875
  let main_v877 : FVec F S16384x2048 .f32 := bitcastToFloat .f32 main_v876
  let main_cst_244 : FVec F S_ .f32 := constant S_ .f32 0x3F800000#32
  let main_v878 : FVec F S16384x2048 .f32 := broadcastInDim S16384x2048 ![] bcast_S_S16384x2048 main_cst_244
  let main_v879 : FVec F S16384x2048 .f32 := subf main_v877 main_v878
  let main_cst_245 : FVec F S_ .f32 := constant S_ .f32 0x40000000#32
  fn_part47 (F := F) main_v191 main_v193 main_v669 main_v689 main_v879 main_cst_245

def fn_part45 {F : FTy → Type} [FloatOps F] (main_v187 : IVec S_ 32) (main_v191 : IVec S_ 32) (main_v193 : IVec S_ 32) (main_v669 : FVec F S16384x4096 .f32) (main_v689 : FVec F S16384x2048 .f32) (main_v697 : IVec S_ 32) (main_v838 : IVec S16384x2048 32) (main_v840 : IVec S16384x2048 32) (main_v842 : IVec S16384x2048 32) : IVec S16384x2048 1 × IVec S16384x1 1 × IVec S16384x2048 1 × IVec S16384x1 1 :=
  let main_v843 : IVec S16384x2048 32 := ori main_v840 main_v842
  let main_v844 : IVec S16384x2048 32 := xori main_v838 main_v843
  let main_v845 : IVec S16384x2048 32 := addi main_v838 main_v844
  let main_c_235 : IVec S_ 32 := constantI S_ 32 15#32
  let main_v846 : IVec S16384x2048 32 := broadcastInDim S16384x2048 ![] bcast_S_S16384x2048 main_c_235
  let main_v847 : IVec S16384x2048 32 := Host.shli main_v844 main_v846
  let main_c_236 : IVec S_ 32 := constantI S_ 32 17#32
  let main_v848 : IVec S16384x2048 32 := broadcastInDim S16384x2048 ![] bcast_S_S16384x2048 main_c_236
  let main_v849 : IVec S16384x2048 32 := Host.shrui main_v844 main_v848
  let main_v850 : IVec S16384x2048 32 := ori main_v847 main_v849
  let main_v851 : IVec S16384x2048 32 := xori main_v845 main_v850
  let main_v852 : IVec S16384x2048 32 := addi main_v845 main_v851
  let main_c_237 : IVec S_ 32 := constantI S_ 32 26#32
  let main_v853 : IVec S16384x2048 32 := broadcastInDim S16384x2048 ![] bcast_S_S16384x2048 main_c_237
  let main_v854 : IVec S16384x2048 32 := Host.shli main_v851 main_v853
  let main_c_238 : IVec S_ 32 := constantI S_ 32 6#32
  let main_v855 : IVec S16384x2048 32 := broadcastInDim S16384x2048 ![] bcast_S_S16384x2048 main_c_238
  let main_v856 : IVec S16384x2048 32 := Host.shrui main_v851 main_v855
  let main_v857 : IVec S16384x2048 32 := ori main_v854 main_v856
  let main_v858 : IVec S16384x2048 32 := xori main_v852 main_v857
  let main_v859 : IVec S16384x2048 32 := addi main_v852 main_v858
  let main_c_239 : IVec S_ 32 := constantI S_ 32 6#32
  let main_v860 : IVec S16384x2048 32 := broadcastInDim S16384x2048 ![] bcast_S_S16384x2048 main_c_239
  let main_v861 : IVec S16384x2048 32 := Host.shli main_v858 main_v860
  fn_part46 (F := F) main_v187 main_v191 main_v193 main_v669 main_v689 main_v697 main_v858 main_v859 main_v861

def fn_part44 {F : FTy → Type} [FloatOps F] (main_v187 : IVec S_ 32) (main_v189 : IVec S_ 32) (main_v191 : IVec S_ 32) (main_v193 : IVec S_ 32) (main_v669 : FVec F S16384x4096 .f32) (main_v689 : FVec F S16384x2048 .f32) (main_v697 : IVec S_ 32) (main_v818 : IVec S16384x2048 32) (main_v823 : IVec S16384x2048 32) : IVec S16384x2048 1 × IVec S16384x1 1 × IVec S16384x2048 1 × IVec S16384x1 1 :=
  let main_v824 : IVec S16384x2048 32 := xori main_v818 main_v823
  let main_v825 : IVec S16384x2048 32 := addi main_v818 main_v824
  let main_c_230 : IVec S_ 32 := constantI S_ 32 24#32
  let main_v826 : IVec S16384x2048 32 := broadcastInDim S16384x2048 ![] bcast_S_S16384x2048 main_c_230
  let main_v827 : IVec S16384x2048 32 := Host.shli main_v824 main_v826
  let main_c_231 : IVec S_ 32 := constantI S_ 32 8#32
  let main_v828 : IVec S16384x2048 32 := broadcastInDim S16384x2048 ![] bcast_S_S16384x2048 main_c_231
  let main_v829 : IVec S16384x2048 32 := Host.shrui main_v824 main_v828
  let main_v830 : IVec S16384x2048 32 := ori main_v827 main_v829
  let main_v831 : IVec S16384x2048 32 := xori main_v825 main_v830
  let main_v832 : IVec S16384x2048 32 := broadcastInDim S16384x2048 ![] bcast_S_S16384x2048 main_v189
  let main_v833 : IVec S16384x2048 32 := addi main_v825 main_v832
  let main_v834 : IVec S16384x2048 32 := broadcastInDim S16384x2048 ![] bcast_S_S16384x2048 main_v697
  let main_v835 : IVec S16384x2048 32 := addi main_v831 main_v834
  let main_c_232 : IVec S_ 32 := constantI S_ 32 4#32
  let main_v836 : IVec S16384x2048 32 := broadcastInDim S16384x2048 ![] bcast_S_S16384x2048 main_c_232
  let main_v837 : IVec S16384x2048 32 := addi main_v835 main_v836
  let main_v838 : IVec S16384x2048 32 := addi main_v833 main_v837
  let main_c_233 : IVec S_ 32 := constantI S_ 32 13#32
  let main_v839 : IVec S16384x2048 32 := broadcastInDim S16384x2048 ![] bcast_S_S16384x2048 main_c_233
  let main_v840 : IVec S16384x2048 32 := Host.shli main_v837 main_v839
  let main_c_234 : IVec S_ 32 := constantI S_ 32 19#32
  let main_v841 : IVec S16384x2048 32 := broadcastInDim S16384x2048 ![] bcast_S_S16384x2048 main_c_234
  let main_v842 : IVec S16384x2048 32 := Host.shrui main_v837 main_v841
  fn_part45 (F := F) main_v187 main_v191 main_v193 main_v669 main_v689 main_v697 main_v838 main_v840 main_v842

def fn_part43 {F : FTy → Type} [FloatOps F] (main_v187 : IVec S_ 32) (main_v189 : IVec S_ 32) (main_v191 : IVec S_ 32) (main_v193 : IVec S_ 32) (main_v669 : FVec F S16384x4096 .f32) (main_v689 : FVec F S16384x2048 .f32) (main_v697 : IVec S_ 32) (main_v803 : IVec S16384x2048 32) (main_v804 : IVec S16384x2048 32) (main_c_224 : IVec S_ 32) : IVec S16384x2048 1 × IVec S16384x1 1 × IVec S16384x2048 1 × IVec S16384x1 1 :=
  let main_v805 : IVec S16384x2048 32 := broadcastInDim S16384x2048 ![] bcast_S_S16384x2048 main_c_224
  let main_v806 : IVec S16384x2048 32 := Host.shli main_v803 main_v805
  let main_c_225 : IVec S_ 32 := constantI S_ 32 15#32
  let main_v807 : IVec S16384x2048 32 := broadcastInDim S16384x2048 ![] bcast_S_S16384x2048 main_c_225
  let main_v808 : IVec S16384x2048 32 := Host.shrui main_v803 main_v807
  let main_v809 : IVec S16384x2048 32 := ori main_v806 main_v808
  let main_v810 : IVec S16384x2048 32 := xori main_v804 main_v809
  let main_v811 : IVec S16384x2048 32 := addi main_v804 main_v810
  let main_c_226 : IVec S_ 32 := constantI S_ 32 29#32
  let main_v812 : IVec S16384x2048 32 := broadcastInDim S16384x2048 ![] bcast_S_S16384x2048 main_c_226
  let main_v813 : IVec S16384x2048 32 := Host.shli main_v810 main_v812
  let main_c_227 : IVec S_ 32 := constantI S_ 32 3#32
  let main_v814 : IVec S16384x2048 32 := broadcastInDim S16384x2048 ![] bcast_S_S16384x2048 main_c_227
  let main_v815 : IVec S16384x2048 32 := Host.shrui main_v810 main_v814
  let main_v816 : IVec S16384x2048 32 := ori main_v813 main_v815
  let main_v817 : IVec S16384x2048 32 := xori main_v811 main_v816
  let main_v818 : IVec S16384x2048 32 := addi main_v811 main_v817
  let main_c_228 : IVec S_ 32 := constantI S_ 32 16#32
  let main_v819 : IVec S16384x2048 32 := broadcastInDim S16384x2048 ![] bcast_S_S16384x2048 main_c_228
  let main_v820 : IVec S16384x2048 32 := Host.shli main_v817 main_v819
  let main_c_229 : IVec S_ 32 := constantI S_ 32 16#32
  let main_v821 : IVec S16384x2048 32 := broadcastInDim S16384x2048 ![] bcast_S_S16384x2048 main_c_229
  let main_v822 : IVec S16384x2048 32 := Host.shrui main_v817 main_v821
  let main_v823 : IVec S16384x2048 32 := ori main_v820 main_v822
  fn_part44 (F := F) main_v187 main_v189 main_v191 main_v193 main_v669 main_v689 main_v697 main_v818 main_v823

def fn_part42 {F : FTy → Type} [FloatOps F] (main_v187 : IVec S_ 32) (main_v189 : IVec S_ 32) (main_v191 : IVec S_ 32) (main_v193 : IVec S_ 32) (main_v669 : FVec F S16384x4096 .f32) (main_v689 : FVec F S16384x2048 .f32) (main_v697 : IVec S_ 32) (main_v783 : IVec S16384x2048 32) (main_v784 : IVec S16384x2048 32) (main_v785 : IVec S16384x2048 32) : IVec S16384x2048 1 × IVec S16384x1 1 × IVec S16384x2048 1 × IVec S16384x1 1 :=
  let main_v786 : IVec S16384x2048 32 := Host.shli main_v783 main_v785
  let main_c_220 : IVec S_ 32 := constantI S_ 32 6#32
  let main_v787 : IVec S16384x2048 32 := broadcastInDim S16384x2048 ![] bcast_S_S16384x2048 main_c_220
  let main_v788 : IVec S16384x2048 32 := Host.shrui main_v783 main_v787
  let main_v789 : IVec S16384x2048 32 := ori main_v786 main_v788
  let main_v790 : IVec S16384x2048 32 := xori main_v784 main_v789
  let main_v791 : IVec S16384x2048 32 := addi main_v784 main_v790
  let main_c_221 : IVec S_ 32 := constantI S_ 32 6#32
  let main_v792 : IVec S16384x2048 32 := broadcastInDim S16384x2048 ![] bcast_S_S16384x2048 main_c_221
  let main_v793 : IVec S16384x2048 32 := Host.shli main_v790 main_v792
  let main_c_222 : IVec S_ 32 := constantI S_ 32 26#32
  let main_v794 : IVec S16384x2048 32 := broadcastInDim S16384x2048 ![] bcast_S_S16384x2048 main_c_222
  let main_v795 : IVec S16384x2048 32 := Host.shrui main_v790 main_v794
  let main_v796 : IVec S16384x2048 32 := ori main_v793 main_v795
  let main_v797 : IVec S16384x2048 32 := xori main_v791 main_v796
  let main_v798 : IVec S16384x2048 32 := broadcastInDim S16384x2048 ![] bcast_S_S16384x2048 main_v187
  let main_v799 : IVec S16384x2048 32 := addi main_v791 main_v798
  let main_v800 : IVec S16384x2048 32 := broadcastInDim S16384x2048 ![] bcast_S_S16384x2048 main_v189
  let main_v801 : IVec S16384x2048 32 := addi main_v797 main_v800
  let main_c_223 : IVec S_ 32 := constantI S_ 32 3#32
  let main_v802 : IVec S16384x2048 32 := broadcastInDim S16384x2048 ![] bcast_S_S16384x2048 main_c_223
  let main_v803 : IVec S16384x2048 32 := addi main_v801 main_v802
  let main_v804 : IVec S16384x2048 32 := addi main_v799 main_v803
  let main_c_224 : IVec S_ 32 := constantI S_ 32 17#32
  fn_part43 (F := F) main_v187 main_v189 main_v191 main_v193 main_v669 main_v689 main_v697 main_v803 main_v804 main_c_224

def fn_part41 {F : FTy → Type} [FloatOps F] (main_v187 : IVec S_ 32) (main_v189 : IVec S_ 32) (main_v191 : IVec S_ 32) (main_v193 : IVec S_ 32) (main_v669 : FVec F S16384x4096 .f32) (main_v689 : FVec F S16384x2048 .f32) (main_v697 : IVec S_ 32) (main_v765 : IVec S16384x2048 32) (main_v767 : IVec S16384x2048 32) : IVec S16384x2048 1 × IVec S16384x1 1 × IVec S16384x2048 1 × IVec S16384x1 1 :=
  let main_c_214 : IVec S_ 32 := constantI S_ 32 2#32
  let main_v768 : IVec S16384x2048 32 := broadcastInDim S16384x2048 ![] bcast_S_S16384x2048 main_c_214
  let main_v769 : IVec S16384x2048 32 := addi main_v767 main_v768
  let main_v770 : IVec S16384x2048 32 := addi main_v765 main_v769
  let main_c_215 : IVec S_ 32 := constantI S_ 32 13#32
  let main_v771 : IVec S16384x2048 32 := broadcastInDim S16384x2048 ![] bcast_S_S16384x2048 main_c_215
  let main_v772 : IVec S16384x2048 32 := Host.shli main_v769 main_v771
  let main_c_216 : IVec S_ 32 := constantI S_ 32 19#32
  let main_v773 : IVec S16384x2048 32 := broadcastInDim S16384x2048 ![] bcast_S_S16384x2048 main_c_216
  let main_v774 : IVec S16384x2048 32 := Host.shrui main_v769 main_v773
  let main_v775 : IVec S16384x2048 32 := ori main_v772 main_v774
  let main_v776 : IVec S16384x2048 32 := xori main_v770 main_v775
  let main_v777 : IVec S16384x2048 32 := addi main_v770 main_v776
  let main_c_217 : IVec S_ 32 := constantI S_ 32 15#32
  let main_v778 : IVec S16384x2048 32 := broadcastInDim S16384x2048 ![] bcast_S_S16384x2048 main_c_217
  let main_v779 : IVec S16384x2048 32 := Host.shli main_v776 main_v778
  let main_c_218 : IVec S_ 32 := constantI S_ 32 17#32
  let main_v780 : IVec S16384x2048 32 := broadcastInDim S16384x2048 ![] bcast_S_S16384x2048 main_c_218
  let main_v781 : IVec S16384x2048 32 := Host.shrui main_v776 main_v780
  let main_v782 : IVec S16384x2048 32 := ori main_v779 main_v781
  let main_v783 : IVec S16384x2048 32 := xori main_v777 main_v782
  let main_v784 : IVec S16384x2048 32 := addi main_v777 main_v783
  let main_c_219 : IVec S_ 32 := constantI S_ 32 26#32
  let main_v785 : IVec S16384x2048 32 := broadcastInDim S16384x2048 ![] bcast_S_S16384x2048 main_c_219
  fn_part42 (F := F) main_v187 main_v189 main_v191 main_v193 main_v669 main_v689 main_v697 main_v783 main_v784 main_v785

def fn_part40 {F : FTy → Type} [FloatOps F] (main_v187 : IVec S_ 32) (main_v189 : IVec S_ 32) (main_v191 : IVec S_ 32) (main_v193 : IVec S_ 32) (main_v669 : FVec F S16384x4096 .f32) (main_v689 : FVec F S16384x2048 .f32) (main_v697 : IVec S_ 32) (main_v743 : IVec S16384x2048 32) (main_v745 : IVec S16384x2048 32) (main_v747 : IVec S16384x2048 32) : IVec S16384x2048 1 × IVec S16384x1 1 × IVec S16384x2048 1 × IVec S16384x1 1 :=
  let main_v748 : IVec S16384x2048 32 := ori main_v745 main_v747
  let main_v749 : IVec S16384x2048 32 := xori main_v743 main_v748
  let main_v750 : IVec S16384x2048 32 := addi main_v743 main_v749
  let main_c_210 : IVec S_ 32 := constantI S_ 32 16#32
  let main_v751 : IVec S16384x2048 32 := broadcastInDim S16384x2048 ![] bcast_S_S16384x2048 main_c_210
  let main_v752 : IVec S16384x2048 32 := Host.shli main_v749 main_v751
  let main_c_211 : IVec S_ 32 := constantI S_ 32 16#32
  let main_v753 : IVec S16384x2048 32 := broadcastInDim S16384x2048 ![] bcast_S_S16384x2048 main_c_211
  let main_v754 : IVec S16384x2048 32 := Host.shrui main_v749 main_v753
  let main_v755 : IVec S16384x2048 32 := ori main_v752 main_v754
  let main_v756 : IVec S16384x2048 32 := xori main_v750 main_v755
  let main_v757 : IVec S16384x2048 32 := addi main_v750 main_v756
  let main_c_212 : IVec S_ 32 := constantI S_ 32 24#32
  let main_v758 : IVec S16384x2048 32 := broadcastInDim S16384x2048 ![] bcast_S_S16384x2048 main_c_212
  let main_v759 : IVec S16384x2048 32 := Host.shli main_v756 main_v758
  let main_c_213 : IVec S_ 32 := constantI S_ 32 8#32
  let main_v760 : IVec S16384x2048 32 := broadcastInDim S16384x2048 ![] bcast_S_S16384x2048 main_c_213
  let main_v761 : IVec S16384x2048 32 := Host.shrui main_v756 main_v760
  let main_v762 : IVec S16384x2048 32 := ori main_v759 main_v761
  let main_v763 : IVec S16384x2048 32 := xori main_v757 main_v762
  let main_v764 : IVec S16384x2048 32 := broadcastInDim S16384x2048 ![] bcast_S_S16384x2048 main_v697
  let main_v765 : IVec S16384x2048 32 := addi main_v757 main_v764
  let main_v766 : IVec S16384x2048 32 := broadcastInDim S16384x2048 ![] bcast_S_S16384x2048 main_v187
  let main_v767 : IVec S16384x2048 32 := addi main_v763 main_v766
  fn_part41 (F := F) main_v187 main_v189 main_v191 main_v193 main_v669 main_v689 main_v697 main_v765 main_v767

def fn_part39 {F : FTy → Type} [FloatOps F] (main_v187 : IVec S_ 32) (main_v189 : IVec S_ 32) (main_v191 : IVec S_ 32) (main_v193 : IVec S_ 32) (main_v669 : FVec F S16384x4096 .f32) (main_v689 : FVec F S16384x2048 .f32) (main_v697 : IVec S_ 32) (main_v723 : IVec S16384x2048 32) (main_v728 : IVec S16384x2048 32) : IVec S16384x2048 1 × IVec S16384x1 1 × IVec S16384x2048 1 × IVec S16384x1 1 :=
  let main_v729 : IVec S16384x2048 32 := xori main_v723 main_v728
  let main_v730 : IVec S16384x2048 32 := broadcastInDim S16384x2048 ![] bcast_S_S16384x2048 main_v189
  let main_v731 : IVec S16384x2048 32 := addi main_v723 main_v730
  let main_v732 : IVec S16384x2048 32 := broadcastInDim S16384x2048 ![] bcast_S_S16384x2048 main_v697
  let main_v733 : IVec S16384x2048 32 := addi main_v729 main_v732
  let main_c_205 : IVec S_ 32 := constantI S_ 32 1#32
  let main_v734 : IVec S16384x2048 32 := broadcastInDim S16384x2048 ![] bcast_S_S16384x2048 main_c_205
  let main_v735 : IVec S16384x2048 32 := addi main_v733 main_v734
  let main_v736 : IVec S16384x2048 32 := addi main_v731 main_v735
  let main_c_206 : IVec S_ 32 := constantI S_ 32 17#32
  let main_v737 : IVec S16384x2048 32 := broadcastInDim S16384x2048 ![] bcast_S_S16384x2048 main_c_206
  let main_v738 : IVec S16384x2048 32 := Host.shli main_v735 main_v737
  let main_c_207 : IVec S_ 32 := constantI S_ 32 15#32
  let main_v739 : IVec S16384x2048 32 := broadcastInDim S16384x2048 ![] bcast_S_S16384x2048 main_c_207
  let main_v740 : IVec S16384x2048 32 := Host.shrui main_v735 main_v739
  let main_v741 : IVec S16384x2048 32 := ori main_v738 main_v740
  let main_v742 : IVec S16384x2048 32 := xori main_v736 main_v741
  let main_v743 : IVec S16384x2048 32 := addi main_v736 main_v742
  let main_c_208 : IVec S_ 32 := constantI S_ 32 29#32
  let main_v744 : IVec S16384x2048 32 := broadcastInDim S16384x2048 ![] bcast_S_S16384x2048 main_c_208
  let main_v745 : IVec S16384x2048 32 := Host.shli main_v742 main_v744
  let main_c_209 : IVec S_ 32 := constantI S_ 32 3#32
  let main_v746 : IVec S16384x2048 32 := broadcastInDim S16384x2048 ![] bcast_S_S16384x2048 main_c_209
  let main_v747 : IVec S16384x2048 32 := Host.shrui main_v742 main_v746
  fn_part40 (F := F) main_v187 main_v189 main_v191 main_v193 main_v669 main_v689 main_v697 main_v743 main_v745 main_v747

def fn_part38 {F : FTy → Type} [FloatOps F] (main_v187 : IVec S_ 32) (main_v189 : IVec S_ 32) (main_v191 : IVec S_ 32) (main_v193 : IVec S_ 32) (main_v669 : FVec F S16384x4096 .f32) (main_v689 : FVec F S16384x2048 .f32) (main_v697 : IVec S_ 32) (main_v708 : IVec S16384x2048 32) (main_v709 : IVec S16384x2048 32) (main_c_199 : IVec S_ 32) : IVec S16384x2048 1 × IVec S16384x1 1 × IVec S16384x2048 1 × IVec S16384x1 1 :=
  let main_v710 : IVec S16384x2048 32 := broadcastInDim S16384x2048 ![] bcast_S_S16384x2048 main_c_199
  let main_v711 : IVec S16384x2048 32 := Host.shli main_v708 main_v710
  let main_c_200 : IVec S_ 32 := constantI S_ 32 17#32
  let main_v712 : IVec S16384x2048 32 := broadcastInDim S16384x2048 ![] bcast_S_S16384x2048 main_c_200
  let main_v713 : IVec S16384x2048 32 := Host.shrui main_v708 main_v712
  let main_v714 : IVec S16384x2048 32 := ori main_v711 main_v713
  let main_v715 : IVec S16384x2048 32 := xori main_v709 main_v714
  let main_v716 : IVec S16384x2048 32 := addi main_v709 main_v715
  let main_c_201 : IVec S_ 32 := constantI S_ 32 26#32
  let main_v717 : IVec S16384x2048 32 := broadcastInDim S16384x2048 ![] bcast_S_S16384x2048 main_c_201
  let main_v718 : IVec S16384x2048 32 := Host.shli main_v715 main_v717
  let main_c_202 : IVec S_ 32 := constantI S_ 32 6#32
  let main_v719 : IVec S16384x2048 32 := broadcastInDim S16384x2048 ![] bcast_S_S16384x2048 main_c_202
  let main_v720 : IVec S16384x2048 32 := Host.shrui main_v715 main_v719
  let main_v721 : IVec S16384x2048 32 := ori main_v718 main_v720
  let main_v722 : IVec S16384x2048 32 := xori main_v716 main_v721
  let main_v723 : IVec S16384x2048 32 := addi main_v716 main_v722
  let main_c_203 : IVec S_ 32 := constantI S_ 32 6#32
  let main_v724 : IVec S16384x2048 32 := broadcastInDim S16384x2048 ![] bcast_S_S16384x2048 main_c_203
  let main_v725 : IVec S16384x2048 32 := Host.shli main_v722 main_v724
  let main_c_204 : IVec S_ 32 := constantI S_ 32 26#32
  let main_v726 : IVec S16384x2048 32 := broadcastInDim S16384x2048 ![] bcast_S_S16384x2048 main_c_204
  let main_v727 : IVec S16384x2048 32 := Host.shrui main_v722 main_v726
  let main_v728 : IVec S16384x2048 32 := ori main_v725 main_v727
  fn_part39 (F := F) main_v187 main_v189 main_v191 main_v193 main_v669 main_v689 main_v697 main_v723 main_v728

def fn_part37 {F : FTy → Type} [FloatOps F] (main_v187 : IVec S_ 32) (main_v189 : IVec S_ 32) (main_v191 : IVec S_ 32) (main_v193 : IVec S_ 32) (main_v669 : FVec F S16384x4096 .f32) (main_v689 : FVec F S16384x2048 .f32) (main_v690 : IVec S16384x2048 32) (main_v691 : IVec S16384x2048 32) : IVec S16384x2048 1 × IVec S16384x1 1 × IVec S16384x2048 1 × IVec S16384x1 1 :=
  let main_c_194 : IVec S_ 32 := constantI S_ 32 2048#32
  let main_v692 : IVec S16384x2048 32 := broadcastInDim S16384x2048 ![] bcast_S_S16384x2048 main_c_194
  let main_v693 : IVec S16384x2048 32 := muli main_v690 main_v692
  let main_v694 : IVec S16384x2048 32 := addi main_v693 main_v691
  let main_c_195 : IVec S_ 32 := constantI S_ 32 0#32
  let main_v695 : IVec S16384x2048 32 := broadcastInDim S16384x2048 ![] bcast_S_S16384x2048 main_c_195
  let main_v696 : IVec S_ 32 := xori main_v187 main_v189
  let main_c_196 : IVec S_ 32 := constantI S_ 32 466688986#32
  let main_v697 : IVec S_ 32 := xori main_v696 main_c_196
  let main_v698 : IVec S16384x2048 32 := broadcastInDim S16384x2048 ![] bcast_S_S16384x2048 main_v187
  let main_v699 : IVec S16384x2048 32 := addi main_v695 main_v698
  let main_v700 : IVec S16384x2048 32 := broadcastInDim S16384x2048 ![] bcast_S_S16384x2048 main_v189
  let main_v701 : IVec S16384x2048 32 := addi main_v694 main_v700
  let main_v702 : IVec S16384x2048 32 := addi main_v699 main_v701
  let main_c_197 : IVec S_ 32 := constantI S_ 32 13#32
  let main_v703 : IVec S16384x2048 32 := broadcastInDim S16384x2048 ![] bcast_S_S16384x2048 main_c_197
  let main_v704 : IVec S16384x2048 32 := Host.shli main_v701 main_v703
  let main_c_198 : IVec S_ 32 := constantI S_ 32 19#32
  let main_v705 : IVec S16384x2048 32 := broadcastInDim S16384x2048 ![] bcast_S_S16384x2048 main_c_198
  let main_v706 : IVec S16384x2048 32 := Host.shrui main_v701 main_v705
  let main_v707 : IVec S16384x2048 32 := ori main_v704 main_v706
  let main_v708 : IVec S16384x2048 32 := xori main_v702 main_v707
  let main_v709 : IVec S16384x2048 32 := addi main_v702 main_v708
  let main_c_199 : IVec S_ 32 := constantI S_ 32 15#32
  fn_part38 (F := F) main_v187 main_v189 main_v191 main_v193 main_v669 main_v689 main_v697 main_v708 main_v709 main_c_199

def fn_part36 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v187 : IVec S_ 32) (main_v189 : IVec S_ 32) (main_v191 : IVec S_ 32) (main_v193 : IVec S_ 32) (main_v669 : FVec F S16384x4096 .f32) : IVec S16384x2048 1 × IVec S16384x1 1 × IVec S16384x2048 1 × IVec S16384x1 1 :=
  let main_v670 : FVec F S16384x64 .f32 := (fun l r => Host.dotGeneral dot_S16384x256_S256x64_S16384x64_1_0_0_1_n_n none l r) main_arg0 main_arg7
  let main_v671 : FVec F S1x64 .f32 := broadcastInDim S1x64 ![1] bcast_S64_S1x64_1 main_arg8
  let main_v672 : FVec F S16384x64 .f32 := broadcastInDim S16384x64 ![0, 1] bcast_S1x64_S16384x64_0_1 main_v671
  let main_v673 : FVec F S16384x64 .f32 := addf main_v670 main_v672
  let main_v674 : FVec F S16384x64 .f32 := fn_relu (F := F) main_v673
  let main_v675 : FVec F S16384x64 .f32 := (fun l r => Host.dotGeneral dot_S16384x64_S64x64_S16384x64_1_0_0_1_n_n none l r) main_v674 main_arg9
  let main_v676 : FVec F S1x64 .f32 := broadcastInDim S1x64 ![1] bcast_S64_S1x64_1 main_arg10
  let main_v677 : FVec F S16384x64 .f32 := broadcastInDim S16384x64 ![0, 1] bcast_S1x64_S16384x64_0_1 main_v676
  let main_v678 : FVec F S16384x64 .f32 := addf main_v675 main_v677
  let main_v679 : FVec F S16384x64 .f32 := fn_relu (F := F) main_v678
  let main_v680 : FVec F S16384x2048 .f32 := (fun l r => Host.dotGeneral dot_S16384x64_S64x2048_S16384x2048_1_0_0_1_n_n none l r) main_v679 main_arg11
  let main_v681 : FVec F S1x2048 .f32 := broadcastInDim S1x2048 ![1] bcast_S2048_S1x2048_1 main_arg12
  let main_v682 : FVec F S16384x2048 .f32 := broadcastInDim S16384x2048 ![0, 1] bcast_S1x2048_S16384x2048_0_1 main_v681
  let main_v683 : FVec F S16384x2048 .f32 := addf main_v680 main_v682
  let main_v684 : FVec F S16384x2048 .f32 := Host.negf main_v683
  let main_v685 : FVec F S16384x2048 .f32 := Host.exp main_v684
  let main_cst_192 : FVec F S_ .f32 := constant S_ .f32 0x3F800000#32
  let main_v686 : FVec F S16384x2048 .f32 := broadcastInDim S16384x2048 ![] bcast_S_S16384x2048 main_cst_192
  let main_v687 : FVec F S16384x2048 .f32 := addf main_v686 main_v685
  let main_cst_193 : FVec F S_ .f32 := constant S_ .f32 0x3F800000#32
  let main_v688 : FVec F S16384x2048 .f32 := broadcastInDim S16384x2048 ![] bcast_S_S16384x2048 main_cst_193
  let main_v689 : FVec F S16384x2048 .f32 := Host.divf main_v688 main_v687
  let main_v690 : IVec S16384x2048 32 := iotaInDim S16384x2048 32 0
  let main_v691 : IVec S16384x2048 32 := iotaInDim S16384x2048 32 1
  fn_part37 (F := F) main_v187 main_v189 main_v191 main_v193 main_v669 main_v689 main_v690 main_v691

def fn_part35 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v187 : IVec S_ 32) (main_v189 : IVec S_ 32) (main_v191 : IVec S_ 32) (main_v193 : IVec S_ 32) (main_v467 : FVec F S16384x4096 .f32) (main_v650 : IVec S16384x4096 32) (main_c_186 : IVec S_ 32) : IVec S16384x2048 1 × IVec S16384x1 1 × IVec S16384x2048 1 × IVec S16384x1 1 :=
  let main_v651 : IVec S16384x4096 32 := broadcastInDim S16384x4096 ![] bcast_S_S16384x4096 main_c_186
  let main_v652 : IVec S16384x4096 32 := Host.shrui main_v650 main_v651
  let main_c_187 : IVec S_ 32 := constantI S_ 32 1065353216#32
  let main_v653 : IVec S16384x4096 32 := broadcastInDim S16384x4096 ![] bcast_S_S16384x4096 main_c_187
  let main_v654 : IVec S16384x4096 32 := ori main_v652 main_v653
  let main_v655 : FVec F S16384x4096 .f32 := bitcastToFloat .f32 main_v654
  let main_cst_188 : FVec F S_ .f32 := constant S_ .f32 0x3F800000#32
  let main_v656 : FVec F S16384x4096 .f32 := broadcastInDim S16384x4096 ![] bcast_S_S16384x4096 main_cst_188
  let main_v657 : FVec F S16384x4096 .f32 := subf main_v655 main_v656
  let main_cst_189 : FVec F S_ .f32 := constant S_ .f32 0x3F800000#32
  let main_v658 : FVec F S16384x4096 .f32 := broadcastInDim S16384x4096 ![] bcast_S_S16384x4096 main_cst_189
  let main_v659 : FVec F S16384x4096 .f32 := mulf main_v657 main_v658
  let main_cst_190 : FVec F S_ .f32 := constant S_ .f32 0x00800000#32
  let main_v660 : FVec F S16384x4096 .f32 := broadcastInDim S16384x4096 ![] bcast_S_S16384x4096 main_cst_190
  let main_v661 : FVec F S16384x4096 .f32 := addf main_v659 main_v660
  let main_cst_191 : FVec F S_ .f32 := constant S_ .f32 0x00800000#32
  let main_v662 : FVec F S16384x4096 .f32 := broadcastInDim S16384x4096 ![] bcast_S_S16384x4096 main_cst_191
  let main_v663 : FVec F S16384x4096 .f32 := maximumf main_v662 main_v661
  let main_v664 : FVec F S16384x4096 .f32 := Host.log main_v663
  let main_v665 : FVec F S16384x4096 .f32 := Host.negf main_v664
  let main_v666 : FVec F S16384x4096 .f32 := Host.log main_v665
  let main_v667 : FVec F S16384x4096 .f32 := Host.negf main_v666
  let main_v668 : FVec F S16384x4096 .f32 := Host.log main_v467
  let main_v669 : FVec F S16384x4096 .f32 := addf main_v667 main_v668
  fn_part36 (F := F) main_arg0 main_arg7 main_arg8 main_arg9 main_arg10 main_arg11 main_arg12 main_v187 main_v189 main_v191 main_v193 main_v669

def fn_part34 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v183 : IVec S_ 32) (main_v187 : IVec S_ 32) (main_v189 : IVec S_ 32) (main_v191 : IVec S_ 32) (main_v193 : IVec S_ 32) (main_v467 : FVec F S16384x4096 .f32) (main_v475 : IVec S_ 32) (main_v629 : IVec S16384x4096 32) (main_v630 : IVec S16384x4096 32) (main_v631 : IVec S16384x4096 32) : IVec S16384x2048 1 × IVec S16384x1 1 × IVec S16384x2048 1 × IVec S16384x1 1 :=
  let main_v632 : IVec S16384x4096 32 := Host.shli main_v629 main_v631
  let main_c_182 : IVec S_ 32 := constantI S_ 32 6#32
  let main_v633 : IVec S16384x4096 32 := broadcastInDim S16384x4096 ![] bcast_S_S16384x4096 main_c_182
  let main_v634 : IVec S16384x4096 32 := Host.shrui main_v629 main_v633
  let main_v635 : IVec S16384x4096 32 := ori main_v632 main_v634
  let main_v636 : IVec S16384x4096 32 := xori main_v630 main_v635
  let main_v637 : IVec S16384x4096 32 := addi main_v630 main_v636
  let main_c_183 : IVec S_ 32 := constantI S_ 32 6#32
  let main_v638 : IVec S16384x4096 32 := broadcastInDim S16384x4096 ![] bcast_S_S16384x4096 main_c_183
  let main_v639 : IVec S16384x4096 32 := Host.shli main_v636 main_v638
  let main_c_184 : IVec S_ 32 := constantI S_ 32 26#32
  let main_v640 : IVec S16384x4096 32 := broadcastInDim S16384x4096 ![] bcast_S_S16384x4096 main_c_184
  let main_v641 : IVec S16384x4096 32 := Host.shrui main_v636 main_v640
  let main_v642 : IVec S16384x4096 32 := ori main_v639 main_v641
  let main_v643 : IVec S16384x4096 32 := xori main_v637 main_v642
  let main_v644 : IVec S16384x4096 32 := broadcastInDim S16384x4096 ![] bcast_S_S16384x4096 main_v475
  let main_v645 : IVec S16384x4096 32 := addi main_v637 main_v644
  let main_v646 : IVec S16384x4096 32 := broadcastInDim S16384x4096 ![] bcast_S_S16384x4096 main_v183
  let main_v647 : IVec S16384x4096 32 := addi main_v643 main_v646
  let main_c_185 : IVec S_ 32 := constantI S_ 32 5#32
  let main_v648 : IVec S16384x4096 32 := broadcastInDim S16384x4096 ![] bcast_S_S16384x4096 main_c_185
  let main_v649 : IVec S16384x4096 32 := addi main_v647 main_v648
  let main_v650 : IVec S16384x4096 32 := xori main_v645 main_v649
  let main_c_186 : IVec S_ 32 := constantI S_ 32 9#32
  fn_part35 (F := F) main_arg0 main_arg7 main_arg8 main_arg9 main_arg10 main_arg11 main_arg12 main_v187 main_v189 main_v191 main_v193 main_v467 main_v650 main_c_186

def fn_part33 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v183 : IVec S_ 32) (main_v187 : IVec S_ 32) (main_v189 : IVec S_ 32) (main_v191 : IVec S_ 32) (main_v193 : IVec S_ 32) (main_v467 : FVec F S16384x4096 .f32) (main_v475 : IVec S_ 32) (main_v611 : IVec S16384x4096 32) (main_v613 : IVec S16384x4096 32) : IVec S16384x2048 1 × IVec S16384x1 1 × IVec S16384x2048 1 × IVec S16384x1 1 :=
  let main_c_176 : IVec S_ 32 := constantI S_ 32 4#32
  let main_v614 : IVec S16384x4096 32 := broadcastInDim S16384x4096 ![] bcast_S_S16384x4096 main_c_176
  let main_v615 : IVec S16384x4096 32 := addi main_v613 main_v614
  let main_v616 : IVec S16384x4096 32 := addi main_v611 main_v615
  let main_c_177 : IVec S_ 32 := constantI S_ 32 13#32
  let main_v617 : IVec S16384x4096 32 := broadcastInDim S16384x4096 ![] bcast_S_S16384x4096 main_c_177
  let main_v618 : IVec S16384x4096 32 := Host.shli main_v615 main_v617
  let main_c_178 : IVec S_ 32 := constantI S_ 32 19#32
  let main_v619 : IVec S16384x4096 32 := broadcastInDim S16384x4096 ![] bcast_S_S16384x4096 main_c_178
  let main_v620 : IVec S16384x4096 32 := Host.shrui main_v615 main_v619
  let main_v621 : IVec S16384x4096 32 := ori main_v618 main_v620
  let main_v622 : IVec S16384x4096 32 := xori main_v616 main_v621
  let main_v623 : IVec S16384x4096 32 := addi main_v616 main_v622
  let main_c_179 : IVec S_ 32 := constantI S_ 32 15#32
  let main_v624 : IVec S16384x4096 32 := broadcastInDim S16384x4096 ![] bcast_S_S16384x4096 main_c_179
  let main_v625 : IVec S16384x4096 32 := Host.shli main_v622 main_v624
  let main_c_180 : IVec S_ 32 := constantI S_ 32 17#32
  let main_v626 : IVec S16384x4096 32 := broadcastInDim S16384x4096 ![] bcast_S_S16384x4096 main_c_180
  let main_v627 : IVec S16384x4096 32 := Host.shrui main_v622 main_v626
  let main_v628 : IVec S16384x4096 32 := ori main_v625 main_v627
  let main_v629 : IVec S16384x4096 32 := xori main_v623 main_v628
  let main_v630 : IVec S16384x4096 32 := addi main_v623 main_v629
  let main_c_181 : IVec S_ 32 := constantI S_ 32 26#32
  let main_v631 : IVec S16384x4096 32 := broadcastInDim S16384x4096 ![] bcast_S_S16384x4096 main_c_181
  fn_part34 (F := F) main_arg0 main_arg7 main_arg8 main_arg9 main_arg10 main_arg11 main_arg12 main_v183 main_v187 main_v189 main_v191 main_v193 main_v467 main_v475 main_v629 main_v630 main_v631

def fn_part32 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v183 : IVec S_ 32) (main_v185 : IVec S_ 32) (main_v187 : IVec S_ 32) (main_v189 : IVec S_ 32) (main_v191 : IVec S_ 32) (main_v193 : IVec S_ 32) (main_v467 : FVec F S16384x4096 .f32) (main_v475 : IVec S_ 32) (main_v589 : IVec S16384x4096 32) (main_v591 : IVec S16384x4096 32) (main_v593 : IVec S16384x4096 32) : IVec S16384x2048 1 × IVec S16384x1 1 × IVec S16384x2048 1 × IVec S16384x1 1 :=
  let main_v594 : IVec S16384x4096 32 := ori main_v591 main_v593
  let main_v595 : IVec S16384x4096 32 := xori main_v589 main_v594
  let main_v596 : IVec S16384x4096 32 := addi main_v589 main_v595
  let main_c_172 : IVec S_ 32 := constantI S_ 32 16#32
  let main_v597 : IVec S16384x4096 32 := broadcastInDim S16384x4096 ![] bcast_S_S16384x4096 main_c_172
  let main_v598 : IVec S16384x4096 32 := Host.shli main_v595 main_v597
  let main_c_173 : IVec S_ 32 := constantI S_ 32 16#32
  let main_v599 : IVec S16384x4096 32 := broadcastInDim S16384x4096 ![] bcast_S_S16384x4096 main_c_173
  let main_v600 : IVec S16384x4096 32 := Host.shrui main_v595 main_v599
  let main_v601 : IVec S16384x4096 32 := ori main_v598 main_v600
  let main_v602 : IVec S16384x4096 32 := xori main_v596 main_v601
  let main_v603 : IVec S16384x4096 32 := addi main_v596 main_v602
  let main_c_174 : IVec S_ 32 := constantI S_ 32 24#32
  let main_v604 : IVec S16384x4096 32 := broadcastInDim S16384x4096 ![] bcast_S_S16384x4096 main_c_174
  let main_v605 : IVec S16384x4096 32 := Host.shli main_v602 main_v604
  let main_c_175 : IVec S_ 32 := constantI S_ 32 8#32
  let main_v606 : IVec S16384x4096 32 := broadcastInDim S16384x4096 ![] bcast_S_S16384x4096 main_c_175
  let main_v607 : IVec S16384x4096 32 := Host.shrui main_v602 main_v606
  let main_v608 : IVec S16384x4096 32 := ori main_v605 main_v607
  let main_v609 : IVec S16384x4096 32 := xori main_v603 main_v608
  let main_v610 : IVec S16384x4096 32 := broadcastInDim S16384x4096 ![] bcast_S_S16384x4096 main_v185
  let main_v611 : IVec S16384x4096 32 := addi main_v603 main_v610
  let main_v612 : IVec S16384x4096 32 := broadcastInDim S16384x4096 ![] bcast_S_S16384x4096 main_v475
  let main_v613 : IVec S16384x4096 32 := addi main_v609 main_v612
  fn_part33 (F := F) main_arg0 main_arg7 main_arg8 main_arg9 main_arg10 main_arg11 main_arg12 main_v183 main_v187 main_v189 main_v191 main_v193 main_v467 main_v475 main_v611 main_v613

def fn_part31 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v183 : IVec S_ 32) (main_v185 : IVec S_ 32) (main_v187 : IVec S_ 32) (main_v189 : IVec S_ 32) (main_v191 : IVec S_ 32) (main_v193 : IVec S_ 32) (main_v467 : FVec F S16384x4096 .f32) (main_v475 : IVec S_ 32) (main_v569 : IVec S16384x4096 32) (main_v574 : IVec S16384x4096 32) : IVec S16384x2048 1 × IVec S16384x1 1 × IVec S16384x2048 1 × IVec S16384x1 1 :=
  let main_v575 : IVec S16384x4096 32 := xori main_v569 main_v574
  let main_v576 : IVec S16384x4096 32 := broadcastInDim S16384x4096 ![] bcast_S_S16384x4096 main_v183
  let main_v577 : IVec S16384x4096 32 := addi main_v569 main_v576
  let main_v578 : IVec S16384x4096 32 := broadcastInDim S16384x4096 ![] bcast_S_S16384x4096 main_v185
  let main_v579 : IVec S16384x4096 32 := addi main_v575 main_v578
  let main_c_167 : IVec S_ 32 := constantI S_ 32 3#32
  let main_v580 : IVec S16384x4096 32 := broadcastInDim S16384x4096 ![] bcast_S_S16384x4096 main_c_167
  let main_v581 : IVec S16384x4096 32 := addi main_v579 main_v580
  let main_v582 : IVec S16384x4096 32 := addi main_v577 main_v581
  let main_c_168 : IVec S_ 32 := constantI S_ 32 17#32
  let main_v583 : IVec S16384x4096 32 := broadcastInDim S16384x4096 ![] bcast_S_S16384x4096 main_c_168
  let main_v584 : IVec S16384x4096 32 := Host.shli main_v581 main_v583
  let main_c_169 : IVec S_ 32 := constantI S_ 32 15#32
  let main_v585 : IVec S16384x4096 32 := broadcastInDim S16384x4096 ![] bcast_S_S16384x4096 main_c_169
  let main_v586 : IVec S16384x4096 32 := Host.shrui main_v581 main_v585
  let main_v587 : IVec S16384x4096 32 := ori main_v584 main_v586
  let main_v588 : IVec S16384x4096 32 := xori main_v582 main_v587
  let main_v589 : IVec S16384x4096 32 := addi main_v582 main_v588
  let main_c_170 : IVec S_ 32 := constantI S_ 32 29#32
  let main_v590 : IVec S16384x4096 32 := broadcastInDim S16384x4096 ![] bcast_S_S16384x4096 main_c_170
  let main_v591 : IVec S16384x4096 32 := Host.shli main_v588 main_v590
  let main_c_171 : IVec S_ 32 := constantI S_ 32 3#32
  let main_v592 : IVec S16384x4096 32 := broadcastInDim S16384x4096 ![] bcast_S_S16384x4096 main_c_171
  let main_v593 : IVec S16384x4096 32 := Host.shrui main_v588 main_v592
  fn_part32 (F := F) main_arg0 main_arg7 main_arg8 main_arg9 main_arg10 main_arg11 main_arg12 main_v183 main_v185 main_v187 main_v189 main_v191 main_v193 main_v467 main_v475 main_v589 main_v591 main_v593

def fn_part30 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v183 : IVec S_ 32) (main_v185 : IVec S_ 32) (main_v187 : IVec S_ 32) (main_v189 : IVec S_ 32) (main_v191 : IVec S_ 32) (main_v193 : IVec S_ 32) (main_v467 : FVec F S16384x4096 .f32) (main_v475 : IVec S_ 32) (main_v554 : IVec S16384x4096 32) (main_v555 : IVec S16384x4096 32) (main_c_161 : IVec S_ 32) : IVec S16384x2048 1 × IVec S16384x1 1 × IVec S16384x2048 1 × IVec S16384x1 1 :=
  let main_v556 : IVec S16384x4096 32 := broadcastInDim S16384x4096 ![] bcast_S_S16384x4096 main_c_161
  let main_v557 : IVec S16384x4096 32 := Host.shli main_v554 main_v556
  let main_c_162 : IVec S_ 32 := constantI S_ 32 17#32
  let main_v558 : IVec S16384x4096 32 := broadcastInDim S16384x4096 ![] bcast_S_S16384x4096 main_c_162
  let main_v559 : IVec S16384x4096 32 := Host.shrui main_v554 main_v558
  let main_v560 : IVec S16384x4096 32 := ori main_v557 main_v559
  let main_v561 : IVec S16384x4096 32 := xori main_v555 main_v560
  let main_v562 : IVec S16384x4096 32 := addi main_v555 main_v561
  let main_c_163 : IVec S_ 32 := constantI S_ 32 26#32
  let main_v563 : IVec S16384x4096 32 := broadcastInDim S16384x4096 ![] bcast_S_S16384x4096 main_c_163
  let main_v564 : IVec S16384x4096 32 := Host.shli main_v561 main_v563
  let main_c_164 : IVec S_ 32 := constantI S_ 32 6#32
  let main_v565 : IVec S16384x4096 32 := broadcastInDim S16384x4096 ![] bcast_S_S16384x4096 main_c_164
  let main_v566 : IVec S16384x4096 32 := Host.shrui main_v561 main_v565
  let main_v567 : IVec S16384x4096 32 := ori main_v564 main_v566
  let main_v568 : IVec S16384x4096 32 := xori main_v562 main_v567
  let main_v569 : IVec S16384x4096 32 := addi main_v562 main_v568
  let main_c_165 : IVec S_ 32 := constantI S_ 32 6#32
  let main_v570 : IVec S16384x4096 32 := broadcastInDim S16384x4096 ![] bcast_S_S16384x4096 main_c_165
  let main_v571 : IVec S16384x4096 32 := Host.shli main_v568 main_v570
  let main_c_166 : IVec S_ 32 := constantI S_ 32 26#32
  let main_v572 : IVec S16384x4096 32 := broadcastInDim S16384x4096 ![] bcast_S_S16384x4096 main_c_166
  let main_v573 : IVec S16384x4096 32 := Host.shrui main_v568 main_v572
  let main_v574 : IVec S16384x4096 32 := ori main_v571 main_v573
  fn_part31 (F := F) main_arg0 main_arg7 main_arg8 main_arg9 main_arg10 main_arg11 main_arg12 main_v183 main_v185 main_v187 main_v189 main_v191 main_v193 main_v467 main_v475 main_v569 main_v574

def fn_part29 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v183 : IVec S_ 32) (main_v185 : IVec S_ 32) (main_v187 : IVec S_ 32) (main_v189 : IVec S_ 32) (main_v191 : IVec S_ 32) (main_v193 : IVec S_ 32) (main_v467 : FVec F S16384x4096 .f32) (main_v475 : IVec S_ 32) (main_v534 : IVec S16384x4096 32) (main_v535 : IVec S16384x4096 32) (main_v536 : IVec S16384x4096 32) : IVec S16384x2048 1 × IVec S16384x1 1 × IVec S16384x2048 1 × IVec S16384x1 1 :=
  let main_v537 : IVec S16384x4096 32 := Host.shli main_v534 main_v536
  let main_c_157 : IVec S_ 32 := constantI S_ 32 8#32
  let main_v538 : IVec S16384x4096 32 := broadcastInDim S16384x4096 ![] bcast_S_S16384x4096 main_c_157
  let main_v539 : IVec S16384x4096 32 := Host.shrui main_v534 main_v538
  let main_v540 : IVec S16384x4096 32 := ori main_v537 main_v539
  let main_v541 : IVec S16384x4096 32 := xori main_v535 main_v540
  let main_v542 : IVec S16384x4096 32 := broadcastInDim S16384x4096 ![] bcast_S_S16384x4096 main_v475
  let main_v543 : IVec S16384x4096 32 := addi main_v535 main_v542
  let main_v544 : IVec S16384x4096 32 := broadcastInDim S16384x4096 ![] bcast_S_S16384x4096 main_v183
  let main_v545 : IVec S16384x4096 32 := addi main_v541 main_v544
  let main_c_158 : IVec S_ 32 := constantI S_ 32 2#32
  let main_v546 : IVec S16384x4096 32 := broadcastInDim S16384x4096 ![] bcast_S_S16384x4096 main_c_158
  let main_v547 : IVec S16384x4096 32 := addi main_v545 main_v546
  let main_v548 : IVec S16384x4096 32 := addi main_v543 main_v547
  let main_c_159 : IVec S_ 32 := constantI S_ 32 13#32
  let main_v549 : IVec S16384x4096 32 := broadcastInDim S16384x4096 ![] bcast_S_S16384x4096 main_c_159
  let main_v550 : IVec S16384x4096 32 := Host.shli main_v547 main_v549
  let main_c_160 : IVec S_ 32 := constantI S_ 32 19#32
  let main_v551 : IVec S16384x4096 32 := broadcastInDim S16384x4096 ![] bcast_S_S16384x4096 main_c_160
  let main_v552 : IVec S16384x4096 32 := Host.shrui main_v547 main_v551
  let main_v553 : IVec S16384x4096 32 := ori main_v550 main_v552
  let main_v554 : IVec S16384x4096 32 := xori main_v548 main_v553
  let main_v555 : IVec S16384x4096 32 := addi main_v548 main_v554
  let main_c_161 : IVec S_ 32 := constantI S_ 32 15#32
  fn_part30 (F := F) main_arg0 main_arg7 main_arg8 main_arg9 main_arg10 main_arg11 main_arg12 main_v183 main_v185 main_v187 main_v189 main_v191 main_v193 main_v467 main_v475 main_v554 main_v555 main_c_161

def fn_part28 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v183 : IVec S_ 32) (main_v185 : IVec S_ 32) (main_v187 : IVec S_ 32) (main_v189 : IVec S_ 32) (main_v191 : IVec S_ 32) (main_v193 : IVec S_ 32) (main_v467 : FVec F S16384x4096 .f32) (main_v475 : IVec S_ 32) (main_v513 : IVec S16384x4096 32) (main_v514 : IVec S16384x4096 32) (main_v516 : IVec S16384x4096 32) (main_v517 : IVec S16384x4096 32) : IVec S16384x2048 1 × IVec S16384x1 1 × IVec S16384x2048 1 × IVec S16384x1 1 :=
  let main_v518 : IVec S16384x4096 32 := Host.shrui main_v513 main_v517
  let main_v519 : IVec S16384x4096 32 := ori main_v516 main_v518
  let main_v520 : IVec S16384x4096 32 := xori main_v514 main_v519
  let main_v521 : IVec S16384x4096 32 := addi main_v514 main_v520
  let main_c_152 : IVec S_ 32 := constantI S_ 32 29#32
  let main_v522 : IVec S16384x4096 32 := broadcastInDim S16384x4096 ![] bcast_S_S16384x4096 main_c_152
  let main_v523 : IVec S16384x4096 32 := Host.shli main_v520 main_v522
  let main_c_153 : IVec S_ 32 := constantI S_ 32 3#32
  let main_v524 : IVec S16384x4096 32 := broadcastInDim S16384x4096 ![] bcast_S_S16384x4096 main_c_153
  let main_v525 : IVec S16384x4096 32 := Host.shrui main_v520 main_v524
  let main_v526 : IVec S16384x4096 32 := ori main_v523 main_v525
  let main_v527 : IVec S16384x4096 32 := xori main_v521 main_v526
  let main_v528 : IVec S16384x4096 32 := addi main_v521 main_v527
  let main_c_154 : IVec S_ 32 := constantI S_ 32 16#32
  let main_v529 : IVec S16384x4096 32 := broadcastInDim S16384x4096 ![] bcast_S_S16384x4096 main_c_154
  let main_v530 : IVec S16384x4096 32 := Host.shli main_v527 main_v529
  let main_c_155 : IVec S_ 32 := constantI S_ 32 16#32
  let main_v531 : IVec S16384x4096 32 := broadcastInDim S16384x4096 ![] bcast_S_S16384x4096 main_c_155
  let main_v532 : IVec S16384x4096 32 := Host.shrui main_v527 main_v531
  let main_v533 : IVec S16384x4096 32 := ori main_v530 main_v532
  let main_v534 : IVec S16384x4096 32 := xori main_v528 main_v533
  let main_v535 : IVec S16384x4096 32 := addi main_v528 main_v534
  let main_c_156 : IVec S_ 32 := constantI S_ 32 24#32
  let main_v536 : IVec S16384x4096 32 := broadcastInDim S16384x4096 ![] bcast_S_S16384x4096 main_c_156
  fn_part29 (F := F) main_arg0 main_arg7 main_arg8 main_arg9 main_arg10 main_arg11 main_arg12 main_v183 main_v185 main_v187 main_v189 main_v191 main_v193 main_v467 main_v475 main_v534 main_v535 main_v536

def fn_part27 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v183 : IVec S_ 32) (main_v185 : IVec S_ 32) (main_v187 : IVec S_ 32) (main_v189 : IVec S_ 32) (main_v191 : IVec S_ 32) (main_v193 : IVec S_ 32) (main_v467 : FVec F S16384x4096 .f32) (main_v475 : IVec S_ 32) (main_v494 : IVec S16384x4096 32) (main_v496 : IVec S16384x4096 32) (main_v498 : IVec S16384x4096 32) : IVec S16384x2048 1 × IVec S16384x1 1 × IVec S16384x2048 1 × IVec S16384x1 1 :=
  let main_v499 : IVec S16384x4096 32 := ori main_v496 main_v498
  let main_v500 : IVec S16384x4096 32 := xori main_v494 main_v499
  let main_v501 : IVec S16384x4096 32 := addi main_v494 main_v500
  let main_c_147 : IVec S_ 32 := constantI S_ 32 6#32
  let main_v502 : IVec S16384x4096 32 := broadcastInDim S16384x4096 ![] bcast_S_S16384x4096 main_c_147
  let main_v503 : IVec S16384x4096 32 := Host.shli main_v500 main_v502
  let main_c_148 : IVec S_ 32 := constantI S_ 32 26#32
  let main_v504 : IVec S16384x4096 32 := broadcastInDim S16384x4096 ![] bcast_S_S16384x4096 main_c_148
  let main_v505 : IVec S16384x4096 32 := Host.shrui main_v500 main_v504
  let main_v506 : IVec S16384x4096 32 := ori main_v503 main_v505
  let main_v507 : IVec S16384x4096 32 := xori main_v501 main_v506
  let main_v508 : IVec S16384x4096 32 := broadcastInDim S16384x4096 ![] bcast_S_S16384x4096 main_v185
  let main_v509 : IVec S16384x4096 32 := addi main_v501 main_v508
  let main_v510 : IVec S16384x4096 32 := broadcastInDim S16384x4096 ![] bcast_S_S16384x4096 main_v475
  let main_v511 : IVec S16384x4096 32 := addi main_v507 main_v510
  let main_c_149 : IVec S_ 32 := constantI S_ 32 1#32
  let main_v512 : IVec S16384x4096 32 := broadcastInDim S16384x4096 ![] bcast_S_S16384x4096 main_c_149
  let main_v513 : IVec S16384x4096 32 := addi main_v511 main_v512
  let main_v514 : IVec S16384x4096 32 := addi main_v509 main_v513
  let main_c_150 : IVec S_ 32 := constantI S_ 32 17#32
  let main_v515 : IVec S16384x4096 32 := broadcastInDim S16384x4096 ![] bcast_S_S16384x4096 main_c_150
  let main_v516 : IVec S16384x4096 32 := Host.shli main_v513 main_v515
  let main_c_151 : IVec S_ 32 := constantI S_ 32 15#32
  let main_v517 : IVec S16384x4096 32 := broadcastInDim S16384x4096 ![] bcast_S_S16384x4096 main_c_151
  fn_part28 (F := F) main_arg0 main_arg7 main_arg8 main_arg9 main_arg10 main_arg11 main_arg12 main_v183 main_v185 main_v187 main_v189 main_v191 main_v193 main_v467 main_v475 main_v513 main_v514 main_v516 main_v517

def fn_part26 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v183 : IVec S_ 32) (main_v185 : IVec S_ 32) (main_v187 : IVec S_ 32) (main_v189 : IVec S_ 32) (main_v191 : IVec S_ 32) (main_v193 : IVec S_ 32) (main_v467 : FVec F S16384x4096 .f32) (main_v475 : IVec S_ 32) (main_v479 : IVec S16384x4096 32) (main_v480 : IVec S16384x4096 32) : IVec S16384x2048 1 × IVec S16384x1 1 × IVec S16384x2048 1 × IVec S16384x1 1 :=
  let main_c_141 : IVec S_ 32 := constantI S_ 32 13#32
  let main_v481 : IVec S16384x4096 32 := broadcastInDim S16384x4096 ![] bcast_S_S16384x4096 main_c_141
  let main_v482 : IVec S16384x4096 32 := Host.shli main_v479 main_v481
  let main_c_142 : IVec S_ 32 := constantI S_ 32 19#32
  let main_v483 : IVec S16384x4096 32 := broadcastInDim S16384x4096 ![] bcast_S_S16384x4096 main_c_142
  let main_v484 : IVec S16384x4096 32 := Host.shrui main_v479 main_v483
  let main_v485 : IVec S16384x4096 32 := ori main_v482 main_v484
  let main_v486 : IVec S16384x4096 32 := xori main_v480 main_v485
  let main_v487 : IVec S16384x4096 32 := addi main_v480 main_v486
  let main_c_143 : IVec S_ 32 := constantI S_ 32 15#32
  let main_v488 : IVec S16384x4096 32 := broadcastInDim S16384x4096 ![] bcast_S_S16384x4096 main_c_143
  let main_v489 : IVec S16384x4096 32 := Host.shli main_v486 main_v488
  let main_c_144 : IVec S_ 32 := constantI S_ 32 17#32
  let main_v490 : IVec S16384x4096 32 := broadcastInDim S16384x4096 ![] bcast_S_S16384x4096 main_c_144
  let main_v491 : IVec S16384x4096 32 := Host.shrui main_v486 main_v490
  let main_v492 : IVec S16384x4096 32 := ori main_v489 main_v491
  let main_v493 : IVec S16384x4096 32 := xori main_v487 main_v492
  let main_v494 : IVec S16384x4096 32 := addi main_v487 main_v493
  let main_c_145 : IVec S_ 32 := constantI S_ 32 26#32
  let main_v495 : IVec S16384x4096 32 := broadcastInDim S16384x4096 ![] bcast_S_S16384x4096 main_c_145
  let main_v496 : IVec S16384x4096 32 := Host.shli main_v493 main_v495
  let main_c_146 : IVec S_ 32 := constantI S_ 32 6#32
  let main_v497 : IVec S16384x4096 32 := broadcastInDim S16384x4096 ![] bcast_S_S16384x4096 main_c_146
  let main_v498 : IVec S16384x4096 32 := Host.shrui main_v493 main_v497
  fn_part27 (F := F) main_arg0 main_arg7 main_arg8 main_arg9 main_arg10 main_arg11 main_arg12 main_v183 main_v185 main_v187 main_v189 main_v191 main_v193 main_v467 main_v475 main_v494 main_v496 main_v498

def fn_part25 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v183 : IVec S_ 32) (main_v185 : IVec S_ 32) (main_v187 : IVec S_ 32) (main_v189 : IVec S_ 32) (main_v191 : IVec S_ 32) (main_v193 : IVec S_ 32) (main_v213 : FVec F S16384x2048 .f32) (main_v462 : FVec F S16384x2048 .f32) : IVec S16384x2048 1 × IVec S16384x1 1 × IVec S16384x2048 1 × IVec S16384x1 1 :=
  let main_v463 : FVec F S16384x2048 .f32 := maximumf main_v213 main_v462
  let main_cst_135 : FVec F S_ .f32 := constant S_ .f32 0x3C23D70A#32
  let main_cst_136 : FVec F S_ .f32 := constant S_ .f32 0x3F7D70A4#32
  let main_v464 : FVec F S16384x2048 .f32 := fn_clip (F := F) main_v463 main_cst_135 main_cst_136
  let main_cst_137 : FVec F S_ .f32 := constant S_ .f32 0x3F800000#32
  let main_v465 : FVec F S16384x2048 .f32 := broadcastInDim S16384x2048 ![] bcast_S_S16384x2048 main_cst_137
  let main_v466 : FVec F S16384x2048 .f32 := subf main_v465 main_v464
  let main_v467 : FVec F S16384x4096 .f32 := (fun a b => concatenate S16384x4096 1 [⟨S16384x2048, a⟩, ⟨S16384x2048, b⟩] concatenates_S16384x2048_S16384x2048_S16384x4096_d1) main_v466 main_v464
  let main_v468 : IVec S16384x4096 32 := iotaInDim S16384x4096 32 0
  let main_v469 : IVec S16384x4096 32 := iotaInDim S16384x4096 32 1
  let main_c_138 : IVec S_ 32 := constantI S_ 32 4096#32
  let main_v470 : IVec S16384x4096 32 := broadcastInDim S16384x4096 ![] bcast_S_S16384x4096 main_c_138
  let main_v471 : IVec S16384x4096 32 := muli main_v468 main_v470
  let main_v472 : IVec S16384x4096 32 := addi main_v471 main_v469
  let main_c_139 : IVec S_ 32 := constantI S_ 32 0#32
  let main_v473 : IVec S16384x4096 32 := broadcastInDim S16384x4096 ![] bcast_S_S16384x4096 main_c_139
  let main_v474 : IVec S_ 32 := xori main_v183 main_v185
  let main_c_140 : IVec S_ 32 := constantI S_ 32 466688986#32
  let main_v475 : IVec S_ 32 := xori main_v474 main_c_140
  let main_v476 : IVec S16384x4096 32 := broadcastInDim S16384x4096 ![] bcast_S_S16384x4096 main_v183
  let main_v477 : IVec S16384x4096 32 := addi main_v473 main_v476
  let main_v478 : IVec S16384x4096 32 := broadcastInDim S16384x4096 ![] bcast_S_S16384x4096 main_v185
  let main_v479 : IVec S16384x4096 32 := addi main_v472 main_v478
  let main_v480 : IVec S16384x4096 32 := addi main_v477 main_v479
  fn_part26 (F := F) main_arg0 main_arg7 main_arg8 main_arg9 main_arg10 main_arg11 main_arg12 main_v183 main_v185 main_v187 main_v189 main_v191 main_v193 main_v467 main_v475 main_v479 main_v480

def fn_part24 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v183 : IVec S_ 32) (main_v185 : IVec S_ 32) (main_v187 : IVec S_ 32) (main_v189 : IVec S_ 32) (main_v191 : IVec S_ 32) (main_v193 : IVec S_ 32) (main_v213 : FVec F S16384x2048 .f32) (main_v409 : FVec F S16384x2048 .f32) (main_v415 : IVec S16384x2048 1) (main_v421 : FVec F S16384x2048 .f32) (main_v444 : FVec F S16384x2048 .f32) (main_v445 : FVec F S16384x2048 .f32) : IVec S16384x2048 1 × IVec S16384x1 1 × IVec S16384x2048 1 × IVec S16384x1 1 :=
  let main_v446 : FVec F S16384x2048 .f32 := id main_v444
  let main_v447 : FVec F S16384x2048 .f32 := addf main_v446 main_v445
  let main_cst_128 : FVec F S_ .f32 := constant S_ .f32 0x3E7C8F63#32
  let main_cst_129 : FVec F S_ .f32 := constant S_ .f32 0x3F8036DB#32
  let main_v448 : FVec F S16384x2048 .f32 := fn_where_0 (F := F) main_v415 main_cst_128 main_cst_129
  let main_v449 : FVec F S16384x2048 .f32 := mulf main_v447 main_v421
  let main_v450 : FVec F S16384x2048 .f32 := id main_v448
  let main_v451 : FVec F S16384x2048 .f32 := addf main_v450 main_v449
  let main_cst_130 : FVec F S_ .f32 := constant S_ .f32 0x3FC02E2F#32
  let main_cst_131 : FVec F S_ .f32 := constant S_ .f32 0x40354F7E#32
  let main_v452 : FVec F S16384x2048 .f32 := fn_where_0 (F := F) main_v415 main_cst_130 main_cst_131
  let main_v453 : FVec F S16384x2048 .f32 := mulf main_v451 main_v421
  let main_v454 : FVec F S16384x2048 .f32 := id main_v452
  let main_v455 : FVec F S16384x2048 .f32 := addf main_v454 main_v453
  let main_v456 : FVec F S16384x2048 .f32 := mulf main_v455 main_v409
  let main_cst_132 : FVec F S_ .f32 := constant S_ .f32 0x3FB504F3#32
  let main_v457 : FVec F S16384x2048 .f32 := broadcastInDim S16384x2048 ![] bcast_S_S16384x2048 main_cst_132
  let main_v458 : FVec F S16384x2048 .f32 := mulf main_v457 main_v456
  let main_cst_133 : FVec F S_ .f32 := constant S_ .f32 0x3E800000#32
  let main_v459 : FVec F S16384x2048 .f32 := broadcastInDim S16384x2048 ![] bcast_S_S16384x2048 main_cst_133
  let main_v460 : FVec F S16384x2048 .f32 := mulf main_v458 main_v459
  let main_cst_134 : FVec F S_ .f32 := constant S_ .f32 0x3F000000#32
  let main_v461 : FVec F S16384x2048 .f32 := broadcastInDim S16384x2048 ![] bcast_S_S16384x2048 main_cst_134
  let main_v462 : FVec F S16384x2048 .f32 := addf main_v460 main_v461
  fn_part25 (F := F) main_arg0 main_arg7 main_arg8 main_arg9 main_arg10 main_arg11 main_arg12 main_v183 main_v185 main_v187 main_v189 main_v191 main_v193 main_v213 main_v462

def fn_part23 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v183 : IVec S_ 32) (main_v185 : IVec S_ 32) (main_v187 : IVec S_ 32) (main_v189 : IVec S_ 32) (main_v191 : IVec S_ 32) (main_v193 : IVec S_ 32) (main_v213 : FVec F S16384x2048 .f32) (main_v409 : FVec F S16384x2048 .f32) (main_v415 : IVec S16384x2048 1) (main_v421 : FVec F S16384x2048 .f32) (main_v428 : FVec F S16384x2048 .f32) (main_v429 : FVec F S16384x2048 .f32) : IVec S16384x2048 1 × IVec S16384x1 1 × IVec S16384x2048 1 × IVec S16384x1 1 :=
  let main_v430 : FVec F S16384x2048 .f32 := id main_v428
  let main_v431 : FVec F S16384x2048 .f32 := addf main_v430 main_v429
  let main_cst_120 : FVec F S_ .f32 := constant S_ .f32 0xB6935AC1#32
  let main_cst_121 : FVec F S_ .f32 := constant S_ .f32 0xBB70BDE7#32
  let main_v432 : FVec F S16384x2048 .f32 := fn_where_0 (F := F) main_v415 main_cst_120 main_cst_121
  let main_v433 : FVec F S16384x2048 .f32 := mulf main_v431 main_v421
  let main_v434 : FVec F S16384x2048 .f32 := id main_v432
  let main_v435 : FVec F S16384x2048 .f32 := addf main_v434 main_v433
  let main_cst_122 : FVec F S_ .f32 := constant S_ .f32 0x396532DB#32
  let main_cst_123 : FVec F S_ .f32 := constant S_ .f32 0x3BBC127B#32
  let main_v436 : FVec F S16384x2048 .f32 := fn_where_0 (F := F) main_v415 main_cst_122 main_cst_123
  let main_v437 : FVec F S16384x2048 .f32 := mulf main_v435 main_v421
  let main_v438 : FVec F S16384x2048 .f32 := id main_v436
  let main_v439 : FVec F S16384x2048 .f32 := addf main_v438 main_v437
  let main_cst_124 : FVec F S_ .f32 := constant S_ .f32 0xBAA45408#32
  let main_cst_125 : FVec F S_ .f32 := constant S_ .f32 0xBBF9C5D7#32
  let main_v440 : FVec F S16384x2048 .f32 := fn_where_0 (F := F) main_v415 main_cst_124 main_cst_125
  let main_v441 : FVec F S16384x2048 .f32 := mulf main_v439 main_v421
  let main_v442 : FVec F S16384x2048 .f32 := id main_v440
  let main_v443 : FVec F S16384x2048 .f32 := addf main_v442 main_v441
  let main_cst_126 : FVec F S_ .f32 := constant S_ .f32 0xBB88E4EF#32
  let main_cst_127 : FVec F S_ .f32 := constant S_ .f32 0x3C1AA57E#32
  let main_v444 : FVec F S16384x2048 .f32 := fn_where_0 (F := F) main_v415 main_cst_126 main_cst_127
  let main_v445 : FVec F S16384x2048 .f32 := mulf main_v443 main_v421
  fn_part24 (F := F) main_arg0 main_arg7 main_arg8 main_arg9 main_arg10 main_arg11 main_arg12 main_v183 main_v185 main_v187 main_v189 main_v191 main_v193 main_v213 main_v409 main_v415 main_v421 main_v444 main_v445

def fn_part22 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v183 : IVec S_ 32) (main_v185 : IVec S_ 32) (main_v187 : IVec S_ 32) (main_v189 : IVec S_ 32) (main_v191 : IVec S_ 32) (main_v193 : IVec S_ 32) (main_v213 : FVec F S16384x2048 .f32) (main_v409 : FVec F S16384x2048 .f32) (main_v413 : FVec F S16384x2048 .f32) (main_cst_111 : FVec F S_ .f32) : IVec S16384x2048 1 × IVec S16384x1 1 × IVec S16384x2048 1 × IVec S16384x1 1 :=
  let main_v414 : FVec F S16384x2048 .f32 := broadcastInDim S16384x2048 ![] bcast_S_S16384x2048 main_cst_111
  let main_v415 : IVec S16384x2048 1 := cmpf .olt main_v413 main_v414
  let main_cst_112 : FVec F S_ .f32 := constant S_ .f32 0x40200000#32
  let main_v416 : FVec F S16384x2048 .f32 := broadcastInDim S16384x2048 ![] bcast_S_S16384x2048 main_cst_112
  let main_v417 : FVec F S16384x2048 .f32 := subf main_v413 main_v416
  let main_v418 : FVec F S16384x2048 .f32 := Host.sqrt main_v413
  let main_cst_113 : FVec F S_ .f32 := constant S_ .f32 0x40400000#32
  let main_v419 : FVec F S16384x2048 .f32 := broadcastInDim S16384x2048 ![] bcast_S_S16384x2048 main_cst_113
  let main_v420 : FVec F S16384x2048 .f32 := subf main_v418 main_v419
  let main_v421 : FVec F S16384x2048 .f32 := fn_where (F := F) main_v415 main_v417 main_v420
  let main_cst_114 : FVec F S_ .f32 := constant S_ .f32 0x32F16588#32
  let main_cst_115 : FVec F S_ .f32 := constant S_ .f32 0xB951F09B#32
  let main_v422 : FVec F S16384x2048 .f32 := fn_where_0 (F := F) main_v415 main_cst_114 main_cst_115
  let main_cst_116 : FVec F S_ .f32 := constant S_ .f32 0x34B84B36#32
  let main_cst_117 : FVec F S_ .f32 := constant S_ .f32 0x38D3B56B#32
  let main_v423 : FVec F S16384x2048 .f32 := fn_where_0 (F := F) main_v415 main_cst_116 main_cst_117
  let main_v424 : FVec F S16384x2048 .f32 := id main_v422
  let main_v425 : FVec F S16384x2048 .f32 := mulf main_v424 main_v421
  let main_v426 : FVec F S16384x2048 .f32 := id main_v423
  let main_v427 : FVec F S16384x2048 .f32 := addf main_v426 main_v425
  let main_cst_118 : FVec F S_ .f32 := constant S_ .f32 0xB66C7357#32
  let main_cst_119 : FVec F S_ .f32 := constant S_ .f32 0x3AB0DC72#32
  let main_v428 : FVec F S16384x2048 .f32 := fn_where_0 (F := F) main_v415 main_cst_118 main_cst_119
  let main_v429 : FVec F S16384x2048 .f32 := mulf main_v427 main_v421
  fn_part23 (F := F) main_arg0 main_arg7 main_arg8 main_arg9 main_arg10 main_arg11 main_arg12 main_v183 main_v185 main_v187 main_v189 main_v191 main_v193 main_v213 main_v409 main_v415 main_v421 main_v428 main_v429

def fn_part21 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v183 : IVec S_ 32) (main_v185 : IVec S_ 32) (main_v187 : IVec S_ 32) (main_v189 : IVec S_ 32) (main_v191 : IVec S_ 32) (main_v193 : IVec S_ 32) (main_v213 : FVec F S16384x2048 .f32) (main_v396 : IVec S16384x2048 32) : IVec S16384x2048 1 × IVec S16384x1 1 × IVec S16384x2048 1 × IVec S16384x1 1 :=
  let main_c_105 : IVec S_ 32 := constantI S_ 32 9#32
  let main_v397 : IVec S16384x2048 32 := broadcastInDim S16384x2048 ![] bcast_S_S16384x2048 main_c_105
  let main_v398 : IVec S16384x2048 32 := Host.shrui main_v396 main_v397
  let main_c_106 : IVec S_ 32 := constantI S_ 32 1065353216#32
  let main_v399 : IVec S16384x2048 32 := broadcastInDim S16384x2048 ![] bcast_S_S16384x2048 main_c_106
  let main_v400 : IVec S16384x2048 32 := ori main_v398 main_v399
  let main_v401 : FVec F S16384x2048 .f32 := bitcastToFloat .f32 main_v400
  let main_cst_107 : FVec F S_ .f32 := constant S_ .f32 0x3F800000#32
  let main_v402 : FVec F S16384x2048 .f32 := broadcastInDim S16384x2048 ![] bcast_S_S16384x2048 main_cst_107
  let main_v403 : FVec F S16384x2048 .f32 := subf main_v401 main_v402
  let main_cst_108 : FVec F S_ .f32 := constant S_ .f32 0x40000000#32
  let main_v404 : FVec F S16384x2048 .f32 := broadcastInDim S16384x2048 ![] bcast_S_S16384x2048 main_cst_108
  let main_v405 : FVec F S16384x2048 .f32 := mulf main_v403 main_v404
  let main_cst_109 : FVec F S_ .f32 := constant S_ .f32 0xBF7FFFFF#32
  let main_v406 : FVec F S16384x2048 .f32 := broadcastInDim S16384x2048 ![] bcast_S_S16384x2048 main_cst_109
  let main_v407 : FVec F S16384x2048 .f32 := addf main_v405 main_v406
  let main_cst_110 : FVec F S_ .f32 := constant S_ .f32 0xBF7FFFFF#32
  let main_v408 : FVec F S16384x2048 .f32 := broadcastInDim S16384x2048 ![] bcast_S_S16384x2048 main_cst_110
  let main_v409 : FVec F S16384x2048 .f32 := maximumf main_v408 main_v407
  let main_v410 : FVec F S16384x2048 .f32 := Host.negf main_v409
  let main_v411 : FVec F S16384x2048 .f32 := mulf main_v410 main_v409
  let main_v412 : FVec F S16384x2048 .f32 := Host.log1p main_v411
  let main_v413 : FVec F S16384x2048 .f32 := Host.negf main_v412
  let main_cst_111 : FVec F S_ .f32 := constant S_ .f32 0x40A00000#32
  fn_part22 (F := F) main_arg0 main_arg7 main_arg8 main_arg9 main_arg10 main_arg11 main_arg12 main_v183 main_v185 main_v187 main_v189 main_v191 main_v193 main_v213 main_v409 main_v413 main_cst_111

def fn_part20 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v179 : IVec S_ 32) (main_v183 : IVec S_ 32) (main_v185 : IVec S_ 32) (main_v187 : IVec S_ 32) (main_v189 : IVec S_ 32) (main_v191 : IVec S_ 32) (main_v193 : IVec S_ 32) (main_v213 : FVec F S16384x2048 .f32) (main_v221 : IVec S_ 32) (main_v375 : IVec S16384x2048 32) (main_v376 : IVec S16384x2048 32) (main_c_100 : IVec S_ 32) : IVec S16384x2048 1 × IVec S16384x1 1 × IVec S16384x2048 1 × IVec S16384x1 1 :=
  let main_v377 : IVec S16384x2048 32 := broadcastInDim S16384x2048 ![] bcast_S_S16384x2048 main_c_100
  let main_v378 : IVec S16384x2048 32 := Host.shli main_v375 main_v377
  let main_c_101 : IVec S_ 32 := constantI S_ 32 6#32
  let main_v379 : IVec S16384x2048 32 := broadcastInDim S16384x2048 ![] bcast_S_S16384x2048 main_c_101
  let main_v380 : IVec S16384x2048 32 := Host.shrui main_v375 main_v379
  let main_v381 : IVec S16384x2048 32 := ori main_v378 main_v380
  let main_v382 : IVec S16384x2048 32 := xori main_v376 main_v381
  let main_v383 : IVec S16384x2048 32 := addi main_v376 main_v382
  let main_c_102 : IVec S_ 32 := constantI S_ 32 6#32
  let main_v384 : IVec S16384x2048 32 := broadcastInDim S16384x2048 ![] bcast_S_S16384x2048 main_c_102
  let main_v385 : IVec S16384x2048 32 := Host.shli main_v382 main_v384
  let main_c_103 : IVec S_ 32 := constantI S_ 32 26#32
  let main_v386 : IVec S16384x2048 32 := broadcastInDim S16384x2048 ![] bcast_S_S16384x2048 main_c_103
  let main_v387 : IVec S16384x2048 32 := Host.shrui main_v382 main_v386
  let main_v388 : IVec S16384x2048 32 := ori main_v385 main_v387
  let main_v389 : IVec S16384x2048 32 := xori main_v383 main_v388
  let main_v390 : IVec S16384x2048 32 := broadcastInDim S16384x2048 ![] bcast_S_S16384x2048 main_v221
  let main_v391 : IVec S16384x2048 32 := addi main_v383 main_v390
  let main_v392 : IVec S16384x2048 32 := broadcastInDim S16384x2048 ![] bcast_S_S16384x2048 main_v179
  let main_v393 : IVec S16384x2048 32 := addi main_v389 main_v392
  let main_c_104 : IVec S_ 32 := constantI S_ 32 5#32
  let main_v394 : IVec S16384x2048 32 := broadcastInDim S16384x2048 ![] bcast_S_S16384x2048 main_c_104
  let main_v395 : IVec S16384x2048 32 := addi main_v393 main_v394
  let main_v396 : IVec S16384x2048 32 := xori main_v391 main_v395
  fn_part21 (F := F) main_arg0 main_arg7 main_arg8 main_arg9 main_arg10 main_arg11 main_arg12 main_v183 main_v185 main_v187 main_v189 main_v191 main_v193 main_v213 main_v396

def fn_part19 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v179 : IVec S_ 32) (main_v183 : IVec S_ 32) (main_v185 : IVec S_ 32) (main_v187 : IVec S_ 32) (main_v189 : IVec S_ 32) (main_v191 : IVec S_ 32) (main_v193 : IVec S_ 32) (main_v213 : FVec F S16384x2048 .f32) (main_v221 : IVec S_ 32) (main_v355 : IVec S16384x2048 32) (main_v357 : IVec S16384x2048 32) (main_v358 : IVec S16384x2048 32) : IVec S16384x2048 1 × IVec S16384x1 1 × IVec S16384x2048 1 × IVec S16384x1 1 :=
  let main_v359 : IVec S16384x2048 32 := addi main_v355 main_v358
  let main_c_95 : IVec S_ 32 := constantI S_ 32 4#32
  let main_v360 : IVec S16384x2048 32 := broadcastInDim S16384x2048 ![] bcast_S_S16384x2048 main_c_95
  let main_v361 : IVec S16384x2048 32 := addi main_v359 main_v360
  let main_v362 : IVec S16384x2048 32 := addi main_v357 main_v361
  let main_c_96 : IVec S_ 32 := constantI S_ 32 13#32
  let main_v363 : IVec S16384x2048 32 := broadcastInDim S16384x2048 ![] bcast_S_S16384x2048 main_c_96
  let main_v364 : IVec S16384x2048 32 := Host.shli main_v361 main_v363
  let main_c_97 : IVec S_ 32 := constantI S_ 32 19#32
  let main_v365 : IVec S16384x2048 32 := broadcastInDim S16384x2048 ![] bcast_S_S16384x2048 main_c_97
  let main_v366 : IVec S16384x2048 32 := Host.shrui main_v361 main_v365
  let main_v367 : IVec S16384x2048 32 := ori main_v364 main_v366
  let main_v368 : IVec S16384x2048 32 := xori main_v362 main_v367
  let main_v369 : IVec S16384x2048 32 := addi main_v362 main_v368
  let main_c_98 : IVec S_ 32 := constantI S_ 32 15#32
  let main_v370 : IVec S16384x2048 32 := broadcastInDim S16384x2048 ![] bcast_S_S16384x2048 main_c_98
  let main_v371 : IVec S16384x2048 32 := Host.shli main_v368 main_v370
  let main_c_99 : IVec S_ 32 := constantI S_ 32 17#32
  let main_v372 : IVec S16384x2048 32 := broadcastInDim S16384x2048 ![] bcast_S_S16384x2048 main_c_99
  let main_v373 : IVec S16384x2048 32 := Host.shrui main_v368 main_v372
  let main_v374 : IVec S16384x2048 32 := ori main_v371 main_v373
  let main_v375 : IVec S16384x2048 32 := xori main_v369 main_v374
  let main_v376 : IVec S16384x2048 32 := addi main_v369 main_v375
  let main_c_100 : IVec S_ 32 := constantI S_ 32 26#32
  fn_part20 (F := F) main_arg0 main_arg7 main_arg8 main_arg9 main_arg10 main_arg11 main_arg12 main_v179 main_v183 main_v185 main_v187 main_v189 main_v191 main_v193 main_v213 main_v221 main_v375 main_v376 main_c_100

def fn_part18 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v179 : IVec S_ 32) (main_v181 : IVec S_ 32) (main_v183 : IVec S_ 32) (main_v185 : IVec S_ 32) (main_v187 : IVec S_ 32) (main_v189 : IVec S_ 32) (main_v191 : IVec S_ 32) (main_v193 : IVec S_ 32) (main_v213 : FVec F S16384x2048 .f32) (main_v221 : IVec S_ 32) (main_v334 : IVec S16384x2048 32) (main_v335 : IVec S16384x2048 32) (main_v337 : IVec S16384x2048 32) (main_v338 : IVec S16384x2048 32) : IVec S16384x2048 1 × IVec S16384x1 1 × IVec S16384x2048 1 × IVec S16384x1 1 :=
  let main_v339 : IVec S16384x2048 32 := Host.shrui main_v334 main_v338
  let main_v340 : IVec S16384x2048 32 := ori main_v337 main_v339
  let main_v341 : IVec S16384x2048 32 := xori main_v335 main_v340
  let main_v342 : IVec S16384x2048 32 := addi main_v335 main_v341
  let main_c_91 : IVec S_ 32 := constantI S_ 32 16#32
  let main_v343 : IVec S16384x2048 32 := broadcastInDim S16384x2048 ![] bcast_S_S16384x2048 main_c_91
  let main_v344 : IVec S16384x2048 32 := Host.shli main_v341 main_v343
  let main_c_92 : IVec S_ 32 := constantI S_ 32 16#32
  let main_v345 : IVec S16384x2048 32 := broadcastInDim S16384x2048 ![] bcast_S_S16384x2048 main_c_92
  let main_v346 : IVec S16384x2048 32 := Host.shrui main_v341 main_v345
  let main_v347 : IVec S16384x2048 32 := ori main_v344 main_v346
  let main_v348 : IVec S16384x2048 32 := xori main_v342 main_v347
  let main_v349 : IVec S16384x2048 32 := addi main_v342 main_v348
  let main_c_93 : IVec S_ 32 := constantI S_ 32 24#32
  let main_v350 : IVec S16384x2048 32 := broadcastInDim S16384x2048 ![] bcast_S_S16384x2048 main_c_93
  let main_v351 : IVec S16384x2048 32 := Host.shli main_v348 main_v350
  let main_c_94 : IVec S_ 32 := constantI S_ 32 8#32
  let main_v352 : IVec S16384x2048 32 := broadcastInDim S16384x2048 ![] bcast_S_S16384x2048 main_c_94
  let main_v353 : IVec S16384x2048 32 := Host.shrui main_v348 main_v352
  let main_v354 : IVec S16384x2048 32 := ori main_v351 main_v353
  let main_v355 : IVec S16384x2048 32 := xori main_v349 main_v354
  let main_v356 : IVec S16384x2048 32 := broadcastInDim S16384x2048 ![] bcast_S_S16384x2048 main_v181
  let main_v357 : IVec S16384x2048 32 := addi main_v349 main_v356
  let main_v358 : IVec S16384x2048 32 := broadcastInDim S16384x2048 ![] bcast_S_S16384x2048 main_v221
  fn_part19 (F := F) main_arg0 main_arg7 main_arg8 main_arg9 main_arg10 main_arg11 main_arg12 main_v179 main_v183 main_v185 main_v187 main_v189 main_v191 main_v193 main_v213 main_v221 main_v355 main_v357 main_v358

def fn_part17 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v179 : IVec S_ 32) (main_v181 : IVec S_ 32) (main_v183 : IVec S_ 32) (main_v185 : IVec S_ 32) (main_v187 : IVec S_ 32) (main_v189 : IVec S_ 32) (main_v191 : IVec S_ 32) (main_v193 : IVec S_ 32) (main_v213 : FVec F S16384x2048 .f32) (main_v221 : IVec S_ 32) (main_v315 : IVec S16384x2048 32) (main_v317 : IVec S16384x2048 32) (main_v319 : IVec S16384x2048 32) : IVec S16384x2048 1 × IVec S16384x1 1 × IVec S16384x2048 1 × IVec S16384x1 1 :=
  let main_v320 : IVec S16384x2048 32 := ori main_v317 main_v319
  let main_v321 : IVec S16384x2048 32 := xori main_v315 main_v320
  let main_v322 : IVec S16384x2048 32 := broadcastInDim S16384x2048 ![] bcast_S_S16384x2048 main_v179
  let main_v323 : IVec S16384x2048 32 := addi main_v315 main_v322
  let main_v324 : IVec S16384x2048 32 := broadcastInDim S16384x2048 ![] bcast_S_S16384x2048 main_v181
  let main_v325 : IVec S16384x2048 32 := addi main_v321 main_v324
  let main_c_86 : IVec S_ 32 := constantI S_ 32 3#32
  let main_v326 : IVec S16384x2048 32 := broadcastInDim S16384x2048 ![] bcast_S_S16384x2048 main_c_86
  let main_v327 : IVec S16384x2048 32 := addi main_v325 main_v326
  let main_v328 : IVec S16384x2048 32 := addi main_v323 main_v327
  let main_c_87 : IVec S_ 32 := constantI S_ 32 17#32
  let main_v329 : IVec S16384x2048 32 := broadcastInDim S16384x2048 ![] bcast_S_S16384x2048 main_c_87
  let main_v330 : IVec S16384x2048 32 := Host.shli main_v327 main_v329
  let main_c_88 : IVec S_ 32 := constantI S_ 32 15#32
  let main_v331 : IVec S16384x2048 32 := broadcastInDim S16384x2048 ![] bcast_S_S16384x2048 main_c_88
  let main_v332 : IVec S16384x2048 32 := Host.shrui main_v327 main_v331
  let main_v333 : IVec S16384x2048 32 := ori main_v330 main_v332
  let main_v334 : IVec S16384x2048 32 := xori main_v328 main_v333
  let main_v335 : IVec S16384x2048 32 := addi main_v328 main_v334
  let main_c_89 : IVec S_ 32 := constantI S_ 32 29#32
  let main_v336 : IVec S16384x2048 32 := broadcastInDim S16384x2048 ![] bcast_S_S16384x2048 main_c_89
  let main_v337 : IVec S16384x2048 32 := Host.shli main_v334 main_v336
  let main_c_90 : IVec S_ 32 := constantI S_ 32 3#32
  let main_v338 : IVec S16384x2048 32 := broadcastInDim S16384x2048 ![] bcast_S_S16384x2048 main_c_90
  fn_part18 (F := F) main_arg0 main_arg7 main_arg8 main_arg9 main_arg10 main_arg11 main_arg12 main_v179 main_v181 main_v183 main_v185 main_v187 main_v189 main_v191 main_v193 main_v213 main_v221 main_v334 main_v335 main_v337 main_v338

def fn_part16 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v179 : IVec S_ 32) (main_v181 : IVec S_ 32) (main_v183 : IVec S_ 32) (main_v185 : IVec S_ 32) (main_v187 : IVec S_ 32) (main_v189 : IVec S_ 32) (main_v191 : IVec S_ 32) (main_v193 : IVec S_ 32) (main_v213 : FVec F S16384x2048 .f32) (main_v221 : IVec S_ 32) (main_v300 : IVec S16384x2048 32) (main_v301 : IVec S16384x2048 32) : IVec S16384x2048 1 × IVec S16384x1 1 × IVec S16384x2048 1 × IVec S16384x1 1 :=
  let main_c_80 : IVec S_ 32 := constantI S_ 32 15#32
  let main_v302 : IVec S16384x2048 32 := broadcastInDim S16384x2048 ![] bcast_S_S16384x2048 main_c_80
  let main_v303 : IVec S16384x2048 32 := Host.shli main_v300 main_v302
  let main_c_81 : IVec S_ 32 := constantI S_ 32 17#32
  let main_v304 : IVec S16384x2048 32 := broadcastInDim S16384x2048 ![] bcast_S_S16384x2048 main_c_81
  let main_v305 : IVec S16384x2048 32 := Host.shrui main_v300 main_v304
  let main_v306 : IVec S16384x2048 32 := ori main_v303 main_v305
  let main_v307 : IVec S16384x2048 32 := xori main_v301 main_v306
  let main_v308 : IVec S16384x2048 32 := addi main_v301 main_v307
  let main_c_82 : IVec S_ 32 := constantI S_ 32 26#32
  let main_v309 : IVec S16384x2048 32 := broadcastInDim S16384x2048 ![] bcast_S_S16384x2048 main_c_82
  let main_v310 : IVec S16384x2048 32 := Host.shli main_v307 main_v309
  let main_c_83 : IVec S_ 32 := constantI S_ 32 6#32
  let main_v311 : IVec S16384x2048 32 := broadcastInDim S16384x2048 ![] bcast_S_S16384x2048 main_c_83
  let main_v312 : IVec S16384x2048 32 := Host.shrui main_v307 main_v311
  let main_v313 : IVec S16384x2048 32 := ori main_v310 main_v312
  let main_v314 : IVec S16384x2048 32 := xori main_v308 main_v313
  let main_v315 : IVec S16384x2048 32 := addi main_v308 main_v314
  let main_c_84 : IVec S_ 32 := constantI S_ 32 6#32
  let main_v316 : IVec S16384x2048 32 := broadcastInDim S16384x2048 ![] bcast_S_S16384x2048 main_c_84
  let main_v317 : IVec S16384x2048 32 := Host.shli main_v314 main_v316
  let main_c_85 : IVec S_ 32 := constantI S_ 32 26#32
  let main_v318 : IVec S16384x2048 32 := broadcastInDim S16384x2048 ![] bcast_S_S16384x2048 main_c_85
  let main_v319 : IVec S16384x2048 32 := Host.shrui main_v314 main_v318
  fn_part17 (F := F) main_arg0 main_arg7 main_arg8 main_arg9 main_arg10 main_arg11 main_arg12 main_v179 main_v181 main_v183 main_v185 main_v187 main_v189 main_v191 main_v193 main_v213 main_v221 main_v315 main_v317 main_v319

def fn_part15 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v179 : IVec S_ 32) (main_v181 : IVec S_ 32) (main_v183 : IVec S_ 32) (main_v185 : IVec S_ 32) (main_v187 : IVec S_ 32) (main_v189 : IVec S_ 32) (main_v191 : IVec S_ 32) (main_v193 : IVec S_ 32) (main_v213 : FVec F S16384x2048 .f32) (main_v221 : IVec S_ 32) (main_v280 : IVec S16384x2048 32) (main_v281 : IVec S16384x2048 32) (main_c_75 : IVec S_ 32) : IVec S16384x2048 1 × IVec S16384x1 1 × IVec S16384x2048 1 × IVec S16384x1 1 :=
  let main_v282 : IVec S16384x2048 32 := broadcastInDim S16384x2048 ![] bcast_S_S16384x2048 main_c_75
  let main_v283 : IVec S16384x2048 32 := Host.shli main_v280 main_v282
  let main_c_76 : IVec S_ 32 := constantI S_ 32 8#32
  let main_v284 : IVec S16384x2048 32 := broadcastInDim S16384x2048 ![] bcast_S_S16384x2048 main_c_76
  let main_v285 : IVec S16384x2048 32 := Host.shrui main_v280 main_v284
  let main_v286 : IVec S16384x2048 32 := ori main_v283 main_v285
  let main_v287 : IVec S16384x2048 32 := xori main_v281 main_v286
  let main_v288 : IVec S16384x2048 32 := broadcastInDim S16384x2048 ![] bcast_S_S16384x2048 main_v221
  let main_v289 : IVec S16384x2048 32 := addi main_v281 main_v288
  let main_v290 : IVec S16384x2048 32 := broadcastInDim S16384x2048 ![] bcast_S_S16384x2048 main_v179
  let main_v291 : IVec S16384x2048 32 := addi main_v287 main_v290
  let main_c_77 : IVec S_ 32 := constantI S_ 32 2#32
  let main_v292 : IVec S16384x2048 32 := broadcastInDim S16384x2048 ![] bcast_S_S16384x2048 main_c_77
  let main_v293 : IVec S16384x2048 32 := addi main_v291 main_v292
  let main_v294 : IVec S16384x2048 32 := addi main_v289 main_v293
  let main_c_78 : IVec S_ 32 := constantI S_ 32 13#32
  let main_v295 : IVec S16384x2048 32 := broadcastInDim S16384x2048 ![] bcast_S_S16384x2048 main_c_78
  let main_v296 : IVec S16384x2048 32 := Host.shli main_v293 main_v295
  let main_c_79 : IVec S_ 32 := constantI S_ 32 19#32
  let main_v297 : IVec S16384x2048 32 := broadcastInDim S16384x2048 ![] bcast_S_S16384x2048 main_c_79
  let main_v298 : IVec S16384x2048 32 := Host.shrui main_v293 main_v297
  let main_v299 : IVec S16384x2048 32 := ori main_v296 main_v298
  let main_v300 : IVec S16384x2048 32 := xori main_v294 main_v299
  let main_v301 : IVec S16384x2048 32 := addi main_v294 main_v300
  fn_part16 (F := F) main_arg0 main_arg7 main_arg8 main_arg9 main_arg10 main_arg11 main_arg12 main_v179 main_v181 main_v183 main_v185 main_v187 main_v189 main_v191 main_v193 main_v213 main_v221 main_v300 main_v301

def fn_part14 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v179 : IVec S_ 32) (main_v181 : IVec S_ 32) (main_v183 : IVec S_ 32) (main_v185 : IVec S_ 32) (main_v187 : IVec S_ 32) (main_v189 : IVec S_ 32) (main_v191 : IVec S_ 32) (main_v193 : IVec S_ 32) (main_v213 : FVec F S16384x2048 .f32) (main_v221 : IVec S_ 32) (main_v259 : IVec S16384x2048 32) (main_v260 : IVec S16384x2048 32) (main_v262 : IVec S16384x2048 32) (main_c_70 : IVec S_ 32) : IVec S16384x2048 1 × IVec S16384x1 1 × IVec S16384x2048 1 × IVec S16384x1 1 :=
  let main_v263 : IVec S16384x2048 32 := broadcastInDim S16384x2048 ![] bcast_S_S16384x2048 main_c_70
  let main_v264 : IVec S16384x2048 32 := Host.shrui main_v259 main_v263
  let main_v265 : IVec S16384x2048 32 := ori main_v262 main_v264
  let main_v266 : IVec S16384x2048 32 := xori main_v260 main_v265
  let main_v267 : IVec S16384x2048 32 := addi main_v260 main_v266
  let main_c_71 : IVec S_ 32 := constantI S_ 32 29#32
  let main_v268 : IVec S16384x2048 32 := broadcastInDim S16384x2048 ![] bcast_S_S16384x2048 main_c_71
  let main_v269 : IVec S16384x2048 32 := Host.shli main_v266 main_v268
  let main_c_72 : IVec S_ 32 := constantI S_ 32 3#32
  let main_v270 : IVec S16384x2048 32 := broadcastInDim S16384x2048 ![] bcast_S_S16384x2048 main_c_72
  let main_v271 : IVec S16384x2048 32 := Host.shrui main_v266 main_v270
  let main_v272 : IVec S16384x2048 32 := ori main_v269 main_v271
  let main_v273 : IVec S16384x2048 32 := xori main_v267 main_v272
  let main_v274 : IVec S16384x2048 32 := addi main_v267 main_v273
  let main_c_73 : IVec S_ 32 := constantI S_ 32 16#32
  let main_v275 : IVec S16384x2048 32 := broadcastInDim S16384x2048 ![] bcast_S_S16384x2048 main_c_73
  let main_v276 : IVec S16384x2048 32 := Host.shli main_v273 main_v275
  let main_c_74 : IVec S_ 32 := constantI S_ 32 16#32
  let main_v277 : IVec S16384x2048 32 := broadcastInDim S16384x2048 ![] bcast_S_S16384x2048 main_c_74
  let main_v278 : IVec S16384x2048 32 := Host.shrui main_v273 main_v277
  let main_v279 : IVec S16384x2048 32 := ori main_v276 main_v278
  let main_v280 : IVec S16384x2048 32 := xori main_v274 main_v279
  let main_v281 : IVec S16384x2048 32 := addi main_v274 main_v280
  let main_c_75 : IVec S_ 32 := constantI S_ 32 24#32
  fn_part15 (F := F) main_arg0 main_arg7 main_arg8 main_arg9 main_arg10 main_arg11 main_arg12 main_v179 main_v181 main_v183 main_v185 main_v187 main_v189 main_v191 main_v193 main_v213 main_v221 main_v280 main_v281 main_c_75

def fn_part13 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v179 : IVec S_ 32) (main_v181 : IVec S_ 32) (main_v183 : IVec S_ 32) (main_v185 : IVec S_ 32) (main_v187 : IVec S_ 32) (main_v189 : IVec S_ 32) (main_v191 : IVec S_ 32) (main_v193 : IVec S_ 32) (main_v213 : FVec F S16384x2048 .f32) (main_v221 : IVec S_ 32) (main_v239 : IVec S16384x2048 32) (main_v240 : IVec S16384x2048 32) (main_v242 : IVec S16384x2048 32) (main_v243 : IVec S16384x2048 32) : IVec S16384x2048 1 × IVec S16384x1 1 × IVec S16384x2048 1 × IVec S16384x1 1 :=
  let main_v244 : IVec S16384x2048 32 := Host.shrui main_v239 main_v243
  let main_v245 : IVec S16384x2048 32 := ori main_v242 main_v244
  let main_v246 : IVec S16384x2048 32 := xori main_v240 main_v245
  let main_v247 : IVec S16384x2048 32 := addi main_v240 main_v246
  let main_c_66 : IVec S_ 32 := constantI S_ 32 6#32
  let main_v248 : IVec S16384x2048 32 := broadcastInDim S16384x2048 ![] bcast_S_S16384x2048 main_c_66
  let main_v249 : IVec S16384x2048 32 := Host.shli main_v246 main_v248
  let main_c_67 : IVec S_ 32 := constantI S_ 32 26#32
  let main_v250 : IVec S16384x2048 32 := broadcastInDim S16384x2048 ![] bcast_S_S16384x2048 main_c_67
  let main_v251 : IVec S16384x2048 32 := Host.shrui main_v246 main_v250
  let main_v252 : IVec S16384x2048 32 := ori main_v249 main_v251
  let main_v253 : IVec S16384x2048 32 := xori main_v247 main_v252
  let main_v254 : IVec S16384x2048 32 := broadcastInDim S16384x2048 ![] bcast_S_S16384x2048 main_v181
  let main_v255 : IVec S16384x2048 32 := addi main_v247 main_v254
  let main_v256 : IVec S16384x2048 32 := broadcastInDim S16384x2048 ![] bcast_S_S16384x2048 main_v221
  let main_v257 : IVec S16384x2048 32 := addi main_v253 main_v256
  let main_c_68 : IVec S_ 32 := constantI S_ 32 1#32
  let main_v258 : IVec S16384x2048 32 := broadcastInDim S16384x2048 ![] bcast_S_S16384x2048 main_c_68
  let main_v259 : IVec S16384x2048 32 := addi main_v257 main_v258
  let main_v260 : IVec S16384x2048 32 := addi main_v255 main_v259
  let main_c_69 : IVec S_ 32 := constantI S_ 32 17#32
  let main_v261 : IVec S16384x2048 32 := broadcastInDim S16384x2048 ![] bcast_S_S16384x2048 main_c_69
  let main_v262 : IVec S16384x2048 32 := Host.shli main_v259 main_v261
  let main_c_70 : IVec S_ 32 := constantI S_ 32 15#32
  fn_part14 (F := F) main_arg0 main_arg7 main_arg8 main_arg9 main_arg10 main_arg11 main_arg12 main_v179 main_v181 main_v183 main_v185 main_v187 main_v189 main_v191 main_v193 main_v213 main_v221 main_v259 main_v260 main_v262 main_c_70

def fn_part12 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v179 : IVec S_ 32) (main_v181 : IVec S_ 32) (main_v183 : IVec S_ 32) (main_v185 : IVec S_ 32) (main_v187 : IVec S_ 32) (main_v189 : IVec S_ 32) (main_v191 : IVec S_ 32) (main_v193 : IVec S_ 32) (main_v213 : FVec F S16384x2048 .f32) (main_v221 : IVec S_ 32) (main_v223 : IVec S16384x2048 32) (main_v225 : IVec S16384x2048 32) : IVec S16384x2048 1 × IVec S16384x1 1 × IVec S16384x2048 1 × IVec S16384x1 1 :=
  let main_v226 : IVec S16384x2048 32 := addi main_v223 main_v225
  let main_c_60 : IVec S_ 32 := constantI S_ 32 13#32
  let main_v227 : IVec S16384x2048 32 := broadcastInDim S16384x2048 ![] bcast_S_S16384x2048 main_c_60
  let main_v228 : IVec S16384x2048 32 := Host.shli main_v225 main_v227
  let main_c_61 : IVec S_ 32 := constantI S_ 32 19#32
  let main_v229 : IVec S16384x2048 32 := broadcastInDim S16384x2048 ![] bcast_S_S16384x2048 main_c_61
  let main_v230 : IVec S16384x2048 32 := Host.shrui main_v225 main_v229
  let main_v231 : IVec S16384x2048 32 := ori main_v228 main_v230
  let main_v232 : IVec S16384x2048 32 := xori main_v226 main_v231
  let main_v233 : IVec S16384x2048 32 := addi main_v226 main_v232
  let main_c_62 : IVec S_ 32 := constantI S_ 32 15#32
  let main_v234 : IVec S16384x2048 32 := broadcastInDim S16384x2048 ![] bcast_S_S16384x2048 main_c_62
  let main_v235 : IVec S16384x2048 32 := Host.shli main_v232 main_v234
  let main_c_63 : IVec S_ 32 := constantI S_ 32 17#32
  let main_v236 : IVec S16384x2048 32 := broadcastInDim S16384x2048 ![] bcast_S_S16384x2048 main_c_63
  let main_v237 : IVec S16384x2048 32 := Host.shrui main_v232 main_v236
  let main_v238 : IVec S16384x2048 32 := ori main_v235 main_v237
  let main_v239 : IVec S16384x2048 32 := xori main_v233 main_v238
  let main_v240 : IVec S16384x2048 32 := addi main_v233 main_v239
  let main_c_64 : IVec S_ 32 := constantI S_ 32 26#32
  let main_v241 : IVec S16384x2048 32 := broadcastInDim S16384x2048 ![] bcast_S_S16384x2048 main_c_64
  let main_v242 : IVec S16384x2048 32 := Host.shli main_v239 main_v241
  let main_c_65 : IVec S_ 32 := constantI S_ 32 6#32
  let main_v243 : IVec S16384x2048 32 := broadcastInDim S16384x2048 ![] bcast_S_S16384x2048 main_c_65
  fn_part13 (F := F) main_arg0 main_arg7 main_arg8 main_arg9 main_arg10 main_arg11 main_arg12 main_v179 main_v181 main_v183 main_v185 main_v187 main_v189 main_v191 main_v193 main_v213 main_v221 main_v239 main_v240 main_v242 main_v243

def fn_part11 {F : FTy → Type} [FloatOps F] (main_arg0 : FVec F S16384x256 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v179 : IVec S_ 32) (main_v181 : IVec S_ 32) (main_v183 : IVec S_ 32) (main_v185 : IVec S_ 32) (main_v187 : IVec S_ 32) (main_v189 : IVec S_ 32) (main_v191 : IVec S_ 32) (main_v193 : IVec S_ 32) (main_v204 : FVec F S16384x2048 .f32) (main_v206 : FVec F S16384x2048 .f32) : IVec S16384x2048 1 × IVec S16384x1 1 × IVec S16384x2048 1 × IVec S16384x1 1 :=
  let main_v207 : FVec F S16384x2048 .f32 := addf main_v204 main_v206
  let main_v208 : FVec F S16384x2048 .f32 := Host.negf main_v207
  let main_v209 : FVec F S16384x2048 .f32 := Host.exp main_v208
  let main_cst : FVec F S_ .f32 := constant S_ .f32 0x3F800000#32
  let main_v210 : FVec F S16384x2048 .f32 := broadcastInDim S16384x2048 ![] bcast_S_S16384x2048 main_cst
  let main_v211 : FVec F S16384x2048 .f32 := addf main_v210 main_v209
  let main_cst_56 : FVec F S_ .f32 := constant S_ .f32 0x3F800000#32
  let main_v212 : FVec F S16384x2048 .f32 := broadcastInDim S16384x2048 ![] bcast_S_S16384x2048 main_cst_56
  let main_v213 : FVec F S16384x2048 .f32 := Host.divf main_v212 main_v211
  let main_v214 : IVec S16384x2048 32 := iotaInDim S16384x2048 32 0
  let main_v215 : IVec S16384x2048 32 := iotaInDim S16384x2048 32 1
  let main_c_57 : IVec S_ 32 := constantI S_ 32 2048#32
  let main_v216 : IVec S16384x2048 32 := broadcastInDim S16384x2048 ![] bcast_S_S16384x2048 main_c_57
  let main_v217 : IVec S16384x2048 32 := muli main_v214 main_v216
  let main_v218 : IVec S16384x2048 32 := addi main_v217 main_v215
  let main_c_58 : IVec S_ 32 := constantI S_ 32 0#32
  let main_v219 : IVec S16384x2048 32 := broadcastInDim S16384x2048 ![] bcast_S_S16384x2048 main_c_58
  let main_v220 : IVec S_ 32 := xori main_v179 main_v181
  let main_c_59 : IVec S_ 32 := constantI S_ 32 466688986#32
  let main_v221 : IVec S_ 32 := xori main_v220 main_c_59
  let main_v222 : IVec S16384x2048 32 := broadcastInDim S16384x2048 ![] bcast_S_S16384x2048 main_v179
  let main_v223 : IVec S16384x2048 32 := addi main_v219 main_v222
  let main_v224 : IVec S16384x2048 32 := broadcastInDim S16384x2048 ![] bcast_S_S16384x2048 main_v181
  let main_v225 : IVec S16384x2048 32 := addi main_v218 main_v224
  fn_part12 (F := F) main_arg0 main_arg7 main_arg8 main_arg9 main_arg10 main_arg11 main_arg12 main_v179 main_v181 main_v183 main_v185 main_v187 main_v189 main_v191 main_v193 main_v213 main_v221 main_v223 main_v225

def fn_part10 {F : FTy → Type} [FloatOps F] (main_arg0 : FVec F S16384x256 .f32) (main_arg1 : FVec F S256x64 .f32) (main_arg2 : FVec F S64 .f32) (main_arg3 : FVec F S64x64 .f32) (main_arg4 : FVec F S64 .f32) (main_arg5 : FVec F S64x2048 .f32) (main_arg6 : FVec F S2048 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v173 : IVec S4 32) (main_v177 : IVec S4 32) (main_v179 : IVec S_ 32) (main_v181 : IVec S_ 32) (main_v182 : IVec S1 32) : IVec S16384x2048 1 × IVec S16384x1 1 × IVec S16384x2048 1 × IVec S16384x1 1 :=
  let main_v183 : IVec S_ 32 := shapeCast S_ main_v182 shapeCasts_S1_S_
  let main_v184 : IVec S1 32 := (extractStridedSlice S1 ![1] · slices_S4_S1_1) main_v177
  let main_v185 : IVec S_ 32 := shapeCast S_ main_v184 shapeCasts_S1_S_
  let main_v186 : IVec S1 32 := (extractStridedSlice S1 ![2] · slices_S4_S1_2) main_v173
  let main_v187 : IVec S_ 32 := shapeCast S_ main_v186 shapeCasts_S1_S_
  let main_v188 : IVec S1 32 := (extractStridedSlice S1 ![2] · slices_S4_S1_2) main_v177
  let main_v189 : IVec S_ 32 := shapeCast S_ main_v188 shapeCasts_S1_S_
  let main_v190 : IVec S1 32 := (extractStridedSlice S1 ![3] · slices_S4_S1_3) main_v173
  let main_v191 : IVec S_ 32 := shapeCast S_ main_v190 shapeCasts_S1_S_
  let main_v192 : IVec S1 32 := (extractStridedSlice S1 ![3] · slices_S4_S1_3) main_v177
  let main_v193 : IVec S_ 32 := shapeCast S_ main_v192 shapeCasts_S1_S_
  let main_v194 : FVec F S16384x64 .f32 := (fun l r => Host.dotGeneral dot_S16384x256_S256x64_S16384x64_1_0_0_1_n_n none l r) main_arg0 main_arg1
  let main_v195 : FVec F S1x64 .f32 := broadcastInDim S1x64 ![1] bcast_S64_S1x64_1 main_arg2
  let main_v196 : FVec F S16384x64 .f32 := broadcastInDim S16384x64 ![0, 1] bcast_S1x64_S16384x64_0_1 main_v195
  let main_v197 : FVec F S16384x64 .f32 := addf main_v194 main_v196
  let main_v198 : FVec F S16384x64 .f32 := fn_relu (F := F) main_v197
  let main_v199 : FVec F S16384x64 .f32 := (fun l r => Host.dotGeneral dot_S16384x64_S64x64_S16384x64_1_0_0_1_n_n none l r) main_v198 main_arg3
  let main_v200 : FVec F S1x64 .f32 := broadcastInDim S1x64 ![1] bcast_S64_S1x64_1 main_arg4
  let main_v201 : FVec F S16384x64 .f32 := broadcastInDim S16384x64 ![0, 1] bcast_S1x64_S16384x64_0_1 main_v200
  let main_v202 : FVec F S16384x64 .f32 := addf main_v199 main_v201
  let main_v203 : FVec F S16384x64 .f32 := fn_relu (F := F) main_v202
  let main_v204 : FVec F S16384x2048 .f32 := (fun l r => Host.dotGeneral dot_S16384x64_S64x2048_S16384x2048_1_0_0_1_n_n none l r) main_v203 main_arg5
  let main_v205 : FVec F S1x2048 .f32 := broadcastInDim S1x2048 ![1] bcast_S2048_S1x2048_1 main_arg6
  let main_v206 : FVec F S16384x2048 .f32 := broadcastInDim S16384x2048 ![0, 1] bcast_S1x2048_S16384x2048_0_1 main_v205
  fn_part11 (F := F) main_arg0 main_arg7 main_arg8 main_arg9 main_arg10 main_arg11 main_arg12 main_v179 main_v181 main_v183 main_v185 main_v187 main_v189 main_v191 main_v193 main_v204 main_v206

def fn_part9 {F : FTy → Type} [FloatOps F] (main_arg0 : FVec F S16384x256 .f32) (main_arg1 : FVec F S256x64 .f32) (main_arg2 : FVec F S64 .f32) (main_arg3 : FVec F S64x64 .f32) (main_arg4 : FVec F S64 .f32) (main_arg5 : FVec F S64x2048 .f32) (main_arg6 : FVec F S2048 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v3 : IVec S_ 32) (main_v158 : IVec S4 32) (main_v160 : IVec S4 32) (main_v162 : IVec S4 32) : IVec S16384x2048 1 × IVec S16384x1 1 × IVec S16384x2048 1 × IVec S16384x1 1 :=
  let main_v163 : IVec S4 32 := ori main_v160 main_v162
  let main_v164 : IVec S4 32 := xori main_v158 main_v163
  let main_v165 : IVec S4 32 := addi main_v158 main_v164
  let main_c_52 : IVec S_ 32 := constantI S_ 32 6#32
  let main_v166 : IVec S4 32 := broadcastInDim S4 ![] bcast_S_S4 main_c_52
  let main_v167 : IVec S4 32 := Host.shli main_v164 main_v166
  let main_c_53 : IVec S_ 32 := constantI S_ 32 26#32
  let main_v168 : IVec S4 32 := broadcastInDim S4 ![] bcast_S_S4 main_c_53
  let main_v169 : IVec S4 32 := Host.shrui main_v164 main_v168
  let main_v170 : IVec S4 32 := ori main_v167 main_v169
  let main_v171 : IVec S4 32 := xori main_v165 main_v170
  let main_v172 : IVec S4 32 := broadcastInDim S4 ![] bcast_S_S4 main_v3
  let main_v173 : IVec S4 32 := addi main_v165 main_v172
  let main_c_54 : IVec S_ 32 := constantI S_ 32 0#32
  let main_v174 : IVec S4 32 := broadcastInDim S4 ![] bcast_S_S4 main_c_54
  let main_v175 : IVec S4 32 := addi main_v171 main_v174
  let main_c_55 : IVec S_ 32 := constantI S_ 32 5#32
  let main_v176 : IVec S4 32 := broadcastInDim S4 ![] bcast_S_S4 main_c_55
  let main_v177 : IVec S4 32 := addi main_v175 main_v176
  let main_v178 : IVec S1 32 := (extractStridedSlice S1 ![0] · slices_S4_S1_0) main_v173
  let main_v179 : IVec S_ 32 := shapeCast S_ main_v178 shapeCasts_S1_S_
  let main_v180 : IVec S1 32 := (extractStridedSlice S1 ![0] · slices_S4_S1_0) main_v177
  let main_v181 : IVec S_ 32 := shapeCast S_ main_v180 shapeCasts_S1_S_
  let main_v182 : IVec S1 32 := (extractStridedSlice S1 ![1] · slices_S4_S1_1) main_v173
  fn_part10 (F := F) main_arg0 main_arg1 main_arg2 main_arg3 main_arg4 main_arg5 main_arg6 main_arg7 main_arg8 main_arg9 main_arg10 main_arg11 main_arg12 main_v173 main_v177 main_v179 main_v181 main_v182

def fn_part8 {F : FTy → Type} [FloatOps F] (main_arg0 : FVec F S16384x256 .f32) (main_arg1 : FVec F S256x64 .f32) (main_arg2 : FVec F S64 .f32) (main_arg3 : FVec F S64x64 .f32) (main_arg4 : FVec F S64 .f32) (main_arg5 : FVec F S64x2048 .f32) (main_arg6 : FVec F S2048 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v3 : IVec S_ 32) (main_v143 : IVec S4 32) (main_v144 : IVec S4 32) : IVec S16384x2048 1 × IVec S16384x1 1 × IVec S16384x2048 1 × IVec S16384x1 1 :=
  let main_c_46 : IVec S_ 32 := constantI S_ 32 13#32
  let main_v145 : IVec S4 32 := broadcastInDim S4 ![] bcast_S_S4 main_c_46
  let main_v146 : IVec S4 32 := Host.shli main_v143 main_v145
  let main_c_47 : IVec S_ 32 := constantI S_ 32 19#32
  let main_v147 : IVec S4 32 := broadcastInDim S4 ![] bcast_S_S4 main_c_47
  let main_v148 : IVec S4 32 := Host.shrui main_v143 main_v147
  let main_v149 : IVec S4 32 := ori main_v146 main_v148
  let main_v150 : IVec S4 32 := xori main_v144 main_v149
  let main_v151 : IVec S4 32 := addi main_v144 main_v150
  let main_c_48 : IVec S_ 32 := constantI S_ 32 15#32
  let main_v152 : IVec S4 32 := broadcastInDim S4 ![] bcast_S_S4 main_c_48
  let main_v153 : IVec S4 32 := Host.shli main_v150 main_v152
  let main_c_49 : IVec S_ 32 := constantI S_ 32 17#32
  let main_v154 : IVec S4 32 := broadcastInDim S4 ![] bcast_S_S4 main_c_49
  let main_v155 : IVec S4 32 := Host.shrui main_v150 main_v154
  let main_v156 : IVec S4 32 := ori main_v153 main_v155
  let main_v157 : IVec S4 32 := xori main_v151 main_v156
  let main_v158 : IVec S4 32 := addi main_v151 main_v157
  let main_c_50 : IVec S_ 32 := constantI S_ 32 26#32
  let main_v159 : IVec S4 32 := broadcastInDim S4 ![] bcast_S_S4 main_c_50
  let main_v160 : IVec S4 32 := Host.shli main_v157 main_v159
  let main_c_51 : IVec S_ 32 := constantI S_ 32 6#32
  let main_v161 : IVec S4 32 := broadcastInDim S4 ![] bcast_S_S4 main_c_51
  let main_v162 : IVec S4 32 := Host.shrui main_v157 main_v161
  fn_part9 (F := F) main_arg0 main_arg1 main_arg2 main_arg3 main_arg4 main_arg5 main_arg6 main_arg7 main_arg8 main_arg9 main_arg10 main_arg11 main_arg12 main_v3 main_v158 main_v160 main_v162

def fn_part7 {F : FTy → Type} [FloatOps F] (main_arg0 : FVec F S16384x256 .f32) (main_arg1 : FVec F S256x64 .f32) (main_arg2 : FVec F S64 .f32) (main_arg3 : FVec F S64x64 .f32) (main_arg4 : FVec F S64 .f32) (main_arg5 : FVec F S64x2048 .f32) (main_arg6 : FVec F S2048 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v3 : IVec S_ 32) (main_v123 : IVec S4 32) (main_v124 : IVec S4 32) (main_v125 : IVec S4 32) : IVec S16384x2048 1 × IVec S16384x1 1 × IVec S16384x2048 1 × IVec S16384x1 1 :=
  let main_v126 : IVec S4 32 := Host.shli main_v123 main_v125
  let main_c_41 : IVec S_ 32 := constantI S_ 32 16#32
  let main_v127 : IVec S4 32 := broadcastInDim S4 ![] bcast_S_S4 main_c_41
  let main_v128 : IVec S4 32 := Host.shrui main_v123 main_v127
  let main_v129 : IVec S4 32 := ori main_v126 main_v128
  let main_v130 : IVec S4 32 := xori main_v124 main_v129
  let main_v131 : IVec S4 32 := addi main_v124 main_v130
  let main_c_42 : IVec S_ 32 := constantI S_ 32 24#32
  let main_v132 : IVec S4 32 := broadcastInDim S4 ![] bcast_S_S4 main_c_42
  let main_v133 : IVec S4 32 := Host.shli main_v130 main_v132
  let main_c_43 : IVec S_ 32 := constantI S_ 32 8#32
  let main_v134 : IVec S4 32 := broadcastInDim S4 ![] bcast_S_S4 main_c_43
  let main_v135 : IVec S4 32 := Host.shrui main_v130 main_v134
  let main_v136 : IVec S4 32 := ori main_v133 main_v135
  let main_v137 : IVec S4 32 := xori main_v131 main_v136
  let main_c_44 : IVec S_ 32 := constantI S_ 32 42#32
  let main_v138 : IVec S4 32 := broadcastInDim S4 ![] bcast_S_S4 main_c_44
  let main_v139 : IVec S4 32 := addi main_v131 main_v138
  let main_v140 : IVec S4 32 := broadcastInDim S4 ![] bcast_S_S4 main_v3
  let main_v141 : IVec S4 32 := addi main_v137 main_v140
  let main_c_45 : IVec S_ 32 := constantI S_ 32 4#32
  let main_v142 : IVec S4 32 := broadcastInDim S4 ![] bcast_S_S4 main_c_45
  let main_v143 : IVec S4 32 := addi main_v141 main_v142
  let main_v144 : IVec S4 32 := addi main_v139 main_v143
  fn_part8 (F := F) main_arg0 main_arg1 main_arg2 main_arg3 main_arg4 main_arg5 main_arg6 main_arg7 main_arg8 main_arg9 main_arg10 main_arg11 main_arg12 main_v3 main_v143 main_v144

def fn_part6 {F : FTy → Type} [FloatOps F] (main_arg0 : FVec F S16384x256 .f32) (main_arg1 : FVec F S256x64 .f32) (main_arg2 : FVec F S64 .f32) (main_arg3 : FVec F S64x64 .f32) (main_arg4 : FVec F S64 .f32) (main_arg5 : FVec F S64x2048 .f32) (main_arg6 : FVec F S2048 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v3 : IVec S_ 32) (main_v105 : IVec S4 32) (main_v107 : IVec S4 32) : IVec S16384x2048 1 × IVec S16384x1 1 × IVec S16384x2048 1 × IVec S16384x1 1 :=
  let main_c_35 : IVec S_ 32 := constantI S_ 32 3#32
  let main_v108 : IVec S4 32 := broadcastInDim S4 ![] bcast_S_S4 main_c_35
  let main_v109 : IVec S4 32 := addi main_v107 main_v108
  let main_v110 : IVec S4 32 := addi main_v105 main_v109
  let main_c_36 : IVec S_ 32 := constantI S_ 32 17#32
  let main_v111 : IVec S4 32 := broadcastInDim S4 ![] bcast_S_S4 main_c_36
  let main_v112 : IVec S4 32 := Host.shli main_v109 main_v111
  let main_c_37 : IVec S_ 32 := constantI S_ 32 15#32
  let main_v113 : IVec S4 32 := broadcastInDim S4 ![] bcast_S_S4 main_c_37
  let main_v114 : IVec S4 32 := Host.shrui main_v109 main_v113
  let main_v115 : IVec S4 32 := ori main_v112 main_v114
  let main_v116 : IVec S4 32 := xori main_v110 main_v115
  let main_v117 : IVec S4 32 := addi main_v110 main_v116
  let main_c_38 : IVec S_ 32 := constantI S_ 32 29#32
  let main_v118 : IVec S4 32 := broadcastInDim S4 ![] bcast_S_S4 main_c_38
  let main_v119 : IVec S4 32 := Host.shli main_v116 main_v118
  let main_c_39 : IVec S_ 32 := constantI S_ 32 3#32
  let main_v120 : IVec S4 32 := broadcastInDim S4 ![] bcast_S_S4 main_c_39
  let main_v121 : IVec S4 32 := Host.shrui main_v116 main_v120
  let main_v122 : IVec S4 32 := ori main_v119 main_v121
  let main_v123 : IVec S4 32 := xori main_v117 main_v122
  let main_v124 : IVec S4 32 := addi main_v117 main_v123
  let main_c_40 : IVec S_ 32 := constantI S_ 32 16#32
  let main_v125 : IVec S4 32 := broadcastInDim S4 ![] bcast_S_S4 main_c_40
  fn_part7 (F := F) main_arg0 main_arg1 main_arg2 main_arg3 main_arg4 main_arg5 main_arg6 main_arg7 main_arg8 main_arg9 main_arg10 main_arg11 main_arg12 main_v3 main_v123 main_v124 main_v125

def fn_part5 {F : FTy → Type} [FloatOps F] (main_arg0 : FVec F S16384x256 .f32) (main_arg1 : FVec F S256x64 .f32) (main_arg2 : FVec F S64 .f32) (main_arg3 : FVec F S64x64 .f32) (main_arg4 : FVec F S64 .f32) (main_arg5 : FVec F S64x2048 .f32) (main_arg6 : FVec F S2048 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v3 : IVec S_ 32) (main_v83 : IVec S4 32) (main_v89 : IVec S4 32) : IVec S16384x2048 1 × IVec S16384x1 1 × IVec S16384x2048 1 × IVec S16384x1 1 :=
  let main_v90 : IVec S4 32 := addi main_v83 main_v89
  let main_c_29 : IVec S_ 32 := constantI S_ 32 26#32
  let main_v91 : IVec S4 32 := broadcastInDim S4 ![] bcast_S_S4 main_c_29
  let main_v92 : IVec S4 32 := Host.shli main_v89 main_v91
  let main_c_30 : IVec S_ 32 := constantI S_ 32 6#32
  let main_v93 : IVec S4 32 := broadcastInDim S4 ![] bcast_S_S4 main_c_30
  let main_v94 : IVec S4 32 := Host.shrui main_v89 main_v93
  let main_v95 : IVec S4 32 := ori main_v92 main_v94
  let main_v96 : IVec S4 32 := xori main_v90 main_v95
  let main_v97 : IVec S4 32 := addi main_v90 main_v96
  let main_c_31 : IVec S_ 32 := constantI S_ 32 6#32
  let main_v98 : IVec S4 32 := broadcastInDim S4 ![] bcast_S_S4 main_c_31
  let main_v99 : IVec S4 32 := Host.shli main_v96 main_v98
  let main_c_32 : IVec S_ 32 := constantI S_ 32 26#32
  let main_v100 : IVec S4 32 := broadcastInDim S4 ![] bcast_S_S4 main_c_32
  let main_v101 : IVec S4 32 := Host.shrui main_v96 main_v100
  let main_v102 : IVec S4 32 := ori main_v99 main_v101
  let main_v103 : IVec S4 32 := xori main_v97 main_v102
  let main_c_33 : IVec S_ 32 := constantI S_ 32 0#32
  let main_v104 : IVec S4 32 := broadcastInDim S4 ![] bcast_S_S4 main_c_33
  let main_v105 : IVec S4 32 := addi main_v97 main_v104
  let main_c_34 : IVec S_ 32 := constantI S_ 32 42#32
  let main_v106 : IVec S4 32 := broadcastInDim S4 ![] bcast_S_S4 main_c_34
  let main_v107 : IVec S4 32 := addi main_v103 main_v106
  fn_part6 (F := F) main_arg0 main_arg1 main_arg2 main_arg3 main_arg4 main_arg5 main_arg6 main_arg7 main_arg8 main_arg9 main_arg10 main_arg11 main_arg12 main_v3 main_v105 main_v107

def fn_part4 {F : FTy → Type} [FloatOps F] (main_arg0 : FVec F S16384x256 .f32) (main_arg1 : FVec F S256x64 .f32) (main_arg2 : FVec F S64 .f32) (main_arg3 : FVec F S64x64 .f32) (main_arg4 : FVec F S64 .f32) (main_arg5 : FVec F S64x2048 .f32) (main_arg6 : FVec F S2048 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v3 : IVec S_ 32) (main_v69 : IVec S4 32) (main_v71 : IVec S4 32) : IVec S16384x2048 1 × IVec S16384x1 1 × IVec S16384x2048 1 × IVec S16384x1 1 :=
  let main_c_23 : IVec S_ 32 := constantI S_ 32 0#32
  let main_v72 : IVec S4 32 := broadcastInDim S4 ![] bcast_S_S4 main_c_23
  let main_v73 : IVec S4 32 := addi main_v69 main_v72
  let main_c_24 : IVec S_ 32 := constantI S_ 32 2#32
  let main_v74 : IVec S4 32 := broadcastInDim S4 ![] bcast_S_S4 main_c_24
  let main_v75 : IVec S4 32 := addi main_v73 main_v74
  let main_v76 : IVec S4 32 := addi main_v71 main_v75
  let main_c_25 : IVec S_ 32 := constantI S_ 32 13#32
  let main_v77 : IVec S4 32 := broadcastInDim S4 ![] bcast_S_S4 main_c_25
  let main_v78 : IVec S4 32 := Host.shli main_v75 main_v77
  let main_c_26 : IVec S_ 32 := constantI S_ 32 19#32
  let main_v79 : IVec S4 32 := broadcastInDim S4 ![] bcast_S_S4 main_c_26
  let main_v80 : IVec S4 32 := Host.shrui main_v75 main_v79
  let main_v81 : IVec S4 32 := ori main_v78 main_v80
  let main_v82 : IVec S4 32 := xori main_v76 main_v81
  let main_v83 : IVec S4 32 := addi main_v76 main_v82
  let main_c_27 : IVec S_ 32 := constantI S_ 32 15#32
  let main_v84 : IVec S4 32 := broadcastInDim S4 ![] bcast_S_S4 main_c_27
  let main_v85 : IVec S4 32 := Host.shli main_v82 main_v84
  let main_c_28 : IVec S_ 32 := constantI S_ 32 17#32
  let main_v86 : IVec S4 32 := broadcastInDim S4 ![] bcast_S_S4 main_c_28
  let main_v87 : IVec S4 32 := Host.shrui main_v82 main_v86
  let main_v88 : IVec S4 32 := ori main_v85 main_v87
  let main_v89 : IVec S4 32 := xori main_v83 main_v88
  fn_part5 (F := F) main_arg0 main_arg1 main_arg2 main_arg3 main_arg4 main_arg5 main_arg6 main_arg7 main_arg8 main_arg9 main_arg10 main_arg11 main_arg12 main_v3 main_v83 main_v89

def fn_part3 {F : FTy → Type} [FloatOps F] (main_arg0 : FVec F S16384x256 .f32) (main_arg1 : FVec F S256x64 .f32) (main_arg2 : FVec F S64 .f32) (main_arg3 : FVec F S64x64 .f32) (main_arg4 : FVec F S64 .f32) (main_arg5 : FVec F S64x2048 .f32) (main_arg6 : FVec F S2048 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v3 : IVec S_ 32) (main_v48 : IVec S4 32) (main_v49 : IVec S4 32) (main_v51 : IVec S4 32) (main_c_18 : IVec S_ 32) : IVec S16384x2048 1 × IVec S16384x1 1 × IVec S16384x2048 1 × IVec S16384x1 1 :=
  let main_v52 : IVec S4 32 := broadcastInDim S4 ![] bcast_S_S4 main_c_18
  let main_v53 : IVec S4 32 := Host.shrui main_v48 main_v52
  let main_v54 : IVec S4 32 := ori main_v51 main_v53
  let main_v55 : IVec S4 32 := xori main_v49 main_v54
  let main_v56 : IVec S4 32 := addi main_v49 main_v55
  let main_c_19 : IVec S_ 32 := constantI S_ 32 16#32
  let main_v57 : IVec S4 32 := broadcastInDim S4 ![] bcast_S_S4 main_c_19
  let main_v58 : IVec S4 32 := Host.shli main_v55 main_v57
  let main_c_20 : IVec S_ 32 := constantI S_ 32 16#32
  let main_v59 : IVec S4 32 := broadcastInDim S4 ![] bcast_S_S4 main_c_20
  let main_v60 : IVec S4 32 := Host.shrui main_v55 main_v59
  let main_v61 : IVec S4 32 := ori main_v58 main_v60
  let main_v62 : IVec S4 32 := xori main_v56 main_v61
  let main_v63 : IVec S4 32 := addi main_v56 main_v62
  let main_c_21 : IVec S_ 32 := constantI S_ 32 24#32
  let main_v64 : IVec S4 32 := broadcastInDim S4 ![] bcast_S_S4 main_c_21
  let main_v65 : IVec S4 32 := Host.shli main_v62 main_v64
  let main_c_22 : IVec S_ 32 := constantI S_ 32 8#32
  let main_v66 : IVec S4 32 := broadcastInDim S4 ![] bcast_S_S4 main_c_22
  let main_v67 : IVec S4 32 := Host.shrui main_v62 main_v66
  let main_v68 : IVec S4 32 := ori main_v65 main_v67
  let main_v69 : IVec S4 32 := xori main_v63 main_v68
  let main_v70 : IVec S4 32 := broadcastInDim S4 ![] bcast_S_S4 main_v3
  let main_v71 : IVec S4 32 := addi main_v63 main_v70
  fn_part4 (F := F) main_arg0 main_arg1 main_arg2 main_arg3 main_arg4 main_arg5 main_arg6 main_arg7 main_arg8 main_arg9 main_arg10 main_arg11 main_arg12 main_v3 main_v69 main_v71

def fn_part2 {F : FTy → Type} [FloatOps F] (main_arg0 : FVec F S16384x256 .f32) (main_arg1 : FVec F S256x64 .f32) (main_arg2 : FVec F S64 .f32) (main_arg3 : FVec F S64x64 .f32) (main_arg4 : FVec F S64 .f32) (main_arg5 : FVec F S64x2048 .f32) (main_arg6 : FVec F S2048 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v3 : IVec S_ 32) (main_v29 : IVec S4 32) (main_v31 : IVec S4 32) (main_v33 : IVec S4 32) : IVec S16384x2048 1 × IVec S16384x1 1 × IVec S16384x2048 1 × IVec S16384x1 1 :=
  let main_v34 : IVec S4 32 := ori main_v31 main_v33
  let main_v35 : IVec S4 32 := xori main_v29 main_v34
  let main_c_13 : IVec S_ 32 := constantI S_ 32 42#32
  let main_v36 : IVec S4 32 := broadcastInDim S4 ![] bcast_S_S4 main_c_13
  let main_v37 : IVec S4 32 := addi main_v29 main_v36
  let main_v38 : IVec S4 32 := broadcastInDim S4 ![] bcast_S_S4 main_v3
  let main_v39 : IVec S4 32 := addi main_v35 main_v38
  let main_c_14 : IVec S_ 32 := constantI S_ 32 1#32
  let main_v40 : IVec S4 32 := broadcastInDim S4 ![] bcast_S_S4 main_c_14
  let main_v41 : IVec S4 32 := addi main_v39 main_v40
  let main_v42 : IVec S4 32 := addi main_v37 main_v41
  let main_c_15 : IVec S_ 32 := constantI S_ 32 17#32
  let main_v43 : IVec S4 32 := broadcastInDim S4 ![] bcast_S_S4 main_c_15
  let main_v44 : IVec S4 32 := Host.shli main_v41 main_v43
  let main_c_16 : IVec S_ 32 := constantI S_ 32 15#32
  let main_v45 : IVec S4 32 := broadcastInDim S4 ![] bcast_S_S4 main_c_16
  let main_v46 : IVec S4 32 := Host.shrui main_v41 main_v45
  let main_v47 : IVec S4 32 := ori main_v44 main_v46
  let main_v48 : IVec S4 32 := xori main_v42 main_v47
  let main_v49 : IVec S4 32 := addi main_v42 main_v48
  let main_c_17 : IVec S_ 32 := constantI S_ 32 29#32
  let main_v50 : IVec S4 32 := broadcastInDim S4 ![] bcast_S_S4 main_c_17
  let main_v51 : IVec S4 32 := Host.shli main_v48 main_v50
  let main_c_18 : IVec S_ 32 := constantI S_ 32 3#32
  fn_part3 (F := F) main_arg0 main_arg1 main_arg2 main_arg3 main_arg4 main_arg5 main_arg6 main_arg7 main_arg8 main_arg9 main_arg10 main_arg11 main_arg12 main_v3 main_v48 main_v49 main_v51 main_c_18

def fn_part1 {F : FTy → Type} [FloatOps F] (main_arg0 : FVec F S16384x256 .f32) (main_arg1 : FVec F S256x64 .f32) (main_arg2 : FVec F S64 .f32) (main_arg3 : FVec F S64x64 .f32) (main_arg4 : FVec F S64 .f32) (main_arg5 : FVec F S64x2048 .f32) (main_arg6 : FVec F S2048 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) (main_v3 : IVec S_ 32) (main_v14 : IVec S4 32) (main_v15 : IVec S4 32) : IVec S16384x2048 1 × IVec S16384x1 1 × IVec S16384x2048 1 × IVec S16384x1 1 :=
  let main_c_7 : IVec S_ 32 := constantI S_ 32 15#32
  let main_v16 : IVec S4 32 := broadcastInDim S4 ![] bcast_S_S4 main_c_7
  let main_v17 : IVec S4 32 := Host.shli main_v14 main_v16
  let main_c_8 : IVec S_ 32 := constantI S_ 32 17#32
  let main_v18 : IVec S4 32 := broadcastInDim S4 ![] bcast_S_S4 main_c_8
  let main_v19 : IVec S4 32 := Host.shrui main_v14 main_v18
  let main_v20 : IVec S4 32 := ori main_v17 main_v19
  let main_v21 : IVec S4 32 := xori main_v15 main_v20
  let main_v22 : IVec S4 32 := addi main_v15 main_v21
  let main_c_9 : IVec S_ 32 := constantI S_ 32 26#32
  let main_v23 : IVec S4 32 := broadcastInDim S4 ![] bcast_S_S4 main_c_9
  let main_v24 : IVec S4 32 := Host.shli main_v21 main_v23
  let main_c_10 : IVec S_ 32 := constantI S_ 32 6#32
  let main_v25 : IVec S4 32 := broadcastInDim S4 ![] bcast_S_S4 main_c_10
  let main_v26 : IVec S4 32 := Host.shrui main_v21 main_v25
  let main_v27 : IVec S4 32 := ori main_v24 main_v26
  let main_v28 : IVec S4 32 := xori main_v22 main_v27
  let main_v29 : IVec S4 32 := addi main_v22 main_v28
  let main_c_11 : IVec S_ 32 := constantI S_ 32 6#32
  let main_v30 : IVec S4 32 := broadcastInDim S4 ![] bcast_S_S4 main_c_11
  let main_v31 : IVec S4 32 := Host.shli main_v28 main_v30
  let main_c_12 : IVec S_ 32 := constantI S_ 32 26#32
  let main_v32 : IVec S4 32 := broadcastInDim S4 ![] bcast_S_S4 main_c_12
  let main_v33 : IVec S4 32 := Host.shrui main_v28 main_v32
  fn_part2 (F := F) main_arg0 main_arg1 main_arg2 main_arg3 main_arg4 main_arg5 main_arg6 main_arg7 main_arg8 main_arg9 main_arg10 main_arg11 main_arg12 main_v3 main_v29 main_v31 main_v33

def fn {F : FTy → Type} [FloatOps F] (main_arg0 : FVec F S16384x256 .f32) (main_arg1 : FVec F S256x64 .f32) (main_arg2 : FVec F S64 .f32) (main_arg3 : FVec F S64x64 .f32) (main_arg4 : FVec F S64 .f32) (main_arg5 : FVec F S64x2048 .f32) (main_arg6 : FVec F S2048 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) : IVec S16384x2048 1 × IVec S16384x1 1 × IVec S16384x2048 1 × IVec S16384x1 1 :=
  let main_v0 : IVec S4 32 := iotaInDim S4 32 0
  let main_c : IVec S_ 32 := constantI S_ 32 0#32
  let main_v1 : IVec S4 32 := broadcastInDim S4 ![] bcast_S_S4 main_c
  let main_c_0 : IVec S_ 32 := constantI S_ 32 0#32
  let main_c_1 : IVec S_ 32 := constantI S_ 32 42#32
  let main_v2 : IVec S_ 32 := xori main_c_0 main_c_1
  let main_c_2 : IVec S_ 32 := constantI S_ 32 466688986#32
  let main_v3 : IVec S_ 32 := xori main_v2 main_c_2
  let main_c_3 : IVec S_ 32 := constantI S_ 32 0#32
  let main_v4 : IVec S4 32 := broadcastInDim S4 ![] bcast_S_S4 main_c_3
  let main_v5 : IVec S4 32 := addi main_v1 main_v4
  let main_c_4 : IVec S_ 32 := constantI S_ 32 42#32
  let main_v6 : IVec S4 32 := broadcastInDim S4 ![] bcast_S_S4 main_c_4
  let main_v7 : IVec S4 32 := addi main_v0 main_v6
  let main_v8 : IVec S4 32 := addi main_v5 main_v7
  let main_c_5 : IVec S_ 32 := constantI S_ 32 13#32
  let main_v9 : IVec S4 32 := broadcastInDim S4 ![] bcast_S_S4 main_c_5
  let main_v10 : IVec S4 32 := Host.shli main_v7 main_v9
  let main_c_6 : IVec S_ 32 := constantI S_ 32 19#32
  let main_v11 : IVec S4 32 := broadcastInDim S4 ![] bcast_S_S4 main_c_6
  let main_v12 : IVec S4 32 := Host.shrui main_v7 main_v11
  let main_v13 : IVec S4 32 := ori main_v10 main_v12
  let main_v14 : IVec S4 32 := xori main_v8 main_v13
  let main_v15 : IVec S4 32 := addi main_v8 main_v14
  fn_part1 (F := F) main_arg0 main_arg1 main_arg2 main_arg3 main_arg4 main_arg5 main_arg6 main_arg7 main_arg8 main_arg9 main_arg10 main_arg11 main_arg12 main_v3 main_v14 main_v15
-- ==== Pre_zero_biases.lean ====
abbrev S16384x256 : Shape := ⟨2, ![16384, 256]⟩
abbrev S256x64 : Shape := ⟨2, ![256, 64]⟩
abbrev S64 : Shape := ⟨1, ![64]⟩
abbrev S64x64 : Shape := ⟨2, ![64, 64]⟩
abbrev S64x2048 : Shape := ⟨2, ![64, 2048]⟩
abbrev S2048 : Shape := ⟨1, ![2048]⟩
abbrev S_ : Shape := ⟨0, ![]⟩

class Facts : Prop where
  bcast_S_S64 : S_.BroadcastsInDim S64 (![] : Fin 0 → Fin S64.rank)
  bcast_S_S2048 : S_.BroadcastsInDim S2048 (![] : Fin 0 → Fin S2048.rank)

variable [Facts]

def fn {F : FTy → Type} [FloatOps F] (main_arg0 : FVec F S16384x256 .f32) (main_arg1 : FVec F S256x64 .f32) (main_arg2 : FVec F S64 .f32) (main_arg3 : FVec F S64x64 .f32) (main_arg4 : FVec F S64 .f32) (main_arg5 : FVec F S64x2048 .f32) (main_arg6 : FVec F S2048 .f32) (main_arg7 : FVec F S256x64 .f32) (main_arg8 : FVec F S64 .f32) (main_arg9 : FVec F S64x64 .f32) (main_arg10 : FVec F S64 .f32) (main_arg11 : FVec F S64x2048 .f32) (main_arg12 : FVec F S2048 .f32) : IVec S64 1 × IVec S64 1 × IVec S2048 1 × IVec S64 1 × IVec S64 1 × IVec S2048 1 :=
  let main_cst : FVec F S_ .f32 := constant S_ .f32 0x00000000#32
  let main_v0 : FVec F S64 .f32 := broadcastInDim S64 ![] bcast_S_S64 main_cst
  let main_v1 : IVec S64 1 := cmpf .oeq main_arg2 main_v0
  let main_cst_0 : FVec F S_ .f32 := constant S_ .f32 0x00000000#32
  let main_v2 : FVec F S64 .f32 := broadcastInDim S64 ![] bcast_S_S64 main_cst_0
  let main_v3 : IVec S64 1 := cmpf .oeq main_arg4 main_v2
  let main_cst_1 : FVec F S_ .f32 := constant S_ .f32 0x00000000#32
  let main_v4 : FVec F S2048 .f32 := broadcastInDim S2048 ![] bcast_S_S2048 main_cst_1
  let main_v5 : IVec S2048 1 := cmpf .oeq main_arg6 main_v4
  let main_cst_2 : FVec F S_ .f32 := constant S_ .f32 0x00000000#32
  let main_v6 : FVec F S64 .f32 := broadcastInDim S64 ![] bcast_S_S64 main_cst_2
  let main_v7 : IVec S64 1 := cmpf .oeq main_arg8 main_v6
  let main_cst_3 : FVec F S_ .f32 := constant S_ .f32 0x00000000#32
  let main_v8 : FVec F S64 .f32 := broadcastInDim S64 ![] bcast_S_S64 main_cst_3
  let main_v9 : IVec S64 1 := cmpf .oeq main_arg10 main_v8
  let main_cst_4 : FVec F S_ .f32 := constant S_ .f32 0x00000000#32
  let main_v10 : FVec F S2048 .f32 := broadcastInDim S2048 ![] bcast_S_S2048 main_cst_4
  let main_v11 : IVec S2048 1 := cmpf .oeq main_arg12 main_v10
  (main_v1, main_v3, main_v5, main_v7, main_v9, main_v11)
-- ==== Kernel.lean ====
abbrev S16384x256 : Shape := ⟨2, ![16384, 256]⟩
abbrev S256x64 : Shape := ⟨2, ![256, 64]⟩
abbrev S64 : Shape := ⟨1, ![64]⟩
abbrev S64x64 : Shape := ⟨2, ![64, 64]⟩
abbrev S64x2048 : Shape := ⟨2, ![64, 2048]⟩
abbrev S2048 : Shape := ⟨1, ![2048]⟩
abbrev S1x64 : Shape := ⟨2, ![1, 64]⟩
abbrev S1x2048 : Shape := ⟨2, ![1, 2048]⟩
abbrev S16384x2048 : Shape := ⟨2, ![16384, 2048]⟩
abbrev S16384x1 : Shape := ⟨2, ![16384, 1]⟩
abbrev S512x256 : Shape := ⟨2, ![512, 256]⟩
abbrev S512x2048 : Shape := ⟨2, ![512, 2048]⟩
abbrev S512x1 : Shape := ⟨2, ![512, 1]⟩
abbrev S512x128 : Shape := ⟨2, ![512, 128]⟩
abbrev S512x64 : Shape := ⟨2, ![512, 64]⟩
abbrev S512 : Shape := ⟨1, ![512]⟩

abbrev nBuf : Space → Nat
  | .hbm => 23
  | .vmem => 24
  | .smem => 0
  | _ => 0

abbrev bufTy : (tb : Table) → Fin (tcTables nBuf tb) → BufTy
  | .hbm, ⟨0, _⟩ => ⟨S16384x256, .f32⟩
  | .hbm, ⟨1, _⟩ => ⟨S256x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x2048, .f32⟩
  | .hbm, ⟨6, _⟩ => ⟨S2048, .f32⟩
  | .hbm, ⟨7, _⟩ => ⟨S256x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x2048, .f32⟩
  | .hbm, ⟨12, _⟩ => ⟨S2048, .f32⟩
  | .hbm, ⟨13, _⟩ => ⟨S1x64, .f32⟩
  | .hbm, ⟨14, _⟩ => ⟨S1x64, .f32⟩
  | .hbm, ⟨15, _⟩ => ⟨S1x2048, .f32⟩
  | .hbm, ⟨16, _⟩ => ⟨S1x64, .f32⟩
  | .hbm, ⟨17, _⟩ => ⟨S1x64, .f32⟩
  | .hbm, ⟨18, _⟩ => ⟨S1x2048, .f32⟩
  | .hbm, ⟨19, _⟩ => ⟨S16384x2048, .f32⟩
  | .hbm, ⟨20, _⟩ => ⟨S16384x1, .i32⟩
  | .hbm, ⟨21, _⟩ => ⟨S16384x2048, .f32⟩
  | .hbm, ⟨22, _⟩ => ⟨S16384x1, .i32⟩
  | .local _ .vmem, ⟨0, _⟩ => ⟨S512x256, .f32⟩
  | .local _ .vmem, ⟨1, _⟩ => ⟨S512x256, .f32⟩
  | .local _ .vmem, ⟨2, _⟩ => ⟨S256x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x2048, .f32⟩
  | .local _ .vmem, ⟨7, _⟩ => ⟨S1x2048, .f32⟩
  | .local _ .vmem, ⟨8, _⟩ => ⟨S256x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x1, .i32⟩
  | .local _ .vmem, ⟨17, _⟩ => ⟨S512x1, .i32⟩
  | .local _ .vmem, ⟨18, _⟩ => ⟨S512x2048, .f32⟩
  | .local _ .vmem, ⟨19, _⟩ => ⟨S512x2048, .f32⟩
  | .local _ .vmem, ⟨20, _⟩ => ⟨S512x1, .i32⟩
  | .local _ .vmem, ⟨21, _⟩ => ⟨S512x1, .i32⟩
  | .local _ .vmem, ⟨22, _⟩ => ⟨S512x2048, .f32⟩
  | .local _ .vmem, ⟨23, _⟩ => ⟨S512x2048, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v6_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v40 : BitVec 32 := Scalar.addi c0_i32 c4_i32
  let c1_i32 : BitVec 32 := 1#32
  ⟨c0_i32, v40, c1_i32⟩
def k0_off1 (k0_t1 : Fin k0_t1_loop.trips) (c15_i32 : BitVec 32) : Fin 2 → Nat :=
  let c0_43 : Index := 0#32
  let c4_i32_39 : BitVec 32 := 4#32
  let c0_i32 : BitVec 32 := 0#32
  let c1_i32 : BitVec 32 := 1#32
  let arg20 : BitVec 32 := Scf.iv c0_i32 c1_i32 k0_t1
  let v60 : BitVec 32 := Scalar.muli c4_i32_39 arg20
  let v61 : BitVec 32 := Scalar.subi c15_i32 v60
  let c128_i32_42 : BitVec 32 := 128#32
  let v71 : BitVec 32 := Scalar.muli v61 c128_i32_42
  let v72 : Index := Scalar.indexCast v71
  ![0, v72.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16384x256 : Shape := ⟨2, ![16384, 256]⟩
abbrev S256x64 : Shape := ⟨2, ![256, 64]⟩
abbrev S64 : Shape := ⟨1, ![64]⟩
abbrev S64x64 : Shape := ⟨2, ![64, 64]⟩
abbrev S64x2048 : Shape := ⟨2, ![64, 2048]⟩
abbrev S2048 : Shape := ⟨1, ![2048]⟩
abbrev S4 : Shape := ⟨1, ![4]⟩
abbrev S_ : Shape := ⟨0, ![]⟩
abbrev S1 : Shape := ⟨1, ![1]⟩
abbrev S16384x64 : Shape := ⟨2, ![16384, 64]⟩
abbrev S1x64 : Shape := ⟨2, ![1, 64]⟩
abbrev S16384x2048 : Shape := ⟨2, ![16384, 2048]⟩
abbrev S1x2048 : Shape := ⟨2, ![1, 2048]⟩
abbrev S16384x4096 : Shape := ⟨2, ![16384, 4096]⟩
abbrev S16384 : Shape := ⟨1, ![16384]⟩
abbrev S16384x1 : Shape := ⟨2, ![16384, 1]⟩

abbrev nBuf : Space → Nat
  | .hbm => 1570
  | .vmem => 0
  | .smem => 0
  | _ => 0

abbrev hbmTy0_0 (i : Nat) : BufTy := match i % 128 with
  | 0 => ⟨S16384x256, .f32⟩
  | 1 => ⟨S256x64, .f32⟩
  | 2 => ⟨S64, .f32⟩
  | 3 => ⟨S64x64, .f32⟩
  | 4 => ⟨S64, .f32⟩
  | 5 => ⟨S64x2048, .f32⟩
  | 6 => ⟨S2048, .f32⟩
  | 7 => ⟨S256x64, .f32⟩
  | 8 => ⟨S64, .f32⟩
  | 9 => ⟨S64x64, .f32⟩
  | 10 => ⟨S64, .f32⟩
  | 11 => ⟨S64x2048, .f32⟩
  | 12 => ⟨S2048, .f32⟩
  | 13 => ⟨S4, .i32⟩
  | 14 => ⟨S_, .i32⟩
  | 15 => ⟨S4, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S4, .i32⟩
  | 23 => ⟨S4, .i32⟩
  | 24 => ⟨S_, .i32⟩
  | 25 => ⟨S4, .i32⟩
  | 26 => ⟨S4, .i32⟩
  | 27 => ⟨S4, .i32⟩
  | 28 => ⟨S_, .i32⟩
  | 29 => ⟨S4, .i32⟩
  | 30 => ⟨S4, .i32⟩
  | 31 => ⟨S_, .i32⟩
  | 32 => ⟨S4, .i32⟩
  | 33 => ⟨S4, .i32⟩
  | 34 => ⟨S4, .i32⟩
  | 35 => ⟨S4, .i32⟩
  | 36 => ⟨S4, .i32⟩
  | 37 => ⟨S_, .i32⟩
  | 38 => ⟨S4, .i32⟩
  | 39 => ⟨S4, .i32⟩
  | 40 => ⟨S_, .i32⟩
  | 41 => ⟨S4, .i32⟩
  | 42 => ⟨S4, .i32⟩
  | 43 => ⟨S4, .i32⟩
  | 44 => ⟨S4, .i32⟩
  | 45 => ⟨S4, .i32⟩
  | 46 => ⟨S_, .i32⟩
  | 47 => ⟨S4, .i32⟩
  | 48 => ⟨S4, .i32⟩
  | 49 => ⟨S_, .i32⟩
  | 50 => ⟨S4, .i32⟩
  | 51 => ⟨S4, .i32⟩
  | 52 => ⟨S4, .i32⟩
  | 53 => ⟨S4, .i32⟩
  | 54 => ⟨S4, .i32⟩
  | 55 => ⟨S_, .i32⟩
  | 56 => ⟨S4, .i32⟩
  | 57 => ⟨S4, .i32⟩
  | 58 => ⟨S_, .i32⟩
  | 59 => ⟨S4, .i32⟩
  | 60 => ⟨S4, .i32⟩
  | 61 => ⟨S4, .i32⟩
  | 62 => ⟨S4, .i32⟩
  | 63 => ⟨S_, .i32⟩
  | 64 => ⟨S4, .i32⟩
  | 65 => ⟨S4, .i32⟩
  | 66 => ⟨S4, .i32⟩
  | 67 => ⟨S4, .i32⟩
  | 68 => ⟨S_, .i32⟩
  | 69 => ⟨S4, .i32⟩
  | 70 => ⟨S4, .i32⟩
  | 71 => ⟨S4, .i32⟩
  | 72 => ⟨S_, .i32⟩
  | 73 => ⟨S4, .i32⟩
  | 74 => ⟨S4, .i32⟩
  | 75 => ⟨S_, .i32⟩
  | 76 => ⟨S4, .i32⟩
  | 77 => ⟨S4, .i32⟩
  | 78 => ⟨S4, .i32⟩
  | 79 => ⟨S4, .i32⟩
  | 80 => ⟨S4, .i32⟩
  | 81 => ⟨S_, .i32⟩
  | 82 => ⟨S4, .i32⟩
  | 83 => ⟨S4, .i32⟩
  | 84 => ⟨S_, .i32⟩
  | 85 => ⟨S4, .i32⟩
  | 86 => ⟨S4, .i32⟩
  | 87 => ⟨S4, .i32⟩
  | 88 => ⟨S4, .i32⟩
  | 89 => ⟨S4, .i32⟩
  | 90 => ⟨S_, .i32⟩
  | 91 => ⟨S4, .i32⟩
  | 92 => ⟨S4, .i32⟩
  | 93 => ⟨S_, .i32⟩
  | 94 => ⟨S4, .i32⟩
  | 95 => ⟨S4, .i32⟩
  | 96 => ⟨S4, .i32⟩
  | 97 => ⟨S4, .i32⟩
  | 98 => ⟨S4, .i32⟩
  | 99 => ⟨S_, .i32⟩
  | 100 => ⟨S4, .i32⟩
  | 101 => ⟨S4, .i32⟩
  | 102 => ⟨S_, .i32⟩
  | 103 => ⟨S4, .i32⟩
  | 104 => ⟨S4, .i32⟩
  | 105 => ⟨S4, .i32⟩
  | 106 => ⟨S4, .i32⟩
  | 107 => ⟨S4, .i32⟩
  | 108 => ⟨S4, .i32⟩
  | 109 => ⟨S_, .i32⟩
  | 110 => ⟨S4, .i32⟩
  | 111 => ⟨S4, .i32⟩
  | 112 => ⟨S_, .i32⟩
  | 113 => ⟨S4, .i32⟩
  | 114 => ⟨S4, .i32⟩
  | 115 => ⟨S4, .i32⟩
  | 116 => ⟨S_, .i32⟩
  | 117 => ⟨S4, .i32⟩
  | 118 => ⟨S4, .i32⟩
  | 119 => ⟨S_, .i32⟩
  | 120 => ⟨S4, .i32⟩
  | 121 => ⟨S4, .i32⟩
  | 122 => ⟨S4, .i32⟩
  | 123 => ⟨S4, .i32⟩
  | 124 => ⟨S4, .i32⟩
  | 125 => ⟨S_, .i32⟩
  | 126 => ⟨S4, .i32⟩
  | 127 => ⟨S4, .i32⟩
  | _ => ⟨S16384x256, .f32⟩

abbrev hbmTy0_1 (i : Nat) : BufTy := match i % 128 with
  | 0 => ⟨S_, .i32⟩
  | 1 => ⟨S4, .i32⟩
  | 2 => ⟨S4, .i32⟩
  | 3 => ⟨S4, .i32⟩
  | 4 => ⟨S4, .i32⟩
  | 5 => ⟨S4, .i32⟩
  | 6 => ⟨S_, .i32⟩
  | 7 => ⟨S4, .i32⟩
  | 8 => ⟨S4, .i32⟩
  | 9 => ⟨S_, .i32⟩
  | 10 => ⟨S4, .i32⟩
  | 11 => ⟨S4, .i32⟩
  | 12 => ⟨S4, .i32⟩
  | 13 => ⟨S4, .i32⟩
  | 14 => ⟨S4, .i32⟩
  | 15 => ⟨S_, .i32⟩
  | 16 => ⟨S4, .i32⟩
  | 17 => ⟨S4, .i32⟩
  | 18 => ⟨S_, .i32⟩
  | 19 => ⟨S4, .i32⟩
  | 20 => ⟨S4, .i32⟩
  | 21 => ⟨S4, .i32⟩
  | 22 => ⟨S4, .i32⟩
  | 23 => ⟨S_, .i32⟩
  | 24 => ⟨S4, .i32⟩
  | 25 => ⟨S4, .i32⟩
  | 26 => ⟨S_, .i32⟩
  | 27 => ⟨S4, .i32⟩
  | 28 => ⟨S4, .i32⟩
  | 29 => ⟨S_, .i32⟩
  | 30 => ⟨S4, .i32⟩
  | 31 => ⟨S4, .i32⟩
  | 32 => ⟨S4, .i32⟩
  | 33 => ⟨S_, .i32⟩
  | 34 => ⟨S4, .i32⟩
  | 35 => ⟨S4, .i32⟩
  | 36 => ⟨S_, .i32⟩
  | 37 => ⟨S4, .i32⟩
  | 38 => ⟨S4, .i32⟩
  | 39 => ⟨S4, .i32⟩
  | 40 => ⟨S4, .i32⟩
  | 41 => ⟨S4, .i32⟩
  | 42 => ⟨S_, .i32⟩
  | 43 => ⟨S4, .i32⟩
  | 44 => ⟨S4, .i32⟩
  | 45 => ⟨S_, .i32⟩
  | 46 => ⟨S4, .i32⟩
  | 47 => ⟨S4, .i32⟩
  | 48 => ⟨S4, .i32⟩
  | 49 => ⟨S4, .i32⟩
  | 50 => ⟨S4, .i32⟩
  | 51 => ⟨S_, .i32⟩
  | 52 => ⟨S4, .i32⟩
  | 53 => ⟨S4, .i32⟩
  | 54 => ⟨S_, .i32⟩
  | 55 => ⟨S4, .i32⟩
  | 56 => ⟨S4, .i32⟩
  | 57 => ⟨S4, .i32⟩
  | 58 => ⟨S4, .i32⟩
  | 59 => ⟨S4, .i32⟩
  | 60 => ⟨S_, .i32⟩
  | 61 => ⟨S4, .i32⟩
  | 62 => ⟨S4, .i32⟩
  | 63 => ⟨S_, .i32⟩
  | 64 => ⟨S4, .i32⟩
  | 65 => ⟨S4, .i32⟩
  | 66 => ⟨S4, .i32⟩
  | 67 => ⟨S4, .i32⟩
  | 68 => ⟨S_, .i32⟩
  | 69 => ⟨S4, .i32⟩
  | 70 => ⟨S4, .i32⟩
  | 71 => ⟨S4, .i32⟩
  | 72 => ⟨S4, .i32⟩
  | 73 => ⟨S_, .i32⟩
  | 74 => ⟨S4, .i32⟩
  | 75 => ⟨S4, .i32⟩
  | 76 => ⟨S4, .i32⟩
  | 77 => ⟨S_, .i32⟩
  | 78 => ⟨S4, .i32⟩
  | 79 => ⟨S4, .i32⟩
  | 80 => ⟨S_, .i32⟩
  | 81 => ⟨S4, .i32⟩
  | 82 => ⟨S4, .i32⟩
  | 83 => ⟨S4, .i32⟩
  | 84 => ⟨S4, .i32⟩
  | 85 => ⟨S4, .i32⟩
  | 86 => ⟨S_, .i32⟩
  | 87 => ⟨S4, .i32⟩
  | 88 => ⟨S4, .i32⟩
  | 89 => ⟨S_, .i32⟩
  | 90 => ⟨S4, .i32⟩
  | 91 => ⟨S4, .i32⟩
  | 92 => ⟨S4, .i32⟩
  | 93 => ⟨S4, .i32⟩
  | 94 => ⟨S4, .i32⟩
  | 95 => ⟨S_, .i32⟩
  | 96 => ⟨S4, .i32⟩
  | 97 => ⟨S4, .i32⟩
  | 98 => ⟨S_, .i32⟩
  | 99 => ⟨S4, .i32⟩
  | 100 => ⟨S4, .i32⟩
  | 101 => ⟨S4, .i32⟩
  | 102 => ⟨S4, .i32⟩
  | 103 => ⟨S4, .i32⟩
  | 104 => ⟨S_, .i32⟩
  | 105 => ⟨S4, .i32⟩
  | 106 => ⟨S4, .i32⟩
  | 107 => ⟨S_, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S_, .i32⟩
  | 115 => ⟨S4, .i32⟩
  | 116 => ⟨S4, .i32⟩
  | 117 => ⟨S_, .i32⟩
  | 118 => ⟨S4, .i32⟩
  | 119 => ⟨S4, .i32⟩
  | 120 => ⟨S1, .i32⟩
  | 121 => ⟨S_, .i32⟩
  | 122 => ⟨S1, .i32⟩
  | 123 => ⟨S_, .i32⟩
  | 124 => ⟨S1, .i32⟩
  | 125 => ⟨S_, .i32⟩
  | 126 => ⟨S1, .i32⟩
  | 127 => ⟨S_, .i32⟩
  | _ => ⟨S16384x256, .f32⟩

abbrev hbmTy0_2 (i : Nat) : BufTy := match i % 128 with
  | 0 => ⟨S1, .i32⟩
  | 1 => ⟨S_, .i32⟩
  | 2 => ⟨S1, .i32⟩
  | 3 => ⟨S_, .i32⟩
  | 4 => ⟨S1, .i32⟩
  | 5 => ⟨S_, .i32⟩
  | 6 => ⟨S1, .i32⟩
  | 7 => ⟨S_, .i32⟩
  | 8 => ⟨S16384x64, .f32⟩
  | 9 => ⟨S1x64, .f32⟩
  | 10 => ⟨S16384x64, .f32⟩
  | 11 => ⟨S16384x64, .f32⟩
  | 12 => ⟨S_, .f32⟩
  | 13 => ⟨S16384x64, .f32⟩
  | 14 => ⟨S16384x64, .f32⟩
  | 15 => ⟨S16384x64, .f32⟩
  | 16 => ⟨S1x64, .f32⟩
  | 17 => ⟨S16384x64, .f32⟩
  | 18 => ⟨S16384x64, .f32⟩
  | 19 => ⟨S_, .f32⟩
  | 20 => ⟨S16384x64, .f32⟩
  | 21 => ⟨S16384x64, .f32⟩
  | 22 => ⟨S16384x2048, .f32⟩
  | 23 => ⟨S1x2048, .f32⟩
  | 24 => ⟨S16384x2048, .f32⟩
  | 25 => ⟨S16384x2048, .f32⟩
  | 26 => ⟨S16384x2048, .f32⟩
  | 27 => ⟨S16384x2048, .f32⟩
  | 28 => ⟨S_, .f32⟩
  | 29 => ⟨S16384x2048, .f32⟩
  | 30 => ⟨S16384x2048, .f32⟩
  | 31 => ⟨S_, .f32⟩
  | 32 => ⟨S16384x2048, .f32⟩
  | 33 => ⟨S16384x2048, .f32⟩
  | 34 => ⟨S16384x2048, .i32⟩
  | 35 => ⟨S16384x2048, .i32⟩
  | 36 => ⟨S_, .i32⟩
  | 37 => ⟨S16384x2048, .i32⟩
  | 38 => ⟨S16384x2048, .i32⟩
  | 39 => ⟨S16384x2048, .i32⟩
  | 40 => ⟨S_, .i32⟩
  | 41 => ⟨S16384x2048, .i32⟩
  | 42 => ⟨S_, .i32⟩
  | 43 => ⟨S_, .i32⟩
  | 44 => ⟨S_, .i32⟩
  | 45 => ⟨S16384x2048, .i32⟩
  | 46 => ⟨S16384x2048, .i32⟩
  | 47 => ⟨S16384x2048, .i32⟩
  | 48 => ⟨S16384x2048, .i32⟩
  | 49 => ⟨S16384x2048, .i32⟩
  | 50 => ⟨S_, .i32⟩
  | 51 => ⟨S16384x2048, .i32⟩
  | 52 => ⟨S16384x2048, .i32⟩
  | 53 => ⟨S_, .i32⟩
  | 54 => ⟨S16384x2048, .i32⟩
  | 55 => ⟨S16384x2048, .i32⟩
  | 56 => ⟨S16384x2048, .i32⟩
  | 57 => ⟨S16384x2048, .i32⟩
  | 58 => ⟨S16384x2048, .i32⟩
  | 59 => ⟨S_, .i32⟩
  | 60 => ⟨S16384x2048, .i32⟩
  | 61 => ⟨S16384x2048, .i32⟩
  | 62 => ⟨S_, .i32⟩
  | 63 => ⟨S16384x2048, .i32⟩
  | 64 => ⟨S16384x2048, .i32⟩
  | 65 => ⟨S16384x2048, .i32⟩
  | 66 => ⟨S16384x2048, .i32⟩
  | 67 => ⟨S16384x2048, .i32⟩
  | 68 => ⟨S_, .i32⟩
  | 69 => ⟨S16384x2048, .i32⟩
  | 70 => ⟨S16384x2048, .i32⟩
  | 71 => ⟨S_, .i32⟩
  | 72 => ⟨S16384x2048, .i32⟩
  | 73 => ⟨S16384x2048, .i32⟩
  | 74 => ⟨S16384x2048, .i32⟩
  | 75 => ⟨S16384x2048, .i32⟩
  | 76 => ⟨S16384x2048, .i32⟩
  | 77 => ⟨S_, .i32⟩
  | 78 => ⟨S16384x2048, .i32⟩
  | 79 => ⟨S16384x2048, .i32⟩
  | 80 => ⟨S_, .i32⟩
  | 81 => ⟨S16384x2048, .i32⟩
  | 82 => ⟨S16384x2048, .i32⟩
  | 83 => ⟨S16384x2048, .i32⟩
  | 84 => ⟨S16384x2048, .i32⟩
  | 85 => ⟨S16384x2048, .i32⟩
  | 86 => ⟨S16384x2048, .i32⟩
  | 87 => ⟨S16384x2048, .i32⟩
  | 88 => ⟨S16384x2048, .i32⟩
  | 89 => ⟨S_, .i32⟩
  | 90 => ⟨S16384x2048, .i32⟩
  | 91 => ⟨S16384x2048, .i32⟩
  | 92 => ⟨S16384x2048, .i32⟩
  | 93 => ⟨S_, .i32⟩
  | 94 => ⟨S16384x2048, .i32⟩
  | 95 => ⟨S16384x2048, .i32⟩
  | 96 => ⟨S_, .i32⟩
  | 97 => ⟨S16384x2048, .i32⟩
  | 98 => ⟨S16384x2048, .i32⟩
  | 99 => ⟨S16384x2048, .i32⟩
  | 100 => ⟨S16384x2048, .i32⟩
  | 101 => ⟨S16384x2048, .i32⟩
  | 102 => ⟨S_, .i32⟩
  | 103 => ⟨S16384x2048, .i32⟩
  | 104 => ⟨S16384x2048, .i32⟩
  | 105 => ⟨S_, .i32⟩
  | 106 => ⟨S16384x2048, .i32⟩
  | 107 => ⟨S16384x2048, .i32⟩
  | 108 => ⟨S16384x2048, .i32⟩
  | 109 => ⟨S16384x2048, .i32⟩
  | 110 => ⟨S16384x2048, .i32⟩
  | 111 => ⟨S_, .i32⟩
  | 112 => ⟨S16384x2048, .i32⟩
  | 113 => ⟨S16384x2048, .i32⟩
  | 114 => ⟨S_, .i32⟩
  | 115 => ⟨S16384x2048, .i32⟩
  | 116 => ⟨S16384x2048, .i32⟩
  | 117 => ⟨S16384x2048, .i32⟩
  | 118 => ⟨S16384x2048, .i32⟩
  | 119 => ⟨S16384x2048, .i32⟩
  | 120 => ⟨S_, .i32⟩
  | 121 => ⟨S16384x2048, .i32⟩
  | 122 => ⟨S16384x2048, .i32⟩
  | 123 => ⟨S_, .i32⟩
  | 124 => ⟨S16384x2048, .i32⟩
  | 125 => ⟨S16384x2048, .i32⟩
  | 126 => ⟨S16384x2048, .i32⟩
  | 127 => ⟨S16384x2048, .i32⟩
  | _ => ⟨S16384x256, .f32⟩

abbrev hbmTy0_3 (i : Nat) : BufTy := match i % 128 with
  | 0 => ⟨S16384x2048, .i32⟩
  | 1 => ⟨S16384x2048, .i32⟩
  | 2 => ⟨S16384x2048, .i32⟩
  | 3 => ⟨S16384x2048, .i32⟩
  | 4 => ⟨S_, .i32⟩
  | 5 => ⟨S16384x2048, .i32⟩
  | 6 => ⟨S16384x2048, .i32⟩
  | 7 => ⟨S16384x2048, .i32⟩
  | 8 => ⟨S_, .i32⟩
  | 9 => ⟨S16384x2048, .i32⟩
  | 10 => ⟨S16384x2048, .i32⟩
  | 11 => ⟨S_, .i32⟩
  | 12 => ⟨S16384x2048, .i32⟩
  | 13 => ⟨S16384x2048, .i32⟩
  | 14 => ⟨S16384x2048, .i32⟩
  | 15 => ⟨S16384x2048, .i32⟩
  | 16 => ⟨S16384x2048, .i32⟩
  | 17 => ⟨S_, .i32⟩
  | 18 => ⟨S16384x2048, .i32⟩
  | 19 => ⟨S16384x2048, .i32⟩
  | 20 => ⟨S_, .i32⟩
  | 21 => ⟨S16384x2048, .i32⟩
  | 22 => ⟨S16384x2048, .i32⟩
  | 23 => ⟨S16384x2048, .i32⟩
  | 24 => ⟨S16384x2048, .i32⟩
  | 25 => ⟨S16384x2048, .i32⟩
  | 26 => ⟨S_, .i32⟩
  | 27 => ⟨S16384x2048, .i32⟩
  | 28 => ⟨S16384x2048, .i32⟩
  | 29 => ⟨S_, .i32⟩
  | 30 => ⟨S16384x2048, .i32⟩
  | 31 => ⟨S16384x2048, .i32⟩
  | 32 => ⟨S16384x2048, .i32⟩
  | 33 => ⟨S16384x2048, .i32⟩
  | 34 => ⟨S16384x2048, .i32⟩
  | 35 => ⟨S_, .i32⟩
  | 36 => ⟨S16384x2048, .i32⟩
  | 37 => ⟨S16384x2048, .i32⟩
  | 38 => ⟨S_, .i32⟩
  | 39 => ⟨S16384x2048, .i32⟩
  | 40 => ⟨S16384x2048, .i32⟩
  | 41 => ⟨S16384x2048, .i32⟩
  | 42 => ⟨S16384x2048, .i32⟩
  | 43 => ⟨S16384x2048, .i32⟩
  | 44 => ⟨S16384x2048, .i32⟩
  | 45 => ⟨S16384x2048, .i32⟩
  | 46 => ⟨S16384x2048, .i32⟩
  | 47 => ⟨S_, .i32⟩
  | 48 => ⟨S16384x2048, .i32⟩
  | 49 => ⟨S16384x2048, .i32⟩
  | 50 => ⟨S16384x2048, .i32⟩
  | 51 => ⟨S_, .i32⟩
  | 52 => ⟨S16384x2048, .i32⟩
  | 53 => ⟨S16384x2048, .i32⟩
  | 54 => ⟨S_, .i32⟩
  | 55 => ⟨S16384x2048, .i32⟩
  | 56 => ⟨S16384x2048, .i32⟩
  | 57 => ⟨S16384x2048, .i32⟩
  | 58 => ⟨S16384x2048, .i32⟩
  | 59 => ⟨S16384x2048, .i32⟩
  | 60 => ⟨S_, .i32⟩
  | 61 => ⟨S16384x2048, .i32⟩
  | 62 => ⟨S16384x2048, .i32⟩
  | 63 => ⟨S_, .i32⟩
  | 64 => ⟨S16384x2048, .i32⟩
  | 65 => ⟨S16384x2048, .i32⟩
  | 66 => ⟨S16384x2048, .i32⟩
  | 67 => ⟨S16384x2048, .i32⟩
  | 68 => ⟨S16384x2048, .i32⟩
  | 69 => ⟨S_, .i32⟩
  | 70 => ⟨S16384x2048, .i32⟩
  | 71 => ⟨S16384x2048, .i32⟩
  | 72 => ⟨S_, .i32⟩
  | 73 => ⟨S16384x2048, .i32⟩
  | 74 => ⟨S16384x2048, .i32⟩
  | 75 => ⟨S16384x2048, .i32⟩
  | 76 => ⟨S16384x2048, .i32⟩
  | 77 => ⟨S16384x2048, .i32⟩
  | 78 => ⟨S_, .i32⟩
  | 79 => ⟨S16384x2048, .i32⟩
  | 80 => ⟨S16384x2048, .i32⟩
  | 81 => ⟨S_, .i32⟩
  | 82 => ⟨S16384x2048, .i32⟩
  | 83 => ⟨S16384x2048, .i32⟩
  | 84 => ⟨S16384x2048, .i32⟩
  | 85 => ⟨S16384x2048, .i32⟩
  | 86 => ⟨S16384x2048, .i32⟩
  | 87 => ⟨S16384x2048, .i32⟩
  | 88 => ⟨S16384x2048, .i32⟩
  | 89 => ⟨S16384x2048, .i32⟩
  | 90 => ⟨S_, .i32⟩
  | 91 => ⟨S16384x2048, .i32⟩
  | 92 => ⟨S16384x2048, .i32⟩
  | 93 => ⟨S16384x2048, .i32⟩
  | 94 => ⟨S_, .i32⟩
  | 95 => ⟨S16384x2048, .i32⟩
  | 96 => ⟨S16384x2048, .i32⟩
  | 97 => ⟨S_, .i32⟩
  | 98 => ⟨S16384x2048, .i32⟩
  | 99 => ⟨S16384x2048, .i32⟩
  | 100 => ⟨S16384x2048, .i32⟩
  | 101 => ⟨S16384x2048, .i32⟩
  | 102 => ⟨S16384x2048, .i32⟩
  | 103 => ⟨S_, .i32⟩
  | 104 => ⟨S16384x2048, .i32⟩
  | 105 => ⟨S16384x2048, .i32⟩
  | 106 => ⟨S_, .i32⟩
  | 107 => ⟨S16384x2048, .i32⟩
  | 108 => ⟨S16384x2048, .i32⟩
  | 109 => ⟨S16384x2048, .i32⟩
  | 110 => ⟨S16384x2048, .i32⟩
  | 111 => ⟨S16384x2048, .i32⟩
  | 112 => ⟨S_, .i32⟩
  | 113 => ⟨S16384x2048, .i32⟩
  | 114 => ⟨S16384x2048, .i32⟩
  | 115 => ⟨S_, .i32⟩
  | 116 => ⟨S16384x2048, .i32⟩
  | 117 => ⟨S16384x2048, .i32⟩
  | 118 => ⟨S16384x2048, .i32⟩
  | 119 => ⟨S16384x2048, .i32⟩
  | 120 => ⟨S16384x2048, .i32⟩
  | 121 => ⟨S_, .i32⟩
  | 122 => ⟨S16384x2048, .i32⟩
  | 123 => ⟨S16384x2048, .i32⟩
  | 124 => ⟨S_, .i32⟩
  | 125 => ⟨S16384x2048, .i32⟩
  | 126 => ⟨S16384x2048, .i32⟩
  | 127 => ⟨S16384x2048, .i32⟩
  | _ => ⟨S16384x256, .f32⟩

abbrev hbmTy0_4 (i : Nat) : BufTy := match i % 128 with
  | 0 => ⟨S16384x2048, .i32⟩
  | 1 => ⟨S16384x2048, .i32⟩
  | 2 => ⟨S16384x2048, .i32⟩
  | 3 => ⟨S16384x2048, .i32⟩
  | 4 => ⟨S16384x2048, .i32⟩
  | 5 => ⟨S_, .i32⟩
  | 6 => ⟨S16384x2048, .i32⟩
  | 7 => ⟨S16384x2048, .i32⟩
  | 8 => ⟨S16384x2048, .i32⟩
  | 9 => ⟨S_, .i32⟩
  | 10 => ⟨S16384x2048, .i32⟩
  | 11 => ⟨S16384x2048, .i32⟩
  | 12 => ⟨S_, .i32⟩
  | 13 => ⟨S16384x2048, .i32⟩
  | 14 => ⟨S16384x2048, .i32⟩
  | 15 => ⟨S16384x2048, .f32⟩
  | 16 => ⟨S_, .f32⟩
  | 17 => ⟨S16384x2048, .f32⟩
  | 18 => ⟨S16384x2048, .f32⟩
  | 19 => ⟨S_, .f32⟩
  | 20 => ⟨S16384x2048, .f32⟩
  | 21 => ⟨S16384x2048, .f32⟩
  | 22 => ⟨S_, .f32⟩
  | 23 => ⟨S16384x2048, .f32⟩
  | 24 => ⟨S16384x2048, .f32⟩
  | 25 => ⟨S_, .f32⟩
  | 26 => ⟨S16384x2048, .f32⟩
  | 27 => ⟨S16384x2048, .f32⟩
  | 28 => ⟨S16384x2048, .f32⟩
  | 29 => ⟨S16384x2048, .f32⟩
  | 30 => ⟨S16384x2048, .f32⟩
  | 31 => ⟨S16384x2048, .f32⟩
  | 32 => ⟨S_, .f32⟩
  | 33 => ⟨S16384x2048, .f32⟩
  | 34 => ⟨S16384x2048, .i1⟩
  | 35 => ⟨S_, .f32⟩
  | 36 => ⟨S16384x2048, .f32⟩
  | 37 => ⟨S16384x2048, .f32⟩
  | 38 => ⟨S16384x2048, .f32⟩
  | 39 => ⟨S_, .f32⟩
  | 40 => ⟨S16384x2048, .f32⟩
  | 41 => ⟨S16384x2048, .f32⟩
  | 42 => ⟨S16384x2048, .f32⟩
  | 43 => ⟨S_, .f32⟩
  | 44 => ⟨S_, .f32⟩
  | 45 => ⟨S16384x2048, .f32⟩
  | 46 => ⟨S16384x2048, .f32⟩
  | 47 => ⟨S16384x2048, .f32⟩
  | 48 => ⟨S_, .f32⟩
  | 49 => ⟨S_, .f32⟩
  | 50 => ⟨S16384x2048, .f32⟩
  | 51 => ⟨S16384x2048, .f32⟩
  | 52 => ⟨S16384x2048, .f32⟩
  | 53 => ⟨S16384x2048, .f32⟩
  | 54 => ⟨S16384x2048, .f32⟩
  | 55 => ⟨S16384x2048, .f32⟩
  | 56 => ⟨S16384x2048, .f32⟩
  | 57 => ⟨S_, .f32⟩
  | 58 => ⟨S_, .f32⟩
  | 59 => ⟨S16384x2048, .f32⟩
  | 60 => ⟨S16384x2048, .f32⟩
  | 61 => ⟨S16384x2048, .f32⟩
  | 62 => ⟨S16384x2048, .f32⟩
  | 63 => ⟨S16384x2048, .f32⟩
  | 64 => ⟨S16384x2048, .f32⟩
  | 65 => ⟨S_, .f32⟩
  | 66 => ⟨S_, .f32⟩
  | 67 => ⟨S16384x2048, .f32⟩
  | 68 => ⟨S16384x2048, .f32⟩
  | 69 => ⟨S16384x2048, .f32⟩
  | 70 => ⟨S16384x2048, .f32⟩
  | 71 => ⟨S16384x2048, .f32⟩
  | 72 => ⟨S16384x2048, .f32⟩
  | 73 => ⟨S_, .f32⟩
  | 74 => ⟨S_, .f32⟩
  | 75 => ⟨S16384x2048, .f32⟩
  | 76 => ⟨S16384x2048, .f32⟩
  | 77 => ⟨S16384x2048, .f32⟩
  | 78 => ⟨S16384x2048, .f32⟩
  | 79 => ⟨S16384x2048, .f32⟩
  | 80 => ⟨S16384x2048, .f32⟩
  | 81 => ⟨S_, .f32⟩
  | 82 => ⟨S_, .f32⟩
  | 83 => ⟨S16384x2048, .f32⟩
  | 84 => ⟨S16384x2048, .f32⟩
  | 85 => ⟨S16384x2048, .f32⟩
  | 86 => ⟨S16384x2048, .f32⟩
  | 87 => ⟨S16384x2048, .f32⟩
  | 88 => ⟨S16384x2048, .f32⟩
  | 89 => ⟨S_, .f32⟩
  | 90 => ⟨S_, .f32⟩
  | 91 => ⟨S16384x2048, .f32⟩
  | 92 => ⟨S16384x2048, .f32⟩
  | 93 => ⟨S16384x2048, .f32⟩
  | 94 => ⟨S16384x2048, .f32⟩
  | 95 => ⟨S16384x2048, .f32⟩
  | 96 => ⟨S16384x2048, .f32⟩
  | 97 => ⟨S_, .f32⟩
  | 98 => ⟨S_, .f32⟩
  | 99 => ⟨S16384x2048, .f32⟩
  | 100 => ⟨S16384x2048, .f32⟩
  | 101 => ⟨S16384x2048, .f32⟩
  | 102 => ⟨S16384x2048, .f32⟩
  | 103 => ⟨S16384x2048, .f32⟩
  | 104 => ⟨S16384x2048, .f32⟩
  | 105 => ⟨S_, .f32⟩
  | 106 => ⟨S_, .f32⟩
  | 107 => ⟨S16384x2048, .f32⟩
  | 108 => ⟨S16384x2048, .f32⟩
  | 109 => ⟨S16384x2048, .f32⟩
  | 110 => ⟨S16384x2048, .f32⟩
  | 111 => ⟨S16384x2048, .f32⟩
  | 112 => ⟨S16384x2048, .f32⟩
  | 113 => ⟨S16384x2048, .f32⟩
  | 114 => ⟨S_, .f32⟩
  | 115 => ⟨S16384x2048, .f32⟩
  | 116 => ⟨S16384x2048, .f32⟩
  | 117 => ⟨S_, .f32⟩
  | 118 => ⟨S16384x2048, .f32⟩
  | 119 => ⟨S16384x2048, .f32⟩
  | 120 => ⟨S_, .f32⟩
  | 121 => ⟨S16384x2048, .f32⟩
  | 122 => ⟨S16384x2048, .f32⟩
  | 123 => ⟨S16384x2048, .f32⟩
  | 124 => ⟨S_, .f32⟩
  | 125 => ⟨S_, .f32⟩
  | 126 => ⟨S_, .f32⟩
  | 127 => ⟨S16384x2048, .f32⟩
  | _ => ⟨S16384x256, .f32⟩

abbrev hbmTy0_5 (i : Nat) : BufTy := match i % 128 with
  | 0 => ⟨S16384x2048, .f32⟩
  | 1 => ⟨S_, .f32⟩
  | 2 => ⟨S16384x2048, .f32⟩
  | 3 => ⟨S16384x2048, .f32⟩
  | 4 => ⟨S_, .f32⟩
  | 5 => ⟨S16384x2048, .f32⟩
  | 6 => ⟨S16384x2048, .f32⟩
  | 7 => ⟨S16384x4096, .f32⟩
  | 8 => ⟨S16384x4096, .i32⟩
  | 9 => ⟨S16384x4096, .i32⟩
  | 10 => ⟨S_, .i32⟩
  | 11 => ⟨S16384x4096, .i32⟩
  | 12 => ⟨S16384x4096, .i32⟩
  | 13 => ⟨S16384x4096, .i32⟩
  | 14 => ⟨S_, .i32⟩
  | 15 => ⟨S16384x4096, .i32⟩
  | 16 => ⟨S_, .i32⟩
  | 17 => ⟨S_, .i32⟩
  | 18 => ⟨S_, .i32⟩
  | 19 => ⟨S16384x4096, .i32⟩
  | 20 => ⟨S16384x4096, .i32⟩
  | 21 => ⟨S16384x4096, .i32⟩
  | 22 => ⟨S16384x4096, .i32⟩
  | 23 => ⟨S16384x4096, .i32⟩
  | 24 => ⟨S_, .i32⟩
  | 25 => ⟨S16384x4096, .i32⟩
  | 26 => ⟨S16384x4096, .i32⟩
  | 27 => ⟨S_, .i32⟩
  | 28 => ⟨S16384x4096, .i32⟩
  | 29 => ⟨S16384x4096, .i32⟩
  | 30 => ⟨S16384x4096, .i32⟩
  | 31 => ⟨S16384x4096, .i32⟩
  | 32 => ⟨S16384x4096, .i32⟩
  | 33 => ⟨S_, .i32⟩
  | 34 => ⟨S16384x4096, .i32⟩
  | 35 => ⟨S16384x4096, .i32⟩
  | 36 => ⟨S_, .i32⟩
  | 37 => ⟨S16384x4096, .i32⟩
  | 38 => ⟨S16384x4096, .i32⟩
  | 39 => ⟨S16384x4096, .i32⟩
  | 40 => ⟨S16384x4096, .i32⟩
  | 41 => ⟨S16384x4096, .i32⟩
  | 42 => ⟨S_, .i32⟩
  | 43 => ⟨S16384x4096, .i32⟩
  | 44 => ⟨S16384x4096, .i32⟩
  | 45 => ⟨S_, .i32⟩
  | 46 => ⟨S16384x4096, .i32⟩
  | 47 => ⟨S16384x4096, .i32⟩
  | 48 => ⟨S16384x4096, .i32⟩
  | 49 => ⟨S16384x4096, .i32⟩
  | 50 => ⟨S16384x4096, .i32⟩
  | 51 => ⟨S_, .i32⟩
  | 52 => ⟨S16384x4096, .i32⟩
  | 53 => ⟨S16384x4096, .i32⟩
  | 54 => ⟨S_, .i32⟩
  | 55 => ⟨S16384x4096, .i32⟩
  | 56 => ⟨S16384x4096, .i32⟩
  | 57 => ⟨S16384x4096, .i32⟩
  | 58 => ⟨S16384x4096, .i32⟩
  | 59 => ⟨S16384x4096, .i32⟩
  | 60 => ⟨S16384x4096, .i32⟩
  | 61 => ⟨S16384x4096, .i32⟩
  | 62 => ⟨S16384x4096, .i32⟩
  | 63 => ⟨S_, .i32⟩
  | 64 => ⟨S16384x4096, .i32⟩
  | 65 => ⟨S16384x4096, .i32⟩
  | 66 => ⟨S16384x4096, .i32⟩
  | 67 => ⟨S_, .i32⟩
  | 68 => ⟨S16384x4096, .i32⟩
  | 69 => ⟨S16384x4096, .i32⟩
  | 70 => ⟨S_, .i32⟩
  | 71 => ⟨S16384x4096, .i32⟩
  | 72 => ⟨S16384x4096, .i32⟩
  | 73 => ⟨S16384x4096, .i32⟩
  | 74 => ⟨S16384x4096, .i32⟩
  | 75 => ⟨S16384x4096, .i32⟩
  | 76 => ⟨S_, .i32⟩
  | 77 => ⟨S16384x4096, .i32⟩
  | 78 => ⟨S16384x4096, .i32⟩
  | 79 => ⟨S_, .i32⟩
  | 80 => ⟨S16384x4096, .i32⟩
  | 81 => ⟨S16384x4096, .i32⟩
  | 82 => ⟨S16384x4096, .i32⟩
  | 83 => ⟨S16384x4096, .i32⟩
  | 84 => ⟨S16384x4096, .i32⟩
  | 85 => ⟨S_, .i32⟩
  | 86 => ⟨S16384x4096, .i32⟩
  | 87 => ⟨S16384x4096, .i32⟩
  | 88 => ⟨S_, .i32⟩
  | 89 => ⟨S16384x4096, .i32⟩
  | 90 => ⟨S16384x4096, .i32⟩
  | 91 => ⟨S16384x4096, .i32⟩
  | 92 => ⟨S16384x4096, .i32⟩
  | 93 => ⟨S16384x4096, .i32⟩
  | 94 => ⟨S_, .i32⟩
  | 95 => ⟨S16384x4096, .i32⟩
  | 96 => ⟨S16384x4096, .i32⟩
  | 97 => ⟨S_, .i32⟩
  | 98 => ⟨S16384x4096, .i32⟩
  | 99 => ⟨S16384x4096, .i32⟩
  | 100 => ⟨S16384x4096, .i32⟩
  | 101 => ⟨S16384x4096, .i32⟩
  | 102 => ⟨S16384x4096, .i32⟩
  | 103 => ⟨S16384x4096, .i32⟩
  | 104 => ⟨S16384x4096, .i32⟩
  | 105 => ⟨S16384x4096, .i32⟩
  | 106 => ⟨S_, .i32⟩
  | 107 => ⟨S16384x4096, .i32⟩
  | 108 => ⟨S16384x4096, .i32⟩
  | 109 => ⟨S16384x4096, .i32⟩
  | 110 => ⟨S_, .i32⟩
  | 111 => ⟨S16384x4096, .i32⟩
  | 112 => ⟨S16384x4096, .i32⟩
  | 113 => ⟨S_, .i32⟩
  | 114 => ⟨S16384x4096, .i32⟩
  | 115 => ⟨S16384x4096, .i32⟩
  | 116 => ⟨S16384x4096, .i32⟩
  | 117 => ⟨S16384x4096, .i32⟩
  | 118 => ⟨S16384x4096, .i32⟩
  | 119 => ⟨S_, .i32⟩
  | 120 => ⟨S16384x4096, .i32⟩
  | 121 => ⟨S16384x4096, .i32⟩
  | 122 => ⟨S_, .i32⟩
  | 123 => ⟨S16384x4096, .i32⟩
  | 124 => ⟨S16384x4096, .i32⟩
  | 125 => ⟨S16384x4096, .i32⟩
  | 126 => ⟨S16384x4096, .i32⟩
  | 127 => ⟨S16384x4096, .i32⟩
  | _ => ⟨S16384x256, .f32⟩

abbrev hbmTy0_6 (i : Nat) : BufTy := match i % 128 with
  | 0 => ⟨S_, .i32⟩
  | 1 => ⟨S16384x4096, .i32⟩
  | 2 => ⟨S16384x4096, .i32⟩
  | 3 => ⟨S_, .i32⟩
  | 4 => ⟨S16384x4096, .i32⟩
  | 5 => ⟨S16384x4096, .i32⟩
  | 6 => ⟨S16384x4096, .i32⟩
  | 7 => ⟨S16384x4096, .i32⟩
  | 8 => ⟨S16384x4096, .i32⟩
  | 9 => ⟨S_, .i32⟩
  | 10 => ⟨S16384x4096, .i32⟩
  | 11 => ⟨S16384x4096, .i32⟩
  | 12 => ⟨S_, .i32⟩
  | 13 => ⟨S16384x4096, .i32⟩
  | 14 => ⟨S16384x4096, .i32⟩
  | 15 => ⟨S16384x4096, .i32⟩
  | 16 => ⟨S16384x4096, .i32⟩
  | 17 => ⟨S16384x4096, .i32⟩
  | 18 => ⟨S16384x4096, .i32⟩
  | 19 => ⟨S16384x4096, .i32⟩
  | 20 => ⟨S16384x4096, .i32⟩
  | 21 => ⟨S_, .i32⟩
  | 22 => ⟨S16384x4096, .i32⟩
  | 23 => ⟨S16384x4096, .i32⟩
  | 24 => ⟨S16384x4096, .i32⟩
  | 25 => ⟨S_, .i32⟩
  | 26 => ⟨S16384x4096, .i32⟩
  | 27 => ⟨S16384x4096, .i32⟩
  | 28 => ⟨S_, .i32⟩
  | 29 => ⟨S16384x4096, .i32⟩
  | 30 => ⟨S16384x4096, .i32⟩
  | 31 => ⟨S16384x4096, .i32⟩
  | 32 => ⟨S16384x4096, .i32⟩
  | 33 => ⟨S16384x4096, .i32⟩
  | 34 => ⟨S_, .i32⟩
  | 35 => ⟨S16384x4096, .i32⟩
  | 36 => ⟨S16384x4096, .i32⟩
  | 37 => ⟨S_, .i32⟩
  | 38 => ⟨S16384x4096, .i32⟩
  | 39 => ⟨S16384x4096, .i32⟩
  | 40 => ⟨S16384x4096, .i32⟩
  | 41 => ⟨S16384x4096, .i32⟩
  | 42 => ⟨S16384x4096, .i32⟩
  | 43 => ⟨S_, .i32⟩
  | 44 => ⟨S16384x4096, .i32⟩
  | 45 => ⟨S16384x4096, .i32⟩
  | 46 => ⟨S_, .i32⟩
  | 47 => ⟨S16384x4096, .i32⟩
  | 48 => ⟨S16384x4096, .i32⟩
  | 49 => ⟨S16384x4096, .i32⟩
  | 50 => ⟨S16384x4096, .i32⟩
  | 51 => ⟨S16384x4096, .i32⟩
  | 52 => ⟨S_, .i32⟩
  | 53 => ⟨S16384x4096, .i32⟩
  | 54 => ⟨S16384x4096, .i32⟩
  | 55 => ⟨S_, .i32⟩
  | 56 => ⟨S16384x4096, .i32⟩
  | 57 => ⟨S16384x4096, .i32⟩
  | 58 => ⟨S16384x4096, .i32⟩
  | 59 => ⟨S16384x4096, .i32⟩
  | 60 => ⟨S16384x4096, .i32⟩
  | 61 => ⟨S16384x4096, .i32⟩
  | 62 => ⟨S16384x4096, .i32⟩
  | 63 => ⟨S16384x4096, .i32⟩
  | 64 => ⟨S_, .i32⟩
  | 65 => ⟨S16384x4096, .i32⟩
  | 66 => ⟨S16384x4096, .i32⟩
  | 67 => ⟨S16384x4096, .i32⟩
  | 68 => ⟨S_, .i32⟩
  | 69 => ⟨S16384x4096, .i32⟩
  | 70 => ⟨S16384x4096, .i32⟩
  | 71 => ⟨S_, .i32⟩
  | 72 => ⟨S16384x4096, .i32⟩
  | 73 => ⟨S16384x4096, .i32⟩
  | 74 => ⟨S16384x4096, .i32⟩
  | 75 => ⟨S16384x4096, .i32⟩
  | 76 => ⟨S16384x4096, .i32⟩
  | 77 => ⟨S_, .i32⟩
  | 78 => ⟨S16384x4096, .i32⟩
  | 79 => ⟨S16384x4096, .i32⟩
  | 80 => ⟨S_, .i32⟩
  | 81 => ⟨S16384x4096, .i32⟩
  | 82 => ⟨S16384x4096, .i32⟩
  | 83 => ⟨S16384x4096, .i32⟩
  | 84 => ⟨S16384x4096, .i32⟩
  | 85 => ⟨S16384x4096, .i32⟩
  | 86 => ⟨S_, .i32⟩
  | 87 => ⟨S16384x4096, .i32⟩
  | 88 => ⟨S16384x4096, .i32⟩
  | 89 => ⟨S_, .i32⟩
  | 90 => ⟨S16384x4096, .i32⟩
  | 91 => ⟨S16384x4096, .i32⟩
  | 92 => ⟨S16384x4096, .i32⟩
  | 93 => ⟨S16384x4096, .i32⟩
  | 94 => ⟨S16384x4096, .i32⟩
  | 95 => ⟨S_, .i32⟩
  | 96 => ⟨S16384x4096, .i32⟩
  | 97 => ⟨S16384x4096, .i32⟩
  | 98 => ⟨S_, .i32⟩
  | 99 => ⟨S16384x4096, .i32⟩
  | 100 => ⟨S16384x4096, .i32⟩
  | 101 => ⟨S16384x4096, .i32⟩
  | 102 => ⟨S16384x4096, .i32⟩
  | 103 => ⟨S16384x4096, .i32⟩
  | 104 => ⟨S16384x4096, .i32⟩
  | 105 => ⟨S16384x4096, .i32⟩
  | 106 => ⟨S16384x4096, .i32⟩
  | 107 => ⟨S_, .i32⟩
  | 108 => ⟨S16384x4096, .i32⟩
  | 109 => ⟨S16384x4096, .i32⟩
  | 110 => ⟨S16384x4096, .i32⟩
  | 111 => ⟨S_, .i32⟩
  | 112 => ⟨S16384x4096, .i32⟩
  | 113 => ⟨S16384x4096, .i32⟩
  | 114 => ⟨S_, .i32⟩
  | 115 => ⟨S16384x4096, .i32⟩
  | 116 => ⟨S16384x4096, .i32⟩
  | 117 => ⟨S16384x4096, .f32⟩
  | 118 => ⟨S_, .f32⟩
  | 119 => ⟨S16384x4096, .f32⟩
  | 120 => ⟨S16384x4096, .f32⟩
  | 121 => ⟨S_, .f32⟩
  | 122 => ⟨S16384x4096, .f32⟩
  | 123 => ⟨S16384x4096, .f32⟩
  | 124 => ⟨S_, .f32⟩
  | 125 => ⟨S16384x4096, .f32⟩
  | 126 => ⟨S16384x4096, .f32⟩
  | 127 => ⟨S_, .f32⟩
  | _ => ⟨S16384x256, .f32⟩

abbrev hbmTy0_7 (i : Nat) : BufTy := match i % 128 with
  | 0 => ⟨S16384x4096, .f32⟩
  | 1 => ⟨S16384x4096, .f32⟩
  | 2 => ⟨S16384x4096, .f32⟩
  | 3 => ⟨S16384x4096, .f32⟩
  | 4 => ⟨S16384x4096, .f32⟩
  | 5 => ⟨S16384x4096, .f32⟩
  | 6 => ⟨S16384x4096, .f32⟩
  | 7 => ⟨S16384x4096, .f32⟩
  | 8 => ⟨S16384x64, .f32⟩
  | 9 => ⟨S1x64, .f32⟩
  | 10 => ⟨S16384x64, .f32⟩
  | 11 => ⟨S16384x64, .f32⟩
  | 12 => ⟨S_, .f32⟩
  | 13 => ⟨S16384x64, .f32⟩
  | 14 => ⟨S16384x64, .f32⟩
  | 15 => ⟨S16384x64, .f32⟩
  | 16 => ⟨S1x64, .f32⟩
  | 17 => ⟨S16384x64, .f32⟩
  | 18 => ⟨S16384x64, .f32⟩
  | 19 => ⟨S_, .f32⟩
  | 20 => ⟨S16384x64, .f32⟩
  | 21 => ⟨S16384x64, .f32⟩
  | 22 => ⟨S16384x2048, .f32⟩
  | 23 => ⟨S1x2048, .f32⟩
  | 24 => ⟨S16384x2048, .f32⟩
  | 25 => ⟨S16384x2048, .f32⟩
  | 26 => ⟨S16384x2048, .f32⟩
  | 27 => ⟨S16384x2048, .f32⟩
  | 28 => ⟨S_, .f32⟩
  | 29 => ⟨S16384x2048, .f32⟩
  | 30 => ⟨S16384x2048, .f32⟩
  | 31 => ⟨S_, .f32⟩
  | 32 => ⟨S16384x2048, .f32⟩
  | 33 => ⟨S16384x2048, .f32⟩
  | 34 => ⟨S16384x2048, .i32⟩
  | 35 => ⟨S16384x2048, .i32⟩
  | 36 => ⟨S_, .i32⟩
  | 37 => ⟨S16384x2048, .i32⟩
  | 38 => ⟨S16384x2048, .i32⟩
  | 39 => ⟨S16384x2048, .i32⟩
  | 40 => ⟨S_, .i32⟩
  | 41 => ⟨S16384x2048, .i32⟩
  | 42 => ⟨S_, .i32⟩
  | 43 => ⟨S_, .i32⟩
  | 44 => ⟨S_, .i32⟩
  | 45 => ⟨S16384x2048, .i32⟩
  | 46 => ⟨S16384x2048, .i32⟩
  | 47 => ⟨S16384x2048, .i32⟩
  | 48 => ⟨S16384x2048, .i32⟩
  | 49 => ⟨S16384x2048, .i32⟩
  | 50 => ⟨S_, .i32⟩
  | 51 => ⟨S16384x2048, .i32⟩
  | 52 => ⟨S16384x2048, .i32⟩
  | 53 => ⟨S_, .i32⟩
  | 54 => ⟨S16384x2048, .i32⟩
  | 55 => ⟨S16384x2048, .i32⟩
  | 56 => ⟨S16384x2048, .i32⟩
  | 57 => ⟨S16384x2048, .i32⟩
  | 58 => ⟨S16384x2048, .i32⟩
  | 59 => ⟨S_, .i32⟩
  | 60 => ⟨S16384x2048, .i32⟩
  | 61 => ⟨S16384x2048, .i32⟩
  | 62 => ⟨S_, .i32⟩
  | 63 => ⟨S16384x2048, .i32⟩
  | 64 => ⟨S16384x2048, .i32⟩
  | 65 => ⟨S16384x2048, .i32⟩
  | 66 => ⟨S16384x2048, .i32⟩
  | 67 => ⟨S16384x2048, .i32⟩
  | 68 => ⟨S_, .i32⟩
  | 69 => ⟨S16384x2048, .i32⟩
  | 70 => ⟨S16384x2048, .i32⟩
  | 71 => ⟨S_, .i32⟩
  | 72 => ⟨S16384x2048, .i32⟩
  | 73 => ⟨S16384x2048, .i32⟩
  | 74 => ⟨S16384x2048, .i32⟩
  | 75 => ⟨S16384x2048, .i32⟩
  | 76 => ⟨S16384x2048, .i32⟩
  | 77 => ⟨S_, .i32⟩
  | 78 => ⟨S16384x2048, .i32⟩
  | 79 => ⟨S16384x2048, .i32⟩
  | 80 => ⟨S_, .i32⟩
  | 81 => ⟨S16384x2048, .i32⟩
  | 82 => ⟨S16384x2048, .i32⟩
  | 83 => ⟨S16384x2048, .i32⟩
  | 84 => ⟨S16384x2048, .i32⟩
  | 85 => ⟨S16384x2048, .i32⟩
  | 86 => ⟨S16384x2048, .i32⟩
  | 87 => ⟨S16384x2048, .i32⟩
  | 88 => ⟨S16384x2048, .i32⟩
  | 89 => ⟨S_, .i32⟩
  | 90 => ⟨S16384x2048, .i32⟩
  | 91 => ⟨S16384x2048, .i32⟩
  | 92 => ⟨S16384x2048, .i32⟩
  | 93 => ⟨S_, .i32⟩
  | 94 => ⟨S16384x2048, .i32⟩
  | 95 => ⟨S16384x2048, .i32⟩
  | 96 => ⟨S_, .i32⟩
  | 97 => ⟨S16384x2048, .i32⟩
  | 98 => ⟨S16384x2048, .i32⟩
  | 99 => ⟨S16384x2048, .i32⟩
  | 100 => ⟨S16384x2048, .i32⟩
  | 101 => ⟨S16384x2048, .i32⟩
  | 102 => ⟨S_, .i32⟩
  | 103 => ⟨S16384x2048, .i32⟩
  | 104 => ⟨S16384x2048, .i32⟩
  | 105 => ⟨S_, .i32⟩
  | 106 => ⟨S16384x2048, .i32⟩
  | 107 => ⟨S16384x2048, .i32⟩
  | 108 => ⟨S16384x2048, .i32⟩
  | 109 => ⟨S16384x2048, .i32⟩
  | 110 => ⟨S16384x2048, .i32⟩
  | 111 => ⟨S_, .i32⟩
  | 112 => ⟨S16384x2048, .i32⟩
  | 113 => ⟨S16384x2048, .i32⟩
  | 114 => ⟨S_, .i32⟩
  | 115 => ⟨S16384x2048, .i32⟩
  | 116 => ⟨S16384x2048, .i32⟩
  | 117 => ⟨S16384x2048, .i32⟩
  | 118 => ⟨S16384x2048, .i32⟩
  | 119 => ⟨S16384x2048, .i32⟩
  | 120 => ⟨S_, .i32⟩
  | 121 => ⟨S16384x2048, .i32⟩
  | 122 => ⟨S16384x2048, .i32⟩
  | 123 => ⟨S_, .i32⟩
  | 124 => ⟨S16384x2048, .i32⟩
  | 125 => ⟨S16384x2048, .i32⟩
  | 126 => ⟨S16384x2048, .i32⟩
  | 127 => ⟨S16384x2048, .i32⟩
  | _ => ⟨S16384x256, .f32⟩

abbrev hbmTy0_8 (i : Nat) : BufTy := match i % 128 with
  | 0 => ⟨S16384x2048, .i32⟩
  | 1 => ⟨S16384x2048, .i32⟩
  | 2 => ⟨S16384x2048, .i32⟩
  | 3 => ⟨S16384x2048, .i32⟩
  | 4 => ⟨S_, .i32⟩
  | 5 => ⟨S16384x2048, .i32⟩
  | 6 => ⟨S16384x2048, .i32⟩
  | 7 => ⟨S16384x2048, .i32⟩
  | 8 => ⟨S_, .i32⟩
  | 9 => ⟨S16384x2048, .i32⟩
  | 10 => ⟨S16384x2048, .i32⟩
  | 11 => ⟨S_, .i32⟩
  | 12 => ⟨S16384x2048, .i32⟩
  | 13 => ⟨S16384x2048, .i32⟩
  | 14 => ⟨S16384x2048, .i32⟩
  | 15 => ⟨S16384x2048, .i32⟩
  | 16 => ⟨S16384x2048, .i32⟩
  | 17 => ⟨S_, .i32⟩
  | 18 => ⟨S16384x2048, .i32⟩
  | 19 => ⟨S16384x2048, .i32⟩
  | 20 => ⟨S_, .i32⟩
  | 21 => ⟨S16384x2048, .i32⟩
  | 22 => ⟨S16384x2048, .i32⟩
  | 23 => ⟨S16384x2048, .i32⟩
  | 24 => ⟨S16384x2048, .i32⟩
  | 25 => ⟨S16384x2048, .i32⟩
  | 26 => ⟨S_, .i32⟩
  | 27 => ⟨S16384x2048, .i32⟩
  | 28 => ⟨S16384x2048, .i32⟩
  | 29 => ⟨S_, .i32⟩
  | 30 => ⟨S16384x2048, .i32⟩
  | 31 => ⟨S16384x2048, .i32⟩
  | 32 => ⟨S16384x2048, .i32⟩
  | 33 => ⟨S16384x2048, .i32⟩
  | 34 => ⟨S16384x2048, .i32⟩
  | 35 => ⟨S_, .i32⟩
  | 36 => ⟨S16384x2048, .i32⟩
  | 37 => ⟨S16384x2048, .i32⟩
  | 38 => ⟨S_, .i32⟩
  | 39 => ⟨S16384x2048, .i32⟩
  | 40 => ⟨S16384x2048, .i32⟩
  | 41 => ⟨S16384x2048, .i32⟩
  | 42 => ⟨S16384x2048, .i32⟩
  | 43 => ⟨S16384x2048, .i32⟩
  | 44 => ⟨S16384x2048, .i32⟩
  | 45 => ⟨S16384x2048, .i32⟩
  | 46 => ⟨S16384x2048, .i32⟩
  | 47 => ⟨S_, .i32⟩
  | 48 => ⟨S16384x2048, .i32⟩
  | 49 => ⟨S16384x2048, .i32⟩
  | 50 => ⟨S16384x2048, .i32⟩
  | 51 => ⟨S_, .i32⟩
  | 52 => ⟨S16384x2048, .i32⟩
  | 53 => ⟨S16384x2048, .i32⟩
  | 54 => ⟨S_, .i32⟩
  | 55 => ⟨S16384x2048, .i32⟩
  | 56 => ⟨S16384x2048, .i32⟩
  | 57 => ⟨S16384x2048, .i32⟩
  | 58 => ⟨S16384x2048, .i32⟩
  | 59 => ⟨S16384x2048, .i32⟩
  | 60 => ⟨S_, .i32⟩
  | 61 => ⟨S16384x2048, .i32⟩
  | 62 => ⟨S16384x2048, .i32⟩
  | 63 => ⟨S_, .i32⟩
  | 64 => ⟨S16384x2048, .i32⟩
  | 65 => ⟨S16384x2048, .i32⟩
  | 66 => ⟨S16384x2048, .i32⟩
  | 67 => ⟨S16384x2048, .i32⟩
  | 68 => ⟨S16384x2048, .i32⟩
  | 69 => ⟨S_, .i32⟩
  | 70 => ⟨S16384x2048, .i32⟩
  | 71 => ⟨S16384x2048, .i32⟩
  | 72 => ⟨S_, .i32⟩
  | 73 => ⟨S16384x2048, .i32⟩
  | 74 => ⟨S16384x2048, .i32⟩
  | 75 => ⟨S16384x2048, .i32⟩
  | 76 => ⟨S16384x2048, .i32⟩
  | 77 => ⟨S16384x2048, .i32⟩
  | 78 => ⟨S_, .i32⟩
  | 79 => ⟨S16384x2048, .i32⟩
  | 80 => ⟨S16384x2048, .i32⟩
  | 81 => ⟨S_, .i32⟩
  | 82 => ⟨S16384x2048, .i32⟩
  | 83 => ⟨S16384x2048, .i32⟩
  | 84 => ⟨S16384x2048, .i32⟩
  | 85 => ⟨S16384x2048, .i32⟩
  | 86 => ⟨S16384x2048, .i32⟩
  | 87 => ⟨S16384x2048, .i32⟩
  | 88 => ⟨S16384x2048, .i32⟩
  | 89 => ⟨S16384x2048, .i32⟩
  | 90 => ⟨S_, .i32⟩
  | 91 => ⟨S16384x2048, .i32⟩
  | 92 => ⟨S16384x2048, .i32⟩
  | 93 => ⟨S16384x2048, .i32⟩
  | 94 => ⟨S_, .i32⟩
  | 95 => ⟨S16384x2048, .i32⟩
  | 96 => ⟨S16384x2048, .i32⟩
  | 97 => ⟨S_, .i32⟩
  | 98 => ⟨S16384x2048, .i32⟩
  | 99 => ⟨S16384x2048, .i32⟩
  | 100 => ⟨S16384x2048, .i32⟩
  | 101 => ⟨S16384x2048, .i32⟩
  | 102 => ⟨S16384x2048, .i32⟩
  | 103 => ⟨S_, .i32⟩
  | 104 => ⟨S16384x2048, .i32⟩
  | 105 => ⟨S16384x2048, .i32⟩
  | 106 => ⟨S_, .i32⟩
  | 107 => ⟨S16384x2048, .i32⟩
  | 108 => ⟨S16384x2048, .i32⟩
  | 109 => ⟨S16384x2048, .i32⟩
  | 110 => ⟨S16384x2048, .i32⟩
  | 111 => ⟨S16384x2048, .i32⟩
  | 112 => ⟨S_, .i32⟩
  | 113 => ⟨S16384x2048, .i32⟩
  | 114 => ⟨S16384x2048, .i32⟩
  | 115 => ⟨S_, .i32⟩
  | 116 => ⟨S16384x2048, .i32⟩
  | 117 => ⟨S16384x2048, .i32⟩
  | 118 => ⟨S16384x2048, .i32⟩
  | 119 => ⟨S16384x2048, .i32⟩
  | 120 => ⟨S16384x2048, .i32⟩
  | 121 => ⟨S_, .i32⟩
  | 122 => ⟨S16384x2048, .i32⟩
  | 123 => ⟨S16384x2048, .i32⟩
  | 124 => ⟨S_, .i32⟩
  | 125 => ⟨S16384x2048, .i32⟩
  | 126 => ⟨S16384x2048, .i32⟩
  | 127 => ⟨S16384x2048, .i32⟩
  | _ => ⟨S16384x256, .f32⟩

abbrev hbmTy0_9 (i : Nat) : BufTy := match i % 128 with
  | 0 => ⟨S16384x2048, .i32⟩
  | 1 => ⟨S16384x2048, .i32⟩
  | 2 => ⟨S16384x2048, .i32⟩
  | 3 => ⟨S16384x2048, .i32⟩
  | 4 => ⟨S16384x2048, .i32⟩
  | 5 => ⟨S_, .i32⟩
  | 6 => ⟨S16384x2048, .i32⟩
  | 7 => ⟨S16384x2048, .i32⟩
  | 8 => ⟨S16384x2048, .i32⟩
  | 9 => ⟨S_, .i32⟩
  | 10 => ⟨S16384x2048, .i32⟩
  | 11 => ⟨S16384x2048, .i32⟩
  | 12 => ⟨S_, .i32⟩
  | 13 => ⟨S16384x2048, .i32⟩
  | 14 => ⟨S16384x2048, .i32⟩
  | 15 => ⟨S16384x2048, .f32⟩
  | 16 => ⟨S_, .f32⟩
  | 17 => ⟨S16384x2048, .f32⟩
  | 18 => ⟨S16384x2048, .f32⟩
  | 19 => ⟨S_, .f32⟩
  | 20 => ⟨S16384x2048, .f32⟩
  | 21 => ⟨S16384x2048, .f32⟩
  | 22 => ⟨S_, .f32⟩
  | 23 => ⟨S16384x2048, .f32⟩
  | 24 => ⟨S16384x2048, .f32⟩
  | 25 => ⟨S_, .f32⟩
  | 26 => ⟨S16384x2048, .f32⟩
  | 27 => ⟨S16384x2048, .f32⟩
  | 28 => ⟨S16384x2048, .f32⟩
  | 29 => ⟨S16384x2048, .f32⟩
  | 30 => ⟨S16384x2048, .f32⟩
  | 31 => ⟨S16384x2048, .f32⟩
  | 32 => ⟨S_, .f32⟩
  | 33 => ⟨S16384x2048, .f32⟩
  | 34 => ⟨S16384x2048, .i1⟩
  | 35 => ⟨S_, .f32⟩
  | 36 => ⟨S16384x2048, .f32⟩
  | 37 => ⟨S16384x2048, .f32⟩
  | 38 => ⟨S16384x2048, .f32⟩
  | 39 => ⟨S_, .f32⟩
  | 40 => ⟨S16384x2048, .f32⟩
  | 41 => ⟨S16384x2048, .f32⟩
  | 42 => ⟨S16384x2048, .f32⟩
  | 43 => ⟨S_, .f32⟩
  | 44 => ⟨S_, .f32⟩
  | 45 => ⟨S16384x2048, .f32⟩
  | 46 => ⟨S16384x2048, .f32⟩
  | 47 => ⟨S16384x2048, .f32⟩
  | 48 => ⟨S_, .f32⟩
  | 49 => ⟨S_, .f32⟩
  | 50 => ⟨S16384x2048, .f32⟩
  | 51 => ⟨S16384x2048, .f32⟩
  | 52 => ⟨S16384x2048, .f32⟩
  | 53 => ⟨S16384x2048, .f32⟩
  | 54 => ⟨S16384x2048, .f32⟩
  | 55 => ⟨S16384x2048, .f32⟩
  | 56 => ⟨S16384x2048, .f32⟩
  | 57 => ⟨S_, .f32⟩
  | 58 => ⟨S_, .f32⟩
  | 59 => ⟨S16384x2048, .f32⟩
  | 60 => ⟨S16384x2048, .f32⟩
  | 61 => ⟨S16384x2048, .f32⟩
  | 62 => ⟨S16384x2048, .f32⟩
  | 63 => ⟨S16384x2048, .f32⟩
  | 64 => ⟨S16384x2048, .f32⟩
  | 65 => ⟨S_, .f32⟩
  | 66 => ⟨S_, .f32⟩
  | 67 => ⟨S16384x2048, .f32⟩
  | 68 => ⟨S16384x2048, .f32⟩
  | 69 => ⟨S16384x2048, .f32⟩
  | 70 => ⟨S16384x2048, .f32⟩
  | 71 => ⟨S16384x2048, .f32⟩
  | 72 => ⟨S16384x2048, .f32⟩
  | 73 => ⟨S_, .f32⟩
  | 74 => ⟨S_, .f32⟩
  | 75 => ⟨S16384x2048, .f32⟩
  | 76 => ⟨S16384x2048, .f32⟩
  | 77 => ⟨S16384x2048, .f32⟩
  | 78 => ⟨S16384x2048, .f32⟩
  | 79 => ⟨S16384x2048, .f32⟩
  | 80 => ⟨S16384x2048, .f32⟩
  | 81 => ⟨S_, .f32⟩
  | 82 => ⟨S_, .f32⟩
  | 83 => ⟨S16384x2048, .f32⟩
  | 84 => ⟨S16384x2048, .f32⟩
  | 85 => ⟨S16384x2048, .f32⟩
  | 86 => ⟨S16384x2048, .f32⟩
  | 87 => ⟨S16384x2048, .f32⟩
  | 88 => ⟨S16384x2048, .f32⟩
  | 89 => ⟨S_, .f32⟩
  | 90 => ⟨S_, .f32⟩
  | 91 => ⟨S16384x2048, .f32⟩
  | 92 => ⟨S16384x2048, .f32⟩
  | 93 => ⟨S16384x2048, .f32⟩
  | 94 => ⟨S16384x2048, .f32⟩
  | 95 => ⟨S16384x2048, .f32⟩
  | 96 => ⟨S16384x2048, .f32⟩
  | 97 => ⟨S_, .f32⟩
  | 98 => ⟨S_, .f32⟩
  | 99 => ⟨S16384x2048, .f32⟩
  | 100 => ⟨S16384x2048, .f32⟩
  | 101 => ⟨S16384x2048, .f32⟩
  | 102 => ⟨S16384x2048, .f32⟩
  | 103 => ⟨S16384x2048, .f32⟩
  | 104 => ⟨S16384x2048, .f32⟩
  | 105 => ⟨S_, .f32⟩
  | 106 => ⟨S_, .f32⟩
  | 107 => ⟨S16384x2048, .f32⟩
  | 108 => ⟨S16384x2048, .f32⟩
  | 109 => ⟨S16384x2048, .f32⟩
  | 110 => ⟨S16384x2048, .f32⟩
  | 111 => ⟨S16384x2048, .f32⟩
  | 112 => ⟨S16384x2048, .f32⟩
  | 113 => ⟨S16384x2048, .f32⟩
  | 114 => ⟨S_, .f32⟩
  | 115 => ⟨S16384x2048, .f32⟩
  | 116 => ⟨S16384x2048, .f32⟩
  | 117 => ⟨S_, .f32⟩
  | 118 => ⟨S16384x2048, .f32⟩
  | 119 => ⟨S16384x2048, .f32⟩
  | 120 => ⟨S_, .f32⟩
  | 121 => ⟨S16384x2048, .f32⟩
  | 122 => ⟨S16384x2048, .f32⟩
  | 123 => ⟨S16384x2048, .f32⟩
  | 124 => ⟨S_, .f32⟩
  | 125 => ⟨S_, .f32⟩
  | 126 => ⟨S_, .f32⟩
  | 127 => ⟨S16384x2048, .f32⟩
  | _ => ⟨S16384x256, .f32⟩

abbrev hbmTy0_10 (i : Nat) : BufTy := match i % 128 with
  | 0 => ⟨S16384x2048, .f32⟩
  | 1 => ⟨S_, .f32⟩
  | 2 => ⟨S16384x2048, .f32⟩
  | 3 => ⟨S16384x2048, .f32⟩
  | 4 => ⟨S_, .f32⟩
  | 5 => ⟨S16384x2048, .f32⟩
  | 6 => ⟨S16384x2048, .f32⟩
  | 7 => ⟨S16384x4096, .f32⟩
  | 8 => ⟨S16384x4096, .i32⟩
  | 9 => ⟨S16384x4096, .i32⟩
  | 10 => ⟨S_, .i32⟩
  | 11 => ⟨S16384x4096, .i32⟩
  | 12 => ⟨S16384x4096, .i32⟩
  | 13 => ⟨S16384x4096, .i32⟩
  | 14 => ⟨S_, .i32⟩
  | 15 => ⟨S16384x4096, .i32⟩
  | 16 => ⟨S_, .i32⟩
  | 17 => ⟨S_, .i32⟩
  | 18 => ⟨S_, .i32⟩
  | 19 => ⟨S16384x4096, .i32⟩
  | 20 => ⟨S16384x4096, .i32⟩
  | 21 => ⟨S16384x4096, .i32⟩
  | 22 => ⟨S16384x4096, .i32⟩
  | 23 => ⟨S16384x4096, .i32⟩
  | 24 => ⟨S_, .i32⟩
  | 25 => ⟨S16384x4096, .i32⟩
  | 26 => ⟨S16384x4096, .i32⟩
  | 27 => ⟨S_, .i32⟩
  | 28 => ⟨S16384x4096, .i32⟩
  | 29 => ⟨S16384x4096, .i32⟩
  | 30 => ⟨S16384x4096, .i32⟩
  | 31 => ⟨S16384x4096, .i32⟩
  | 32 => ⟨S16384x4096, .i32⟩
  | 33 => ⟨S_, .i32⟩
  | 34 => ⟨S16384x4096, .i32⟩
  | 35 => ⟨S16384x4096, .i32⟩
  | 36 => ⟨S_, .i32⟩
  | 37 => ⟨S16384x4096, .i32⟩
  | 38 => ⟨S16384x4096, .i32⟩
  | 39 => ⟨S16384x4096, .i32⟩
  | 40 => ⟨S16384x4096, .i32⟩
  | 41 => ⟨S16384x4096, .i32⟩
  | 42 => ⟨S_, .i32⟩
  | 43 => ⟨S16384x4096, .i32⟩
  | 44 => ⟨S16384x4096, .i32⟩
  | 45 => ⟨S_, .i32⟩
  | 46 => ⟨S16384x4096, .i32⟩
  | 47 => ⟨S16384x4096, .i32⟩
  | 48 => ⟨S16384x4096, .i32⟩
  | 49 => ⟨S16384x4096, .i32⟩
  | 50 => ⟨S16384x4096, .i32⟩
  | 51 => ⟨S_, .i32⟩
  | 52 => ⟨S16384x4096, .i32⟩
  | 53 => ⟨S16384x4096, .i32⟩
  | 54 => ⟨S_, .i32⟩
  | 55 => ⟨S16384x4096, .i32⟩
  | 56 => ⟨S16384x4096, .i32⟩
  | 57 => ⟨S16384x4096, .i32⟩
  | 58 => ⟨S16384x4096, .i32⟩
  | 59 => ⟨S16384x4096, .i32⟩
  | 60 => ⟨S16384x4096, .i32⟩
  | 61 => ⟨S16384x4096, .i32⟩
  | 62 => ⟨S16384x4096, .i32⟩
  | 63 => ⟨S_, .i32⟩
  | 64 => ⟨S16384x4096, .i32⟩
  | 65 => ⟨S16384x4096, .i32⟩
  | 66 => ⟨S16384x4096, .i32⟩
  | 67 => ⟨S_, .i32⟩
  | 68 => ⟨S16384x4096, .i32⟩
  | 69 => ⟨S16384x4096, .i32⟩
  | 70 => ⟨S_, .i32⟩
  | 71 => ⟨S16384x4096, .i32⟩
  | 72 => ⟨S16384x4096, .i32⟩
  | 73 => ⟨S16384x4096, .i32⟩
  | 74 => ⟨S16384x4096, .i32⟩
  | 75 => ⟨S16384x4096, .i32⟩
  | 76 => ⟨S_, .i32⟩
  | 77 => ⟨S16384x4096, .i32⟩
  | 78 => ⟨S16384x4096, .i32⟩
  | 79 => ⟨S_, .i32⟩
  | 80 => ⟨S16384x4096, .i32⟩
  | 81 => ⟨S16384x4096, .i32⟩
  | 82 => ⟨S16384x4096, .i32⟩
  | 83 => ⟨S16384x4096, .i32⟩
  | 84 => ⟨S16384x4096, .i32⟩
  | 85 => ⟨S_, .i32⟩
  | 86 => ⟨S16384x4096, .i32⟩
  | 87 => ⟨S16384x4096, .i32⟩
  | 88 => ⟨S_, .i32⟩
  | 89 => ⟨S16384x4096, .i32⟩
  | 90 => ⟨S16384x4096, .i32⟩
  | 91 => ⟨S16384x4096, .i32⟩
  | 92 => ⟨S16384x4096, .i32⟩
  | 93 => ⟨S16384x4096, .i32⟩
  | 94 => ⟨S_, .i32⟩
  | 95 => ⟨S16384x4096, .i32⟩
  | 96 => ⟨S16384x4096, .i32⟩
  | 97 => ⟨S_, .i32⟩
  | 98 => ⟨S16384x4096, .i32⟩
  | 99 => ⟨S16384x4096, .i32⟩
  | 100 => ⟨S16384x4096, .i32⟩
  | 101 => ⟨S16384x4096, .i32⟩
  | 102 => ⟨S16384x4096, .i32⟩
  | 103 => ⟨S16384x4096, .i32⟩
  | 104 => ⟨S16384x4096, .i32⟩
  | 105 => ⟨S16384x4096, .i32⟩
  | 106 => ⟨S_, .i32⟩
  | 107 => ⟨S16384x4096, .i32⟩
  | 108 => ⟨S16384x4096, .i32⟩
  | 109 => ⟨S16384x4096, .i32⟩
  | 110 => ⟨S_, .i32⟩
  | 111 => ⟨S16384x4096, .i32⟩
  | 112 => ⟨S16384x4096, .i32⟩
  | 113 => ⟨S_, .i32⟩
  | 114 => ⟨S16384x4096, .i32⟩
  | 115 => ⟨S16384x4096, .i32⟩
  | 116 => ⟨S16384x4096, .i32⟩
  | 117 => ⟨S16384x4096, .i32⟩
  | 118 => ⟨S16384x4096, .i32⟩
  | 119 => ⟨S_, .i32⟩
  | 120 => ⟨S16384x4096, .i32⟩
  | 121 => ⟨S16384x4096, .i32⟩
  | 122 => ⟨S_, .i32⟩
  | 123 => ⟨S16384x4096, .i32⟩
  | 124 => ⟨S16384x4096, .i32⟩
  | 125 => ⟨S16384x4096, .i32⟩
  | 126 => ⟨S16384x4096, .i32⟩
  | 127 => ⟨S16384x4096, .i32⟩
  | _ => ⟨S16384x256, .f32⟩

abbrev hbmTy0_11 (i : Nat) : BufTy := match i % 128 with
  | 0 => ⟨S_, .i32⟩
  | 1 => ⟨S16384x4096, .i32⟩
  | 2 => ⟨S16384x4096, .i32⟩
  | 3 => ⟨S_, .i32⟩
  | 4 => ⟨S16384x4096, .i32⟩
  | 5 => ⟨S16384x4096, .i32⟩
  | 6 => ⟨S16384x4096, .i32⟩
  | 7 => ⟨S16384x4096, .i32⟩
  | 8 => ⟨S16384x4096, .i32⟩
  | 9 => ⟨S_, .i32⟩
  | 10 => ⟨S16384x4096, .i32⟩
  | 11 => ⟨S16384x4096, .i32⟩
  | 12 => ⟨S_, .i32⟩
  | 13 => ⟨S16384x4096, .i32⟩
  | 14 => ⟨S16384x4096, .i32⟩
  | 15 => ⟨S16384x4096, .i32⟩
  | 16 => ⟨S16384x4096, .i32⟩
  | 17 => ⟨S16384x4096, .i32⟩
  | 18 => ⟨S16384x4096, .i32⟩
  | 19 => ⟨S16384x4096, .i32⟩
  | 20 => ⟨S16384x4096, .i32⟩
  | 21 => ⟨S_, .i32⟩
  | 22 => ⟨S16384x4096, .i32⟩
  | 23 => ⟨S16384x4096, .i32⟩
  | 24 => ⟨S16384x4096, .i32⟩
  | 25 => ⟨S_, .i32⟩
  | 26 => ⟨S16384x4096, .i32⟩
  | 27 => ⟨S16384x4096, .i32⟩
  | 28 => ⟨S_, .i32⟩
  | 29 => ⟨S16384x4096, .i32⟩
  | 30 => ⟨S16384x4096, .i32⟩
  | 31 => ⟨S16384x4096, .i32⟩
  | 32 => ⟨S16384x4096, .i32⟩
  | 33 => ⟨S16384x4096, .i32⟩
  | 34 => ⟨S_, .i32⟩
  | 35 => ⟨S16384x4096, .i32⟩
  | 36 => ⟨S16384x4096, .i32⟩
  | 37 => ⟨S_, .i32⟩
  | 38 => ⟨S16384x4096, .i32⟩
  | 39 => ⟨S16384x4096, .i32⟩
  | 40 => ⟨S16384x4096, .i32⟩
  | 41 => ⟨S16384x4096, .i32⟩
  | 42 => ⟨S16384x4096, .i32⟩
  | 43 => ⟨S_, .i32⟩
  | 44 => ⟨S16384x4096, .i32⟩
  | 45 => ⟨S16384x4096, .i32⟩
  | 46 => ⟨S_, .i32⟩
  | 47 => ⟨S16384x4096, .i32⟩
  | 48 => ⟨S16384x4096, .i32⟩
  | 49 => ⟨S16384x4096, .i32⟩
  | 50 => ⟨S16384x4096, .i32⟩
  | 51 => ⟨S16384x4096, .i32⟩
  | 52 => ⟨S_, .i32⟩
  | 53 => ⟨S16384x4096, .i32⟩
  | 54 => ⟨S16384x4096, .i32⟩
  | 55 => ⟨S_, .i32⟩
  | 56 => ⟨S16384x4096, .i32⟩
  | 57 => ⟨S16384x4096, .i32⟩
  | 58 => ⟨S16384x4096, .i32⟩
  | 59 => ⟨S16384x4096, .i32⟩
  | 60 => ⟨S16384x4096, .i32⟩
  | 61 => ⟨S16384x4096, .i32⟩
  | 62 => ⟨S16384x4096, .i32⟩
  | 63 => ⟨S16384x4096, .i32⟩
  | 64 => ⟨S_, .i32⟩
  | 65 => ⟨S16384x4096, .i32⟩
  | 66 => ⟨S16384x4096, .i32⟩
  | 67 => ⟨S16384x4096, .i32⟩
  | 68 => ⟨S_, .i32⟩
  | 69 => ⟨S16384x4096, .i32⟩
  | 70 => ⟨S16384x4096, .i32⟩
  | 71 => ⟨S_, .i32⟩
  | 72 => ⟨S16384x4096, .i32⟩
  | 73 => ⟨S16384x4096, .i32⟩
  | 74 => ⟨S16384x4096, .i32⟩
  | 75 => ⟨S16384x4096, .i32⟩
  | 76 => ⟨S16384x4096, .i32⟩
  | 77 => ⟨S_, .i32⟩
  | 78 => ⟨S16384x4096, .i32⟩
  | 79 => ⟨S16384x4096, .i32⟩
  | 80 => ⟨S_, .i32⟩
  | 81 => ⟨S16384x4096, .i32⟩
  | 82 => ⟨S16384x4096, .i32⟩
  | 83 => ⟨S16384x4096, .i32⟩
  | 84 => ⟨S16384x4096, .i32⟩
  | 85 => ⟨S16384x4096, .i32⟩
  | 86 => ⟨S_, .i32⟩
  | 87 => ⟨S16384x4096, .i32⟩
  | 88 => ⟨S16384x4096, .i32⟩
  | 89 => ⟨S_, .i32⟩
  | 90 => ⟨S16384x4096, .i32⟩
  | 91 => ⟨S16384x4096, .i32⟩
  | 92 => ⟨S16384x4096, .i32⟩
  | 93 => ⟨S16384x4096, .i32⟩
  | 94 => ⟨S16384x4096, .i32⟩
  | 95 => ⟨S_, .i32⟩
  | 96 => ⟨S16384x4096, .i32⟩
  | 97 => ⟨S16384x4096, .i32⟩
  | 98 => ⟨S_, .i32⟩
  | 99 => ⟨S16384x4096, .i32⟩
  | 100 => ⟨S16384x4096, .i32⟩
  | 101 => ⟨S16384x4096, .i32⟩
  | 102 => ⟨S16384x4096, .i32⟩
  | 103 => ⟨S16384x4096, .i32⟩
  | 104 => ⟨S16384x4096, .i32⟩
  | 105 => ⟨S16384x4096, .i32⟩
  | 106 => ⟨S16384x4096, .i32⟩
  | 107 => ⟨S_, .i32⟩
  | 108 => ⟨S16384x4096, .i32⟩
  | 109 => ⟨S16384x4096, .i32⟩
  | 110 => ⟨S16384x4096, .i32⟩
  | 111 => ⟨S_, .i32⟩
  | 112 => ⟨S16384x4096, .i32⟩
  | 113 => ⟨S16384x4096, .i32⟩
  | 114 => ⟨S_, .i32⟩
  | 115 => ⟨S16384x4096, .i32⟩
  | 116 => ⟨S16384x4096, .i32⟩
  | 117 => ⟨S16384x4096, .f32⟩
  | 118 => ⟨S_, .f32⟩
  | 119 => ⟨S16384x4096, .f32⟩
  | 120 => ⟨S16384x4096, .f32⟩
  | 121 => ⟨S_, .f32⟩
  | 122 => ⟨S16384x4096, .f32⟩
  | 123 => ⟨S16384x4096, .f32⟩
  | 124 => ⟨S_, .f32⟩
  | 125 => ⟨S16384x4096, .f32⟩
  | 126 => ⟨S16384x4096, .f32⟩
  | 127 => ⟨S_, .f32⟩
  | _ => ⟨S16384x256, .f32⟩

abbrev hbmTy0_12 (i : Nat) : BufTy := match i % 128 with
  | 0 => ⟨S16384x4096, .f32⟩
  | 1 => ⟨S16384x4096, .f32⟩
  | 2 => ⟨S16384x4096, .f32⟩
  | 3 => ⟨S16384x4096, .f32⟩
  | 4 => ⟨S16384x4096, .f32⟩
  | 5 => ⟨S16384x4096, .f32⟩
  | 6 => ⟨S16384x4096, .f32⟩
  | 7 => ⟨S16384x4096, .f32⟩
  | 8 => ⟨S_, .f32⟩
  | 9 => ⟨S16384, .f32⟩
  | 10 => ⟨S16384x1, .f32⟩
  | 11 => ⟨S16384x4096, .i32⟩
  | 12 => ⟨S16384x4096, .f32⟩
  | 13 => ⟨S16384x4096, .i1⟩
  | 14 => ⟨S_, .i32⟩
  | 15 => ⟨S_, .i32⟩
  | 16 => ⟨S16384x4096, .i32⟩
  | 17 => ⟨S16384x4096, .i32⟩
  | 18 => ⟨S_, .i32⟩
  | 19 => ⟨S16384, .i32⟩
  | 20 => ⟨S16384x1, .i32⟩
  | 21 => ⟨S_, .f32⟩
  | 22 => ⟨S16384, .f32⟩
  | 23 => ⟨S16384x1, .f32⟩
  | 24 => ⟨S16384x4096, .i32⟩
  | 25 => ⟨S16384x4096, .f32⟩
  | 26 => ⟨S16384x4096, .i1⟩
  | 27 => ⟨S_, .i32⟩
  | 28 => ⟨S_, .i32⟩
  | 29 => ⟨S16384x4096, .i32⟩
  | 30 => ⟨S16384x4096, .i32⟩
  | 31 => ⟨S_, .i32⟩
  | 32 => ⟨S16384, .i32⟩
  | 33 => ⟨S16384x1, .i32⟩
  | _ => ⟨S16384x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_c_0 : Ref sig .tc := ⟨.hbm, 16, rfl⟩
abbrev main_c_1 : Ref sig .tc := ⟨.hbm, 17, rfl⟩
abbrev main_v2 : Ref sig .tc := ⟨.hbm, 18, rfl⟩
abbrev main_c_2 : Ref sig .tc := ⟨.hbm, 19, rfl⟩
abbrev main_v3 : Ref sig .tc := ⟨.hbm, 20, rfl⟩
abbrev main_c_3 : Ref sig .tc := ⟨.hbm, 21, rfl⟩
abbrev main_v4 : Ref sig .tc := ⟨.hbm, 22, rfl⟩
abbrev main_v5 : Ref sig .tc := ⟨.hbm, 23, rfl⟩
abbrev main_c_4 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_5 : Ref sig .tc := ⟨.hbm, 28, rfl⟩
abbrev main_v9 : Ref sig .tc := ⟨.hbm, 29, rfl⟩
abbrev main_v10 : Ref sig .tc := ⟨.hbm, 30, rfl⟩
abbrev main_c_6 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_7 : Ref sig .tc := ⟨.hbm, 37, rfl⟩
abbrev main_v16 : Ref sig .tc := ⟨.hbm, 38, rfl⟩
abbrev main_v17 : Ref sig .tc := ⟨.hbm, 39, rfl⟩
abbrev main_c_8 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_9 : Ref sig .tc := ⟨.hbm, 46, rfl⟩
abbrev main_v23 : Ref sig .tc := ⟨.hbm, 47, rfl⟩
abbrev main_v24 : Ref sig .tc := ⟨.hbm, 48, rfl⟩
abbrev main_c_10 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_11 : Ref sig .tc := ⟨.hbm, 55, rfl⟩
abbrev main_v30 : Ref sig .tc := ⟨.hbm, 56, rfl⟩
abbrev main_v31 : Ref sig .tc := ⟨.hbm, 57, rfl⟩
abbrev main_c_12 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_13 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_14 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_15 : Ref sig .tc := ⟨.hbm, 72, rfl⟩
abbrev main_v43 : Ref sig .tc := ⟨.hbm, 73, rfl⟩
abbrev main_v44 : Ref sig .tc := ⟨.hbm, 74, rfl⟩
abbrev main_c_16 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_17 : Ref sig .tc := ⟨.hbm, 81, rfl⟩
abbrev main_v50 : Ref sig .tc := ⟨.hbm, 82, rfl⟩
abbrev main_v51 : Ref sig .tc := ⟨.hbm, 83, rfl⟩
abbrev main_c_18 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_19 : Ref sig .tc := ⟨.hbm, 90, rfl⟩
abbrev main_v57 : Ref sig .tc := ⟨.hbm, 91, rfl⟩
abbrev main_v58 : Ref sig .tc := ⟨.hbm, 92, rfl⟩
abbrev main_c_20 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_21 : Ref sig .tc := ⟨.hbm, 99, rfl⟩
abbrev main_v64 : Ref sig .tc := ⟨.hbm, 100, rfl⟩
abbrev main_v65 : Ref sig .tc := ⟨.hbm, 101, rfl⟩
abbrev main_c_22 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_23 : Ref sig .tc := ⟨.hbm, 109, rfl⟩
abbrev main_v72 : Ref sig .tc := ⟨.hbm, 110, rfl⟩
abbrev main_v73 : Ref sig .tc := ⟨.hbm, 111, rfl⟩
abbrev main_c_24 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_25 : Ref sig .tc := ⟨.hbm, 116, rfl⟩
abbrev main_v77 : Ref sig .tc := ⟨.hbm, 117, rfl⟩
abbrev main_v78 : Ref sig .tc := ⟨.hbm, 118, rfl⟩
abbrev main_c_26 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_27 : Ref sig .tc := ⟨.hbm, 125, rfl⟩
abbrev main_v84 : Ref sig .tc := ⟨.hbm, 126, rfl⟩
abbrev main_v85 : Ref sig .tc := ⟨.hbm, 127, rfl⟩
abbrev main_c_28 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_c_29 : Ref sig .tc := ⟨.hbm, 134, rfl⟩
abbrev main_v91 : Ref sig .tc := ⟨.hbm, 135, rfl⟩
abbrev main_v92 : Ref sig .tc := ⟨.hbm, 136, rfl⟩
abbrev main_c_30 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_c_31 : Ref sig .tc := ⟨.hbm, 143, rfl⟩
abbrev main_v98 : Ref sig .tc := ⟨.hbm, 144, rfl⟩
abbrev main_v99 : Ref sig .tc := ⟨.hbm, 145, rfl⟩
abbrev main_c_32 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_c_33 : Ref sig .tc := ⟨.hbm, 151, rfl⟩
abbrev main_v104 : Ref sig .tc := ⟨.hbm, 152, rfl⟩
abbrev main_v105 : Ref sig .tc := ⟨.hbm, 153, rfl⟩
abbrev main_c_34 : Ref sig .tc := ⟨.hbm, 154, rfl⟩
abbrev main_v106 : Ref sig .tc := ⟨.hbm, 155, rfl⟩
abbrev main_v107 : Ref sig .tc := ⟨.hbm, 156, rfl⟩
abbrev main_c_35 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_c_36 : Ref sig .tc := ⟨.hbm, 161, rfl⟩
abbrev main_v111 : Ref sig .tc := ⟨.hbm, 162, rfl⟩
abbrev main_v112 : Ref sig .tc := ⟨.hbm, 163, rfl⟩
abbrev main_c_37 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_c_38 : Ref sig .tc := ⟨.hbm, 170, rfl⟩
abbrev main_v118 : Ref sig .tc := ⟨.hbm, 171, rfl⟩
abbrev main_v119 : Ref sig .tc := ⟨.hbm, 172, rfl⟩
abbrev main_c_39 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_c_40 : Ref sig .tc := ⟨.hbm, 179, rfl⟩
abbrev main_v125 : Ref sig .tc := ⟨.hbm, 180, rfl⟩
abbrev main_v126 : Ref sig .tc := ⟨.hbm, 181, rfl⟩
abbrev main_c_41 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_c_42 : Ref sig .tc := ⟨.hbm, 188, rfl⟩
abbrev main_v132 : Ref sig .tc := ⟨.hbm, 189, rfl⟩
abbrev main_v133 : Ref sig .tc := ⟨.hbm, 190, rfl⟩
abbrev main_c_43 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_c_44 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_c_45 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_c_46 : Ref sig .tc := ⟨.hbm, 205, rfl⟩
abbrev main_v145 : Ref sig .tc := ⟨.hbm, 206, rfl⟩
abbrev main_v146 : Ref sig .tc := ⟨.hbm, 207, rfl⟩
abbrev main_c_47 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_c_48 : Ref sig .tc := ⟨.hbm, 214, rfl⟩
abbrev main_v152 : Ref sig .tc := ⟨.hbm, 215, rfl⟩
abbrev main_v153 : Ref sig .tc := ⟨.hbm, 216, rfl⟩
abbrev main_c_49 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_c_50 : Ref sig .tc := ⟨.hbm, 223, rfl⟩
abbrev main_v159 : Ref sig .tc := ⟨.hbm, 224, rfl⟩
abbrev main_v160 : Ref sig .tc := ⟨.hbm, 225, rfl⟩
abbrev main_c_51 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_c_52 : Ref sig .tc := ⟨.hbm, 232, rfl⟩
abbrev main_v166 : Ref sig .tc := ⟨.hbm, 233, rfl⟩
abbrev main_v167 : Ref sig .tc := ⟨.hbm, 234, rfl⟩
abbrev main_c_53 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_c_54 : Ref sig .tc := ⟨.hbm, 242, rfl⟩
abbrev main_v174 : Ref sig .tc := ⟨.hbm, 243, rfl⟩
abbrev main_v175 : Ref sig .tc := ⟨.hbm, 244, rfl⟩
abbrev main_c_55 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_call0_cst : Ref sig .tc := ⟨.hbm, 268, rfl⟩
abbrev main_call0_v0 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_call1_cst : Ref sig .tc := ⟨.hbm, 275, rfl⟩
abbrev main_call1_v0 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_cst : Ref sig .tc := ⟨.hbm, 284, rfl⟩
abbrev main_v210 : Ref sig .tc := ⟨.hbm, 285, rfl⟩
abbrev main_v211 : Ref sig .tc := ⟨.hbm, 286, rfl⟩
abbrev main_cst_56 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_c_57 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_c_58 : Ref sig .tc := ⟨.hbm, 296, rfl⟩
abbrev main_v219 : Ref sig .tc := ⟨.hbm, 297, rfl⟩
abbrev main_v220 : Ref sig .tc := ⟨.hbm, 298, rfl⟩
abbrev main_c_59 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_c_60 : Ref sig .tc := ⟨.hbm, 306, rfl⟩
abbrev main_v227 : Ref sig .tc := ⟨.hbm, 307, rfl⟩
abbrev main_v228 : Ref sig .tc := ⟨.hbm, 308, rfl⟩
abbrev main_c_61 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_c_62 : Ref sig .tc := ⟨.hbm, 315, rfl⟩
abbrev main_v234 : Ref sig .tc := ⟨.hbm, 316, rfl⟩
abbrev main_v235 : Ref sig .tc := ⟨.hbm, 317, rfl⟩
abbrev main_c_63 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_c_64 : Ref sig .tc := ⟨.hbm, 324, rfl⟩
abbrev main_v241 : Ref sig .tc := ⟨.hbm, 325, rfl⟩
abbrev main_v242 : Ref sig .tc := ⟨.hbm, 326, rfl⟩
abbrev main_c_65 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_c_66 : Ref sig .tc := ⟨.hbm, 333, rfl⟩
abbrev main_v248 : Ref sig .tc := ⟨.hbm, 334, rfl⟩
abbrev main_v249 : Ref sig .tc := ⟨.hbm, 335, rfl⟩
abbrev main_c_67 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_v257 : Ref sig .tc := ⟨.hbm, 344, rfl⟩
abbrev main_c_68 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_c_69 : Ref sig .tc := ⟨.hbm, 349, rfl⟩
abbrev main_v261 : Ref sig .tc := ⟨.hbm, 350, rfl⟩
abbrev main_v262 : Ref sig .tc := ⟨.hbm, 351, rfl⟩
abbrev main_c_70 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_c_71 : Ref sig .tc := ⟨.hbm, 358, rfl⟩
abbrev main_v268 : Ref sig .tc := ⟨.hbm, 359, rfl⟩
abbrev main_v269 : Ref sig .tc := ⟨.hbm, 360, rfl⟩
abbrev main_c_72 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_v274 : Ref sig .tc := ⟨.hbm, 366, rfl⟩
abbrev main_c_73 : Ref sig .tc := ⟨.hbm, 367, rfl⟩
abbrev main_v275 : Ref sig .tc := ⟨.hbm, 368, rfl⟩
abbrev main_v276 : Ref sig .tc := ⟨.hbm, 369, rfl⟩
abbrev main_c_74 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_c_75 : Ref sig .tc := ⟨.hbm, 376, rfl⟩
abbrev main_v282 : Ref sig .tc := ⟨.hbm, 377, rfl⟩
abbrev main_v283 : Ref sig .tc := ⟨.hbm, 378, rfl⟩
abbrev main_c_76 : Ref sig .tc := ⟨.hbm, 379, rfl⟩
abbrev main_v284 : Ref sig .tc := ⟨.hbm, 380, rfl⟩
abbrev main_v285 : Ref sig .tc := ⟨.hbm, 381, rfl⟩
abbrev main_v286 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_v290 : Ref sig .tc := ⟨.hbm, 386, rfl⟩
abbrev main_v291 : Ref sig .tc := ⟨.hbm, 387, rfl⟩
abbrev main_c_77 : Ref sig .tc := ⟨.hbm, 388, rfl⟩
abbrev main_v292 : Ref sig .tc := ⟨.hbm, 389, rfl⟩
abbrev main_v293 : Ref sig .tc := ⟨.hbm, 390, rfl⟩
abbrev main_v294 : Ref sig .tc := ⟨.hbm, 391, rfl⟩
abbrev main_c_78 : Ref sig .tc := ⟨.hbm, 392, rfl⟩
abbrev main_v295 : Ref sig .tc := ⟨.hbm, 393, rfl⟩
abbrev main_v296 : Ref sig .tc := ⟨.hbm, 394, rfl⟩
abbrev main_c_79 : Ref sig .tc := ⟨.hbm, 395, rfl⟩
abbrev main_v297 : Ref sig .tc := ⟨.hbm, 396, rfl⟩
abbrev main_v298 : Ref sig .tc := ⟨.hbm, 397, rfl⟩
abbrev main_v299 : Ref sig .tc := ⟨.hbm, 398, rfl⟩
abbrev main_v300 : Ref sig .tc := ⟨.hbm, 399, rfl⟩
abbrev main_v301 : Ref sig .tc := ⟨.hbm, 400, rfl⟩
abbrev main_c_80 : Ref sig .tc := ⟨.hbm, 401, rfl⟩
abbrev main_v302 : Ref sig .tc := ⟨.hbm, 402, rfl⟩
abbrev main_v303 : Ref sig .tc := ⟨.hbm, 403, rfl⟩
abbrev main_c_81 : Ref sig .tc := ⟨.hbm, 404, rfl⟩
abbrev main_v304 : Ref sig .tc := ⟨.hbm, 405, rfl⟩
abbrev main_v305 : Ref sig .tc := ⟨.hbm, 406, rfl⟩
abbrev main_v306 : Ref sig .tc := ⟨.hbm, 407, rfl⟩
abbrev main_v307 : Ref sig .tc := ⟨.hbm, 408, rfl⟩
abbrev main_v308 : Ref sig .tc := ⟨.hbm, 409, rfl⟩
abbrev main_c_82 : Ref sig .tc := ⟨.hbm, 410, rfl⟩
abbrev main_v309 : Ref sig .tc := ⟨.hbm, 411, rfl⟩
abbrev main_v310 : Ref sig .tc := ⟨.hbm, 412, rfl⟩
abbrev main_c_83 : Ref sig .tc := ⟨.hbm, 413, rfl⟩
abbrev main_v311 : Ref sig .tc := ⟨.hbm, 414, rfl⟩
abbrev main_v312 : Ref sig .tc := ⟨.hbm, 415, rfl⟩
abbrev main_v313 : Ref sig .tc := ⟨.hbm, 416, rfl⟩
abbrev main_v314 : Ref sig .tc := ⟨.hbm, 417, rfl⟩
abbrev main_v315 : Ref sig .tc := ⟨.hbm, 418, rfl⟩
abbrev main_c_84 : Ref sig .tc := ⟨.hbm, 419, rfl⟩
abbrev main_v316 : Ref sig .tc := ⟨.hbm, 420, rfl⟩
abbrev main_v317 : Ref sig .tc := ⟨.hbm, 421, rfl⟩
abbrev main_c_85 : Ref sig .tc := ⟨.hbm, 422, rfl⟩
abbrev main_v318 : Ref sig .tc := ⟨.hbm, 423, rfl⟩
abbrev main_v319 : Ref sig .tc := ⟨.hbm, 424, rfl⟩
abbrev main_v320 : Ref sig .tc := ⟨.hbm, 425, rfl⟩
abbrev main_v321 : Ref sig .tc := ⟨.hbm, 426, rfl⟩
abbrev main_v322 : Ref sig .tc := ⟨.hbm, 427, rfl⟩
abbrev main_v323 : Ref sig .tc := ⟨.hbm, 428, rfl⟩
abbrev main_v324 : Ref sig .tc := ⟨.hbm, 429, rfl⟩
abbrev main_v325 : Ref sig .tc := ⟨.hbm, 430, rfl⟩
abbrev main_c_86 : Ref sig .tc := ⟨.hbm, 431, rfl⟩
abbrev main_v326 : Ref sig .tc := ⟨.hbm, 432, rfl⟩
abbrev main_v327 : Ref sig .tc := ⟨.hbm, 433, rfl⟩
abbrev main_v328 : Ref sig .tc := ⟨.hbm, 434, rfl⟩
abbrev main_c_87 : Ref sig .tc := ⟨.hbm, 435, rfl⟩
abbrev main_v329 : Ref sig .tc := ⟨.hbm, 436, rfl⟩
abbrev main_v330 : Ref sig .tc := ⟨.hbm, 437, rfl⟩
abbrev main_c_88 : Ref sig .tc := ⟨.hbm, 438, rfl⟩
abbrev main_v331 : Ref sig .tc := ⟨.hbm, 439, rfl⟩
abbrev main_v332 : Ref sig .tc := ⟨.hbm, 440, rfl⟩
abbrev main_v333 : Ref sig .tc := ⟨.hbm, 441, rfl⟩
abbrev main_v334 : Ref sig .tc := ⟨.hbm, 442, rfl⟩
abbrev main_v335 : Ref sig .tc := ⟨.hbm, 443, rfl⟩
abbrev main_c_89 : Ref sig .tc := ⟨.hbm, 444, rfl⟩
abbrev main_v336 : Ref sig .tc := ⟨.hbm, 445, rfl⟩
abbrev main_v337 : Ref sig .tc := ⟨.hbm, 446, rfl⟩
abbrev main_c_90 : Ref sig .tc := ⟨.hbm, 447, rfl⟩
abbrev main_v338 : Ref sig .tc := ⟨.hbm, 448, rfl⟩
abbrev main_v339 : Ref sig .tc := ⟨.hbm, 449, rfl⟩
abbrev main_v340 : Ref sig .tc := ⟨.hbm, 450, rfl⟩
abbrev main_v341 : Ref sig .tc := ⟨.hbm, 451, rfl⟩
abbrev main_v342 : Ref sig .tc := ⟨.hbm, 452, rfl⟩
abbrev main_c_91 : Ref sig .tc := ⟨.hbm, 453, rfl⟩
abbrev main_v343 : Ref sig .tc := ⟨.hbm, 454, rfl⟩
abbrev main_v344 : Ref sig .tc := ⟨.hbm, 455, rfl⟩
abbrev main_c_92 : Ref sig .tc := ⟨.hbm, 456, rfl⟩
abbrev main_v345 : Ref sig .tc := ⟨.hbm, 457, rfl⟩
abbrev main_v346 : Ref sig .tc := ⟨.hbm, 458, rfl⟩
abbrev main_v347 : Ref sig .tc := ⟨.hbm, 459, rfl⟩
abbrev main_v348 : Ref sig .tc := ⟨.hbm, 460, rfl⟩
abbrev main_v349 : Ref sig .tc := ⟨.hbm, 461, rfl⟩
abbrev main_c_93 : Ref sig .tc := ⟨.hbm, 462, rfl⟩
abbrev main_v350 : Ref sig .tc := ⟨.hbm, 463, rfl⟩
abbrev main_v351 : Ref sig .tc := ⟨.hbm, 464, rfl⟩
abbrev main_c_94 : Ref sig .tc := ⟨.hbm, 465, rfl⟩
abbrev main_v352 : Ref sig .tc := ⟨.hbm, 466, rfl⟩
abbrev main_v353 : Ref sig .tc := ⟨.hbm, 467, rfl⟩
abbrev main_v354 : Ref sig .tc := ⟨.hbm, 468, rfl⟩
abbrev main_v355 : Ref sig .tc := ⟨.hbm, 469, rfl⟩
abbrev main_v356 : Ref sig .tc := ⟨.hbm, 470, rfl⟩
abbrev main_v357 : Ref sig .tc := ⟨.hbm, 471, rfl⟩
abbrev main_v358 : Ref sig .tc := ⟨.hbm, 472, rfl⟩
abbrev main_v359 : Ref sig .tc := ⟨.hbm, 473, rfl⟩
abbrev main_c_95 : Ref sig .tc := ⟨.hbm, 474, rfl⟩
abbrev main_v360 : Ref sig .tc := ⟨.hbm, 475, rfl⟩
abbrev main_v361 : Ref sig .tc := ⟨.hbm, 476, rfl⟩
abbrev main_v362 : Ref sig .tc := ⟨.hbm, 477, rfl⟩
abbrev main_c_96 : Ref sig .tc := ⟨.hbm, 478, rfl⟩
abbrev main_v363 : Ref sig .tc := ⟨.hbm, 479, rfl⟩
abbrev main_v364 : Ref sig .tc := ⟨.hbm, 480, rfl⟩
abbrev main_c_97 : Ref sig .tc := ⟨.hbm, 481, rfl⟩
abbrev main_v365 : Ref sig .tc := ⟨.hbm, 482, rfl⟩
abbrev main_v366 : Ref sig .tc := ⟨.hbm, 483, rfl⟩
abbrev main_v367 : Ref sig .tc := ⟨.hbm, 484, rfl⟩
abbrev main_v368 : Ref sig .tc := ⟨.hbm, 485, rfl⟩
abbrev main_v369 : Ref sig .tc := ⟨.hbm, 486, rfl⟩
abbrev main_c_98 : Ref sig .tc := ⟨.hbm, 487, rfl⟩
abbrev main_v370 : Ref sig .tc := ⟨.hbm, 488, rfl⟩
abbrev main_v371 : Ref sig .tc := ⟨.hbm, 489, rfl⟩
abbrev main_c_99 : Ref sig .tc := ⟨.hbm, 490, rfl⟩
abbrev main_v372 : Ref sig .tc := ⟨.hbm, 491, rfl⟩
abbrev main_v373 : Ref sig .tc := ⟨.hbm, 492, rfl⟩
abbrev main_v374 : Ref sig .tc := ⟨.hbm, 493, rfl⟩
abbrev main_v375 : Ref sig .tc := ⟨.hbm, 494, rfl⟩
abbrev main_v376 : Ref sig .tc := ⟨.hbm, 495, rfl⟩
abbrev main_c_100 : Ref sig .tc := ⟨.hbm, 496, rfl⟩
abbrev main_v377 : Ref sig .tc := ⟨.hbm, 497, rfl⟩
abbrev main_v378 : Ref sig .tc := ⟨.hbm, 498, rfl⟩
abbrev main_c_101 : Ref sig .tc := ⟨.hbm, 499, rfl⟩
abbrev main_v379 : Ref sig .tc := ⟨.hbm, 500, rfl⟩
abbrev main_v380 : Ref sig .tc := ⟨.hbm, 501, rfl⟩
abbrev main_v381 : Ref sig .tc := ⟨.hbm, 502, rfl⟩
abbrev main_v382 : Ref sig .tc := ⟨.hbm, 503, rfl⟩
abbrev main_v383 : Ref sig .tc := ⟨.hbm, 504, rfl⟩
abbrev main_c_102 : Ref sig .tc := ⟨.hbm, 505, rfl⟩
abbrev main_v384 : Ref sig .tc := ⟨.hbm, 506, rfl⟩
abbrev main_v385 : Ref sig .tc := ⟨.hbm, 507, rfl⟩
abbrev main_c_103 : Ref sig .tc := ⟨.hbm, 508, rfl⟩
abbrev main_v386 : Ref sig .tc := ⟨.hbm, 509, rfl⟩
abbrev main_v387 : Ref sig .tc := ⟨.hbm, 510, rfl⟩
abbrev main_v388 : Ref sig .tc := ⟨.hbm, 511, rfl⟩
abbrev main_v389 : Ref sig .tc := ⟨.hbm, 512, rfl⟩
abbrev main_v390 : Ref sig .tc := ⟨.hbm, 513, rfl⟩
abbrev main_v391 : Ref sig .tc := ⟨.hbm, 514, rfl⟩
abbrev main_v392 : Ref sig .tc := ⟨.hbm, 515, rfl⟩
abbrev main_v393 : Ref sig .tc := ⟨.hbm, 516, rfl⟩
abbrev main_c_104 : Ref sig .tc := ⟨.hbm, 517, rfl⟩
abbrev main_v394 : Ref sig .tc := ⟨.hbm, 518, rfl⟩
abbrev main_v395 : Ref sig .tc := ⟨.hbm, 519, rfl⟩
abbrev main_v396 : Ref sig .tc := ⟨.hbm, 520, rfl⟩
abbrev main_c_105 : Ref sig .tc := ⟨.hbm, 521, rfl⟩
abbrev main_v397 : Ref sig .tc := ⟨.hbm, 522, rfl⟩
abbrev main_v398 : Ref sig .tc := ⟨.hbm, 523, rfl⟩
abbrev main_c_106 : Ref sig .tc := ⟨.hbm, 524, rfl⟩
abbrev main_v399 : Ref sig .tc := ⟨.hbm, 525, rfl⟩
abbrev main_v400 : Ref sig .tc := ⟨.hbm, 526, rfl⟩
abbrev main_v401 : Ref sig .tc := ⟨.hbm, 527, rfl⟩
abbrev main_cst_107 : Ref sig .tc := ⟨.hbm, 528, rfl⟩
abbrev main_v402 : Ref sig .tc := ⟨.hbm, 529, rfl⟩
abbrev main_v403 : Ref sig .tc := ⟨.hbm, 530, rfl⟩
abbrev main_cst_108 : Ref sig .tc := ⟨.hbm, 531, rfl⟩
abbrev main_v404 : Ref sig .tc := ⟨.hbm, 532, rfl⟩
abbrev main_v405 : Ref sig .tc := ⟨.hbm, 533, rfl⟩
abbrev main_cst_109 : Ref sig .tc := ⟨.hbm, 534, rfl⟩
abbrev main_v406 : Ref sig .tc := ⟨.hbm, 535, rfl⟩
abbrev main_v407 : Ref sig .tc := ⟨.hbm, 536, rfl⟩
abbrev main_cst_110 : Ref sig .tc := ⟨.hbm, 537, rfl⟩
abbrev main_v408 : Ref sig .tc := ⟨.hbm, 538, rfl⟩
abbrev main_v409 : Ref sig .tc := ⟨.hbm, 539, rfl⟩
abbrev main_v410 : Ref sig .tc := ⟨.hbm, 540, rfl⟩
abbrev main_v411 : Ref sig .tc := ⟨.hbm, 541, rfl⟩
abbrev main_v412 : Ref sig .tc := ⟨.hbm, 542, rfl⟩
abbrev main_v413 : Ref sig .tc := ⟨.hbm, 543, rfl⟩
abbrev main_cst_111 : Ref sig .tc := ⟨.hbm, 544, rfl⟩
abbrev main_v414 : Ref sig .tc := ⟨.hbm, 545, rfl⟩
abbrev main_v415 : Ref sig .tc := ⟨.hbm, 546, rfl⟩
abbrev main_cst_112 : Ref sig .tc := ⟨.hbm, 547, rfl⟩
abbrev main_v416 : Ref sig .tc := ⟨.hbm, 548, rfl⟩
abbrev main_v417 : Ref sig .tc := ⟨.hbm, 549, rfl⟩
abbrev main_v418 : Ref sig .tc := ⟨.hbm, 550, rfl⟩
abbrev main_cst_113 : Ref sig .tc := ⟨.hbm, 551, rfl⟩
abbrev main_v419 : Ref sig .tc := ⟨.hbm, 552, rfl⟩
abbrev main_v420 : Ref sig .tc := ⟨.hbm, 553, rfl⟩
abbrev main_v421 : Ref sig .tc := ⟨.hbm, 554, rfl⟩
abbrev main_cst_114 : Ref sig .tc := ⟨.hbm, 555, rfl⟩
abbrev main_cst_115 : Ref sig .tc := ⟨.hbm, 556, rfl⟩
abbrev main_call3_v0 : Ref sig .tc := ⟨.hbm, 557, rfl⟩
abbrev main_call3_v1 : Ref sig .tc := ⟨.hbm, 558, rfl⟩
abbrev main_v422 : Ref sig .tc := ⟨.hbm, 559, rfl⟩
abbrev main_cst_116 : Ref sig .tc := ⟨.hbm, 560, rfl⟩
abbrev main_cst_117 : Ref sig .tc := ⟨.hbm, 561, rfl⟩
abbrev main_call4_v0 : Ref sig .tc := ⟨.hbm, 562, rfl⟩
abbrev main_call4_v1 : Ref sig .tc := ⟨.hbm, 563, rfl⟩
abbrev main_v423 : Ref sig .tc := ⟨.hbm, 564, rfl⟩
abbrev main_v424 : Ref sig .tc := ⟨.hbm, 565, rfl⟩
abbrev main_v425 : Ref sig .tc := ⟨.hbm, 566, rfl⟩
abbrev main_v426 : Ref sig .tc := ⟨.hbm, 567, rfl⟩
abbrev main_v427 : Ref sig .tc := ⟨.hbm, 568, rfl⟩
abbrev main_cst_118 : Ref sig .tc := ⟨.hbm, 569, rfl⟩
abbrev main_cst_119 : Ref sig .tc := ⟨.hbm, 570, rfl⟩
abbrev main_call5_v0 : Ref sig .tc := ⟨.hbm, 571, rfl⟩
abbrev main_call5_v1 : Ref sig .tc := ⟨.hbm, 572, rfl⟩
abbrev main_v428 : Ref sig .tc := ⟨.hbm, 573, rfl⟩
abbrev main_v429 : Ref sig .tc := ⟨.hbm, 574, rfl⟩
abbrev main_v430 : Ref sig .tc := ⟨.hbm, 575, rfl⟩
abbrev main_v431 : Ref sig .tc := ⟨.hbm, 576, rfl⟩
abbrev main_cst_120 : Ref sig .tc := ⟨.hbm, 577, rfl⟩
abbrev main_cst_121 : Ref sig .tc := ⟨.hbm, 578, rfl⟩
abbrev main_call6_v0 : Ref sig .tc := ⟨.hbm, 579, rfl⟩
abbrev main_call6_v1 : Ref sig .tc := ⟨.hbm, 580, rfl⟩
abbrev main_v432 : Ref sig .tc := ⟨.hbm, 581, rfl⟩
abbrev main_v433 : Ref sig .tc := ⟨.hbm, 582, rfl⟩
abbrev main_v434 : Ref sig .tc := ⟨.hbm, 583, rfl⟩
abbrev main_v435 : Ref sig .tc := ⟨.hbm, 584, rfl⟩
abbrev main_cst_122 : Ref sig .tc := ⟨.hbm, 585, rfl⟩
abbrev main_cst_123 : Ref sig .tc := ⟨.hbm, 586, rfl⟩
abbrev main_call7_v0 : Ref sig .tc := ⟨.hbm, 587, rfl⟩
abbrev main_call7_v1 : Ref sig .tc := ⟨.hbm, 588, rfl⟩
abbrev main_v436 : Ref sig .tc := ⟨.hbm, 589, rfl⟩
abbrev main_v437 : Ref sig .tc := ⟨.hbm, 590, rfl⟩
abbrev main_v438 : Ref sig .tc := ⟨.hbm, 591, rfl⟩
abbrev main_v439 : Ref sig .tc := ⟨.hbm, 592, rfl⟩
abbrev main_cst_124 : Ref sig .tc := ⟨.hbm, 593, rfl⟩
abbrev main_cst_125 : Ref sig .tc := ⟨.hbm, 594, rfl⟩
abbrev main_call8_v0 : Ref sig .tc := ⟨.hbm, 595, rfl⟩
abbrev main_call8_v1 : Ref sig .tc := ⟨.hbm, 596, rfl⟩
abbrev main_v440 : Ref sig .tc := ⟨.hbm, 597, rfl⟩
abbrev main_v441 : Ref sig .tc := ⟨.hbm, 598, rfl⟩
abbrev main_v442 : Ref sig .tc := ⟨.hbm, 599, rfl⟩
abbrev main_v443 : Ref sig .tc := ⟨.hbm, 600, rfl⟩
abbrev main_cst_126 : Ref sig .tc := ⟨.hbm, 601, rfl⟩
abbrev main_cst_127 : Ref sig .tc := ⟨.hbm, 602, rfl⟩
abbrev main_call9_v0 : Ref sig .tc := ⟨.hbm, 603, rfl⟩
abbrev main_call9_v1 : Ref sig .tc := ⟨.hbm, 604, rfl⟩
abbrev main_v444 : Ref sig .tc := ⟨.hbm, 605, rfl⟩
abbrev main_v445 : Ref sig .tc := ⟨.hbm, 606, rfl⟩
abbrev main_v446 : Ref sig .tc := ⟨.hbm, 607, rfl⟩
abbrev main_v447 : Ref sig .tc := ⟨.hbm, 608, rfl⟩
abbrev main_cst_128 : Ref sig .tc := ⟨.hbm, 609, rfl⟩
abbrev main_cst_129 : Ref sig .tc := ⟨.hbm, 610, rfl⟩
abbrev main_call10_v0 : Ref sig .tc := ⟨.hbm, 611, rfl⟩
abbrev main_call10_v1 : Ref sig .tc := ⟨.hbm, 612, rfl⟩
abbrev main_v448 : Ref sig .tc := ⟨.hbm, 613, rfl⟩
abbrev main_v449 : Ref sig .tc := ⟨.hbm, 614, rfl⟩
abbrev main_v450 : Ref sig .tc := ⟨.hbm, 615, rfl⟩
abbrev main_v451 : Ref sig .tc := ⟨.hbm, 616, rfl⟩
abbrev main_cst_130 : Ref sig .tc := ⟨.hbm, 617, rfl⟩
abbrev main_cst_131 : Ref sig .tc := ⟨.hbm, 618, rfl⟩
abbrev main_call11_v0 : Ref sig .tc := ⟨.hbm, 619, rfl⟩
abbrev main_call11_v1 : Ref sig .tc := ⟨.hbm, 620, rfl⟩
abbrev main_v452 : Ref sig .tc := ⟨.hbm, 621, rfl⟩
abbrev main_v453 : Ref sig .tc := ⟨.hbm, 622, rfl⟩
abbrev main_v454 : Ref sig .tc := ⟨.hbm, 623, rfl⟩
abbrev main_v455 : Ref sig .tc := ⟨.hbm, 624, rfl⟩
abbrev main_v456 : Ref sig .tc := ⟨.hbm, 625, rfl⟩
abbrev main_cst_132 : Ref sig .tc := ⟨.hbm, 626, rfl⟩
abbrev main_v457 : Ref sig .tc := ⟨.hbm, 627, rfl⟩
abbrev main_v458 : Ref sig .tc := ⟨.hbm, 628, rfl⟩
abbrev main_cst_133 : Ref sig .tc := ⟨.hbm, 629, rfl⟩
abbrev main_v459 : Ref sig .tc := ⟨.hbm, 630, rfl⟩
abbrev main_v460 : Ref sig .tc := ⟨.hbm, 631, rfl⟩
abbrev main_cst_134 : Ref sig .tc := ⟨.hbm, 632, rfl⟩
abbrev main_v461 : Ref sig .tc := ⟨.hbm, 633, rfl⟩
abbrev main_v462 : Ref sig .tc := ⟨.hbm, 634, rfl⟩
abbrev main_v463 : Ref sig .tc := ⟨.hbm, 635, rfl⟩
abbrev main_cst_135 : Ref sig .tc := ⟨.hbm, 636, rfl⟩
abbrev main_cst_136 : Ref sig .tc := ⟨.hbm, 637, rfl⟩
abbrev main_call12_v0 : Ref sig .tc := ⟨.hbm, 638, rfl⟩
abbrev main_call12_v1 : Ref sig .tc := ⟨.hbm, 639, rfl⟩
abbrev main_call12_v2 : Ref sig .tc := ⟨.hbm, 640, rfl⟩
abbrev main_call12_v3 : Ref sig .tc := ⟨.hbm, 641, rfl⟩
abbrev main_call12_v4 : Ref sig .tc := ⟨.hbm, 642, rfl⟩
abbrev main_v464 : Ref sig .tc := ⟨.hbm, 643, rfl⟩
abbrev main_cst_137 : Ref sig .tc := ⟨.hbm, 644, rfl⟩
abbrev main_v465 : Ref sig .tc := ⟨.hbm, 645, rfl⟩
abbrev main_v466 : Ref sig .tc := ⟨.hbm, 646, rfl⟩
abbrev main_v467 : Ref sig .tc := ⟨.hbm, 647, rfl⟩
abbrev main_v468 : Ref sig .tc := ⟨.hbm, 648, rfl⟩
abbrev main_v469 : Ref sig .tc := ⟨.hbm, 649, rfl⟩
abbrev main_c_138 : Ref sig .tc := ⟨.hbm, 650, rfl⟩
abbrev main_v470 : Ref sig .tc := ⟨.hbm, 651, rfl⟩
abbrev main_v471 : Ref sig .tc := ⟨.hbm, 652, rfl⟩
abbrev main_v472 : Ref sig .tc := ⟨.hbm, 653, rfl⟩
abbrev main_c_139 : Ref sig .tc := ⟨.hbm, 654, rfl⟩
abbrev main_v473 : Ref sig .tc := ⟨.hbm, 655, rfl⟩
abbrev main_v474 : Ref sig .tc := ⟨.hbm, 656, rfl⟩
abbrev main_c_140 : Ref sig .tc := ⟨.hbm, 657, rfl⟩
abbrev main_v475 : Ref sig .tc := ⟨.hbm, 658, rfl⟩
abbrev main_v476 : Ref sig .tc := ⟨.hbm, 659, rfl⟩
abbrev main_v477 : Ref sig .tc := ⟨.hbm, 660, rfl⟩
abbrev main_v478 : Ref sig .tc := ⟨.hbm, 661, rfl⟩
abbrev main_v479 : Ref sig .tc := ⟨.hbm, 662, rfl⟩
abbrev main_v480 : Ref sig .tc := ⟨.hbm, 663, rfl⟩
abbrev main_c_141 : Ref sig .tc := ⟨.hbm, 664, rfl⟩
abbrev main_v481 : Ref sig .tc := ⟨.hbm, 665, rfl⟩
abbrev main_v482 : Ref sig .tc := ⟨.hbm, 666, rfl⟩
abbrev main_c_142 : Ref sig .tc := ⟨.hbm, 667, rfl⟩
abbrev main_v483 : Ref sig .tc := ⟨.hbm, 668, rfl⟩
abbrev main_v484 : Ref sig .tc := ⟨.hbm, 669, rfl⟩
abbrev main_v485 : Ref sig .tc := ⟨.hbm, 670, rfl⟩
abbrev main_v486 : Ref sig .tc := ⟨.hbm, 671, rfl⟩
abbrev main_v487 : Ref sig .tc := ⟨.hbm, 672, rfl⟩
abbrev main_c_143 : Ref sig .tc := ⟨.hbm, 673, rfl⟩
abbrev main_v488 : Ref sig .tc := ⟨.hbm, 674, rfl⟩
abbrev main_v489 : Ref sig .tc := ⟨.hbm, 675, rfl⟩
abbrev main_c_144 : Ref sig .tc := ⟨.hbm, 676, rfl⟩
abbrev main_v490 : Ref sig .tc := ⟨.hbm, 677, rfl⟩
abbrev main_v491 : Ref sig .tc := ⟨.hbm, 678, rfl⟩
abbrev main_v492 : Ref sig .tc := ⟨.hbm, 679, rfl⟩
abbrev main_v493 : Ref sig .tc := ⟨.hbm, 680, rfl⟩
abbrev main_v494 : Ref sig .tc := ⟨.hbm, 681, rfl⟩
abbrev main_c_145 : Ref sig .tc := ⟨.hbm, 682, rfl⟩
abbrev main_v495 : Ref sig .tc := ⟨.hbm, 683, rfl⟩
abbrev main_v496 : Ref sig .tc := ⟨.hbm, 684, rfl⟩
abbrev main_c_146 : Ref sig .tc := ⟨.hbm, 685, rfl⟩
abbrev main_v497 : Ref sig .tc := ⟨.hbm, 686, rfl⟩
abbrev main_v498 : Ref sig .tc := ⟨.hbm, 687, rfl⟩
abbrev main_v499 : Ref sig .tc := ⟨.hbm, 688, rfl⟩
abbrev main_v500 : Ref sig .tc := ⟨.hbm, 689, rfl⟩
abbrev main_v501 : Ref sig .tc := ⟨.hbm, 690, rfl⟩
abbrev main_c_147 : Ref sig .tc := ⟨.hbm, 691, rfl⟩
abbrev main_v502 : Ref sig .tc := ⟨.hbm, 692, rfl⟩
abbrev main_v503 : Ref sig .tc := ⟨.hbm, 693, rfl⟩
abbrev main_c_148 : Ref sig .tc := ⟨.hbm, 694, rfl⟩
abbrev main_v504 : Ref sig .tc := ⟨.hbm, 695, rfl⟩
abbrev main_v505 : Ref sig .tc := ⟨.hbm, 696, rfl⟩
abbrev main_v506 : Ref sig .tc := ⟨.hbm, 697, rfl⟩
abbrev main_v507 : Ref sig .tc := ⟨.hbm, 698, rfl⟩
abbrev main_v508 : Ref sig .tc := ⟨.hbm, 699, rfl⟩
abbrev main_v509 : Ref sig .tc := ⟨.hbm, 700, rfl⟩
abbrev main_v510 : Ref sig .tc := ⟨.hbm, 701, rfl⟩
abbrev main_v511 : Ref sig .tc := ⟨.hbm, 702, rfl⟩
abbrev main_c_149 : Ref sig .tc := ⟨.hbm, 703, rfl⟩
abbrev main_v512 : Ref sig .tc := ⟨.hbm, 704, rfl⟩
abbrev main_v513 : Ref sig .tc := ⟨.hbm, 705, rfl⟩
abbrev main_v514 : Ref sig .tc := ⟨.hbm, 706, rfl⟩
abbrev main_c_150 : Ref sig .tc := ⟨.hbm, 707, rfl⟩
abbrev main_v515 : Ref sig .tc := ⟨.hbm, 708, rfl⟩
abbrev main_v516 : Ref sig .tc := ⟨.hbm, 709, rfl⟩
abbrev main_c_151 : Ref sig .tc := ⟨.hbm, 710, rfl⟩
abbrev main_v517 : Ref sig .tc := ⟨.hbm, 711, rfl⟩
abbrev main_v518 : Ref sig .tc := ⟨.hbm, 712, rfl⟩
abbrev main_v519 : Ref sig .tc := ⟨.hbm, 713, rfl⟩
abbrev main_v520 : Ref sig .tc := ⟨.hbm, 714, rfl⟩
abbrev main_v521 : Ref sig .tc := ⟨.hbm, 715, rfl⟩
abbrev main_c_152 : Ref sig .tc := ⟨.hbm, 716, rfl⟩
abbrev main_v522 : Ref sig .tc := ⟨.hbm, 717, rfl⟩
abbrev main_v523 : Ref sig .tc := ⟨.hbm, 718, rfl⟩
abbrev main_c_153 : Ref sig .tc := ⟨.hbm, 719, rfl⟩
abbrev main_v524 : Ref sig .tc := ⟨.hbm, 720, rfl⟩
abbrev main_v525 : Ref sig .tc := ⟨.hbm, 721, rfl⟩
abbrev main_v526 : Ref sig .tc := ⟨.hbm, 722, rfl⟩
abbrev main_v527 : Ref sig .tc := ⟨.hbm, 723, rfl⟩
abbrev main_v528 : Ref sig .tc := ⟨.hbm, 724, rfl⟩
abbrev main_c_154 : Ref sig .tc := ⟨.hbm, 725, rfl⟩
abbrev main_v529 : Ref sig .tc := ⟨.hbm, 726, rfl⟩
abbrev main_v530 : Ref sig .tc := ⟨.hbm, 727, rfl⟩
abbrev main_c_155 : Ref sig .tc := ⟨.hbm, 728, rfl⟩
abbrev main_v531 : Ref sig .tc := ⟨.hbm, 729, rfl⟩
abbrev main_v532 : Ref sig .tc := ⟨.hbm, 730, rfl⟩
abbrev main_v533 : Ref sig .tc := ⟨.hbm, 731, rfl⟩
abbrev main_v534 : Ref sig .tc := ⟨.hbm, 732, rfl⟩
abbrev main_v535 : Ref sig .tc := ⟨.hbm, 733, rfl⟩
abbrev main_c_156 : Ref sig .tc := ⟨.hbm, 734, rfl⟩
abbrev main_v536 : Ref sig .tc := ⟨.hbm, 735, rfl⟩
abbrev main_v537 : Ref sig .tc := ⟨.hbm, 736, rfl⟩
abbrev main_c_157 : Ref sig .tc := ⟨.hbm, 737, rfl⟩
abbrev main_v538 : Ref sig .tc := ⟨.hbm, 738, rfl⟩
abbrev main_v539 : Ref sig .tc := ⟨.hbm, 739, rfl⟩
abbrev main_v540 : Ref sig .tc := ⟨.hbm, 740, rfl⟩
abbrev main_v541 : Ref sig .tc := ⟨.hbm, 741, rfl⟩
abbrev main_v542 : Ref sig .tc := ⟨.hbm, 742, rfl⟩
abbrev main_v543 : Ref sig .tc := ⟨.hbm, 743, rfl⟩
abbrev main_v544 : Ref sig .tc := ⟨.hbm, 744, rfl⟩
abbrev main_v545 : Ref sig .tc := ⟨.hbm, 745, rfl⟩
abbrev main_c_158 : Ref sig .tc := ⟨.hbm, 746, rfl⟩
abbrev main_v546 : Ref sig .tc := ⟨.hbm, 747, rfl⟩
abbrev main_v547 : Ref sig .tc := ⟨.hbm, 748, rfl⟩
abbrev main_v548 : Ref sig .tc := ⟨.hbm, 749, rfl⟩
abbrev main_c_159 : Ref sig .tc := ⟨.hbm, 750, rfl⟩
abbrev main_v549 : Ref sig .tc := ⟨.hbm, 751, rfl⟩
abbrev main_v550 : Ref sig .tc := ⟨.hbm, 752, rfl⟩
abbrev main_c_160 : Ref sig .tc := ⟨.hbm, 753, rfl⟩
abbrev main_v551 : Ref sig .tc := ⟨.hbm, 754, rfl⟩
abbrev main_v552 : Ref sig .tc := ⟨.hbm, 755, rfl⟩
abbrev main_v553 : Ref sig .tc := ⟨.hbm, 756, rfl⟩
abbrev main_v554 : Ref sig .tc := ⟨.hbm, 757, rfl⟩
abbrev main_v555 : Ref sig .tc := ⟨.hbm, 758, rfl⟩
abbrev main_c_161 : Ref sig .tc := ⟨.hbm, 759, rfl⟩
abbrev main_v556 : Ref sig .tc := ⟨.hbm, 760, rfl⟩
abbrev main_v557 : Ref sig .tc := ⟨.hbm, 761, rfl⟩
abbrev main_c_162 : Ref sig .tc := ⟨.hbm, 762, rfl⟩
abbrev main_v558 : Ref sig .tc := ⟨.hbm, 763, rfl⟩
abbrev main_v559 : Ref sig .tc := ⟨.hbm, 764, rfl⟩
abbrev main_v560 : Ref sig .tc := ⟨.hbm, 765, rfl⟩
abbrev main_v561 : Ref sig .tc := ⟨.hbm, 766, rfl⟩
abbrev main_v562 : Ref sig .tc := ⟨.hbm, 767, rfl⟩
abbrev main_c_163 : Ref sig .tc := ⟨.hbm, 768, rfl⟩
abbrev main_v563 : Ref sig .tc := ⟨.hbm, 769, rfl⟩
abbrev main_v564 : Ref sig .tc := ⟨.hbm, 770, rfl⟩
abbrev main_c_164 : Ref sig .tc := ⟨.hbm, 771, rfl⟩
abbrev main_v565 : Ref sig .tc := ⟨.hbm, 772, rfl⟩
abbrev main_v566 : Ref sig .tc := ⟨.hbm, 773, rfl⟩
abbrev main_v567 : Ref sig .tc := ⟨.hbm, 774, rfl⟩
abbrev main_v568 : Ref sig .tc := ⟨.hbm, 775, rfl⟩
abbrev main_v569 : Ref sig .tc := ⟨.hbm, 776, rfl⟩
abbrev main_c_165 : Ref sig .tc := ⟨.hbm, 777, rfl⟩
abbrev main_v570 : Ref sig .tc := ⟨.hbm, 778, rfl⟩
abbrev main_v571 : Ref sig .tc := ⟨.hbm, 779, rfl⟩
abbrev main_c_166 : Ref sig .tc := ⟨.hbm, 780, rfl⟩
abbrev main_v572 : Ref sig .tc := ⟨.hbm, 781, rfl⟩
abbrev main_v573 : Ref sig .tc := ⟨.hbm, 782, rfl⟩
abbrev main_v574 : Ref sig .tc := ⟨.hbm, 783, rfl⟩
abbrev main_v575 : Ref sig .tc := ⟨.hbm, 784, rfl⟩
abbrev main_v576 : Ref sig .tc := ⟨.hbm, 785, rfl⟩
abbrev main_v577 : Ref sig .tc := ⟨.hbm, 786, rfl⟩
abbrev main_v578 : Ref sig .tc := ⟨.hbm, 787, rfl⟩
abbrev main_v579 : Ref sig .tc := ⟨.hbm, 788, rfl⟩
abbrev main_c_167 : Ref sig .tc := ⟨.hbm, 789, rfl⟩
abbrev main_v580 : Ref sig .tc := ⟨.hbm, 790, rfl⟩
abbrev main_v581 : Ref sig .tc := ⟨.hbm, 791, rfl⟩
abbrev main_v582 : Ref sig .tc := ⟨.hbm, 792, rfl⟩
abbrev main_c_168 : Ref sig .tc := ⟨.hbm, 793, rfl⟩
abbrev main_v583 : Ref sig .tc := ⟨.hbm, 794, rfl⟩
abbrev main_v584 : Ref sig .tc := ⟨.hbm, 795, rfl⟩
abbrev main_c_169 : Ref sig .tc := ⟨.hbm, 796, rfl⟩
abbrev main_v585 : Ref sig .tc := ⟨.hbm, 797, rfl⟩
abbrev main_v586 : Ref sig .tc := ⟨.hbm, 798, rfl⟩
abbrev main_v587 : Ref sig .tc := ⟨.hbm, 799, rfl⟩
abbrev main_v588 : Ref sig .tc := ⟨.hbm, 800, rfl⟩
abbrev main_v589 : Ref sig .tc := ⟨.hbm, 801, rfl⟩
abbrev main_c_170 : Ref sig .tc := ⟨.hbm, 802, rfl⟩
abbrev main_v590 : Ref sig .tc := ⟨.hbm, 803, rfl⟩
abbrev main_v591 : Ref sig .tc := ⟨.hbm, 804, rfl⟩
abbrev main_c_171 : Ref sig .tc := ⟨.hbm, 805, rfl⟩
abbrev main_v592 : Ref sig .tc := ⟨.hbm, 806, rfl⟩
abbrev main_v593 : Ref sig .tc := ⟨.hbm, 807, rfl⟩
abbrev main_v594 : Ref sig .tc := ⟨.hbm, 808, rfl⟩
abbrev main_v595 : Ref sig .tc := ⟨.hbm, 809, rfl⟩
abbrev main_v596 : Ref sig .tc := ⟨.hbm, 810, rfl⟩
abbrev main_c_172 : Ref sig .tc := ⟨.hbm, 811, rfl⟩
abbrev main_v597 : Ref sig .tc := ⟨.hbm, 812, rfl⟩
abbrev main_v598 : Ref sig .tc := ⟨.hbm, 813, rfl⟩
abbrev main_c_173 : Ref sig .tc := ⟨.hbm, 814, rfl⟩
abbrev main_v599 : Ref sig .tc := ⟨.hbm, 815, rfl⟩
abbrev main_v600 : Ref sig .tc := ⟨.hbm, 816, rfl⟩
abbrev main_v601 : Ref sig .tc := ⟨.hbm, 817, rfl⟩
abbrev main_v602 : Ref sig .tc := ⟨.hbm, 818, rfl⟩
abbrev main_v603 : Ref sig .tc := ⟨.hbm, 819, rfl⟩
abbrev main_c_174 : Ref sig .tc := ⟨.hbm, 820, rfl⟩
abbrev main_v604 : Ref sig .tc := ⟨.hbm, 821, rfl⟩
abbrev main_v605 : Ref sig .tc := ⟨.hbm, 822, rfl⟩
abbrev main_c_175 : Ref sig .tc := ⟨.hbm, 823, rfl⟩
abbrev main_v606 : Ref sig .tc := ⟨.hbm, 824, rfl⟩
abbrev main_v607 : Ref sig .tc := ⟨.hbm, 825, rfl⟩
abbrev main_v608 : Ref sig .tc := ⟨.hbm, 826, rfl⟩
abbrev main_v609 : Ref sig .tc := ⟨.hbm, 827, rfl⟩
abbrev main_v610 : Ref sig .tc := ⟨.hbm, 828, rfl⟩
abbrev main_v611 : Ref sig .tc := ⟨.hbm, 829, rfl⟩
abbrev main_v612 : Ref sig .tc := ⟨.hbm, 830, rfl⟩
abbrev main_v613 : Ref sig .tc := ⟨.hbm, 831, rfl⟩
abbrev main_c_176 : Ref sig .tc := ⟨.hbm, 832, rfl⟩
abbrev main_v614 : Ref sig .tc := ⟨.hbm, 833, rfl⟩
abbrev main_v615 : Ref sig .tc := ⟨.hbm, 834, rfl⟩
abbrev main_v616 : Ref sig .tc := ⟨.hbm, 835, rfl⟩
abbrev main_c_177 : Ref sig .tc := ⟨.hbm, 836, rfl⟩
abbrev main_v617 : Ref sig .tc := ⟨.hbm, 837, rfl⟩
abbrev main_v618 : Ref sig .tc := ⟨.hbm, 838, rfl⟩
abbrev main_c_178 : Ref sig .tc := ⟨.hbm, 839, rfl⟩
abbrev main_v619 : Ref sig .tc := ⟨.hbm, 840, rfl⟩
abbrev main_v620 : Ref sig .tc := ⟨.hbm, 841, rfl⟩
abbrev main_v621 : Ref sig .tc := ⟨.hbm, 842, rfl⟩
abbrev main_v622 : Ref sig .tc := ⟨.hbm, 843, rfl⟩
abbrev main_v623 : Ref sig .tc := ⟨.hbm, 844, rfl⟩
abbrev main_c_179 : Ref sig .tc := ⟨.hbm, 845, rfl⟩
abbrev main_v624 : Ref sig .tc := ⟨.hbm, 846, rfl⟩
abbrev main_v625 : Ref sig .tc := ⟨.hbm, 847, rfl⟩
abbrev main_c_180 : Ref sig .tc := ⟨.hbm, 848, rfl⟩
abbrev main_v626 : Ref sig .tc := ⟨.hbm, 849, rfl⟩
abbrev main_v627 : Ref sig .tc := ⟨.hbm, 850, rfl⟩
abbrev main_v628 : Ref sig .tc := ⟨.hbm, 851, rfl⟩
abbrev main_v629 : Ref sig .tc := ⟨.hbm, 852, rfl⟩
abbrev main_v630 : Ref sig .tc := ⟨.hbm, 853, rfl⟩
abbrev main_c_181 : Ref sig .tc := ⟨.hbm, 854, rfl⟩
abbrev main_v631 : Ref sig .tc := ⟨.hbm, 855, rfl⟩
abbrev main_v632 : Ref sig .tc := ⟨.hbm, 856, rfl⟩
abbrev main_c_182 : Ref sig .tc := ⟨.hbm, 857, rfl⟩
abbrev main_v633 : Ref sig .tc := ⟨.hbm, 858, rfl⟩
abbrev main_v634 : Ref sig .tc := ⟨.hbm, 859, rfl⟩
abbrev main_v635 : Ref sig .tc := ⟨.hbm, 860, rfl⟩
abbrev main_v636 : Ref sig .tc := ⟨.hbm, 861, rfl⟩
abbrev main_v637 : Ref sig .tc := ⟨.hbm, 862, rfl⟩
abbrev main_c_183 : Ref sig .tc := ⟨.hbm, 863, rfl⟩
abbrev main_v638 : Ref sig .tc := ⟨.hbm, 864, rfl⟩
abbrev main_v639 : Ref sig .tc := ⟨.hbm, 865, rfl⟩
abbrev main_c_184 : Ref sig .tc := ⟨.hbm, 866, rfl⟩
abbrev main_v640 : Ref sig .tc := ⟨.hbm, 867, rfl⟩
abbrev main_v641 : Ref sig .tc := ⟨.hbm, 868, rfl⟩
abbrev main_v642 : Ref sig .tc := ⟨.hbm, 869, rfl⟩
abbrev main_v643 : Ref sig .tc := ⟨.hbm, 870, rfl⟩
abbrev main_v644 : Ref sig .tc := ⟨.hbm, 871, rfl⟩
abbrev main_v645 : Ref sig .tc := ⟨.hbm, 872, rfl⟩
abbrev main_v646 : Ref sig .tc := ⟨.hbm, 873, rfl⟩
abbrev main_v647 : Ref sig .tc := ⟨.hbm, 874, rfl⟩
abbrev main_c_185 : Ref sig .tc := ⟨.hbm, 875, rfl⟩
abbrev main_v648 : Ref sig .tc := ⟨.hbm, 876, rfl⟩
abbrev main_v649 : Ref sig .tc := ⟨.hbm, 877, rfl⟩
abbrev main_v650 : Ref sig .tc := ⟨.hbm, 878, rfl⟩
abbrev main_c_186 : Ref sig .tc := ⟨.hbm, 879, rfl⟩
abbrev main_v651 : Ref sig .tc := ⟨.hbm, 880, rfl⟩
abbrev main_v652 : Ref sig .tc := ⟨.hbm, 881, rfl⟩
abbrev main_c_187 : Ref sig .tc := ⟨.hbm, 882, rfl⟩
abbrev main_v653 : Ref sig .tc := ⟨.hbm, 883, rfl⟩
abbrev main_v654 : Ref sig .tc := ⟨.hbm, 884, rfl⟩
abbrev main_v655 : Ref sig .tc := ⟨.hbm, 885, rfl⟩
abbrev main_cst_188 : Ref sig .tc := ⟨.hbm, 886, rfl⟩
abbrev main_v656 : Ref sig .tc := ⟨.hbm, 887, rfl⟩
abbrev main_v657 : Ref sig .tc := ⟨.hbm, 888, rfl⟩
abbrev main_cst_189 : Ref sig .tc := ⟨.hbm, 889, rfl⟩
abbrev main_v658 : Ref sig .tc := ⟨.hbm, 890, rfl⟩
abbrev main_v659 : Ref sig .tc := ⟨.hbm, 891, rfl⟩
abbrev main_cst_190 : Ref sig .tc := ⟨.hbm, 892, rfl⟩
abbrev main_v660 : Ref sig .tc := ⟨.hbm, 893, rfl⟩
abbrev main_v661 : Ref sig .tc := ⟨.hbm, 894, rfl⟩
abbrev main_cst_191 : Ref sig .tc := ⟨.hbm, 895, rfl⟩
abbrev main_v662 : Ref sig .tc := ⟨.hbm, 896, rfl⟩
abbrev main_v663 : Ref sig .tc := ⟨.hbm, 897, rfl⟩
abbrev main_v664 : Ref sig .tc := ⟨.hbm, 898, rfl⟩
abbrev main_v665 : Ref sig .tc := ⟨.hbm, 899, rfl⟩
abbrev main_v666 : Ref sig .tc := ⟨.hbm, 900, rfl⟩
abbrev main_v667 : Ref sig .tc := ⟨.hbm, 901, rfl⟩
abbrev main_v668 : Ref sig .tc := ⟨.hbm, 902, rfl⟩
abbrev main_v669 : Ref sig .tc := ⟨.hbm, 903, rfl⟩
abbrev main_v670 : Ref sig .tc := ⟨.hbm, 904, rfl⟩
abbrev main_v671 : Ref sig .tc := ⟨.hbm, 905, rfl⟩
abbrev main_v672 : Ref sig .tc := ⟨.hbm, 906, rfl⟩
abbrev main_v673 : Ref sig .tc := ⟨.hbm, 907, rfl⟩
abbrev main_call13_cst : Ref sig .tc := ⟨.hbm, 908, rfl⟩
abbrev main_call13_v0 : Ref sig .tc := ⟨.hbm, 909, rfl⟩
abbrev main_v674 : Ref sig .tc := ⟨.hbm, 910, rfl⟩
abbrev main_v675 : Ref sig .tc := ⟨.hbm, 911, rfl⟩
abbrev main_v676 : Ref sig .tc := ⟨.hbm, 912, rfl⟩
abbrev main_v677 : Ref sig .tc := ⟨.hbm, 913, rfl⟩
abbrev main_v678 : Ref sig .tc := ⟨.hbm, 914, rfl⟩
abbrev main_call14_cst : Ref sig .tc := ⟨.hbm, 915, rfl⟩
abbrev main_call14_v0 : Ref sig .tc := ⟨.hbm, 916, rfl⟩
abbrev main_v679 : Ref sig .tc := ⟨.hbm, 917, rfl⟩
abbrev main_v680 : Ref sig .tc := ⟨.hbm, 918, rfl⟩
abbrev main_v681 : Ref sig .tc := ⟨.hbm, 919, rfl⟩
abbrev main_v682 : Ref sig .tc := ⟨.hbm, 920, rfl⟩
abbrev main_v683 : Ref sig .tc := ⟨.hbm, 921, rfl⟩
abbrev main_v684 : Ref sig .tc := ⟨.hbm, 922, rfl⟩
abbrev main_v685 : Ref sig .tc := ⟨.hbm, 923, rfl⟩
abbrev main_cst_192 : Ref sig .tc := ⟨.hbm, 924, rfl⟩
abbrev main_v686 : Ref sig .tc := ⟨.hbm, 925, rfl⟩
abbrev main_v687 : Ref sig .tc := ⟨.hbm, 926, rfl⟩
abbrev main_cst_193 : Ref sig .tc := ⟨.hbm, 927, rfl⟩
abbrev main_v688 : Ref sig .tc := ⟨.hbm, 928, rfl⟩
abbrev main_v689 : Ref sig .tc := ⟨.hbm, 929, rfl⟩
abbrev main_v690 : Ref sig .tc := ⟨.hbm, 930, rfl⟩
abbrev main_v691 : Ref sig .tc := ⟨.hbm, 931, rfl⟩
abbrev main_c_194 : Ref sig .tc := ⟨.hbm, 932, rfl⟩
abbrev main_v692 : Ref sig .tc := ⟨.hbm, 933, rfl⟩
abbrev main_v693 : Ref sig .tc := ⟨.hbm, 934, rfl⟩
abbrev main_v694 : Ref sig .tc := ⟨.hbm, 935, rfl⟩
abbrev main_c_195 : Ref sig .tc := ⟨.hbm, 936, rfl⟩
abbrev main_v695 : Ref sig .tc := ⟨.hbm, 937, rfl⟩
abbrev main_v696 : Ref sig .tc := ⟨.hbm, 938, rfl⟩
abbrev main_c_196 : Ref sig .tc := ⟨.hbm, 939, rfl⟩
abbrev main_v697 : Ref sig .tc := ⟨.hbm, 940, rfl⟩
abbrev main_v698 : Ref sig .tc := ⟨.hbm, 941, rfl⟩
abbrev main_v699 : Ref sig .tc := ⟨.hbm, 942, rfl⟩
abbrev main_v700 : Ref sig .tc := ⟨.hbm, 943, rfl⟩
abbrev main_v701 : Ref sig .tc := ⟨.hbm, 944, rfl⟩
abbrev main_v702 : Ref sig .tc := ⟨.hbm, 945, rfl⟩
abbrev main_c_197 : Ref sig .tc := ⟨.hbm, 946, rfl⟩
abbrev main_v703 : Ref sig .tc := ⟨.hbm, 947, rfl⟩
abbrev main_v704 : Ref sig .tc := ⟨.hbm, 948, rfl⟩
abbrev main_c_198 : Ref sig .tc := ⟨.hbm, 949, rfl⟩
abbrev main_v705 : Ref sig .tc := ⟨.hbm, 950, rfl⟩
abbrev main_v706 : Ref sig .tc := ⟨.hbm, 951, rfl⟩
abbrev main_v707 : Ref sig .tc := ⟨.hbm, 952, rfl⟩
abbrev main_v708 : Ref sig .tc := ⟨.hbm, 953, rfl⟩
abbrev main_v709 : Ref sig .tc := ⟨.hbm, 954, rfl⟩
abbrev main_c_199 : Ref sig .tc := ⟨.hbm, 955, rfl⟩
abbrev main_v710 : Ref sig .tc := ⟨.hbm, 956, rfl⟩
abbrev main_v711 : Ref sig .tc := ⟨.hbm, 957, rfl⟩
abbrev main_c_200 : Ref sig .tc := ⟨.hbm, 958, rfl⟩
abbrev main_v712 : Ref sig .tc := ⟨.hbm, 959, rfl⟩
abbrev main_v713 : Ref sig .tc := ⟨.hbm, 960, rfl⟩
abbrev main_v714 : Ref sig .tc := ⟨.hbm, 961, rfl⟩
abbrev main_v715 : Ref sig .tc := ⟨.hbm, 962, rfl⟩
abbrev main_v716 : Ref sig .tc := ⟨.hbm, 963, rfl⟩
abbrev main_c_201 : Ref sig .tc := ⟨.hbm, 964, rfl⟩
abbrev main_v717 : Ref sig .tc := ⟨.hbm, 965, rfl⟩
abbrev main_v718 : Ref sig .tc := ⟨.hbm, 966, rfl⟩
abbrev main_c_202 : Ref sig .tc := ⟨.hbm, 967, rfl⟩
abbrev main_v719 : Ref sig .tc := ⟨.hbm, 968, rfl⟩
abbrev main_v720 : Ref sig .tc := ⟨.hbm, 969, rfl⟩
abbrev main_v721 : Ref sig .tc := ⟨.hbm, 970, rfl⟩
abbrev main_v722 : Ref sig .tc := ⟨.hbm, 971, rfl⟩
abbrev main_v723 : Ref sig .tc := ⟨.hbm, 972, rfl⟩
abbrev main_c_203 : Ref sig .tc := ⟨.hbm, 973, rfl⟩
abbrev main_v724 : Ref sig .tc := ⟨.hbm, 974, rfl⟩
abbrev main_v725 : Ref sig .tc := ⟨.hbm, 975, rfl⟩
abbrev main_c_204 : Ref sig .tc := ⟨.hbm, 976, rfl⟩
abbrev main_v726 : Ref sig .tc := ⟨.hbm, 977, rfl⟩
abbrev main_v727 : Ref sig .tc := ⟨.hbm, 978, rfl⟩
abbrev main_v728 : Ref sig .tc := ⟨.hbm, 979, rfl⟩
abbrev main_v729 : Ref sig .tc := ⟨.hbm, 980, rfl⟩
abbrev main_v730 : Ref sig .tc := ⟨.hbm, 981, rfl⟩
abbrev main_v731 : Ref sig .tc := ⟨.hbm, 982, rfl⟩
abbrev main_v732 : Ref sig .tc := ⟨.hbm, 983, rfl⟩
abbrev main_v733 : Ref sig .tc := ⟨.hbm, 984, rfl⟩
abbrev main_c_205 : Ref sig .tc := ⟨.hbm, 985, rfl⟩
abbrev main_v734 : Ref sig .tc := ⟨.hbm, 986, rfl⟩
abbrev main_v735 : Ref sig .tc := ⟨.hbm, 987, rfl⟩
abbrev main_v736 : Ref sig .tc := ⟨.hbm, 988, rfl⟩
abbrev main_c_206 : Ref sig .tc := ⟨.hbm, 989, rfl⟩
abbrev main_v737 : Ref sig .tc := ⟨.hbm, 990, rfl⟩
abbrev main_v738 : Ref sig .tc := ⟨.hbm, 991, rfl⟩
abbrev main_c_207 : Ref sig .tc := ⟨.hbm, 992, rfl⟩
abbrev main_v739 : Ref sig .tc := ⟨.hbm, 993, rfl⟩
abbrev main_v740 : Ref sig .tc := ⟨.hbm, 994, rfl⟩
abbrev main_v741 : Ref sig .tc := ⟨.hbm, 995, rfl⟩
abbrev main_v742 : Ref sig .tc := ⟨.hbm, 996, rfl⟩
abbrev main_v743 : Ref sig .tc := ⟨.hbm, 997, rfl⟩
abbrev main_c_208 : Ref sig .tc := ⟨.hbm, 998, rfl⟩
abbrev main_v744 : Ref sig .tc := ⟨.hbm, 999, rfl⟩
abbrev main_v745 : Ref sig .tc := ⟨.hbm, 1000, rfl⟩
abbrev main_c_209 : Ref sig .tc := ⟨.hbm, 1001, rfl⟩
abbrev main_v746 : Ref sig .tc := ⟨.hbm, 1002, rfl⟩
abbrev main_v747 : Ref sig .tc := ⟨.hbm, 1003, rfl⟩
abbrev main_v748 : Ref sig .tc := ⟨.hbm, 1004, rfl⟩
abbrev main_v749 : Ref sig .tc := ⟨.hbm, 1005, rfl⟩
abbrev main_v750 : Ref sig .tc := ⟨.hbm, 1006, rfl⟩
abbrev main_c_210 : Ref sig .tc := ⟨.hbm, 1007, rfl⟩
abbrev main_v751 : Ref sig .tc := ⟨.hbm, 1008, rfl⟩
abbrev main_v752 : Ref sig .tc := ⟨.hbm, 1009, rfl⟩
abbrev main_c_211 : Ref sig .tc := ⟨.hbm, 1010, rfl⟩
abbrev main_v753 : Ref sig .tc := ⟨.hbm, 1011, rfl⟩
abbrev main_v754 : Ref sig .tc := ⟨.hbm, 1012, rfl⟩
abbrev main_v755 : Ref sig .tc := ⟨.hbm, 1013, rfl⟩
abbrev main_v756 : Ref sig .tc := ⟨.hbm, 1014, rfl⟩
abbrev main_v757 : Ref sig .tc := ⟨.hbm, 1015, rfl⟩
abbrev main_c_212 : Ref sig .tc := ⟨.hbm, 1016, rfl⟩
abbrev main_v758 : Ref sig .tc := ⟨.hbm, 1017, rfl⟩
abbrev main_v759 : Ref sig .tc := ⟨.hbm, 1018, rfl⟩
abbrev main_c_213 : Ref sig .tc := ⟨.hbm, 1019, rfl⟩
abbrev main_v760 : Ref sig .tc := ⟨.hbm, 1020, rfl⟩
abbrev main_v761 : Ref sig .tc := ⟨.hbm, 1021, rfl⟩
abbrev main_v762 : Ref sig .tc := ⟨.hbm, 1022, rfl⟩
abbrev main_v763 : Ref sig .tc := ⟨.hbm, 1023, rfl⟩
abbrev main_v764 : Ref sig .tc := ⟨.hbm, 1024, rfl⟩
abbrev main_v765 : Ref sig .tc := ⟨.hbm, 1025, rfl⟩
abbrev main_v766 : Ref sig .tc := ⟨.hbm, 1026, rfl⟩
abbrev main_v767 : Ref sig .tc := ⟨.hbm, 1027, rfl⟩
abbrev main_c_214 : Ref sig .tc := ⟨.hbm, 1028, rfl⟩
abbrev main_v768 : Ref sig .tc := ⟨.hbm, 1029, rfl⟩
abbrev main_v769 : Ref sig .tc := ⟨.hbm, 1030, rfl⟩
abbrev main_v770 : Ref sig .tc := ⟨.hbm, 1031, rfl⟩
abbrev main_c_215 : Ref sig .tc := ⟨.hbm, 1032, rfl⟩
abbrev main_v771 : Ref sig .tc := ⟨.hbm, 1033, rfl⟩
abbrev main_v772 : Ref sig .tc := ⟨.hbm, 1034, rfl⟩
abbrev main_c_216 : Ref sig .tc := ⟨.hbm, 1035, rfl⟩
abbrev main_v773 : Ref sig .tc := ⟨.hbm, 1036, rfl⟩
abbrev main_v774 : Ref sig .tc := ⟨.hbm, 1037, rfl⟩
abbrev main_v775 : Ref sig .tc := ⟨.hbm, 1038, rfl⟩
abbrev main_v776 : Ref sig .tc := ⟨.hbm, 1039, rfl⟩
abbrev main_v777 : Ref sig .tc := ⟨.hbm, 1040, rfl⟩
abbrev main_c_217 : Ref sig .tc := ⟨.hbm, 1041, rfl⟩
abbrev main_v778 : Ref sig .tc := ⟨.hbm, 1042, rfl⟩
abbrev main_v779 : Ref sig .tc := ⟨.hbm, 1043, rfl⟩
abbrev main_c_218 : Ref sig .tc := ⟨.hbm, 1044, rfl⟩
abbrev main_v780 : Ref sig .tc := ⟨.hbm, 1045, rfl⟩
abbrev main_v781 : Ref sig .tc := ⟨.hbm, 1046, rfl⟩
abbrev main_v782 : Ref sig .tc := ⟨.hbm, 1047, rfl⟩
abbrev main_v783 : Ref sig .tc := ⟨.hbm, 1048, rfl⟩
abbrev main_v784 : Ref sig .tc := ⟨.hbm, 1049, rfl⟩
abbrev main_c_219 : Ref sig .tc := ⟨.hbm, 1050, rfl⟩
abbrev main_v785 : Ref sig .tc := ⟨.hbm, 1051, rfl⟩
abbrev main_v786 : Ref sig .tc := ⟨.hbm, 1052, rfl⟩
abbrev main_c_220 : Ref sig .tc := ⟨.hbm, 1053, rfl⟩
abbrev main_v787 : Ref sig .tc := ⟨.hbm, 1054, rfl⟩
abbrev main_v788 : Ref sig .tc := ⟨.hbm, 1055, rfl⟩
abbrev main_v789 : Ref sig .tc := ⟨.hbm, 1056, rfl⟩
abbrev main_v790 : Ref sig .tc := ⟨.hbm, 1057, rfl⟩
abbrev main_v791 : Ref sig .tc := ⟨.hbm, 1058, rfl⟩
abbrev main_c_221 : Ref sig .tc := ⟨.hbm, 1059, rfl⟩
abbrev main_v792 : Ref sig .tc := ⟨.hbm, 1060, rfl⟩
abbrev main_v793 : Ref sig .tc := ⟨.hbm, 1061, rfl⟩
abbrev main_c_222 : Ref sig .tc := ⟨.hbm, 1062, rfl⟩
abbrev main_v794 : Ref sig .tc := ⟨.hbm, 1063, rfl⟩
abbrev main_v795 : Ref sig .tc := ⟨.hbm, 1064, rfl⟩
abbrev main_v796 : Ref sig .tc := ⟨.hbm, 1065, rfl⟩
abbrev main_v797 : Ref sig .tc := ⟨.hbm, 1066, rfl⟩
abbrev main_v798 : Ref sig .tc := ⟨.hbm, 1067, rfl⟩
abbrev main_v799 : Ref sig .tc := ⟨.hbm, 1068, rfl⟩
abbrev main_v800 : Ref sig .tc := ⟨.hbm, 1069, rfl⟩
abbrev main_v801 : Ref sig .tc := ⟨.hbm, 1070, rfl⟩
abbrev main_c_223 : Ref sig .tc := ⟨.hbm, 1071, rfl⟩
abbrev main_v802 : Ref sig .tc := ⟨.hbm, 1072, rfl⟩
abbrev main_v803 : Ref sig .tc := ⟨.hbm, 1073, rfl⟩
abbrev main_v804 : Ref sig .tc := ⟨.hbm, 1074, rfl⟩
abbrev main_c_224 : Ref sig .tc := ⟨.hbm, 1075, rfl⟩
abbrev main_v805 : Ref sig .tc := ⟨.hbm, 1076, rfl⟩
abbrev main_v806 : Ref sig .tc := ⟨.hbm, 1077, rfl⟩
abbrev main_c_225 : Ref sig .tc := ⟨.hbm, 1078, rfl⟩
abbrev main_v807 : Ref sig .tc := ⟨.hbm, 1079, rfl⟩
abbrev main_v808 : Ref sig .tc := ⟨.hbm, 1080, rfl⟩
abbrev main_v809 : Ref sig .tc := ⟨.hbm, 1081, rfl⟩
abbrev main_v810 : Ref sig .tc := ⟨.hbm, 1082, rfl⟩
abbrev main_v811 : Ref sig .tc := ⟨.hbm, 1083, rfl⟩
abbrev main_c_226 : Ref sig .tc := ⟨.hbm, 1084, rfl⟩
abbrev main_v812 : Ref sig .tc := ⟨.hbm, 1085, rfl⟩
abbrev main_v813 : Ref sig .tc := ⟨.hbm, 1086, rfl⟩
abbrev main_c_227 : Ref sig .tc := ⟨.hbm, 1087, rfl⟩
abbrev main_v814 : Ref sig .tc := ⟨.hbm, 1088, rfl⟩
abbrev main_v815 : Ref sig .tc := ⟨.hbm, 1089, rfl⟩
abbrev main_v816 : Ref sig .tc := ⟨.hbm, 1090, rfl⟩
abbrev main_v817 : Ref sig .tc := ⟨.hbm, 1091, rfl⟩
abbrev main_v818 : Ref sig .tc := ⟨.hbm, 1092, rfl⟩
abbrev main_c_228 : Ref sig .tc := ⟨.hbm, 1093, rfl⟩
abbrev main_v819 : Ref sig .tc := ⟨.hbm, 1094, rfl⟩
abbrev main_v820 : Ref sig .tc := ⟨.hbm, 1095, rfl⟩
abbrev main_c_229 : Ref sig .tc := ⟨.hbm, 1096, rfl⟩
abbrev main_v821 : Ref sig .tc := ⟨.hbm, 1097, rfl⟩
abbrev main_v822 : Ref sig .tc := ⟨.hbm, 1098, rfl⟩
abbrev main_v823 : Ref sig .tc := ⟨.hbm, 1099, rfl⟩
abbrev main_v824 : Ref sig .tc := ⟨.hbm, 1100, rfl⟩
abbrev main_v825 : Ref sig .tc := ⟨.hbm, 1101, rfl⟩
abbrev main_c_230 : Ref sig .tc := ⟨.hbm, 1102, rfl⟩
abbrev main_v826 : Ref sig .tc := ⟨.hbm, 1103, rfl⟩
abbrev main_v827 : Ref sig .tc := ⟨.hbm, 1104, rfl⟩
abbrev main_c_231 : Ref sig .tc := ⟨.hbm, 1105, rfl⟩
abbrev main_v828 : Ref sig .tc := ⟨.hbm, 1106, rfl⟩
abbrev main_v829 : Ref sig .tc := ⟨.hbm, 1107, rfl⟩
abbrev main_v830 : Ref sig .tc := ⟨.hbm, 1108, rfl⟩
abbrev main_v831 : Ref sig .tc := ⟨.hbm, 1109, rfl⟩
abbrev main_v832 : Ref sig .tc := ⟨.hbm, 1110, rfl⟩
abbrev main_v833 : Ref sig .tc := ⟨.hbm, 1111, rfl⟩
abbrev main_v834 : Ref sig .tc := ⟨.hbm, 1112, rfl⟩
abbrev main_v835 : Ref sig .tc := ⟨.hbm, 1113, rfl⟩
abbrev main_c_232 : Ref sig .tc := ⟨.hbm, 1114, rfl⟩
abbrev main_v836 : Ref sig .tc := ⟨.hbm, 1115, rfl⟩
abbrev main_v837 : Ref sig .tc := ⟨.hbm, 1116, rfl⟩
abbrev main_v838 : Ref sig .tc := ⟨.hbm, 1117, rfl⟩
abbrev main_c_233 : Ref sig .tc := ⟨.hbm, 1118, rfl⟩
abbrev main_v839 : Ref sig .tc := ⟨.hbm, 1119, rfl⟩
abbrev main_v840 : Ref sig .tc := ⟨.hbm, 1120, rfl⟩
abbrev main_c_234 : Ref sig .tc := ⟨.hbm, 1121, rfl⟩
abbrev main_v841 : Ref sig .tc := ⟨.hbm, 1122, rfl⟩
abbrev main_v842 : Ref sig .tc := ⟨.hbm, 1123, rfl⟩
abbrev main_v843 : Ref sig .tc := ⟨.hbm, 1124, rfl⟩
abbrev main_v844 : Ref sig .tc := ⟨.hbm, 1125, rfl⟩
abbrev main_v845 : Ref sig .tc := ⟨.hbm, 1126, rfl⟩
abbrev main_c_235 : Ref sig .tc := ⟨.hbm, 1127, rfl⟩
abbrev main_v846 : Ref sig .tc := ⟨.hbm, 1128, rfl⟩
abbrev main_v847 : Ref sig .tc := ⟨.hbm, 1129, rfl⟩
abbrev main_c_236 : Ref sig .tc := ⟨.hbm, 1130, rfl⟩
abbrev main_v848 : Ref sig .tc := ⟨.hbm, 1131, rfl⟩
abbrev main_v849 : Ref sig .tc := ⟨.hbm, 1132, rfl⟩
abbrev main_v850 : Ref sig .tc := ⟨.hbm, 1133, rfl⟩
abbrev main_v851 : Ref sig .tc := ⟨.hbm, 1134, rfl⟩
abbrev main_v852 : Ref sig .tc := ⟨.hbm, 1135, rfl⟩
abbrev main_c_237 : Ref sig .tc := ⟨.hbm, 1136, rfl⟩
abbrev main_v853 : Ref sig .tc := ⟨.hbm, 1137, rfl⟩
abbrev main_v854 : Ref sig .tc := ⟨.hbm, 1138, rfl⟩
abbrev main_c_238 : Ref sig .tc := ⟨.hbm, 1139, rfl⟩
abbrev main_v855 : Ref sig .tc := ⟨.hbm, 1140, rfl⟩
abbrev main_v856 : Ref sig .tc := ⟨.hbm, 1141, rfl⟩
abbrev main_v857 : Ref sig .tc := ⟨.hbm, 1142, rfl⟩
abbrev main_v858 : Ref sig .tc := ⟨.hbm, 1143, rfl⟩
abbrev main_v859 : Ref sig .tc := ⟨.hbm, 1144, rfl⟩
abbrev main_c_239 : Ref sig .tc := ⟨.hbm, 1145, rfl⟩
abbrev main_v860 : Ref sig .tc := ⟨.hbm, 1146, rfl⟩
abbrev main_v861 : Ref sig .tc := ⟨.hbm, 1147, rfl⟩
abbrev main_c_240 : Ref sig .tc := ⟨.hbm, 1148, rfl⟩
abbrev main_v862 : Ref sig .tc := ⟨.hbm, 1149, rfl⟩
abbrev main_v863 : Ref sig .tc := ⟨.hbm, 1150, rfl⟩
abbrev main_v864 : Ref sig .tc := ⟨.hbm, 1151, rfl⟩
abbrev main_v865 : Ref sig .tc := ⟨.hbm, 1152, rfl⟩
abbrev main_v866 : Ref sig .tc := ⟨.hbm, 1153, rfl⟩
abbrev main_v867 : Ref sig .tc := ⟨.hbm, 1154, rfl⟩
abbrev main_v868 : Ref sig .tc := ⟨.hbm, 1155, rfl⟩
abbrev main_v869 : Ref sig .tc := ⟨.hbm, 1156, rfl⟩
abbrev main_c_241 : Ref sig .tc := ⟨.hbm, 1157, rfl⟩
abbrev main_v870 : Ref sig .tc := ⟨.hbm, 1158, rfl⟩
abbrev main_v871 : Ref sig .tc := ⟨.hbm, 1159, rfl⟩
abbrev main_v872 : Ref sig .tc := ⟨.hbm, 1160, rfl⟩
abbrev main_c_242 : Ref sig .tc := ⟨.hbm, 1161, rfl⟩
abbrev main_v873 : Ref sig .tc := ⟨.hbm, 1162, rfl⟩
abbrev main_v874 : Ref sig .tc := ⟨.hbm, 1163, rfl⟩
abbrev main_c_243 : Ref sig .tc := ⟨.hbm, 1164, rfl⟩
abbrev main_v875 : Ref sig .tc := ⟨.hbm, 1165, rfl⟩
abbrev main_v876 : Ref sig .tc := ⟨.hbm, 1166, rfl⟩
abbrev main_v877 : Ref sig .tc := ⟨.hbm, 1167, rfl⟩
abbrev main_cst_244 : Ref sig .tc := ⟨.hbm, 1168, rfl⟩
abbrev main_v878 : Ref sig .tc := ⟨.hbm, 1169, rfl⟩
abbrev main_v879 : Ref sig .tc := ⟨.hbm, 1170, rfl⟩
abbrev main_cst_245 : Ref sig .tc := ⟨.hbm, 1171, rfl⟩
abbrev main_v880 : Ref sig .tc := ⟨.hbm, 1172, rfl⟩
abbrev main_v881 : Ref sig .tc := ⟨.hbm, 1173, rfl⟩
abbrev main_cst_246 : Ref sig .tc := ⟨.hbm, 1174, rfl⟩
abbrev main_v882 : Ref sig .tc := ⟨.hbm, 1175, rfl⟩
abbrev main_v883 : Ref sig .tc := ⟨.hbm, 1176, rfl⟩
abbrev main_cst_247 : Ref sig .tc := ⟨.hbm, 1177, rfl⟩
abbrev main_v884 : Ref sig .tc := ⟨.hbm, 1178, rfl⟩
abbrev main_v885 : Ref sig .tc := ⟨.hbm, 1179, rfl⟩
abbrev main_v886 : Ref sig .tc := ⟨.hbm, 1180, rfl⟩
abbrev main_v887 : Ref sig .tc := ⟨.hbm, 1181, rfl⟩
abbrev main_v888 : Ref sig .tc := ⟨.hbm, 1182, rfl⟩
abbrev main_v889 : Ref sig .tc := ⟨.hbm, 1183, rfl⟩
abbrev main_cst_248 : Ref sig .tc := ⟨.hbm, 1184, rfl⟩
abbrev main_v890 : Ref sig .tc := ⟨.hbm, 1185, rfl⟩
abbrev main_v891 : Ref sig .tc := ⟨.hbm, 1186, rfl⟩
abbrev main_cst_249 : Ref sig .tc := ⟨.hbm, 1187, rfl⟩
abbrev main_v892 : Ref sig .tc := ⟨.hbm, 1188, rfl⟩
abbrev main_v893 : Ref sig .tc := ⟨.hbm, 1189, rfl⟩
abbrev main_v894 : Ref sig .tc := ⟨.hbm, 1190, rfl⟩
abbrev main_cst_250 : Ref sig .tc := ⟨.hbm, 1191, rfl⟩
abbrev main_v895 : Ref sig .tc := ⟨.hbm, 1192, rfl⟩
abbrev main_v896 : Ref sig .tc := ⟨.hbm, 1193, rfl⟩
abbrev main_v897 : Ref sig .tc := ⟨.hbm, 1194, rfl⟩
abbrev main_cst_251 : Ref sig .tc := ⟨.hbm, 1195, rfl⟩
abbrev main_cst_252 : Ref sig .tc := ⟨.hbm, 1196, rfl⟩
abbrev main_call16_v0 : Ref sig .tc := ⟨.hbm, 1197, rfl⟩
abbrev main_call16_v1 : Ref sig .tc := ⟨.hbm, 1198, rfl⟩
abbrev main_v898 : Ref sig .tc := ⟨.hbm, 1199, rfl⟩
abbrev main_cst_253 : Ref sig .tc := ⟨.hbm, 1200, rfl⟩
abbrev main_cst_254 : Ref sig .tc := ⟨.hbm, 1201, rfl⟩
abbrev main_call17_v0 : Ref sig .tc := ⟨.hbm, 1202, rfl⟩
abbrev main_call17_v1 : Ref sig .tc := ⟨.hbm, 1203, rfl⟩
abbrev main_v899 : Ref sig .tc := ⟨.hbm, 1204, rfl⟩
abbrev main_v900 : Ref sig .tc := ⟨.hbm, 1205, rfl⟩
abbrev main_v901 : Ref sig .tc := ⟨.hbm, 1206, rfl⟩
abbrev main_v902 : Ref sig .tc := ⟨.hbm, 1207, rfl⟩
abbrev main_v903 : Ref sig .tc := ⟨.hbm, 1208, rfl⟩
abbrev main_cst_255 : Ref sig .tc := ⟨.hbm, 1209, rfl⟩
abbrev main_cst_256 : Ref sig .tc := ⟨.hbm, 1210, rfl⟩
abbrev main_call18_v0 : Ref sig .tc := ⟨.hbm, 1211, rfl⟩
abbrev main_call18_v1 : Ref sig .tc := ⟨.hbm, 1212, rfl⟩
abbrev main_v904 : Ref sig .tc := ⟨.hbm, 1213, rfl⟩
abbrev main_v905 : Ref sig .tc := ⟨.hbm, 1214, rfl⟩
abbrev main_v906 : Ref sig .tc := ⟨.hbm, 1215, rfl⟩
abbrev main_v907 : Ref sig .tc := ⟨.hbm, 1216, rfl⟩
abbrev main_cst_257 : Ref sig .tc := ⟨.hbm, 1217, rfl⟩
abbrev main_cst_258 : Ref sig .tc := ⟨.hbm, 1218, rfl⟩
abbrev main_call19_v0 : Ref sig .tc := ⟨.hbm, 1219, rfl⟩
abbrev main_call19_v1 : Ref sig .tc := ⟨.hbm, 1220, rfl⟩
abbrev main_v908 : Ref sig .tc := ⟨.hbm, 1221, rfl⟩
abbrev main_v909 : Ref sig .tc := ⟨.hbm, 1222, rfl⟩
abbrev main_v910 : Ref sig .tc := ⟨.hbm, 1223, rfl⟩
abbrev main_v911 : Ref sig .tc := ⟨.hbm, 1224, rfl⟩
abbrev main_cst_259 : Ref sig .tc := ⟨.hbm, 1225, rfl⟩
abbrev main_cst_260 : Ref sig .tc := ⟨.hbm, 1226, rfl⟩
abbrev main_call20_v0 : Ref sig .tc := ⟨.hbm, 1227, rfl⟩
abbrev main_call20_v1 : Ref sig .tc := ⟨.hbm, 1228, rfl⟩
abbrev main_v912 : Ref sig .tc := ⟨.hbm, 1229, rfl⟩
abbrev main_v913 : Ref sig .tc := ⟨.hbm, 1230, rfl⟩
abbrev main_v914 : Ref sig .tc := ⟨.hbm, 1231, rfl⟩
abbrev main_v915 : Ref sig .tc := ⟨.hbm, 1232, rfl⟩
abbrev main_cst_261 : Ref sig .tc := ⟨.hbm, 1233, rfl⟩
abbrev main_cst_262 : Ref sig .tc := ⟨.hbm, 1234, rfl⟩
abbrev main_call21_v0 : Ref sig .tc := ⟨.hbm, 1235, rfl⟩
abbrev main_call21_v1 : Ref sig .tc := ⟨.hbm, 1236, rfl⟩
abbrev main_v916 : Ref sig .tc := ⟨.hbm, 1237, rfl⟩
abbrev main_v917 : Ref sig .tc := ⟨.hbm, 1238, rfl⟩
abbrev main_v918 : Ref sig .tc := ⟨.hbm, 1239, rfl⟩
abbrev main_v919 : Ref sig .tc := ⟨.hbm, 1240, rfl⟩
abbrev main_cst_263 : Ref sig .tc := ⟨.hbm, 1241, rfl⟩
abbrev main_cst_264 : Ref sig .tc := ⟨.hbm, 1242, rfl⟩
abbrev main_call22_v0 : Ref sig .tc := ⟨.hbm, 1243, rfl⟩
abbrev main_call22_v1 : Ref sig .tc := ⟨.hbm, 1244, rfl⟩
abbrev main_v920 : Ref sig .tc := ⟨.hbm, 1245, rfl⟩
abbrev main_v921 : Ref sig .tc := ⟨.hbm, 1246, rfl⟩
abbrev main_v922 : Ref sig .tc := ⟨.hbm, 1247, rfl⟩
abbrev main_v923 : Ref sig .tc := ⟨.hbm, 1248, rfl⟩
abbrev main_cst_265 : Ref sig .tc := ⟨.hbm, 1249, rfl⟩
abbrev main_cst_266 : Ref sig .tc := ⟨.hbm, 1250, rfl⟩
abbrev main_call23_v0 : Ref sig .tc := ⟨.hbm, 1251, rfl⟩
abbrev main_call23_v1 : Ref sig .tc := ⟨.hbm, 1252, rfl⟩
abbrev main_v924 : Ref sig .tc := ⟨.hbm, 1253, rfl⟩
abbrev main_v925 : Ref sig .tc := ⟨.hbm, 1254, rfl⟩
abbrev main_v926 : Ref sig .tc := ⟨.hbm, 1255, rfl⟩
abbrev main_v927 : Ref sig .tc := ⟨.hbm, 1256, rfl⟩
abbrev main_cst_267 : Ref sig .tc := ⟨.hbm, 1257, rfl⟩
abbrev main_cst_268 : Ref sig .tc := ⟨.hbm, 1258, rfl⟩
abbrev main_call24_v0 : Ref sig .tc := ⟨.hbm, 1259, rfl⟩
abbrev main_call24_v1 : Ref sig .tc := ⟨.hbm, 1260, rfl⟩
abbrev main_v928 : Ref sig .tc := ⟨.hbm, 1261, rfl⟩
abbrev main_v929 : Ref sig .tc := ⟨.hbm, 1262, rfl⟩
abbrev main_v930 : Ref sig .tc := ⟨.hbm, 1263, rfl⟩
abbrev main_v931 : Ref sig .tc := ⟨.hbm, 1264, rfl⟩
abbrev main_v932 : Ref sig .tc := ⟨.hbm, 1265, rfl⟩
abbrev main_cst_269 : Ref sig .tc := ⟨.hbm, 1266, rfl⟩
abbrev main_v933 : Ref sig .tc := ⟨.hbm, 1267, rfl⟩
abbrev main_v934 : Ref sig .tc := ⟨.hbm, 1268, rfl⟩
abbrev main_cst_270 : Ref sig .tc := ⟨.hbm, 1269, rfl⟩
abbrev main_v935 : Ref sig .tc := ⟨.hbm, 1270, rfl⟩
abbrev main_v936 : Ref sig .tc := ⟨.hbm, 1271, rfl⟩
abbrev main_cst_271 : Ref sig .tc := ⟨.hbm, 1272, rfl⟩
abbrev main_v937 : Ref sig .tc := ⟨.hbm, 1273, rfl⟩
abbrev main_v938 : Ref sig .tc := ⟨.hbm, 1274, rfl⟩
abbrev main_v939 : Ref sig .tc := ⟨.hbm, 1275, rfl⟩
abbrev main_cst_272 : Ref sig .tc := ⟨.hbm, 1276, rfl⟩
abbrev main_cst_273 : Ref sig .tc := ⟨.hbm, 1277, rfl⟩
abbrev main_call25_v0 : Ref sig .tc := ⟨.hbm, 1278, rfl⟩
abbrev main_call25_v1 : Ref sig .tc := ⟨.hbm, 1279, rfl⟩
abbrev main_call25_v2 : Ref sig .tc := ⟨.hbm, 1280, rfl⟩
abbrev main_call25_v3 : Ref sig .tc := ⟨.hbm, 1281, rfl⟩
abbrev main_call25_v4 : Ref sig .tc := ⟨.hbm, 1282, rfl⟩
abbrev main_v940 : Ref sig .tc := ⟨.hbm, 1283, rfl⟩
abbrev main_cst_274 : Ref sig .tc := ⟨.hbm, 1284, rfl⟩
abbrev main_v941 : Ref sig .tc := ⟨.hbm, 1285, rfl⟩
abbrev main_v942 : Ref sig .tc := ⟨.hbm, 1286, rfl⟩
abbrev main_v943 : Ref sig .tc := ⟨.hbm, 1287, rfl⟩
abbrev main_v944 : Ref sig .tc := ⟨.hbm, 1288, rfl⟩
abbrev main_v945 : Ref sig .tc := ⟨.hbm, 1289, rfl⟩
abbrev main_c_275 : Ref sig .tc := ⟨.hbm, 1290, rfl⟩
abbrev main_v946 : Ref sig .tc := ⟨.hbm, 1291, rfl⟩
abbrev main_v947 : Ref sig .tc := ⟨.hbm, 1292, rfl⟩
abbrev main_v948 : Ref sig .tc := ⟨.hbm, 1293, rfl⟩
abbrev main_c_276 : Ref sig .tc := ⟨.hbm, 1294, rfl⟩
abbrev main_v949 : Ref sig .tc := ⟨.hbm, 1295, rfl⟩
abbrev main_v950 : Ref sig .tc := ⟨.hbm, 1296, rfl⟩
abbrev main_c_277 : Ref sig .tc := ⟨.hbm, 1297, rfl⟩
abbrev main_v951 : Ref sig .tc := ⟨.hbm, 1298, rfl⟩
abbrev main_v952 : Ref sig .tc := ⟨.hbm, 1299, rfl⟩
abbrev main_v953 : Ref sig .tc := ⟨.hbm, 1300, rfl⟩
abbrev main_v954 : Ref sig .tc := ⟨.hbm, 1301, rfl⟩
abbrev main_v955 : Ref sig .tc := ⟨.hbm, 1302, rfl⟩
abbrev main_v956 : Ref sig .tc := ⟨.hbm, 1303, rfl⟩
abbrev main_c_278 : Ref sig .tc := ⟨.hbm, 1304, rfl⟩
abbrev main_v957 : Ref sig .tc := ⟨.hbm, 1305, rfl⟩
abbrev main_v958 : Ref sig .tc := ⟨.hbm, 1306, rfl⟩
abbrev main_c_279 : Ref sig .tc := ⟨.hbm, 1307, rfl⟩
abbrev main_v959 : Ref sig .tc := ⟨.hbm, 1308, rfl⟩
abbrev main_v960 : Ref sig .tc := ⟨.hbm, 1309, rfl⟩
abbrev main_v961 : Ref sig .tc := ⟨.hbm, 1310, rfl⟩
abbrev main_v962 : Ref sig .tc := ⟨.hbm, 1311, rfl⟩
abbrev main_v963 : Ref sig .tc := ⟨.hbm, 1312, rfl⟩
abbrev main_c_280 : Ref sig .tc := ⟨.hbm, 1313, rfl⟩
abbrev main_v964 : Ref sig .tc := ⟨.hbm, 1314, rfl⟩
abbrev main_v965 : Ref sig .tc := ⟨.hbm, 1315, rfl⟩
abbrev main_c_281 : Ref sig .tc := ⟨.hbm, 1316, rfl⟩
abbrev main_v966 : Ref sig .tc := ⟨.hbm, 1317, rfl⟩
abbrev main_v967 : Ref sig .tc := ⟨.hbm, 1318, rfl⟩
abbrev main_v968 : Ref sig .tc := ⟨.hbm, 1319, rfl⟩
abbrev main_v969 : Ref sig .tc := ⟨.hbm, 1320, rfl⟩
abbrev main_v970 : Ref sig .tc := ⟨.hbm, 1321, rfl⟩
abbrev main_c_282 : Ref sig .tc := ⟨.hbm, 1322, rfl⟩
abbrev main_v971 : Ref sig .tc := ⟨.hbm, 1323, rfl⟩
abbrev main_v972 : Ref sig .tc := ⟨.hbm, 1324, rfl⟩
abbrev main_c_283 : Ref sig .tc := ⟨.hbm, 1325, rfl⟩
abbrev main_v973 : Ref sig .tc := ⟨.hbm, 1326, rfl⟩
abbrev main_v974 : Ref sig .tc := ⟨.hbm, 1327, rfl⟩
abbrev main_v975 : Ref sig .tc := ⟨.hbm, 1328, rfl⟩
abbrev main_v976 : Ref sig .tc := ⟨.hbm, 1329, rfl⟩
abbrev main_v977 : Ref sig .tc := ⟨.hbm, 1330, rfl⟩
abbrev main_c_284 : Ref sig .tc := ⟨.hbm, 1331, rfl⟩
abbrev main_v978 : Ref sig .tc := ⟨.hbm, 1332, rfl⟩
abbrev main_v979 : Ref sig .tc := ⟨.hbm, 1333, rfl⟩
abbrev main_c_285 : Ref sig .tc := ⟨.hbm, 1334, rfl⟩
abbrev main_v980 : Ref sig .tc := ⟨.hbm, 1335, rfl⟩
abbrev main_v981 : Ref sig .tc := ⟨.hbm, 1336, rfl⟩
abbrev main_v982 : Ref sig .tc := ⟨.hbm, 1337, rfl⟩
abbrev main_v983 : Ref sig .tc := ⟨.hbm, 1338, rfl⟩
abbrev main_v984 : Ref sig .tc := ⟨.hbm, 1339, rfl⟩
abbrev main_v985 : Ref sig .tc := ⟨.hbm, 1340, rfl⟩
abbrev main_v986 : Ref sig .tc := ⟨.hbm, 1341, rfl⟩
abbrev main_v987 : Ref sig .tc := ⟨.hbm, 1342, rfl⟩
abbrev main_c_286 : Ref sig .tc := ⟨.hbm, 1343, rfl⟩
abbrev main_v988 : Ref sig .tc := ⟨.hbm, 1344, rfl⟩
abbrev main_v989 : Ref sig .tc := ⟨.hbm, 1345, rfl⟩
abbrev main_v990 : Ref sig .tc := ⟨.hbm, 1346, rfl⟩
abbrev main_c_287 : Ref sig .tc := ⟨.hbm, 1347, rfl⟩
abbrev main_v991 : Ref sig .tc := ⟨.hbm, 1348, rfl⟩
abbrev main_v992 : Ref sig .tc := ⟨.hbm, 1349, rfl⟩
abbrev main_c_288 : Ref sig .tc := ⟨.hbm, 1350, rfl⟩
abbrev main_v993 : Ref sig .tc := ⟨.hbm, 1351, rfl⟩
abbrev main_v994 : Ref sig .tc := ⟨.hbm, 1352, rfl⟩
abbrev main_v995 : Ref sig .tc := ⟨.hbm, 1353, rfl⟩
abbrev main_v996 : Ref sig .tc := ⟨.hbm, 1354, rfl⟩
abbrev main_v997 : Ref sig .tc := ⟨.hbm, 1355, rfl⟩
abbrev main_c_289 : Ref sig .tc := ⟨.hbm, 1356, rfl⟩
abbrev main_v998 : Ref sig .tc := ⟨.hbm, 1357, rfl⟩
abbrev main_v999 : Ref sig .tc := ⟨.hbm, 1358, rfl⟩
abbrev main_c_290 : Ref sig .tc := ⟨.hbm, 1359, rfl⟩
abbrev main_v1000 : Ref sig .tc := ⟨.hbm, 1360, rfl⟩
abbrev main_v1001 : Ref sig .tc := ⟨.hbm, 1361, rfl⟩
abbrev main_v1002 : Ref sig .tc := ⟨.hbm, 1362, rfl⟩
abbrev main_v1003 : Ref sig .tc := ⟨.hbm, 1363, rfl⟩
abbrev main_v1004 : Ref sig .tc := ⟨.hbm, 1364, rfl⟩
abbrev main_c_291 : Ref sig .tc := ⟨.hbm, 1365, rfl⟩
abbrev main_v1005 : Ref sig .tc := ⟨.hbm, 1366, rfl⟩
abbrev main_v1006 : Ref sig .tc := ⟨.hbm, 1367, rfl⟩
abbrev main_c_292 : Ref sig .tc := ⟨.hbm, 1368, rfl⟩
abbrev main_v1007 : Ref sig .tc := ⟨.hbm, 1369, rfl⟩
abbrev main_v1008 : Ref sig .tc := ⟨.hbm, 1370, rfl⟩
abbrev main_v1009 : Ref sig .tc := ⟨.hbm, 1371, rfl⟩
abbrev main_v1010 : Ref sig .tc := ⟨.hbm, 1372, rfl⟩
abbrev main_v1011 : Ref sig .tc := ⟨.hbm, 1373, rfl⟩
abbrev main_c_293 : Ref sig .tc := ⟨.hbm, 1374, rfl⟩
abbrev main_v1012 : Ref sig .tc := ⟨.hbm, 1375, rfl⟩
abbrev main_v1013 : Ref sig .tc := ⟨.hbm, 1376, rfl⟩
abbrev main_c_294 : Ref sig .tc := ⟨.hbm, 1377, rfl⟩
abbrev main_v1014 : Ref sig .tc := ⟨.hbm, 1378, rfl⟩
abbrev main_v1015 : Ref sig .tc := ⟨.hbm, 1379, rfl⟩
abbrev main_v1016 : Ref sig .tc := ⟨.hbm, 1380, rfl⟩
abbrev main_v1017 : Ref sig .tc := ⟨.hbm, 1381, rfl⟩
abbrev main_v1018 : Ref sig .tc := ⟨.hbm, 1382, rfl⟩
abbrev main_v1019 : Ref sig .tc := ⟨.hbm, 1383, rfl⟩
abbrev main_v1020 : Ref sig .tc := ⟨.hbm, 1384, rfl⟩
abbrev main_v1021 : Ref sig .tc := ⟨.hbm, 1385, rfl⟩
abbrev main_c_295 : Ref sig .tc := ⟨.hbm, 1386, rfl⟩
abbrev main_v1022 : Ref sig .tc := ⟨.hbm, 1387, rfl⟩
abbrev main_v1023 : Ref sig .tc := ⟨.hbm, 1388, rfl⟩
abbrev main_v1024 : Ref sig .tc := ⟨.hbm, 1389, rfl⟩
abbrev main_c_296 : Ref sig .tc := ⟨.hbm, 1390, rfl⟩
abbrev main_v1025 : Ref sig .tc := ⟨.hbm, 1391, rfl⟩
abbrev main_v1026 : Ref sig .tc := ⟨.hbm, 1392, rfl⟩
abbrev main_c_297 : Ref sig .tc := ⟨.hbm, 1393, rfl⟩
abbrev main_v1027 : Ref sig .tc := ⟨.hbm, 1394, rfl⟩
abbrev main_v1028 : Ref sig .tc := ⟨.hbm, 1395, rfl⟩
abbrev main_v1029 : Ref sig .tc := ⟨.hbm, 1396, rfl⟩
abbrev main_v1030 : Ref sig .tc := ⟨.hbm, 1397, rfl⟩
abbrev main_v1031 : Ref sig .tc := ⟨.hbm, 1398, rfl⟩
abbrev main_c_298 : Ref sig .tc := ⟨.hbm, 1399, rfl⟩
abbrev main_v1032 : Ref sig .tc := ⟨.hbm, 1400, rfl⟩
abbrev main_v1033 : Ref sig .tc := ⟨.hbm, 1401, rfl⟩
abbrev main_c_299 : Ref sig .tc := ⟨.hbm, 1402, rfl⟩
abbrev main_v1034 : Ref sig .tc := ⟨.hbm, 1403, rfl⟩
abbrev main_v1035 : Ref sig .tc := ⟨.hbm, 1404, rfl⟩
abbrev main_v1036 : Ref sig .tc := ⟨.hbm, 1405, rfl⟩
abbrev main_v1037 : Ref sig .tc := ⟨.hbm, 1406, rfl⟩
abbrev main_v1038 : Ref sig .tc := ⟨.hbm, 1407, rfl⟩
abbrev main_c_300 : Ref sig .tc := ⟨.hbm, 1408, rfl⟩
abbrev main_v1039 : Ref sig .tc := ⟨.hbm, 1409, rfl⟩
abbrev main_v1040 : Ref sig .tc := ⟨.hbm, 1410, rfl⟩
abbrev main_c_301 : Ref sig .tc := ⟨.hbm, 1411, rfl⟩
abbrev main_v1041 : Ref sig .tc := ⟨.hbm, 1412, rfl⟩
abbrev main_v1042 : Ref sig .tc := ⟨.hbm, 1413, rfl⟩
abbrev main_v1043 : Ref sig .tc := ⟨.hbm, 1414, rfl⟩
abbrev main_v1044 : Ref sig .tc := ⟨.hbm, 1415, rfl⟩
abbrev main_v1045 : Ref sig .tc := ⟨.hbm, 1416, rfl⟩
abbrev main_c_302 : Ref sig .tc := ⟨.hbm, 1417, rfl⟩
abbrev main_v1046 : Ref sig .tc := ⟨.hbm, 1418, rfl⟩
abbrev main_v1047 : Ref sig .tc := ⟨.hbm, 1419, rfl⟩
abbrev main_c_303 : Ref sig .tc := ⟨.hbm, 1420, rfl⟩
abbrev main_v1048 : Ref sig .tc := ⟨.hbm, 1421, rfl⟩
abbrev main_v1049 : Ref sig .tc := ⟨.hbm, 1422, rfl⟩
abbrev main_v1050 : Ref sig .tc := ⟨.hbm, 1423, rfl⟩
abbrev main_v1051 : Ref sig .tc := ⟨.hbm, 1424, rfl⟩
abbrev main_v1052 : Ref sig .tc := ⟨.hbm, 1425, rfl⟩
abbrev main_v1053 : Ref sig .tc := ⟨.hbm, 1426, rfl⟩
abbrev main_v1054 : Ref sig .tc := ⟨.hbm, 1427, rfl⟩
abbrev main_v1055 : Ref sig .tc := ⟨.hbm, 1428, rfl⟩
abbrev main_c_304 : Ref sig .tc := ⟨.hbm, 1429, rfl⟩
abbrev main_v1056 : Ref sig .tc := ⟨.hbm, 1430, rfl⟩
abbrev main_v1057 : Ref sig .tc := ⟨.hbm, 1431, rfl⟩
abbrev main_v1058 : Ref sig .tc := ⟨.hbm, 1432, rfl⟩
abbrev main_c_305 : Ref sig .tc := ⟨.hbm, 1433, rfl⟩
abbrev main_v1059 : Ref sig .tc := ⟨.hbm, 1434, rfl⟩
abbrev main_v1060 : Ref sig .tc := ⟨.hbm, 1435, rfl⟩
abbrev main_c_306 : Ref sig .tc := ⟨.hbm, 1436, rfl⟩
abbrev main_v1061 : Ref sig .tc := ⟨.hbm, 1437, rfl⟩
abbrev main_v1062 : Ref sig .tc := ⟨.hbm, 1438, rfl⟩
abbrev main_v1063 : Ref sig .tc := ⟨.hbm, 1439, rfl⟩
abbrev main_v1064 : Ref sig .tc := ⟨.hbm, 1440, rfl⟩
abbrev main_v1065 : Ref sig .tc := ⟨.hbm, 1441, rfl⟩
abbrev main_c_307 : Ref sig .tc := ⟨.hbm, 1442, rfl⟩
abbrev main_v1066 : Ref sig .tc := ⟨.hbm, 1443, rfl⟩
abbrev main_v1067 : Ref sig .tc := ⟨.hbm, 1444, rfl⟩
abbrev main_c_308 : Ref sig .tc := ⟨.hbm, 1445, rfl⟩
abbrev main_v1068 : Ref sig .tc := ⟨.hbm, 1446, rfl⟩
abbrev main_v1069 : Ref sig .tc := ⟨.hbm, 1447, rfl⟩
abbrev main_v1070 : Ref sig .tc := ⟨.hbm, 1448, rfl⟩
abbrev main_v1071 : Ref sig .tc := ⟨.hbm, 1449, rfl⟩
abbrev main_v1072 : Ref sig .tc := ⟨.hbm, 1450, rfl⟩
abbrev main_c_309 : Ref sig .tc := ⟨.hbm, 1451, rfl⟩
abbrev main_v1073 : Ref sig .tc := ⟨.hbm, 1452, rfl⟩
abbrev main_v1074 : Ref sig .tc := ⟨.hbm, 1453, rfl⟩
abbrev main_c_310 : Ref sig .tc := ⟨.hbm, 1454, rfl⟩
abbrev main_v1075 : Ref sig .tc := ⟨.hbm, 1455, rfl⟩
abbrev main_v1076 : Ref sig .tc := ⟨.hbm, 1456, rfl⟩
abbrev main_v1077 : Ref sig .tc := ⟨.hbm, 1457, rfl⟩
abbrev main_v1078 : Ref sig .tc := ⟨.hbm, 1458, rfl⟩
abbrev main_v1079 : Ref sig .tc := ⟨.hbm, 1459, rfl⟩
abbrev main_c_311 : Ref sig .tc := ⟨.hbm, 1460, rfl⟩
abbrev main_v1080 : Ref sig .tc := ⟨.hbm, 1461, rfl⟩
abbrev main_v1081 : Ref sig .tc := ⟨.hbm, 1462, rfl⟩
abbrev main_c_312 : Ref sig .tc := ⟨.hbm, 1463, rfl⟩
abbrev main_v1082 : Ref sig .tc := ⟨.hbm, 1464, rfl⟩
abbrev main_v1083 : Ref sig .tc := ⟨.hbm, 1465, rfl⟩
abbrev main_v1084 : Ref sig .tc := ⟨.hbm, 1466, rfl⟩
abbrev main_v1085 : Ref sig .tc := ⟨.hbm, 1467, rfl⟩
abbrev main_v1086 : Ref sig .tc := ⟨.hbm, 1468, rfl⟩
abbrev main_v1087 : Ref sig .tc := ⟨.hbm, 1469, rfl⟩
abbrev main_v1088 : Ref sig .tc := ⟨.hbm, 1470, rfl⟩
abbrev main_v1089 : Ref sig .tc := ⟨.hbm, 1471, rfl⟩
abbrev main_c_313 : Ref sig .tc := ⟨.hbm, 1472, rfl⟩
abbrev main_v1090 : Ref sig .tc := ⟨.hbm, 1473, rfl⟩
abbrev main_v1091 : Ref sig .tc := ⟨.hbm, 1474, rfl⟩
abbrev main_v1092 : Ref sig .tc := ⟨.hbm, 1475, rfl⟩
abbrev main_c_314 : Ref sig .tc := ⟨.hbm, 1476, rfl⟩
abbrev main_v1093 : Ref sig .tc := ⟨.hbm, 1477, rfl⟩
abbrev main_v1094 : Ref sig .tc := ⟨.hbm, 1478, rfl⟩
abbrev main_c_315 : Ref sig .tc := ⟨.hbm, 1479, rfl⟩
abbrev main_v1095 : Ref sig .tc := ⟨.hbm, 1480, rfl⟩
abbrev main_v1096 : Ref sig .tc := ⟨.hbm, 1481, rfl⟩
abbrev main_v1097 : Ref sig .tc := ⟨.hbm, 1482, rfl⟩
abbrev main_v1098 : Ref sig .tc := ⟨.hbm, 1483, rfl⟩
abbrev main_v1099 : Ref sig .tc := ⟨.hbm, 1484, rfl⟩
abbrev main_c_316 : Ref sig .tc := ⟨.hbm, 1485, rfl⟩
abbrev main_v1100 : Ref sig .tc := ⟨.hbm, 1486, rfl⟩
abbrev main_v1101 : Ref sig .tc := ⟨.hbm, 1487, rfl⟩
abbrev main_c_317 : Ref sig .tc := ⟨.hbm, 1488, rfl⟩
abbrev main_v1102 : Ref sig .tc := ⟨.hbm, 1489, rfl⟩
abbrev main_v1103 : Ref sig .tc := ⟨.hbm, 1490, rfl⟩
abbrev main_v1104 : Ref sig .tc := ⟨.hbm, 1491, rfl⟩
abbrev main_v1105 : Ref sig .tc := ⟨.hbm, 1492, rfl⟩
abbrev main_v1106 : Ref sig .tc := ⟨.hbm, 1493, rfl⟩
abbrev main_c_318 : Ref sig .tc := ⟨.hbm, 1494, rfl⟩
abbrev main_v1107 : Ref sig .tc := ⟨.hbm, 1495, rfl⟩
abbrev main_v1108 : Ref sig .tc := ⟨.hbm, 1496, rfl⟩
abbrev main_c_319 : Ref sig .tc := ⟨.hbm, 1497, rfl⟩
abbrev main_v1109 : Ref sig .tc := ⟨.hbm, 1498, rfl⟩
abbrev main_v1110 : Ref sig .tc := ⟨.hbm, 1499, rfl⟩
abbrev main_v1111 : Ref sig .tc := ⟨.hbm, 1500, rfl⟩
abbrev main_v1112 : Ref sig .tc := ⟨.hbm, 1501, rfl⟩
abbrev main_v1113 : Ref sig .tc := ⟨.hbm, 1502, rfl⟩
abbrev main_c_320 : Ref sig .tc := ⟨.hbm, 1503, rfl⟩
abbrev main_v1114 : Ref sig .tc := ⟨.hbm, 1504, rfl⟩
abbrev main_v1115 : Ref sig .tc := ⟨.hbm, 1505, rfl⟩
abbrev main_c_321 : Ref sig .tc := ⟨.hbm, 1506, rfl⟩
abbrev main_v1116 : Ref sig .tc := ⟨.hbm, 1507, rfl⟩
abbrev main_v1117 : Ref sig .tc := ⟨.hbm, 1508, rfl⟩
abbrev main_v1118 : Ref sig .tc := ⟨.hbm, 1509, rfl⟩
abbrev main_v1119 : Ref sig .tc := ⟨.hbm, 1510, rfl⟩
abbrev main_v1120 : Ref sig .tc := ⟨.hbm, 1511, rfl⟩
abbrev main_v1121 : Ref sig .tc := ⟨.hbm, 1512, rfl⟩
abbrev main_v1122 : Ref sig .tc := ⟨.hbm, 1513, rfl⟩
abbrev main_v1123 : Ref sig .tc := ⟨.hbm, 1514, rfl⟩
abbrev main_c_322 : Ref sig .tc := ⟨.hbm, 1515, rfl⟩
abbrev main_v1124 : Ref sig .tc := ⟨.hbm, 1516, rfl⟩
abbrev main_v1125 : Ref sig .tc := ⟨.hbm, 1517, rfl⟩
abbrev main_v1126 : Ref sig .tc := ⟨.hbm, 1518, rfl⟩
abbrev main_c_323 : Ref sig .tc := ⟨.hbm, 1519, rfl⟩
abbrev main_v1127 : Ref sig .tc := ⟨.hbm, 1520, rfl⟩
abbrev main_v1128 : Ref sig .tc := ⟨.hbm, 1521, rfl⟩
abbrev main_c_324 : Ref sig .tc := ⟨.hbm, 1522, rfl⟩
abbrev main_v1129 : Ref sig .tc := ⟨.hbm, 1523, rfl⟩
abbrev main_v1130 : Ref sig .tc := ⟨.hbm, 1524, rfl⟩
abbrev main_v1131 : Ref sig .tc := ⟨.hbm, 1525, rfl⟩
abbrev main_cst_325 : Ref sig .tc := ⟨.hbm, 1526, rfl⟩
abbrev main_v1132 : Ref sig .tc := ⟨.hbm, 1527, rfl⟩
abbrev main_v1133 : Ref sig .tc := ⟨.hbm, 1528, rfl⟩
abbrev main_cst_326 : Ref sig .tc := ⟨.hbm, 1529, rfl⟩
abbrev main_v1134 : Ref sig .tc := ⟨.hbm, 1530, rfl⟩
abbrev main_v1135 : Ref sig .tc := ⟨.hbm, 1531, rfl⟩
abbrev main_cst_327 : Ref sig .tc := ⟨.hbm, 1532, rfl⟩
abbrev main_v1136 : Ref sig .tc := ⟨.hbm, 1533, rfl⟩
abbrev main_v1137 : Ref sig .tc := ⟨.hbm, 1534, rfl⟩
abbrev main_cst_328 : Ref sig .tc := ⟨.hbm, 1535, rfl⟩
abbrev main_v1138 : Ref sig .tc := ⟨.hbm, 1536, rfl⟩
abbrev main_v1139 : Ref sig .tc := ⟨.hbm, 1537, rfl⟩
abbrev main_v1140 : Ref sig .tc := ⟨.hbm, 1538, rfl⟩
abbrev main_v1141 : Ref sig .tc := ⟨.hbm, 1539, rfl⟩
abbrev main_v1142 : Ref sig .tc := ⟨.hbm, 1540, rfl⟩
abbrev main_v1143 : Ref sig .tc := ⟨.hbm, 1541, rfl⟩
abbrev main_v1144 : Ref sig .tc := ⟨.hbm, 1542, rfl⟩
abbrev main_v1145 : Ref sig .tc := ⟨.hbm, 1543, rfl⟩
abbrev main_cst_329 : Ref sig .tc := ⟨.hbm, 1544, rfl⟩
abbrev main_v1146 : Ref sig .tc := ⟨.hbm, 1545, rfl⟩
abbrev main_v1147 : Ref sig .tc := ⟨.hbm, 1546, rfl⟩
abbrev main_v1148 : Ref sig .tc := ⟨.hbm, 1547, rfl⟩
abbrev main_v1149 : Ref sig .tc := ⟨.hbm, 1548, rfl⟩
abbrev main_v1150 : Ref sig .tc := ⟨.hbm, 1549, rfl⟩
abbrev main_c_330 : Ref sig .tc := ⟨.hbm, 1550, rfl⟩
abbrev main_call26_v0 : Ref sig .tc := ⟨.hbm, 1551, rfl⟩
abbrev main_call26_v1 : Ref sig .tc := ⟨.hbm, 1552, rfl⟩
abbrev main_v1151 : Ref sig .tc := ⟨.hbm, 1553, rfl⟩
abbrev main_c_331 : Ref sig .tc := ⟨.hbm, 1554, rfl⟩
abbrev main_v1152 : Ref sig .tc := ⟨.hbm, 1555, rfl⟩
abbrev main_v1153 : Ref sig .tc := ⟨.hbm, 1556, rfl⟩
abbrev main_cst_332 : Ref sig .tc := ⟨.hbm, 1557, rfl⟩
abbrev main_v1154 : Ref sig .tc := ⟨.hbm, 1558, rfl⟩
abbrev main_v1155 : Ref sig .tc := ⟨.hbm, 1559, rfl⟩
abbrev main_v1156 : Ref sig .tc := ⟨.hbm, 1560, rfl⟩
abbrev main_v1157 : Ref sig .tc := ⟨.hbm, 1561, rfl⟩
abbrev main_v1158 : Ref sig .tc := ⟨.hbm, 1562, rfl⟩
abbrev main_c_333 : Ref sig .tc := ⟨.hbm, 1563, rfl⟩
abbrev main_call27_v0 : Ref sig .tc := ⟨.hbm, 1564, rfl⟩
abbrev main_call27_v1 : Ref sig .tc := ⟨.hbm, 1565, rfl⟩
abbrev main_v1159 : Ref sig .tc := ⟨.hbm, 1566, rfl⟩
abbrev main_c_334 : Ref sig .tc := ⟨.hbm, 1567, rfl⟩
abbrev main_v1160 : Ref sig .tc := ⟨.hbm, 1568, rfl⟩
abbrev main_v1161 : Ref sig .tc := ⟨.hbm, 1569, rfl⟩

abbrev nD : Nat := 1
abbrev τ : Topo := Topo.v7x

variable {F : FTy → Type} [FloatOps F]
-- ==== Proof.Draw.lean ====
module
public import proofs.«01_k».proof.Defs
@[expose] public section
noncomputable section
/-!
# One element of the problem, as the two programs write it

Every result of the problem is made element by element from a logit and from the words of a counter
based generator. This module writes one element twice: `k…` as the kernel's text has it and `h…` as
the reference's has it. Both are over any float model.

The generator's rounds are written in continuation style: a round hands its two new words to the
rest of the generator, so that a whole generator stays a short term.
-/
namespace Cert.Draw
open Idealize.ShloMosaic
variable {F : FTy → Type} [FloatOps F] {α : Type}

abbrev W := BitVec 32

/-! ## The generator (Threefry-2x32) -/

/-- The words `x` rotated to the left by `r` bits, where `r'` is `32 - r`. -/
def rotl (u : ArithUnit) (x r r' : W) : W := IntOp.ori (IntOp.shli u x r) (IntOp.shrui u x r')

/-- One round of the kernel's generator. -/
def kRound (r r' x0 x1 : W) (rest : W → W → α) : α :=
  rest (IntOp.addi x0 x1) (IntOp.xori (rotl .vector x1 r r') (IntOp.addi x0 x1))

/-- One round of the reference's generator. -/
def hRound (r r' x0 x1 : W) (rest : W → W → α) : α :=
  rest (IntOp.addi x0 x1) (IntOp.xori (IntOp.addi x0 x1) (rotl .host x1 r r'))

/-- The kernel adds to the words the words `a` and `b` of the key schedule. -/
def kInject (a b x0 x1 : W) (rest : W → W → α) : α := rest (IntOp.addi x0 a) (IntOp.addi x1 b)

/-- The reference adds to the words two words of the key and the number of the injection. -/
def hInject (a b n x0 x1 : W) (rest : W → W → α) : α :=
  rest (IntOp.addi x0 a) (IntOp.addi (IntOp.addi x1 b) n)

/-- The third word of a key. -/
def third (a b : W) : W := IntOp.xori (IntOp.xori a b) 466688986#32

/-- Rounds of the first kind after the first of them. -/
def kRounds3 (x0 x1 : W) (rest : W → W → α) : α :=
  kRound 15#32 17#32 x0 x1 fun x0 x1 => kRound 26#32 6#32 x0 x1 fun x0 x1 =>
  kRound 6#32 26#32 x0 x1 rest

/-- Four rounds of the first kind. -/
def kRoundsA (x0 x1 : W) (rest : W → W → α) : α :=
  kRound 13#32 19#32 x0 x1 fun x0 x1 => kRounds3 x0 x1 rest

/-- Four rounds of the second kind. -/
def kRoundsB (x0 x1 : W) (rest : W → W → α) : α :=
  kRound 17#32 15#32 x0 x1 fun x0 x1 => kRound 29#32 3#32 x0 x1 fun x0 x1 =>
  kRound 16#32 16#32 x0 x1 fun x0 x1 => kRound 24#32 8#32 x0 x1 rest

/-- Four rounds of the first kind, as the reference writes them. -/
def hRoundsA (x0 x1 : W) (rest : W → W → α) : α :=
  hRound 13#32 19#32 x0 x1 fun x0 x1 => hRound 15#32 17#32 x0 x1 fun x0 x1 =>
  hRound 26#32 6#32 x0 x1 fun x0 x1 => hRound 6#32 26#32 x0 x1 rest

/-- Four rounds of the second kind, as the reference writes them. -/
def hRoundsB (x0 x1 : W) (rest : W → W → α) : α :=
  hRound 17#32 15#32 x0 x1 fun x0 x1 => hRound 29#32 3#32 x0 x1 fun x0 x1 =>
  hRound 16#32 16#32 x0 x1 fun x0 x1 => hRound 24#32 8#32 x0 x1 rest

/-- The kernel's bits at a counter under the key `a, b`. Its counter's high word is zero, and it adds
    the two words of the key to the counter in the place of the first round's sum. -/
def kBits (a b cnt : W) : W :=
  (fun x0 x1 => kRounds3 x0 (IntOp.xori (rotl .vector x1 13#32 19#32) x0) fun x0 x1 =>
    kInject b (third a b + 1#32) x0 x1 fun x0 x1 => kRoundsB x0 x1 fun x0 x1 =>
    kInject (third a b) (a + 2#32) x0 x1 fun x0 x1 => kRoundsA x0 x1 fun x0 x1 =>
    kInject a (b + 3#32) x0 x1 fun x0 x1 => kRoundsB x0 x1 fun x0 x1 =>
    kInject b (third a b + 4#32) x0 x1 fun x0 x1 => kRoundsA x0 x1 fun x0 x1 =>
    kInject (third a b) (a + 5#32) x0 x1 IntOp.xori)
  (IntOp.addi cnt (a + b)) (IntOp.addi cnt b)

/-- The reference's generator: what `rest` makes of the words into which the key `a, b` turns the
    counter's words `c0, c1`. -/
def hThreefry (a b c0 c1 : W) (rest : W → W → α) : α :=
  (fun x0 x1 => hRoundsA x0 x1 fun x0 x1 =>
    hInject b (third a b) 1#32 x0 x1 fun x0 x1 => hRoundsB x0 x1 fun x0 x1 =>
    hInject (third a b) a 2#32 x0 x1 fun x0 x1 => hRoundsA x0 x1 fun x0 x1 =>
    hInject a b 3#32 x0 x1 fun x0 x1 => hRoundsB x0 x1 fun x0 x1 =>
    hInject b (third a b) 4#32 x0 x1 fun x0 x1 => hRoundsA x0 x1 fun x0 x1 =>
    hInject (third a b) a 5#32 x0 x1 rest)
  (IntOp.addi c0 a) (IntOp.addi c1 b)

/-! ## Floats -/

/-- A float constant by its bits. -/
abbrev f32 (b : W) : F .f32 := FloatOps.ofBits .f32 b

/-- 23 of a word's bits as a float between 0 and 1, by the unit `u`'s shift. -/
def unitFloat (u : ArithUnit) (bits : W) : F .f32 :=
  FloatOps.subf (f32 (IntOp.ori (IntOp.shrui u bits 9#32) 1065353216#32)) (f32 0x3F800000#32)

/-- A uniform draw from `lo` on, `width` wide. -/
def uniform (u : ArithUnit) (lo width bits : W) : F .f32 :=
  FloatOps.maximumf (f32 lo) (FloatOps.addf (FloatOps.mulf (unitFloat u bits) (f32 width)) (f32 lo))

/-- The noise's uniform draw, in (-1, 1). -/
def noiseU (u : ArithUnit) (bits : W) : F .f32 := uniform u 0xBF7FFFFF#32 0x40000000#32 bits

/-- The scores' uniform draw, in (0, 1). -/
def scoreU (u : ArithUnit) (bits : W) : F .f32 := uniform u 0x00800000#32 0x3F800000#32 bits

/-- The kernel's negation. -/
def kNeg (x : F .f32) : F .f32 := FloatOps.subf (f32 0x00000000#32) x

/-- The kernel's `-log(1 - u^2)`. -/
def kWidth (u : F .f32) : F .f32 := kNeg (FloatOps.log1p (FloatOps.mulf (kNeg u) u))

/-- A step of Horner's rule. -/
def horner (c t p : F .f32) : F .f32 := FloatOps.addf c (FloatOps.mulf p t)

/-- The kernel's polynomial at `t`. -/
def kPoly (t : F .f32) : F .f32 :=
  horner (f32 0x3FC02E2F#32) t <| horner (f32 0x3E7C8F63#32) t <| horner (f32 0xBB88E4EF#32) t <|
  horner (f32 0xBAA45408#32) t <| horner (f32 0x396532DB#32) t <| horner (f32 0xB6935AC1#32) t <|
  horner (f32 0xB66C7357#32) t <| horner (f32 0x34B84B36#32) t <| f32 0x32F16588#32

/-- The kernel's sample: from `w = 5` on it takes 2 or -2 by the sign of `u`. -/
def kSample (u : F .f32) : F .f32 :=
  Scalar.select (FloatOps.cmpf .olt (kWidth u) (f32 0x40A00000#32))
    (FloatOps.addf (FloatOps.mulf (FloatOps.mulf (f32 0x3FB504F3#32)
      (FloatOps.mulf (kPoly (FloatOps.subf (kWidth u) (f32 0x40200000#32))) u)) (f32 0x3E800000#32))
      (f32 0x3F000000#32))
    (Scalar.select (FloatOps.cmpf .ogt u (f32 0x00000000#32)) (f32 0x40000000#32) (f32 0xC0000000#32))

/-- A probability cut to [0.01, 0.99]. -/
def clip (x : F .f32) : F .f32 :=
  FloatOps.minimumf (f32 0x3F7D70A4#32) (FloatOps.maximumf (f32 0x3C23D70A#32) x)

/-- The kernel's probability from a logit and a word of bits. -/
def kProb (x : F .f32) (bits : W) : F .f32 :=
  clip (FloatOps.maximumf (FloatOps.logistic x) (kSample (noiseU .vector bits)))

/-- The kernel's Gumbel draw. -/
def kGumbel (bits : W) : F .f32 :=
  kNeg (FloatOps.log (kNeg (FloatOps.log (scoreU .vector bits))))

/-- The kernel's score of a parameter. -/
def kScore (p : F .f32) (bits : W) : F .f32 := FloatOps.addf (FloatOps.log p) (kGumbel bits)

/-- The parameter of the other outcome. -/
def oneMinus (p : F .f32) : F .f32 := FloatOps.subf (f32 0x3F800000#32) p

/-- The value of two candidates that the kernel keeps: the new one unless it is smaller. -/
def keepV (new old : F .f32) : F .f32 := Scalar.select (FloatOps.cmpf .oge new old) new old

/-- The place that the kernel keeps. -/
def keepI (new old : F .f32) (newPlace oldPlace : W) : W :=
  Scalar.select (FloatOps.cmpf .oge new old) newPlace oldPlace

/-- The reference's `-log(1 - u^2)`. -/
def hWidth (u : F .f32) : F .f32 :=
  FloatOps.hostNegf (FloatOps.hostUnary .log1p (FloatOps.mulf (FloatOps.hostNegf u) u))

/-- The reference's polynomial: its coefficients are the first or the second of each pair. -/
def hPoly (c : BitVec 1) (t : F .f32) : F .f32 :=
  horner (Scalar.select c (f32 0x3FC02E2F#32) (f32 0x40354F7E#32)) t <|
  horner (Scalar.select c (f32 0x3E7C8F63#32) (f32 0x3F8036DB#32)) t <|
  horner (Scalar.select c (f32 0xBB88E4EF#32) (f32 0x3C1AA57E#32)) t <|
  horner (Scalar.select c (f32 0xBAA45408#32) (f32 0xBBF9C5D7#32)) t <|
  horner (Scalar.select c (f32 0x396532DB#32) (f32 0x3BBC127B#32)) t <|
  horner (Scalar.select c (f32 0xB6935AC1#32) (f32 0xBB70BDE7#32)) t <|
  horner (Scalar.select c (f32 0xB66C7357#32) (f32 0x3AB0DC72#32)) t <|
  horner (Scalar.select c (f32 0x34B84B36#32) (f32 0x38D3B56B#32)) t <|
  Scalar.select c (f32 0x32F16588#32) (f32 0xB951F09B#32)

/-- The reference's inverse error function. -/
def hErfInv (u : F .f32) : F .f32 :=
  (fun c => FloatOps.mulf (hPoly c (Scalar.select c
    (FloatOps.subf (hWidth u) (f32 0x40200000#32))
    (FloatOps.subf (FloatOps.hostUnary .sqrt (hWidth u)) (f32 0x40400000#32)))) u)
  (FloatOps.cmpf .olt (hWidth u) (f32 0x40A00000#32))

/-- The reference's sample. -/
def hSample (u : F .f32) : F .f32 :=
  FloatOps.addf (FloatOps.mulf (FloatOps.mulf (f32 0x3FB504F3#32) (hErfInv u)) (f32 0x3E800000#32))
    (f32 0x3F000000#32)

/-- The reference's logistic function. -/
def hLogistic (x : F .f32) : F .f32 :=
  FloatOps.hostDivf (f32 0x3F800000#32)
    (FloatOps.addf (f32 0x3F800000#32) (FloatOps.hostUnary .exp (FloatOps.hostNegf x)))

/-- The reference's probability from a logit and a word of bits. -/
def hProb (x : F .f32) (bits : W) : F .f32 :=
  clip (FloatOps.maximumf (hLogistic x) (hSample (noiseU .host bits)))

/-- The reference's score of a parameter. -/
def hScore (p : F .f32) (bits : W) : F .f32 :=
  FloatOps.addf (FloatOps.hostNegf (FloatOps.hostUnary .log (FloatOps.hostNegf
    (FloatOps.hostUnary .log (scoreU .host bits))))) (FloatOps.hostUnary .log p)

end Cert.Draw
end
-- ==== Proof.Tiles.lean ====
module
public import proofs.«01_k».proof.Proof.Gen.KernelIdeal.Frame
public import proofs.«01_k».proof.Proof.Draw
@[expose] public section
noncomputable section
/-!
# What one trip of the kernel's loop does, element by element

A grid point cuts its 2048 columns into 16 tiles of 128, and a trip of its loop takes four of them, the
later ones first. It writes each tile's probabilities, and in each of 512 x 128 lanes it keeps the best
score that it has seen in the lane and that score's place.
-/
namespace Cert.KernelIdeal.Tiles
open Cert.KernelIdeal Cert.KernelIdeal.Gen Cert.Draw
open Idealize.ShloMosaic Idealize.ShloMosaic.TcCoe Idealize.ShloMosaic.Tactic Idealize.SL.Sem
variable {F : FTy → Type} [FloatOps F]

section Branch
/-! The words `k0 k1` are the key of a branch's noise and `g0 g1` the key of its scores; a lane's
counters are `noise` and `score`, and `col` is its column in a tile. -/
variable (k0 k1 g0 g1 : W) (noise score col : IVec S512x128 32)

/-- The probability of lane `p` in the tile at column `o`, from the tile's logits `x`. -/
def prob (x : FVec F S512x128 .f32) (o : W) (p : S512x128.Idx) : F .f32 :=
  kProb (x p) (kBits k0 k1 (IntOp.addi (noise p) o))

/-- The score of the probability. -/
def hi (x : FVec F S512x128 .f32) (o : W) (p : S512x128.Idx) : F .f32 :=
  kScore (prob k0 k1 noise x o p) (kBits g0 g1 (IntOp.addi (IntOp.addi (score p) o) 2048#32))

/-- The score of the rest. -/
def lo (x : FVec F S512x128 .f32) (o : W) (p : S512x128.Idx) : F .f32 :=
  kScore (oneMinus (prob k0 k1 noise x o p)) (kBits g0 g1 (IntOp.addi (score p) o))

/-- The lane's best score after the tile. -/
def value (x : FVec F S512x128 .f32) (o : W) (v : FVec F S512x128 .f32)
    (p : S512x128.Idx) : F .f32 :=
  keepV (lo k0 k1 g0 g1 noise score x o p) (keepV (hi k0 k1 g0 g1 noise score x o p) (v p))

/-- The place of the lane's best score after the tile. -/
def place (x : FVec F S512x128 .f32) (o : W) (v : FVec F S512x128 .f32)
    (j : IVec S512x128 32) (p : S512x128.Idx) : W :=
  keepI (lo k0 k1 g0 g1 noise score x o p) (keepV (hi k0 k1 g0 g1 noise score x o p) (v p)) (IntOp.addi o (col p))
    (keepI (hi k0 k1 g0 g1 noise score x o p) (v p) (IntOp.addi (IntOp.addi o (col p)) 2048#32) (j p))

end Branch

variable (k : Fin k0_t1_loop.trips)

/-- The first column of the tile `12 + q` less the tiles of the trips before `k`. -/
def colWord (q : Fin 4) : W :=
  Scalar.muli (Scalar.subi (BitVec.ofNat 32 (12 + q.val)) (Scalar.muli 4#32 (Scf.iv 0#32 1#32 k))) 128#32

/-- That tile. -/
def tile (q : Fin 4) : Rect S512x2048 :=
  Rect.unit (s := S512x2048) (k0_off1 k (BitVec.ofNat 32 (12 + q.val))) S512x128.size (k0_off1_inb k q)

section Trip
variable (k0 k1 g0 g1 : W) (noise score col : IVec S512x128 32)

/-- A branch's best scores after the tiles `3, 2, …` of a trip, `n` of them. -/
def values (x : Fin 4 → FVec F S512x128 .f32) (v : FVec F S512x128 .f32) :
    FVec F S512x128 .f32 :=
  value k0 k1 g0 g1 noise score (x 0) (colWord k 0) <| value k0 k1 g0 g1 noise score (x 1) (colWord k 1) <| value k0 k1 g0 g1 noise score (x 2) (colWord k 2) <|
  value k0 k1 g0 g1 noise score (x 3) (colWord k 3) v

/-- The places after a trip's four tiles. -/
def places (x : Fin 4 → FVec F S512x128 .f32) (v : FVec F S512x128 .f32)
    (j : IVec S512x128 32) : IVec S512x128 32 :=
  place k0 k1 g0 g1 noise score col (x 0) (colWord k 0)
    (value k0 k1 g0 g1 noise score (x 1) (colWord k 1) <| value k0 k1 g0 g1 noise score (x 2) (colWord k 2) <| value k0 k1 g0 g1 noise score (x 3) (colWord k 3) v) <|
  place k0 k1 g0 g1 noise score col (x 1) (colWord k 1) (value k0 k1 g0 g1 noise score (x 2) (colWord k 2) <| value k0 k1 g0 g1 noise score (x 3) (colWord k 3) v) <|
  place k0 k1 g0 g1 noise score col (x 2) (colWord k 2) (value k0 k1 g0 g1 noise score (x 3) (colWord k 3) v) <|
  place k0 k1 g0 g1 noise score col (x 3) (colWord k 3) v j

/-- The tiles that a trip writes for a branch, the last one first. -/
def pieces (x : Fin 4 → FVec F S512x128 .f32) :
    List (View.Piece (Elt F) S512x2048 .f32) :=
  [⟨tile k 0, prob k0 k1 noise (x 0) (colWord k 0)⟩, ⟨tile k 1, prob k0 k1 noise (x 1) (colWord k 1)⟩,
   ⟨tile k 2, prob k0 k1 noise (x 2) (colWord k 2)⟩, ⟨tile k 3, prob k0 k1 noise (x 3) (colWord k 3)⟩]

end Trip

/-- The logits of a trip's tiles, read from the buffer `M` that holds `X`. -/
def logits (M : Memref sig .tc .vmem S512x2048 .f32) (X : BufTy.Contents (Elt F) M.view.ty)
    (q : Fin 4) : FVec F S512x128 .f32 :=
  View.readAt (Elt F) M.view (tile k q).toLoadRect X

variable (𝒱 : Variants) (c : Dev nD) (bd : Option 𝒱.V) (i : grid0.Coords)
  (arg1 : Memref sig .tc .vmem S512x256 .f32) (harg1 : arg1.IsWhole) (arg2 : Memref sig .tc .vmem S256x64 .f32) (harg2 : arg2.IsWhole)
  (arg3 : Memref sig .tc .vmem S1x64 .f32) (harg3 : arg3.IsWhole) (arg4 : Memref sig .tc .vmem S64x64 .f32) (harg4 : arg4.IsWhole)
  (arg5 : Memref sig .tc .vmem S1x64 .f32) (harg5 : arg5.IsWhole) (arg6 : Memref sig .tc .vmem S64x2048 .f32) (harg6 : arg6.IsWhole)
  (arg7 : Memref sig .tc .vmem S1x2048 .f32) (harg7 : arg7.IsWhole) (arg8 : Memref sig .tc .vmem S256x64 .f32) (harg8 : arg8.IsWhole)
  (arg9 : Memref sig .tc .vmem S1x64 .f32) (harg9 : arg9.IsWhole) (arg10 : Memref sig .tc .vmem S64x64 .f32) (harg10 : arg10.IsWhole)
  (arg11 : Memref sig .tc .vmem S1x64 .f32) (harg11 : arg11.IsWhole) (arg12 : Memref sig .tc .vmem S64x2048 .f32) (harg12 : arg12.IsWhole)
  (arg13 : Memref sig .tc .vmem S1x2048 .f32) (harg13 : arg13.IsWhole) (arg14 : Memref sig .tc .vmem S512x2048 .f32) (harg14 : arg14.IsWhole)
  (arg15 : Memref sig .tc .vmem S512x1 .i32) (harg15 : arg15.IsWhole) (arg16 : Memref sig .tc .vmem S512x2048 .f32) (harg16 : arg16.IsWhole)
  (arg17 : Memref sig .tc .vmem S512x1 .i32) (harg17 : arg17.IsWhole) (arg18 : Memref sig .tc .vmem S512x2048 .f32) (harg18 : arg18.IsWhole)
  (arg19 : Memref sig .tc .vmem S512x2048 .f32) (harg19 : arg19.IsWhole)
  (v5 v8 v11 : IVec S512x128 32)
  (X_arg18 : BufTy.Contents (Elt F) arg18.view.ty) (X_arg19 : BufTy.Contents (Elt F) arg19.view.ty)
  (acc : FVec F S512x128 .f32 × IVec S512x128 32 × FVec F S512x128 .f32 × IVec S512x128 32)

/-- What a trip writes. -/
theorem tripL_eq : tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 v11 X_arg18 X_arg19 k acc =
    (pieces k 1832780943#32 270669613#32 v8 (logits k arg18 X_arg18),
      pieces k 2465931498#32 255383827#32 v8 (logits k arg19 X_arg19)) := by
  sl_kernel_rfl

/-- What a trip carries on. -/
theorem tripR_eq : tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 v11 X_arg18 X_arg19 k acc =
    (values k 1832780943#32 270669613#32 64467757#32 2916123636#32 v8 v11 (logits k arg18 X_arg18) acc.1,
      places k 1832780943#32 270669613#32 64467757#32 2916123636#32 v8 v11 v5 (logits k arg18 X_arg18) acc.1 acc.2.1,
      values k 2465931498#32 255383827#32 3134548294#32 894150801#32 v8 v11 (logits k arg19 X_arg19) acc.2.2.1,
      places k 2465931498#32 255383827#32 3134548294#32 894150801#32 v8 v11 v5 (logits k arg19 X_arg19) acc.2.2.1 acc.2.2.2) := by
  sl_kernel_rfl
end Cert.KernelIdeal.Tiles
end
-- ==== Proof.Lanes.lean ====
module
public import proofs.«01_k».proof.Proof.Tiles
public import Idealize.ShloMosaic.Lib.Pipeline.ReadBack
public import Idealize.ShloMosaic.Lib.Pipeline.Value
public import Idealize.ShloMosaic.PureOps.Ideal.Laws
public import Idealize.ShloMosaic.Lib.ValueIdxCore
@[expose] public section
noncomputable section
/-!
# The whole loop over the extended reals: every probability, and the best score of each lane

The 4096 outcomes of a row are numbered 0 to 4095: the outcome `a` below 2048 stands for the rest of
probability `a`, the outcome `a + 2048` for the probability. A lane sees the outcomes of its 16 columns.
-/
namespace Cert.KernelIdeal.Tiles
open Cert.KernelIdeal Cert.KernelIdeal.Gen Cert.Draw
open Idealize.ShloMosaic Idealize.ShloMosaic.TcCoe Idealize.ShloMosaic.Tactic Idealize.SL.Sem

/-! ## The best of the outcomes seen so far -/

/-- The value `v` is at least the score of every outcome that was `seen`, and if there was one it is the
    score of the outcome `j`. -/
def Best (seen : ℕ → Prop) (S : ℕ → EReal) (v : EReal) (j : W) : Prop :=
  (∀ a, seen a → S a ≤ v) ∧ ((∀ a, ¬seen a) ∧ v = ⊥ ∨ ∃ a, a < 4096 ∧ S a = v ∧ j = BitVec.ofNat 32 a)

/-- Nothing seen. -/
theorem Best.start (S : ℕ → EReal) (j : W) : Best (fun _ => False) S ⊥ j :=
  ⟨fun _ h => h.elim, Or.inl ⟨fun _ h => h, rfl⟩⟩

/-- Less seen. -/
theorem Best.less {seen seen' : ℕ → Prop} {S : ℕ → EReal} {v : EReal} {j : W} (h : Best seen S v j)
    (hs : ∀ a, seen' a → seen a) : Best seen' S v j :=
  ⟨fun a ha => h.1 a (hs a ha), h.2.imp_left fun h => ⟨fun a ha => h.1 a (hs a ha), h.2⟩⟩

theorem select_oge {α : Type} (s v : Ideal .f32) (x y : α) :
    Scalar.select (FloatOps.cmpf .oge s v) x y = if (v : EReal) ≤ s then x else y := by
  show (if BitVec.ofBool (decide ((v : EReal) ≤ s)) = 1 then x else y) = _
  by_cases h : (v : EReal) ≤ s
  · rw [if_pos h, decide_eq_true h]; rfl
  · rw [if_neg h, decide_eq_false h]; rfl

/-- One more outcome seen. -/
theorem Best.step {seen : ℕ → Prop} {S : ℕ → EReal} {v : Ideal .f32} {j : W} (h : Best seen S v j)
    (b : ℕ) (hb : b < 4096) (s : Ideal .f32) (hs : s = S b) (w : W) (hw : w = BitVec.ofNat 32 b) :
    Best (fun a => seen a ∨ a = b) S (keepV (F := Ideal) s v) (keepI (F := Ideal) s v w j) := by
  unfold keepV keepI
  rw [select_oge, select_oge]
  subst hs hw
  by_cases hv : (v : EReal) ≤ S b
  · rw [if_pos hv, if_pos hv]
    refine ⟨?_, Or.inr ⟨b, hb, rfl, rfl⟩⟩
    rintro a (ha | rfl)
    · exact le_trans (h.1 a ha) hv
    · exact le_refl _
  · rw [if_neg hv, if_neg hv]
    refine ⟨?_, ?_⟩
    · rintro a (ha | rfl)
      · exact h.1 a ha
      · exact (not_le.1 hv).le
    · rcases h.2 with ⟨_, hb⟩ | h
      · exact absurd (hb ▸ bot_le) hv
      · exact Or.inr h

/-! ## A trip's tiles -/

variable (k : Fin k0_t1_loop.trips)

/-- The number of a trip's tile. -/
def tileNo (q : Fin 4) : ℕ := 12 + q.val - 4 * k.val

theorem colWord_eq : ∀ (k : Fin k0_t1_loop.trips) (q : Fin 4), colWord k q = BitVec.ofNat 32 (128 * tileNo k q) := by
  decide +kernel

theorem tile_off : ∀ (k : Fin k0_t1_loop.trips) (q : Fin 4), k0_off1 k (BitVec.ofNat 32 (12 + q.val)) 1 = 128 * tileNo k q := by
  decide +kernel

theorem tileNo_lt : ∀ (k : Fin k0_t1_loop.trips) (q : Fin 4), tileNo k q < 16 := by
  decide +kernel

/-- A lane of the tile as a place of the block. -/
def cell (n : ℕ) (hn : n < 16) (p : S512x128.Idx) : S512x2048.Idx :=
  ValueIdx.ix2 (n0 := 512) (n1 := 2048) (p 0) ⟨128 * n + (p 1).val, by
    have : (p 1).val < 128 := (p 1).isLt
    omega⟩

theorem tile_emb (q : Fin 4) (p : (tile k q).shape.Idx) : (tile k q).emb p = cell (tileNo k q) (tileNo_lt k q) p := by
  funext a
  apply Fin.ext
  rw [Rect.emb_apply]
  match a with
  | ⟨0, _⟩ => show 0 + 1 * (p 0).val = (p 0).val; omega
  | ⟨1, _⟩ =>
    show k0_off1 k (BitVec.ofNat 32 (12 + q.val)) 1 + 1 * (p 1).val = 128 * tileNo k q + (p 1).val
    rw [tile_off]; omega

/-- A counter moved on. -/
theorem counter (x : W) (l m : ℕ) :
    IntOp.addi (IntOp.addi x (BitVec.ofNat 32 l)) (BitVec.ofNat 32 m) = IntOp.addi x (BitVec.ofNat 32 (m + l)) := by
  show x + BitVec.ofNat 32 l + BitVec.ofNat 32 m = x + BitVec.ofNat 32 (m + l)
  rw [BitVec.add_assoc, Nat.add_comm m l, BitVec.ofNat_add]

section Branch
/-! A branch with its keys, over a block whose rows are numbered by the words `R` and whose logits are `X`. -/
variable (k0 k1 g0 g1 : W) (R : ℕ → W) (X : FVec Ideal S512x2048 .f32)

/-- The probability at a place of the block. -/
def cellProb (y : S512x2048.Idx) : Ideal .f32 :=
  kProb (F := Ideal) (X y) (kBits k0 k1 (IntOp.addi (IntOp.muli (R (y 0).val) 2048#32) (BitVec.ofNat 32 (y 1).val)))

/-- The bits of an outcome's score. -/
def drawBits (r a : ℕ) : W := kBits g0 g1 (IntOp.addi (IntOp.muli (R r) 4096#32) (BitVec.ofNat 32 a))

/-- The score of outcome `a` in row `r`. -/
def outcome (r : Fin 512) (a : ℕ) : EReal :=
  if h : a < 2048 then
    kScore (F := Ideal) (oneMinus (F := Ideal) (cellProb k0 k1 R X (ValueIdx.ix2 r ⟨a, h⟩))) (drawBits g0 g1 R r.val a)
  else if h : a - 2048 < 2048 then
    kScore (F := Ideal) (cellProb k0 k1 R X (ValueIdx.ix2 r ⟨a - 2048, h⟩)) (drawBits g0 g1 R r.val a)
  else ⊥

variable (noise score col : IVec S512x128 32)

/-- The lanes' counters and columns are those of the block. -/
structure Lanes : Prop where
  noise : ∀ p, noise p = IntOp.addi (IntOp.muli (R (p 0).val) 2048#32) (BitVec.ofNat 32 (p 1).val)
  score : ∀ p, score p = IntOp.addi (IntOp.muli (R (p 0).val) 4096#32) (BitVec.ofNat 32 (p 1).val)
  col : ∀ p, col p = BitVec.ofNat 32 (p 1).val

variable {R noise score col} (hL : Lanes R noise score col)
variable (x : Fin 4 → FVec Ideal S512x128 .f32)
  (hx : ∀ q p, x q p = X (cell (tileNo k q) (tileNo_lt k q) p))
include hL hx

theorem prob_eq (q : Fin 4) (p : S512x128.Idx) :
    prob (F := Ideal) k0 k1 noise (x q) (colWord k q) p = cellProb k0 k1 R X (cell (tileNo k q) (tileNo_lt k q) p) := by
  unfold prob cellProb
  rw [hx, hL.noise, colWord_eq, counter]
  rfl

theorem lo_eq (q : Fin 4) (p : S512x128.Idx) :
    lo (F := Ideal) k0 k1 g0 g1 noise score (x q) (colWord k q) p
      = outcome k0 k1 g0 g1 R X (p 0) (128 * tileNo k q + (p 1).val) := by
  have h1 : (p 1).val < 128 := (p 1).isLt
  have h2 := tileNo_lt k q
  have h : 128 * tileNo k q + (p 1).val < 2048 := by omega
  unfold lo outcome
  rw [dif_pos h, prob_eq k k0 k1 X hL x hx, hL.score, colWord_eq]
  rw [counter]
  rfl

theorem hi_eq (q : Fin 4) (p : S512x128.Idx) :
    hi (F := Ideal) k0 k1 g0 g1 noise score (x q) (colWord k q) p
      = outcome k0 k1 g0 g1 R X (p 0) (128 * tileNo k q + (p 1).val + 2048) := by
  have h1 : (p 1).val < 128 := (p 1).isLt
  have h2 := tileNo_lt k q
  have h : ¬128 * tileNo k q + (p 1).val + 2048 < 2048 := by omega
  have h' : 128 * tileNo k q + (p 1).val + 2048 - 2048 < 2048 := by omega
  unfold hi outcome
  rw [dif_neg h, dif_pos h', prob_eq k k0 k1 X hL x hx, hL.score, colWord_eq]
  rw [counter, counter, Nat.add_assoc, Nat.add_comm 2048]
  have hy : cell (tileNo k q) (tileNo_lt k q) p
      = ValueIdx.ix2 (p 0) ⟨128 * tileNo k q + (p 1).val + 2048 - 2048, h'⟩ :=
    congrArg (ValueIdx.ix2 (n0 := 512) (n1 := 2048) (p 0)) (Fin.ext (Nat.add_sub_cancel _ 2048).symm)
  rw [hy]
  rfl

/-- A tile's two outcomes seen. -/
theorem tile_best (q : Fin 4) (p : S512x128.Idx) {seen : ℕ → Prop} {v : FVec Ideal S512x128 .f32} {j : IVec S512x128 32}
    (h : Best seen (outcome k0 k1 g0 g1 R X (p 0)) (v p) (j p)) :
    Best (fun a => (seen a ∨ a = 128 * tileNo k q + (p 1).val + 2048) ∨ a = 128 * tileNo k q + (p 1).val)
      (outcome k0 k1 g0 g1 R X (p 0)) (value (F := Ideal) k0 k1 g0 g1 noise score (x q) (colWord k q) v p)
      (place (F := Ideal) k0 k1 g0 g1 noise score col (x q) (colWord k q) v j p) := by
  have h1 : (p 1).val < 128 := (p 1).isLt
  have h2 := tileNo_lt k q
  refine Best.step (Best.step h _ (by omega) _ (hi_eq k k0 k1 g0 g1 X hL x hx q p) _ ?_) _ (by omega) _
    (lo_eq k k0 k1 g0 g1 X hL x hx q p) _ ?_
  · rw [hL.col, colWord_eq]
    show _ + _ + 2048#32 = _
    rw [BitVec.ofNat_add, BitVec.ofNat_add]
  · rw [hL.col, colWord_eq]
    show _ + _ = _
    rw [BitVec.ofNat_add]

/-- What a lane in column `l` has seen before trip `n`. -/
def seenBy (n l : ℕ) (a : ℕ) : Prop := a < 4096 ∧ a % 128 = l ∧ 16 - 4 * n ≤ a % 2048 / 128

theorem trip_best (p : S512x128.Idx) {v : FVec Ideal S512x128 .f32} {j : IVec S512x128 32}
    (h : Best (seenBy k.val (p 1).val) (outcome k0 k1 g0 g1 R X (p 0)) (v p) (j p)) :
    Best (seenBy (k.val + 1) (p 1).val) (outcome k0 k1 g0 g1 R X (p 0))
      (values (F := Ideal) k k0 k1 g0 g1 noise score x v p) (places (F := Ideal) k k0 k1 g0 g1 noise score col x v j p) := by
  have h1 : (p 1).val < 128 := (p 1).isLt
  have hk : k.val < 4 := k.isLt
  refine (tile_best k k0 k1 g0 g1 X hL x hx 0 p (tile_best k k0 k1 g0 g1 X hL x hx 1 p
    (tile_best k k0 k1 g0 g1 X hL x hx 2 p (tile_best k k0 k1 g0 g1 X hL x hx 3 p h)))).less ?_
  rintro a ⟨ha, hm, hd⟩
  have t0 : tileNo k 0 = 12 - 4 * k.val := rfl
  have t1 : tileNo k 1 = 13 - 4 * k.val := rfl
  have t2 : tileNo k 2 = 14 - 4 * k.val := rfl
  have t3 : tileNo k 3 = 15 - 4 * k.val := rfl
  rw [t0, t1, t2, t3]
  unfold seenBy
  by_cases hs : 16 - 4 * k.val ≤ a % 2048 / 128
  · exact Or.inl (Or.inl (Or.inl (Or.inl (Or.inl (Or.inl (Or.inl (Or.inl ⟨ha, hm, hs⟩)))))))
  · omega

/-- A trip's pieces are tiles of the block's probabilities. -/
theorem pieces_of {L : List (View.Piece (Elt Ideal) S512x2048 .f32)} (h : View.PiecesOf (cellProb k0 k1 R X) L) :
    View.PiecesOf (cellProb k0 k1 R X) (pieces (F := Ideal) k k0 k1 noise x ++ L) := by
  have hp : ∀ q : Fin 4, ∀ p : (tile k q).shape.Idx,
      prob (F := Ideal) k0 k1 noise (x q) (colWord k q) p = cellProb k0 k1 R X ((tile k q).emb p) := fun q p => by
    rw [tile_emb]
    exact prob_eq k k0 k1 X hL x hx q p
  exact ⟨hp 0, hp 1, hp 2, hp 3, h⟩

end Branch
end Cert.KernelIdeal.Tiles
end
-- ==== Proof.Loop.lean ====
module
public import proofs.«01_k».proof.Proof.Lanes
@[expose] public section
noncomputable section
/-!
# What the loop has written and carries before each trip
-/
namespace Cert.KernelIdeal.Tiles
open Cert.KernelIdeal Cert.KernelIdeal.Gen Cert.Draw
open Idealize.ShloMosaic Idealize.ShloMosaic.TcCoe Idealize.ShloMosaic.Tactic Idealize.SL.Sem

/-- What the loop starts with in every lane is below every score. -/
theorem pay2_eq (p : S512x128.Idx) : k0_pay2 (F := Ideal) p = (⊥ : EReal) := by
  show Ideal.ofBits .f32 0xFF800000#32 = ⊥
  unfold Ideal.ofBits Ideal.ieee
  simp

variable (𝒱 : Variants) (c : Dev nD) (bd : Option 𝒱.V) (i : grid0.Coords)
  (arg1 : Memref sig .tc .vmem S512x256 .f32) (harg1 : arg1.IsWhole) (arg2 : Memref sig .tc .vmem S256x64 .f32) (harg2 : arg2.IsWhole)
  (arg3 : Memref sig .tc .vmem S1x64 .f32) (harg3 : arg3.IsWhole) (arg4 : Memref sig .tc .vmem S64x64 .f32) (harg4 : arg4.IsWhole)
  (arg5 : Memref sig .tc .vmem S1x64 .f32) (harg5 : arg5.IsWhole) (arg6 : Memref sig .tc .vmem S64x2048 .f32) (harg6 : arg6.IsWhole)
  (arg7 : Memref sig .tc .vmem S1x2048 .f32) (harg7 : arg7.IsWhole) (arg8 : Memref sig .tc .vmem S256x64 .f32) (harg8 : arg8.IsWhole)
  (arg9 : Memref sig .tc .vmem S1x64 .f32) (harg9 : arg9.IsWhole) (arg10 : Memref sig .tc .vmem S64x64 .f32) (harg10 : arg10.IsWhole)
  (arg11 : Memref sig .tc .vmem S1x64 .f32) (harg11 : arg11.IsWhole) (arg12 : Memref sig .tc .vmem S64x2048 .f32) (harg12 : arg12.IsWhole)
  (arg13 : Memref sig .tc .vmem S1x2048 .f32) (harg13 : arg13.IsWhole) (arg14 : Memref sig .tc .vmem S512x2048 .f32) (harg14 : arg14.IsWhole)
  (arg15 : Memref sig .tc .vmem S512x1 .i32) (harg15 : arg15.IsWhole) (arg16 : Memref sig .tc .vmem S512x2048 .f32) (harg16 : arg16.IsWhole)
  (arg17 : Memref sig .tc .vmem S512x1 .i32) (harg17 : arg17.IsWhole) (arg18 : Memref sig .tc .vmem S512x2048 .f32) (harg18 : arg18.IsWhole)
  (arg19 : Memref sig .tc .vmem S512x2048 .f32) (harg19 : arg19.IsWhole)
  (v5 v8 v11 : IVec S512x128 32)
  (X_arg18 : BufTy.Contents (Elt Ideal) arg18.view.ty) (X_arg19 : BufTy.Contents (Elt Ideal) arg19.view.ty)

variable {R : ℕ → W} (hL : Lanes R v8 v11 v5) (X Y : FVec Ideal S512x2048 .f32)
  (hX : View.read (Elt Ideal) arg18.view X_arg18 = X) (hY : View.read (Elt Ideal) arg19.view X_arg19 = Y)

theorem logits_eq (M : Memref sig .tc .vmem S512x2048 .f32) (Z : BufTy.Contents (Elt Ideal) M.view.ty)
    (X : FVec Ideal S512x2048 .f32) (h : View.read (Elt Ideal) M.view Z = X) (k : Fin k0_t1_loop.trips) (q : Fin 4)
    (p : S512x128.Idx) : logits k M Z q p = X (cell (tileNo k q) (tileNo_lt k q) p) := by
  unfold logits
  rw [View.readAt_eq_ld, h]
  exact congrArg X (tile_emb k q p)

/-- The loop's pieces and carried values, for the two branches. -/
structure Reached (n : ℕ) (S : (FVec Ideal S512x128 .f32 × IVec S512x128 32 × FVec Ideal S512x128 .f32 × IVec S512x128 32)
    × List (View.Piece (Elt Ideal) S512x2048 .f32) × List (View.Piece (Elt Ideal) S512x2048 .f32))
    (R : ℕ → W) (X Y : FVec Ideal S512x2048 .f32) : Prop where
  piecesH : View.PiecesOf (cellProb 1832780943#32 270669613#32 R X) S.2.1
  piecesD : View.PiecesOf (cellProb 2465931498#32 255383827#32 R Y) S.2.2
  bestH : ∀ p : S512x128.Idx, Best (seenBy n (p 1).val) (outcome 1832780943#32 270669613#32 64467757#32 2916123636#32 R X (p 0)) (S.1.1 p) (S.1.2.1 p)
  bestD : ∀ p : S512x128.Idx, Best (seenBy n (p 1).val) (outcome 2465931498#32 255383827#32 3134548294#32 894150801#32 R Y (p 0)) (S.1.2.2.1 p) (S.1.2.2.2 p)

/-- One trip more. -/
theorem Reached.next {v5 v8 v11 : IVec S512x128 32} {R : ℕ → W} (hL : Lanes R v8 v11 v5) (X Y : FVec Ideal S512x2048 .f32)
    {M N : Memref sig .tc .vmem S512x2048 .f32} {Z : BufTy.Contents (Elt Ideal) M.view.ty} {Z' : BufTy.Contents (Elt Ideal) N.view.ty}
    (hX : View.read (Elt Ideal) M.view Z = X) (hY : View.read (Elt Ideal) N.view Z' = Y) (k : Fin k0_t1_loop.trips)
    {S : (FVec Ideal S512x128 .f32 × IVec S512x128 32 × FVec Ideal S512x128 .f32 × IVec S512x128 32)
      × List (View.Piece (Elt Ideal) S512x2048 .f32) × List (View.Piece (Elt Ideal) S512x2048 .f32)}
    (h : Reached k.val S R X Y) :
    Reached (k.val + 1)
      ((values (F := Ideal) k 1832780943#32 270669613#32 64467757#32 2916123636#32 v8 v11 (logits k M Z) S.1.1,
        places (F := Ideal) k 1832780943#32 270669613#32 64467757#32 2916123636#32 v8 v11 v5 (logits k M Z) S.1.1 S.1.2.1,
        values (F := Ideal) k 2465931498#32 255383827#32 3134548294#32 894150801#32 v8 v11 (logits k N Z') S.1.2.2.1,
        places (F := Ideal) k 2465931498#32 255383827#32 3134548294#32 894150801#32 v8 v11 v5 (logits k N Z') S.1.2.2.1 S.1.2.2.2),
       pieces (F := Ideal) k 1832780943#32 270669613#32 v8 (logits k M Z) ++ S.2.1,
       pieces (F := Ideal) k 2465931498#32 255383827#32 v8 (logits k N Z') ++ S.2.2) R X Y := by
  have hx := logits_eq M Z X hX k
  have hy := logits_eq N Z' Y hY k
  constructor
  · exact pieces_of k 1832780943#32 270669613#32 X hL (logits k M Z) hx h.piecesH
  · exact pieces_of k 2465931498#32 255383827#32 Y hL (logits k N Z') hy h.piecesD
  · intro p
    have hb := trip_best k 1832780943#32 270669613#32 64467757#32 2916123636#32 X hL (logits k M Z) hx p (v := S.1.1) (j := S.1.2.1) (h.bestH p)
    dsimp only
    with_reducible exact hb
  · intro p
    have hb := trip_best k 2465931498#32 255383827#32 3134548294#32 894150801#32 Y hL (logits k N Z') hy p (v := S.1.2.2.1) (j := S.1.2.2.2) (h.bestD p)
    dsimp only
    with_reducible exact hb

include hL hX hY in
theorem reached (n : ℕ) (hn : n ≤ 4) : Reached n (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 v11 X_arg18 X_arg19
    (k0_pay2 (F := Ideal), k0_pay3, k0_pay2 (F := Ideal), k0_pay3) n) R X Y := by
  induction n with
  | zero =>
    have h : ∀ (p : S512x128.Idx) (S : ℕ → EReal), Best (seenBy 0 (p 1).val) S (k0_pay2 (F := Ideal) p) (k0_pay3 p) := fun p S => by
      rw [pay2_eq]
      refine (Best.start S _).less ?_
      rintro a ⟨ha, -, hd⟩
      omega
    exact ⟨trivial, trivial, fun p => h p _, fun p => h p _⟩
  | succ n ih =>
    have ih := ih (by omega)
    have hs := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 v11 X_arg18 X_arg19
      (k0_pay2 (F := Ideal), k0_pay3, k0_pay2 (F := Ideal), k0_pay3) ⟨n, (by omega : n < 4)⟩
    rw [tripL_eq, tripR_eq] at hs
    have hnext := Reached.next hL X Y hX hY ⟨n, (by omega : n < 4)⟩ ih
    rw [← hs] at hnext
    with_reducible exact hnext
end Cert.KernelIdeal.Tiles
end
-- ==== Proof.Outs.lean ====
module
public import proofs.«01_k».proof.Proof.Loop
@[expose] public section
noncomputable section
/-!
# What a grid point leaves in its four output blocks
-/
namespace Cert.KernelIdeal.Tiles
open Cert.KernelIdeal Cert.KernelIdeal.Gen Cert.Draw
open Idealize.ShloMosaic Idealize.ShloMosaic.TcCoe Idealize.ShloMosaic.Tactic Idealize.SL.Sem

/-- The number of row `r` of grid point `i`. -/
def rowWord (i : grid0.Coords) (r : ℕ) : W :=
  IntOp.addi (IntOp.muli (BitVec.ofNat 32 (i 0).val) 512#32) (BitVec.ofNat 32 r)

/-- The counter along one axis. -/
theorem line (d : Fin 2) (h : S512x128.Iotas .tc 32 [d]) (p : S512x128.Idx) :
    iota .tc S512x128 32 [d] h p = BitVec.ofNat 32 (p d).val := by
  show BitVec.ofNat 32 (0 * S512x128.size d + (p d).val) = _
  rw [Nat.zero_mul, Nat.zero_add]

theorem lanes (i : grid0.Coords) : Lanes (rowWord i) (k0_pay1085 i) (k0_pay1086 i) kernelRun0_A.sl.v5 where
  noise p := by
    have e : k0_pay1085 i p = IntOp.addi (IntOp.muli (IntOp.addi (IntOp.muli (BitVec.ofNat 32 (i 0).val) 512#32)
      (iota .tc S512x128 32 [0] iota_S512x128_d0_w32 p)) 2048#32) (iota .tc S512x128 32 [1] iota_S512x128_d1_w32 p) := by sl_kernel_rfl
    rw [e, line, line]; rfl
  score p := by
    have e : k0_pay1086 i p = IntOp.addi (IntOp.muli (IntOp.addi (IntOp.muli (BitVec.ofNat 32 (i 0).val) 512#32)
      (iota .tc S512x128 32 [0] iota_S512x128_d0_w32 p)) 4096#32) (iota .tc S512x128 32 [1] iota_S512x128_d1_w32 p) := by sl_kernel_rfl
    rw [e, line, line]; rfl
  col p := line 1 iota_S512x128_d1_w32 p

theorem zero2 : (![0, 0] : Fin 2 → Nat) = fun _ => 0 := funext fun a => by fin_cases a <;> rfl

variable (c : Dev nD) (i : grid0.Coords)
  (arg1 : Memref sig .tc .vmem S512x256 .f32) (harg1 : arg1.IsWhole) (arg2 : Memref sig .tc .vmem S256x64 .f32) (harg2 : arg2.IsWhole)
  (arg3 : Memref sig .tc .vmem S1x64 .f32) (harg3 : arg3.IsWhole) (arg4 : Memref sig .tc .vmem S64x64 .f32) (harg4 : arg4.IsWhole)
  (arg5 : Memref sig .tc .vmem S1x64 .f32) (harg5 : arg5.IsWhole) (arg6 : Memref sig .tc .vmem S64x2048 .f32) (harg6 : arg6.IsWhole)
  (arg7 : Memref sig .tc .vmem S1x2048 .f32) (harg7 : arg7.IsWhole) (arg8 : Memref sig .tc .vmem S256x64 .f32) (harg8 : arg8.IsWhole)
  (arg9 : Memref sig .tc .vmem S1x64 .f32) (harg9 : arg9.IsWhole) (arg10 : Memref sig .tc .vmem S64x64 .f32) (harg10 : arg10.IsWhole)
  (arg11 : Memref sig .tc .vmem S1x64 .f32) (harg11 : arg11.IsWhole) (arg12 : Memref sig .tc .vmem S64x2048 .f32) (harg12 : arg12.IsWhole)
  (arg13 : Memref sig .tc .vmem S1x2048 .f32) (harg13 : arg13.IsWhole) (arg14 : Memref sig .tc .vmem S512x2048 .f32) (harg14 : arg14.IsWhole)
  (arg15 : Memref sig .tc .vmem S512x1 .i32) (harg15 : arg15.IsWhole) (arg16 : Memref sig .tc .vmem S512x2048 .f32) (harg16 : arg16.IsWhole)
  (arg17 : Memref sig .tc .vmem S512x1 .i32) (harg17 : arg17.IsWhole) (arg18 : Memref sig .tc .vmem S512x2048 .f32) (harg18 : arg18.IsWhole)
  (arg19 : Memref sig .tc .vmem S512x2048 .f32) (harg19 : arg19.IsWhole)
  (x0 : Vec Ideal S512x256 .f32) (x1 : Vec Ideal S256x64 .f32) (x2 : Vec Ideal S1x64 .f32) (x3 : Vec Ideal S64x64 .f32) (x4 : Vec Ideal S1x64 .f32) (x5 : Vec Ideal S64x2048 .f32) (x6 : Vec Ideal S1x2048 .f32) (x7 : Vec Ideal S256x64 .f32) (x8 : Vec Ideal S1x64 .f32) (x9 : Vec Ideal S64x64 .f32) (x10 : Vec Ideal S1x64 .f32) (x11 : Vec Ideal S64x2048 .f32) (x12 : Vec Ideal S1x2048 .f32)

theorem logitsH : View.read (Elt Ideal) arg18.view (arg18.view.writes (Elt Ideal) arg18.view.junk
      (kernelRun0_A.sl.HS0_1 c arg1 harg1 arg2 harg2 arg4 harg4 arg6 harg6 x0 x1 x3 x5))
    = k0_pay1087 (F := Ideal) x0 x1 x3 x5 := by
  rw [View.read_writes_junk_eq_canon]
  sl_unfold_words
  rw [View.canon_cons_unit_zero (S := S512x2048) zero2]
  simp only [View.readAt_eq_ld, harg1.read_unread, harg2.read_unread, harg4.read_unread, harg6.read_unread,
    View.ld_unit_zero (S := S512x256) zero2, View.ld_unit_zero (S := S256x64) zero2, View.ld_unit_zero (S := S64x64) zero2, View.ld_unit_zero (S := S64x2048) zero2]

theorem logitsD : View.read (Elt Ideal) arg19.view (arg19.view.writes (Elt Ideal) arg19.view.junk
      (kernelRun0_A.sl.HS1_1 c arg1 harg1 arg8 harg8 arg10 harg10 arg12 harg12 x0 x7 x9 x11))
    = k0_pay1087 (F := Ideal) x0 x7 x9 x11 := by
  rw [View.read_writes_junk_eq_canon]
  sl_unfold_words
  rw [View.canon_cons_unit_zero (S := S512x2048) zero2]
  simp only [View.readAt_eq_ld, harg1.read_unread, harg8.read_unread, harg10.read_unread, harg12.read_unread,
    View.ld_unit_zero (S := S512x256) zero2, View.ld_unit_zero (S := S256x64) zero2, View.ld_unit_zero (S := S64x64) zero2, View.ld_unit_zero (S := S64x2048) zero2]
  rfl

/-- What the loop has reached at its end. -/
theorem ended : Reached 4 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 kernelRun0_A.sl.v5 (k0_pay1085 i) (k0_pay1086 i)
      (arg18.view.writes (Elt Ideal) arg18.view.junk (kernelRun0_A.sl.HS0_1 c arg1 harg1 arg2 harg2 arg4 harg4 arg6 harg6 x0 x1 x3 x5))
      (arg19.view.writes (Elt Ideal) arg19.view.junk (kernelRun0_A.sl.HS1_1 c arg1 harg1 arg8 harg8 arg10 harg10 arg12 harg12 x0 x7 x9 x11))
      (k0_pay2 (F := Ideal), k0_pay3, k0_pay2 (F := Ideal), k0_pay3) 4)
    (rowWord i) (k0_pay1087 (F := Ideal) x0 x1 x3 x5) (k0_pay1087 (F := Ideal) x0 x7 x9 x11) :=
  reached Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 kernelRun0_A.sl.v5 (k0_pay1085 i) (k0_pay1086 i) _ _ (lanes i) _ _
    (logitsH c arg1 harg1 arg2 harg2 arg4 harg4 arg6 harg6 arg18 x0 x1 x3 x5) (logitsD c arg1 harg1 arg8 harg8 arg10 harg10 arg12 harg12 arg19 x0 x7 x9 x11) 4 (le_refl 4)

theorem out13 (y : S512x2048.Idx) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 y
    = cellProb 1832780943#32 270669613#32 (rowWord i) (k0_pay1087 (F := Ideal) x0 x1 x3 x5) y := by
  unfold out0_A_13
  rw [View.read_writes_junk_eq_canon]
  exact View.canon_apply_of_pieces _ _ (ended c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (x0 := x0) (x1 := x1) (x3 := x3) (x5 := x5) (x7 := x7) (x9 := x9) (x11 := x11)).piecesH.mem y
    (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 y)

theorem out14 : ∃ (v : FVec Ideal S512x128 .f32) (j : IVec S512x128 32),
    (∀ p : S512x128.Idx, Best (seenBy 4 (p 1).val) (outcome 1832780943#32 270669613#32 64467757#32 2916123636#32 (rowWord i) (k0_pay1087 (F := Ideal) x0 x1 x3 x5) (p 0)) (v p) (j p))
    ∧ out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 = k0_pay7 (F := Ideal) v j := by
  refine ⟨_, _, (ended c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (x0 := x0) (x1 := x1) (x3 := x3) (x5 := x5) (x7 := x7) (x9 := x9) (x11 := x11)).bestH, ?_⟩
  unfold out0_A_14
  rw [View.read_writes_junk_eq_canon]
  exact View.canon_unit_zero (S := S512x1) zero2 _ _

theorem out16 : ∃ (v : FVec Ideal S512x128 .f32) (j : IVec S512x128 32),
    (∀ p : S512x128.Idx, Best (seenBy 4 (p 1).val) (outcome 2465931498#32 255383827#32 3134548294#32 894150801#32 (rowWord i) (k0_pay1087 (F := Ideal) x0 x7 x9 x11) (p 0)) (v p) (j p))
    ∧ out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 = k0_pay8 (F := Ideal) v j := by
  refine ⟨_, _, (ended c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (x0 := x0) (x1 := x1) (x3 := x3) (x5 := x5) (x7 := x7) (x9 := x9) (x11 := x11)).bestD, ?_⟩
  unfold out0_A_16
  rw [View.read_writes_junk_eq_canon]
  exact View.canon_unit_zero (S := S512x1) zero2 _ _

theorem out15 (y : S512x2048.Idx) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 y
    = cellProb 2465931498#32 255383827#32 (rowWord i) (k0_pay1087 (F := Ideal) x0 x7 x9 x11) y := by
  unfold out0_A_15
  rw [View.read_writes_junk_eq_canon]
  exact View.canon_apply_of_pieces _ _ (ended c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (x0 := x0) (x1 := x1) (x3 := x3) (x5 := x5) (x7 := x7) (x9 := x9) (x11 := x11)).piecesD.mem y
    (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 y)

end Cert.KernelIdeal.Tiles
end
-- ==== Proof.Pick.lean ====
module
public import proofs.«01_k».proof.Proof.Lanes
public import Idealize.ShloMosaic.Lib.PlanTiles.Rows
public import Idealize.ShloMosaic.Lib.ValueLayout
public import Idealize.ShloMosaic.Lib.IndicatorCount
public import Idealize.ShloMosaic.Lib.ValueLayoutCasts
@[expose] public section
noncomputable section
/-!
# The place of the one greatest score

A row of scores is reduced to its greatest, and the least place that attains it is kept. When one
outcome alone attains the greatest score, its place is the result, whatever the order of the reduction.
-/
namespace Cert.Pick
open Cert.KernelIdeal Cert.KernelIdeal.Gen Cert.Draw Cert.KernelIdeal.Tiles
open Idealize.ShloMosaic Idealize.ShloMosaic.TcCoe Idealize.ShloMosaic.Tactic Idealize.ShloMosaic.ValueIdx

theorem select_oeq {α : Type} (s v : Ideal .f32) (x y : α) :
    Scalar.select (FloatOps.cmpf .oeq s v) x y = if (s : EReal) = v then x else y := by
  show (if BitVec.ofBool (decide ((s : EReal) = v)) = 1 then x else y) = _
  by_cases h : (s : EReal) = v
  · rw [if_pos h, decide_eq_true h]; rfl
  · rw [if_neg h, decide_eq_false h]; rfl

theorem minusInf : (FloatOps.ofBits .f32 0xFF800000#32 : Ideal .f32) = (⊥ : EReal) := by
  show Ideal.ofBits .f32 0xFF800000#32 = ⊥
  unfold Ideal.ofBits Ideal.ieee
  simp

/-- The least of words below `2 ^ 31`. -/
theorem fold_minsi {ι : Type} [DecidableEq ι] (s : Finset ι) (g : ι → ℕ) (hg : ∀ k, g k < 2 ^ 31) :
    s.fold IntOp.minsi 2147483647#32 (fun k => BitVec.ofNat 32 (g k)) = BitVec.ofNat 32 (s.fold min 2147483647 g)
    ∧ s.fold min 2147483647 g < 2 ^ 31 := by
  induction s using Finset.induction_on with
  | empty => exact ⟨rfl, by rw [Finset.fold_empty]; norm_num⟩
  | insert a s ha ih =>
    rw [Finset.fold_insert ha, Finset.fold_insert ha, ih.1, PlanTiles.minsi_word (hg a) ih.2, min_comm]
    exact ⟨rfl, lt_of_le_of_lt (min_le_left _ _) (hg a)⟩

/-- The greatest of the values, where one attains the bound `m`. -/
theorem fold_max {ι : Type} [Fintype ι] (v : ι → Ideal .f32) (m : EReal) (hle : ∀ k, (v k : EReal) ≤ m)
    (hex : ∃ k, (v k : EReal) = m) :
    ((Finset.univ : Finset ι).fold max (FloatOps.ofBits .f32 0xFF800000#32 : Ideal .f32) v : EReal) = m := by
  rw [minusInf]
  obtain ⟨k, hk⟩ := hex
  refine le_antisymm (Finset.fold_max_le _ |>.2 ⟨bot_le, fun k _ => hle k⟩) ?_
  exact Finset.le_fold_max _ |>.2 (Or.inr ⟨k, Finset.mem_univ k, hk.ge⟩)

/-- Every place that attains the greatest value is the word of `a`: the least such place is. -/
theorem pick {ι : Type} [Fintype ι] (v : ι → Ideal .f32) (w : ι → W) (M : Ideal .f32) (m : EReal) (a : ℕ) (ha : a < 4096)
    (hle : ∀ k, (v k : EReal) ≤ m) (hex : ∃ k, (v k : EReal) = m) (hw : ∀ k, (v k : EReal) = m → w k = BitVec.ofNat 32 a)
    (hM : M = (Finset.univ : Finset ι).fold max (FloatOps.ofBits .f32 0xFF800000#32 : Ideal .f32) v) :
    (Finset.univ : Finset ι).fold IntOp.minsi 2147483647#32
      (fun k => Scalar.select (FloatOps.cmpf .oeq (v k) M) (w k) 4096#32) = BitVec.ofNat 32 a := by
  classical
  rw [fold_max v m hle hex] at hM
  subst hM
  have hk : (fun k => Scalar.select (FloatOps.cmpf .oeq (v k) M) (w k) 4096#32)
      = fun k => BitVec.ofNat 32 (if (v k  : EReal) = M then a else 4096) := by
    funext k
    rw [select_oeq]
    by_cases h : (v k  : EReal) = M
    · rw [if_pos h, if_pos h, hw k h]
    · rw [if_neg h, if_neg h]
  rw [hk, (fold_minsi _ _ (fun k => by split <;> omega)).1]
  obtain ⟨k, hk⟩ := hex
  congr 1
  refine le_antisymm ?_ ?_
  · exact Finset.fold_min_le _ |>.2 (Or.inr ⟨k, Finset.mem_univ k, by rw [if_pos hk]⟩)
  · refine Finset.le_fold_min _ |>.2 ⟨by omega, fun k _ => ?_⟩
    split <;> omega

/-! ## The kernel's lanes -/

/-- One outcome's score is above every other's. -/
def Top (S : ℕ → EReal) (a : ℕ) : Prop := a < 4096 ∧ ∀ b, b < 4096 → b ≠ a → S b < S a

theorem Top.le {S : ℕ → EReal} {a : ℕ} (h : Top S a) {b : ℕ} (hb : b < 4096) : S b ≤ S a := by
  by_cases e : b = a
  · rw [e]
  · exact (h.2 b hb e).le

theorem Top.eq {S : ℕ → EReal} {a : ℕ} (h : Top S a) {b : ℕ} (hb : b < 4096) (e : S b = S a) : b = a := by
  by_contra hn
  exact absurd e (h.2 b hb hn).ne

theorem lift_512 (h : S512x128.Reduces [1] S512) (r : Fin 512) (l : Fin 128) :
    h.lift (ix1 r) l = ix2 (n0 := 512) (n1 := 128) r l := by
  funext a
  fin_cases a <;> exact Fin.ext rfl

theorem spread {α : Type} (v : S512x1.Idx → α) (h : S512x1.Broadcasts S512x128) (r : Fin 512) (l : Fin 128) :
    broadcastTo S512x128 v h (ix2 r l) = v (ix2 r 0) := by
  refine broadcastTo_apply v h (ix2 r l) (ix2 r 0) fun ax => ?_
  match ax with
  | ⟨0, _⟩ => rfl
  | ⟨1, _⟩ => rfl

/-- The least kept place of a row, where the lanes `M` says are the greatest all hold the word of `a`. -/
theorem pick_row (v : FVec Ideal S512x128 .f32) (j : IVec S512x128 32) (M : FVec Ideal S512 .f32) (r : Fin 512) (u : Fin 1)
    (m : EReal) (a : ℕ) (ha : a < 4096) (hle : ∀ l : Fin 128, (v (ix2 r l) : EReal) ≤ m) (hex : ∃ l : Fin 128, (v (ix2 r l) : EReal) = m)
    (hj : ∀ l : Fin 128, (v (ix2 r l) : EReal) = m → j (ix2 r l) = BitVec.ofNat 32 a)
    (hM : M (ix1 r) = (Finset.univ : Finset (Fin 128)).fold max (FloatOps.ofBits .f32 0xFF800000#32 : Ideal .f32) (fun l => v (ix2 r l))) :
    shapeCast S512x1 (multiReductionI .minsi [1] S512 (select (cmpf .oeq v (broadcastTo S512x128
      (shapeCast S512x1 M shapeCasts_S512_S512x1) broadcasts_S512x1_S512x128)) j (broadcast S512x128 4096#32))
      2147483647#32 reduces_S512x128_S512 rfl) shapeCasts_S512_S512x1 (ix2 r u) = BitVec.ofNat 32 a := by
  rw [shapeCast_a_a1_apply]
  refine (multiReductionI_eq_fold _ _ _ reduces_S512x128_S512 rfl (ix1 r)).trans ?_
  refine (Shape.Reduces.fold_filter_drop_single reduces_S512x128_S512 IntOp.minsi _ _ (ix1 r)).trans ?_
  have e : ∀ l : Fin 128, select (cmpf .oeq v (broadcastTo S512x128 (shapeCast S512x1 M shapeCasts_S512_S512x1) broadcasts_S512x1_S512x128))
      j (broadcast S512x128 4096#32) (reduces_S512x128_S512.lift (ix1 r) l)
      = Scalar.select (FloatOps.cmpf .oeq (v (ix2 r l)) (M (ix1 r))) (j (ix2 r l)) 4096#32 := fun l => by
    have e : broadcastTo S512x128 (shapeCast S512x1 M shapeCasts_S512_S512x1) broadcasts_S512x1_S512x128 (ix2 r l) = M (ix1 r) := by
      rw [spread, shapeCast_a_a1_apply]
    rw [lift_512, ← e]
    rfl
  exact Eq.trans (Finset.fold_congr fun l _ => e l)
    (pick (fun l : Fin 128 => v (ix2 r l)) (fun l => j (ix2 r l)) (M (ix1 r)) m a ha hle hex hj hM)

/-- What the last reduction leaves for a row whose lanes hold the best of all outcomes. -/
theorem pick_lanes (v : FVec Ideal S512x128 .f32) (j : IVec S512x128 32) (r : Fin 512) (S : ℕ → EReal)
    (hb : ∀ l : Fin 128, Best (seenBy 4 l.val) S (v (ix2 r l)) (j (ix2 r l))) (a : ℕ) (ha : Top S a) (u : Fin 1) :
    k0_pay7 (F := Ideal) v j (ix2 r u) = BitVec.ofNat 32 a := by
  have seen : ∀ b, b < 4096 → seenBy 4 (b % 128) b := fun b h => ⟨h, rfl, by omega⟩
  have at' : ∀ l : Fin 128, ∃ b, b < 4096 ∧ S b = v (ix2 r l) ∧ j (ix2 r l) = BitVec.ofNat 32 b := fun l => by
    rcases (hb l).2 with ⟨h, -⟩ | h
    · have e := seen l.val (by omega)
      rw [Nat.mod_eq_of_lt l.isLt] at e
      exact absurd e (h l.val)
    · exact h
  have hle : ∀ l : Fin 128, (v (ix2 r l) : EReal) ≤ S a := fun l => by
    obtain ⟨b, h, e, -⟩ := at' l
    exact e ▸ ha.le h
  refine pick_row v j _ r u (S a) a ha.1 hle ⟨⟨a % 128, Nat.mod_lt _ (by omega)⟩, le_antisymm (hle _) ((hb _).1 a (seen a ha.1))⟩ ?_ ?_
  · intro l hl
    obtain ⟨b, h, e, hj⟩ := at' l
    rw [show j (ix2 r l) = _ from hj, ha.eq h (e.trans hl)]
  · refine (Ideal.multiReduction_maximumf_single v _ reduces_S512x128_S512 (.inl rfl) rfl (ix1 r)).trans ?_
    refine Finset.fold_congr fun l _ => ?_
    exact congrArg v (lift_512 reduces_S512x128_S512 r l)

/-! ## A whole row of scores -/

theorem lift_16384 (h : (⟨2, ![16384, 4096]⟩ : Shape).Reduces [1] ⟨1, ![16384]⟩) (r : Fin 16384) (l : Fin 4096) :
    h.lift (ix1 r) l = ix2 (n0 := 16384) (n1 := 4096) r l := by
  funext a
  fin_cases a <;> exact Fin.ext rfl

/-- The first place of a row's greatest score, where one score alone is the greatest. -/
theorem pick_host (v : FVec Ideal ⟨2, ![16384, 4096]⟩ .f32) (w : IVec ⟨2, ![16384, 4096]⟩ 32) (init : (⟨0, ![]⟩ : Shape).Idx → W)
    (h' : (⟨2, ![16384, 4096]⟩ : Shape).ReducesTo [1] ⟨1, ![16384]⟩) (hu : 0 < (⟨0, ![]⟩ : Shape).numel)
    (r : Fin 16384) (M : Ideal .f32) (hi : ∀ y, init y = 2147483647#32)
    (hw : ∀ l : Fin 4096, w (ix2 r l) = Scalar.select (FloatOps.cmpf .oeq (v (ix2 r l)) M) (BitVec.ofNat 32 l.val) 4096#32)
    (hM : M = (Finset.univ : Finset (Fin 4096)).fold max (FloatOps.ofBits .f32 0xFF800000#32 : Ideal .f32) (fun l => v (ix2 r l)))
    (S : ℕ → EReal) (hS : ∀ l : Fin 4096, (v (ix2 r l) : EReal) = S l.val) (a : ℕ) (ha : Top S a) :
    Host.reduce IntOp.minsi w init h' hu (ix1 r) = BitVec.ofNat 32 a := by
  have h : (⟨2, ![16384, 4096]⟩ : Shape).Reduces [1] ⟨1, ![16384]⟩ := by decide
  refine (Host.reduce_eq_fold_single IntOp.minsi w init h' h hu (ix1 r)).trans ?_
  rw [hi]
  refine Eq.trans (Finset.fold_congr fun l _ => ?_)
    (pick (fun l : Fin 4096 => v (ix2 r l)) (fun l => BitVec.ofNat 32 l.val) M (S a) a ha.1
      (fun l => (hS l).le.trans (ha.le l.isLt)) ⟨⟨a, ha.1⟩, hS _⟩
      (fun l hl => by rw [ha.eq l.isLt ((hS l).symm.trans hl)]) hM)
  exact (congrArg w (lift_16384 h r l)).trans (hw l)

/-- A row's greatest score. -/
theorem max_host (v : FVec Ideal ⟨2, ![16384, 4096]⟩ .f32) (init : (⟨0, ![]⟩ : Shape).Idx → Ideal .f32)
    (h' : (⟨2, ![16384, 4096]⟩ : Shape).ReducesTo [1] ⟨1, ![16384]⟩) (hu : 0 < (⟨0, ![]⟩ : Shape).numel)
    (r : Fin 16384) (hi : ∀ y, init y = FloatOps.ofBits .f32 0xFF800000#32) :
    Host.reduce FloatOps.maximumf v init h' hu (ix1 r)
      = (Finset.univ : Finset (Fin 4096)).fold max (FloatOps.ofBits .f32 0xFF800000#32 : Ideal .f32) (fun l => v (ix2 r l)) := by
  have h : (⟨2, ![16384, 4096]⟩ : Shape).Reduces [1] ⟨1, ![16384]⟩ := by decide
  refine (Host.reduce_eq_fold_single FloatOps.maximumf v init h' h hu (ix1 r)).trans ?_
  rw [hi]
  refine Finset.fold_congr fun l _ => ?_
  exact congrArg v (lift_16384 h r l)

theorem oeq_one (s v : Ideal .f32) : FloatOps.cmpf .oeq s v = 1#1 ↔ (s : EReal) = v := by
  show BitVec.ofBool (decide ((s : EReal) = v)) = 1#1 ↔ _
  by_cases h : (s : EReal) = v
  · rw [decide_eq_true h]; exact ⟨fun _ => h, fun _ => rfl⟩
  · rw [decide_eq_false h]; exact ⟨fun e => absurd e (by decide), fun e => absurd e h⟩

/-- Where just one score is counted equal to the greatest, that one is above every other. -/
theorem top_of_count (v : Fin 4096 → Ideal .f32) (M : Ideal .f32)
    (hM : M = (Finset.univ : Finset (Fin 4096)).fold max (FloatOps.ofBits .f32 0xFF800000#32 : Ideal .f32) v)
    (hc : (Finset.univ : Finset (Fin 4096)).fold IntOp.addi 0#32 (fun k => (FloatOps.cmpf .oeq (v k) M).setWidth 32) = 1#32)
    (S : ℕ → EReal) (hS : ∀ l : Fin 4096, (v l : EReal) = S l.val) : ∃ a, Top S a := by
  classical
  have hle : ∀ l, (v l : EReal) ≤ M := fun l => by
    rw [hM]
    exact Finset.le_fold_max _ |>.2 (Or.inr ⟨l, Finset.mem_univ l, le_refl _⟩)
  rw [IndicatorCount.fold_addi_setWidth_eq_card] at hc
  have hn : (Finset.univ.filter fun k : Fin 4096 => FloatOps.cmpf .oeq (v k) M = 1#1).card = 1 := by
    have h4 : (Finset.univ.filter fun k : Fin 4096 => FloatOps.cmpf .oeq (v k) M = 1#1).card ≤ 4096 :=
      (Finset.card_filter_le _ _).trans (by rw [Finset.card_univ, Fintype.card_fin])
    have h := congrArg BitVec.toNat hc
    rw [BitVec.toNat_ofNat, Nat.mod_eq_of_lt (by omega)] at h
    exact h
  obtain ⟨a, ha⟩ := Finset.card_eq_one.1 hn
  have mem : ∀ l, (v l : EReal) = M ↔ l = a := fun l => by
    have h : l ∈ (Finset.univ.filter fun k : Fin 4096 => FloatOps.cmpf .oeq (v k) M = 1#1) ↔ l ∈ ({a} : Finset (Fin 4096)) := by rw [ha]
    rw [Finset.mem_filter, Finset.mem_singleton, oeq_one] at h
    exact ⟨fun e => h.1 ⟨Finset.mem_univ l, e⟩, fun e => (h.2 e).2⟩
  refine ⟨a.val, a.isLt, fun b hb hba => ?_⟩
  rw [← hS a, (mem a).2 rfl, ← hS ⟨b, hb⟩]
  exact lt_of_le_of_ne (hle _) fun e => hba (congrArg Fin.val ((mem _).1 e))

/-- The same count as a reduction of a row. -/
theorem count_host (v : FVec Ideal ⟨2, ![16384, 4096]⟩ .f32) (w : IVec ⟨2, ![16384, 4096]⟩ 32) (init : (⟨0, ![]⟩ : Shape).Idx → W)
    (h' : (⟨2, ![16384, 4096]⟩ : Shape).ReducesTo [1] ⟨1, ![16384]⟩) (hu : 0 < (⟨0, ![]⟩ : Shape).numel)
    (r : Fin 16384) (M : Ideal .f32) (hi : ∀ y, init y = 0#32)
    (hw : ∀ l : Fin 4096, w (ix2 r l) = (FloatOps.cmpf .oeq (v (ix2 r l)) M).setWidth 32)
    (hM : M = (Finset.univ : Finset (Fin 4096)).fold max (FloatOps.ofBits .f32 0xFF800000#32 : Ideal .f32) (fun l => v (ix2 r l)))
    (hc : Host.reduce IntOp.addi w init h' hu (ix1 r) = 1#32)
    (S : ℕ → EReal) (hS : ∀ l : Fin 4096, (v (ix2 r l) : EReal) = S l.val) : ∃ a, Top S a := by
  have h : (⟨2, ![16384, 4096]⟩ : Shape).Reduces [1] ⟨1, ![16384]⟩ := by decide
  refine top_of_count (fun l => v (ix2 r l)) M hM ?_ S hS
  rw [← hc]
  refine Eq.symm ((Host.reduce_eq_fold_single IntOp.addi w init h' h hu (ix1 r)).trans ?_)
  rw [hi]
  exact Finset.fold_congr fun l _ => (congrArg w (lift_16384 h r l)).trans (hw l)

end Cert.Pick
end
-- ==== Proof.Blocks.lean ====
module
public import proofs.«01_k».proof.Proof.Outs
public import proofs.«01_k».proof.Proof.Pick
public import proofs.«01_k».proof.Proof.Gen.KernelIdeal.Value
public import Idealize.ShloMosaic.Lib.ValueIdxCore
@[expose] public section
noncomputable section
/-!
# The result arrays and the argument blocks, element by element

Grid point `t` writes rows `512 t` up to `512 t + 511` of each result, and reads the same rows of the
observations and the whole of every weight.
-/
namespace Cert.Blocks
open Cert.Pick (Top pick_lanes)
open Cert.KernelIdeal Cert.KernelIdeal.Gen Cert.KernelIdeal.Value Cert.KernelIdeal.Tiles Cert.Draw
open Idealize.ShloMosaic Idealize.ShloMosaic.TcCoe Idealize.SL.Sem Idealize.ShloMosaic.ValueIdx

variable (m : (ℓ : Loc nD τ sig) → Buf (Elt Ideal) ℓ) (c : Dev nD) (t : Fin cfg0.N)

/-! ## Where the blocks lie -/

theorem coord : ∀ t : Fin cfg0.N, ((grid0.coords t) 0).val = t.val :=
  (by decide +kernel : ∀ t : Fin grid0.N, ((grid0.coords t) 0).val = t.val)

theorem index0 : ∀ t : Fin cfg0.N, win0_0.index t 0 = t.val ∧ win0_0.index t 1 = 0 :=
  (by decide +kernel : ∀ t : Fin grid0.N, win0_0.index t 0 = t.val ∧ win0_0.index t 1 = 0)
theorem index13 : ∀ t : Fin cfg0.N, win0_13.index t 0 = t.val ∧ win0_13.index t 1 = 0 :=
  (by decide +kernel : ∀ t : Fin grid0.N, win0_13.index t 0 = t.val ∧ win0_13.index t 1 = 0)
theorem index14 : ∀ t : Fin cfg0.N, win0_14.index t 0 = t.val ∧ win0_14.index t 1 = 0 :=
  (by decide +kernel : ∀ t : Fin grid0.N, win0_14.index t 0 = t.val ∧ win0_14.index t 1 = 0)

/-- The rows of block `t` of a result of 2048 columns. -/
theorem wide (r : Fin 512) (q : Fin 2048) (R : Fin 16384) (hR : R.val = 512 * t.val + r.val) :
    ((cfg0.win 13).blk t).view.emb (ix2 r q) = ix2 R q := by
  funext a
  apply Fin.ext
  match a with
  | ⟨0, _⟩ => show win0_13.index t 0 * 512 + 1 * r.val = R.val; rw [(index13 t).1]; omega
  | ⟨1, _⟩ => show win0_13.index t 1 * 2048 + 1 * q.val = q.val; rw [(index13 t).2]; omega

/-- The rows of block `t` of a result of one column. -/
theorem narrow (r : Fin 512) (u : Fin 1) (R : Fin 16384) (hR : R.val = 512 * t.val + r.val) :
    ((cfg0.win 14).blk t).view.emb (ix2 r u) = ix2 R u := by
  funext a
  apply Fin.ext
  match a with
  | ⟨0, _⟩ => show win0_14.index t 0 * 512 + 1 * r.val = R.val; rw [(index14 t).1]; omega
  | ⟨1, _⟩ => show win0_14.index t 1 * 1 + 1 * u.val = u.val; rw [(index14 t).2]; omega

/-! ## The results -/

section Results
variable (r : Fin 512) (R : Fin 16384) (hR : R.val = 512 * t.val + r.val)
include hR

theorem at13 (q : Fin 2048) : (dats m 0 c).arrAt 13 cfg0.N (ix2 R q)
    = cellProb 1832780943#32 270669613#32 (rowWord (grid0.coords t)) (k0_pay1087 (F := Ideal) (iblk m c 0 t) (iblk m c 1 t) (iblk m c 3 t) (iblk m c 5 t)) (ix2 r q) := by
  refine Eq.trans ?_ ((congrFun ((blocks13 m c t (flush0_13 t)).trans (flushed13_A m c t)) (ix2 r q)).trans (out13 ..))
  rw [View.read_apply]
  exact congrArg _ (wide t r q R hR).symm

theorem at15 (q : Fin 2048) : (dats m 0 c).arrAt 15 cfg0.N (ix2 R q)
    = cellProb 2465931498#32 255383827#32 (rowWord (grid0.coords t)) (k0_pay1087 (F := Ideal) (iblk m c 0 t) (iblk m c 7 t) (iblk m c 9 t) (iblk m c 11 t)) (ix2 r q) := by
  refine Eq.trans ?_ ((congrFun ((blocks15 m c t (flush0_15 t)).trans (flushed15_A m c t)) (ix2 r q)).trans (out15 ..))
  rw [View.read_apply]
  exact congrArg _ (wide t r q R hR).symm

theorem at14 (u : Fin 1) (a : ℕ) (ha : Top (outcome 1832780943#32 270669613#32 64467757#32 2916123636#32 (rowWord (grid0.coords t)) (k0_pay1087 (F := Ideal) (iblk m c 0 t) (iblk m c 1 t) (iblk m c 3 t) (iblk m c 5 t)) r) a) :
    (dats m 0 c).arrAt 14 cfg0.N (ix2 R u) = BitVec.ofNat 32 a := by
  obtain ⟨v, j, hb, ho⟩ := out14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  refine Eq.trans ?_ ((congrFun ((blocks14 m c t (flush0_14 t)).trans (flushed14_A m c t)) (ix2 r u)).trans
    ((congrFun ho (ix2 r u)).trans (pick_lanes v j r _ (fun l => hb (ix2 r l)) a ha u)))
  rw [View.read_apply]
  exact congrArg _ (narrow t r u R hR).symm

theorem at16 (u : Fin 1) (a : ℕ) (ha : Top (outcome 2465931498#32 255383827#32 3134548294#32 894150801#32 (rowWord (grid0.coords t)) (k0_pay1087 (F := Ideal) (iblk m c 0 t) (iblk m c 7 t) (iblk m c 9 t) (iblk m c 11 t)) r) a) :
    (dats m 0 c).arrAt 16 cfg0.N (ix2 R u) = BitVec.ofNat 32 a := by
  obtain ⟨v, j, hb, ho⟩ := out16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  refine Eq.trans ?_ ((congrFun ((blocks16 m c t (flush0_16 t)).trans (flushed16_A m c t)) (ix2 r u)).trans
    ((congrFun ho (ix2 r u)).trans (pick_lanes v j r _ (fun l => hb (ix2 r l)) a ha u)))
  rw [View.read_apply]
  exact congrArg _ (narrow t r u R hR).symm

theorem rows (l : Fin 256) :
    (iblk m c 0 t : Vec Ideal S512x256 .f32) (ix2 r l) = m ((c : Thread nD τ).loc main_arg0) (ix2 R l) := by
  unfold iblk
  rw [View.read_apply]
  refine (congrFun (V_main_arg0 m c) _).trans ?_
  refine congrArg _ (funext fun a => Fin.ext ?_)
  match a with
  | ⟨0, _⟩ => show win0_0.index t 0 * 512 + 1 * r.val = R.val; rw [(index0 t).1]; omega
  | ⟨1, _⟩ => show win0_0.index t 1 * 256 + 1 * l.val = l.val; rw [(index0 t).2]; omega

end Results

/-! ## The weights: one block holds the whole of each -/

theorem origin (S : Fin 2 → ℕ) : (fun a => (![0, 0] : Fin 2 → ℕ) a * S a) = fun _ => 0 :=
  funext fun a => by
    match a with
    | ⟨0, _⟩ => exact Nat.zero_mul _
    | ⟨1, _⟩ => exact Nat.zero_mul _

theorem fits (S : Fin 2 → ℕ) (a : Fin 2) : (![0, 0] : Fin 2 → ℕ) a * S a + S a ≤ S a :=
  le_of_eq ((congrArg (· + S a) (congrFun (origin S) a)).trans (Nat.zero_add _))

theorem weight1 : (iblk m c 1 t : Vec Ideal S256x64 .f32) = m ((c : Thread nD τ).loc main_arg1) :=
  (Memref.read_access_unit_zero (Elt Ideal) main_arg1 (origin S256x64.size) (fits S256x64.size) _).trans (V_main_arg1 m c)
theorem weight3 : (iblk m c 3 t : Vec Ideal S64x64 .f32) = m ((c : Thread nD τ).loc main_arg3) :=
  (Memref.read_access_unit_zero (Elt Ideal) main_arg3 (origin S64x64.size) (fits S64x64.size) _).trans (V_main_arg3 m c)
theorem weight5 : (iblk m c 5 t : Vec Ideal S64x2048 .f32) = m ((c : Thread nD τ).loc main_arg5) :=
  (Memref.read_access_unit_zero (Elt Ideal) main_arg5 (origin S64x2048.size) (fits S64x2048.size) _).trans (V_main_arg5 m c)
theorem weight7 : (iblk m c 7 t : Vec Ideal S256x64 .f32) = m ((c : Thread nD τ).loc main_arg7) :=
  (Memref.read_access_unit_zero (Elt Ideal) main_arg7 (origin S256x64.size) (fits S256x64.size) _).trans (V_main_arg7 m c)
theorem weight9 : (iblk m c 9 t : Vec Ideal S64x64 .f32) = m ((c : Thread nD τ).loc main_arg9) :=
  (Memref.read_access_unit_zero (Elt Ideal) main_arg9 (origin S64x64.size) (fits S64x64.size) _).trans (V_main_arg9 m c)
theorem weight11 : (iblk m c 11 t : Vec Ideal S64x2048 .f32) = m ((c : Thread nD τ).loc main_arg11) :=
  (Memref.read_access_unit_zero (Elt Ideal) main_arg11 (origin S64x2048.size) (fits S64x2048.size) _).trans (V_main_arg11 m c)

end Cert.Blocks
end
-- ==== Proof.RefSide.lean ====
module
public import proofs.«01_k».proof.Proof.Gen.ReferenceIdeal.Read
public import proofs.«01_k».proof.Proof.Draw
public import Idealize.ShloMosaic.Lib.Tactic
@[expose] public section
noncomputable section
/-!
# The reference, element by element
-/
namespace Cert.RefSide
open Cert.ReferenceIdeal Cert.ReferenceIdeal.Gen Cert.ReferenceIdeal.Read Cert.Draw
open Idealize.ShloMosaic Idealize.ShloMosaic.TcCoe Idealize.ShloMosaic.Tactic Idealize.SL.Sem
variable {F : FTy → Type} [FloatOps F]

/-! ## The four keys -/

/-- The first word of key `n`, made from the seed 42 and the key's number. -/
def firstWord (n : ℕ) : W := hThreefry 0#32 42#32 0#32 (BitVec.ofNat 32 n) (fun a _ => a)

/-- The second word of key `n`. -/
def secondWord (n : ℕ) : W := hThreefry 0#32 42#32 0#32 (BitVec.ofNat 32 n) (fun _ b => b)

theorem firstWords (j : S4.Idx) : val_main_v173 (F := F) j = firstWord (j 0).val := by
  sl_kernel_rfl

theorem secondWords (j : S4.Idx) : val_main_v177 (F := F) j = secondWord (j 0).val := by
  sl_kernel_rfl

/-- Word `n` of four words, cut out and read as a scalar. -/
theorem word_at (x : IVec S4 32) (f : ℕ → W) (hx : ∀ j, x j = f (j 0).val) (n : ℕ)
    (h : S4.Slices ![n] S1) (h' : S1.ShapeCasts S_) (j : S_.Idx) :
    shapeCast S_ (extractStridedSlice S1 ![n] x h) h' j = f n := by
  unfold shapeCast extractStridedSlice
  rw [hx]
  congr 1
  have := ((Shape.reshapeEquiv h' j) 0).isLt
  have h1 : S1.size 0 = 1 := rfl
  show n + ((Shape.reshapeEquiv h' j) 0).val = n
  omega

theorem key1a (j : S_.Idx) : val_main_v179 (F := F) j = 1832780943#32 :=
  (word_at _ firstWord firstWords 0 _ _ j).trans (by decide +kernel)
theorem key1b (j : S_.Idx) : val_main_v181 (F := F) j = 270669613#32 :=
  (word_at _ secondWord secondWords 0 _ _ j).trans (by decide +kernel)
theorem key2a (j : S_.Idx) : val_main_v183 (F := F) j = 64467757#32 :=
  (word_at _ firstWord firstWords 1 _ _ j).trans (by decide +kernel)
theorem key2b (j : S_.Idx) : val_main_v185 (F := F) j = 2916123636#32 :=
  (word_at _ secondWord secondWords 1 _ _ j).trans (by decide +kernel)
theorem key3a (j : S_.Idx) : val_main_v187 (F := F) j = 2465931498#32 :=
  (word_at _ firstWord firstWords 2 _ _ j).trans (by decide +kernel)
theorem key3b (j : S_.Idx) : val_main_v189 (F := F) j = 255383827#32 :=
  (word_at _ secondWord secondWords 2 _ _ j).trans (by decide +kernel)
theorem key4a (j : S_.Idx) : val_main_v191 (F := F) j = 3134548294#32 :=
  (word_at _ firstWord firstWords 3 _ _ j).trans (by decide +kernel)
theorem key4b (j : S_.Idx) : val_main_v193 (F := F) j = 894150801#32 :=
  (word_at _ secondWord secondWords 3 _ _ j).trans (by decide +kernel)

/-- A scalar spread over an array. -/
theorem spread {t : Shape} (h : S_.BroadcastsInDim t ![]) (x : IVec S_ 32) (w : W)
    (hx : ∀ j, x j = w) (i : t.Idx) : broadcastInDim t ![] h x i = w := hx _

/-! ## The bits -/

/-- The row-major place of an index of an array of rows of `n`. -/
def place {s : Shape} (a b : Fin s.rank) (n : W) (i : s.Idx) : W :=
  IntOp.addi (IntOp.muli (BitVec.ofNat 32 (i a).val) n) (BitVec.ofNat 32 (i b).val)

theorem noiseH (i : S16384x2048.Idx) : val_main_v396 (F := F) i =
    hThreefry 1832780943#32 270669613#32 0#32 (place 0 1 2048#32 i) IntOp.xori := by
  have h : val_main_v396 (F := F) i =
      hThreefry (broadcastInDim S16384x2048 ![] bcast_S_S16384x2048 (val_main_v179 (F := F)) i)
        (broadcastInDim S16384x2048 ![] bcast_S_S16384x2048 (val_main_v181 (F := F)) i) 0#32
        (place 0 1 2048#32 i) IntOp.xori := by sl_kernel_rfl
  rwa [spread _ _ _ key1a, spread _ _ _ key1b] at h

theorem noiseD (i : S16384x2048.Idx) : val_main_v872 (F := F) i =
    hThreefry 2465931498#32 255383827#32 0#32 (place 0 1 2048#32 i) IntOp.xori := by
  have h : val_main_v872 (F := F) i =
      hThreefry (broadcastInDim S16384x2048 ![] bcast_S_S16384x2048 (val_main_v187 (F := F)) i)
        (broadcastInDim S16384x2048 ![] bcast_S_S16384x2048 (val_main_v189 (F := F)) i) 0#32
        (place 0 1 2048#32 i) IntOp.xori := by sl_kernel_rfl
  rwa [spread _ _ _ key3a, spread _ _ _ key3b] at h

theorem drawH (i : S16384x4096.Idx) : val_main_v650 (F := F) i =
    hThreefry 64467757#32 2916123636#32 0#32 (place 0 1 4096#32 i) IntOp.xori := by
  have h : val_main_v650 (F := F) i =
      hThreefry (broadcastInDim S16384x4096 ![] bcast_S_S16384x4096 (val_main_v183 (F := F)) i)
        (broadcastInDim S16384x4096 ![] bcast_S_S16384x4096 (val_main_v185 (F := F)) i) 0#32
        (place 0 1 4096#32 i) IntOp.xori := by sl_kernel_rfl
  rwa [spread _ _ _ key2a, spread _ _ _ key2b] at h

theorem drawD (i : S16384x4096.Idx) : val_main_v1126 (F := F) i =
    hThreefry 3134548294#32 894150801#32 0#32 (place 0 1 4096#32 i) IntOp.xori := by
  have h : val_main_v1126 (F := F) i =
      hThreefry (broadcastInDim S16384x4096 ![] bcast_S_S16384x4096 (val_main_v191 (F := F)) i)
        (broadcastInDim S16384x4096 ![] bcast_S_S16384x4096 (val_main_v193 (F := F)) i) 0#32
        (place 0 1 4096#32 i) IntOp.xori := by sl_kernel_rfl
  rwa [spread _ _ _ key4a, spread _ _ _ key4b] at h

/-! ## The probabilities and the scores -/

variable (x0 : FVec F S16384x256 .f32) (x1 : FVec F S256x64 .f32) (x2 : FVec F S64 .f32)
  (x3 : FVec F S64x64 .f32) (x4 : FVec F S64 .f32) (x5 : FVec F S64x2048 .f32)
  (x6 : FVec F S2048 .f32)

theorem probH (i : S16384x2048.Idx) : val_main_v464 (F := F) x0 x1 x2 x3 x4 x5 x6 i =
    hProb (val_main_v207 (F := F) x0 x1 x2 x3 x4 x5 x6 i) (val_main_v396 (F := F) i) := by
  sl_kernel_rfl

theorem probD (i : S16384x2048.Idx) : val_main_v940 (F := F) x0 x1 x2 x3 x4 x5 x6 i =
    hProb (val_main_v683 (F := F) x0 x1 x2 x3 x4 x5 x6 i) (val_main_v872 (F := F) i) := by
  sl_kernel_rfl

theorem scoreH (i : S16384x4096.Idx) : val_main_v669 (F := F) x0 x1 x2 x3 x4 x5 x6 i =
    hScore (val_main_v467 (F := F) x0 x1 x2 x3 x4 x5 x6 i) (val_main_v650 (F := F) i) := by
  sl_kernel_rfl

theorem scoreD (i : S16384x4096.Idx) : val_main_v1145 (F := F) x0 x1 x2 x3 x4 x5 x6 i =
    hScore (val_main_v943 (F := F) x0 x1 x2 x3 x4 x5 x6 i) (val_main_v1126 (F := F) i) := by
  sl_kernel_rfl

end Cert.RefSide
end
-- ==== Proof.Mlp.lean ====
module
public import proofs.«01_k».proof.Proof.RefSide
public import proofs.«01_k».proof.Proof.Tiles
public import Idealize.ShloMosaic.Lib.MatmulPlain
public import Idealize.ShloMosaic.Lib.ValueIdxCore
public import Idealize.ShloMosaic.PureOps.Ideal.Laws
@[expose] public section
noncomputable section
/-!
# The logits of a row

The kernel leaves the biases out, so the two sides agree where every bias is zero.
-/
namespace Cert.Mlp
open Idealize.ShloMosaic Idealize.ShloMosaic.TcCoe Idealize.ShloMosaic.Tactic Idealize.ShloMosaic.ValueIdx

/-- Two rectified layers without biases. -/
def hidden (x : Fin 256 → EReal) (w1 : (⟨2, ![256, 64]⟩ : Shape).Idx → EReal) (w2 : (⟨2, ![64, 64]⟩ : Shape).Idx → EReal)
    (k : Fin 64) : EReal :=
  max (∑ j : Fin 64, max (∑ l : Fin 256, x l * w1 (ix2 l j)) 0 * w2 (ix2 j k)) 0

/-- A logit without biases: two rectified layers and a linear one. -/
def mlp (x : Fin 256 → EReal) (w1 : (⟨2, ![256, 64]⟩ : Shape).Idx → EReal) (w2 : (⟨2, ![64, 64]⟩ : Shape).Idx → EReal)
    (w3 : (⟨2, ![64, 2048]⟩ : Shape).Idx → EReal) (c : Fin 2048) : EReal :=
  ∑ k : Fin 64, hidden x w1 w2 k * w3 (ix2 k c)

theorem zero_bits : (FloatOps.ofBits .f32 0x00000000#32 : Ideal .f32) = (0 : EReal) := Ideal.ofBits_zero_f32

/-! ## The kernel's block -/

section Kernel
open Cert.KernelIdeal Cert.KernelIdeal.Gen

/-- A matrix product from zero. -/
theorem product {M K N : ℕ} (d : DotDims ⟨2, ![M, K]⟩ ⟨2, ![K, N]⟩ ⟨2, ![M, N]⟩) (hd : d = DotDims.plain M K N)
    (lhs : FVec Ideal ⟨2, ![M, K]⟩ .f32) (rhs : FVec Ideal ⟨2, ![K, N]⟩ .f32) (r : Fin M) (c : Fin N) :
    (matmul d none lhs rhs (constant ⟨2, ![M, N]⟩ .f32 0x00000000#32) (ix2 r c) : EReal)
      = ∑ k : Fin K, (lhs (ix2 r k) : EReal) * rhs (ix2 k c) := by
  subst hd
  refine (Ideal.matmul_plain_apply none lhs rhs _ r c).trans ?_
  show (FloatOps.ofBits .f32 0x00000000#32 : Ideal .f32) + (_ : EReal) = _
  rw [zero_bits, zero_add]

theorem relu {s : Shape} (v : FVec Ideal s .f32) (i : s.Idx) :
    (maximumf v (broadcast s (Scalar.ofBits .f32 0x00000000#32)) i : EReal) = max (v i : EReal) 0 := by
  show max (v i : EReal) (FloatOps.ofBits .f32 0x00000000#32 : Ideal .f32) = _
  rw [zero_bits]

theorem block (v1 : FVec Ideal S512x256 .f32) (v12 : FVec Ideal S256x64 .f32) (v16 : FVec Ideal S64x64 .f32)
    (v20 : FVec Ideal S64x2048 .f32) (r : Fin 512) (c : Fin 2048) :
    (k0_pay1087 (F := Ideal) v1 v12 v16 v20 (ix2 r c) : EReal) = mlp (fun l => v1 (ix2 r l)) v12 v16 v20 c := by
  unfold k0_pay1087
  show shapeCast S512x2048 (matmul dot_S512x64_S64x2048_S512x2048_1_0_0_1_n_n none
    (maximumf (matmul dot_S512x64_S64x64_S512x64_1_0_0_1_n_n none
      (maximumf (matmul dot_S512x256_S256x64_S512x64_1_0_0_1_n_n none v1 v12 (constant S512x64 .f32 0x00000000#32))
        (broadcast S512x64 (Scalar.ofBits .f32 0x00000000#32))) v16 (constant S512x64 .f32 0x00000000#32))
      (broadcast S512x64 (Scalar.ofBits .f32 0x00000000#32))) v20 (constant S512x2048 .f32 0x00000000#32))
    shapeCasts_S512x2048_S512x2048 (ix2 r c) = _
  rw [shapeCast_self]
  refine (product _ rfl _ _ r c).trans (Finset.sum_congr rfl fun k _ => congrArg (· * (v20 (ix2 k c) : EReal)) ?_)
  refine (relu _ _).trans (congrArg (max · 0) ?_)
  refine (product _ rfl _ _ r k).trans (Finset.sum_congr rfl fun j _ => congrArg (· * (v16 (ix2 j k) : EReal)) ?_)
  refine (relu _ _).trans (congrArg (max · 0) ?_)
  exact product _ rfl _ _ r j

end Kernel

/-! ## The reference -/

section Reference
open Cert.ReferenceIdeal Cert.ReferenceIdeal.Gen Cert.ReferenceIdeal.Read

theorem whole (x0 : FVec Ideal S16384x256 .f32) (x1 : FVec Ideal S256x64 .f32) (x2 : FVec Ideal S64 .f32)
    (x3 : FVec Ideal S64x64 .f32) (x4 : FVec Ideal S64 .f32) (x5 : FVec Ideal S64x2048 .f32) (x6 : FVec Ideal S2048 .f32)
    (h2 : ∀ i, (x2 i : EReal) = 0) (h4 : ∀ i, (x4 i : EReal) = 0) (h6 : ∀ i, (x6 i : EReal) = 0) (r : Fin 16384) (c : Fin 2048) :
    (val_main_v207 (F := Ideal) x0 x1 x2 x3 x4 x5 x6 (ix2 r c) : EReal) = mlp (fun l => x0 (ix2 r l)) x1 x3 x5 c := by
  rw [val_main_v207_apply, val_main_v206_apply, val_main_v205_apply]
  show (val_main_v204 (F := Ideal) x0 x1 x2 x3 x4 x5 (ix2 r c) : EReal) + x6 _ = _
  rw [h6, add_zero, val_main_v204_apply]
  refine Finset.sum_congr rfl fun k _ => congrArg₂ (· * ·) ?_ (congrArg x5 (funext fun a => by fin_cases a <;> rfl))
  rw [val_main_v203_apply, val_main_v202_apply, val_main_v201_apply, val_main_v200_apply]
  show max ((val_main_v199 (F := Ideal) x0 x1 x2 x3 _ : EReal) + x4 _) (FloatOps.ofBits .f32 0x00000000#32 : Ideal .f32) = _
  rw [h4, add_zero, zero_bits, val_main_v199_apply]
  refine congrArg (max · 0) (Finset.sum_congr rfl fun j _ => congrArg₂ (· * ·) ?_ (congrArg x3 (funext fun a => by fin_cases a <;> rfl)))
  rw [val_main_v198_apply, val_main_v197_apply, val_main_v196_apply, val_main_v195_apply]
  show max ((val_main_v194 (F := Ideal) x0 x1 _ : EReal) + x2 _) (FloatOps.ofBits .f32 0x00000000#32 : Ideal .f32) = _
  rw [h2, add_zero, zero_bits, val_main_v194_apply]
  refine congrArg (max · 0) (Finset.sum_congr rfl fun l _ => congrArg₂ (· * ·) (congrArg x0 (funext fun a => by fin_cases a <;> rfl))
    (congrArg x1 (funext fun a => by fin_cases a <;> rfl)))

theorem second (x0 : FVec Ideal S16384x256 .f32) (x1 : FVec Ideal S256x64 .f32) (x2 : FVec Ideal S64 .f32)
    (x3 : FVec Ideal S64x64 .f32) (x4 : FVec Ideal S64 .f32) (x5 : FVec Ideal S64x2048 .f32) (x6 : FVec Ideal S2048 .f32) :
    val_main_v683 (F := Ideal) x0 x1 x2 x3 x4 x5 x6 = val_main_v207 (F := Ideal) x0 x1 x2 x3 x4 x5 x6 := rfl

end Reference
end Cert.Mlp
end
-- ==== Proof.Bits.lean ====
module
public import proofs.«01_k».proof.Proof.Draw
@[expose] public section
noncomputable section
/-!
# The two programs draw the same bits
-/
namespace Cert.Draw
open Idealize.ShloMosaic
variable {α : Type}

theorem rotl_host (x r r' : W) (hr : r.toNat < 32) (hr' : r'.toNat < 32) :
    rotl .host x r r' = rotl .vector x r r' := by
  simp only [rotl, IntOp.shli, IntOp.shrui, if_pos hr, if_pos hr']

theorem hRound_eq (r r' x0 x1 : W) (rest : W → W → α) (hr : r.toNat < 32) (hr' : r'.toNat < 32) :
    hRound r r' x0 x1 rest = kRound r r' x0 x1 rest := by
  unfold hRound kRound
  rw [rotl_host x1 r r' hr hr']
  congr 1
  exact BitVec.xor_comm _ _

theorem hRoundsA_eq (x0 x1 : W) (rest : W → W → α) :
    hRoundsA x0 x1 rest = kRoundsA x0 x1 rest := by
  unfold hRoundsA kRoundsA kRounds3
  simp only [hRound_eq _ _ _ _ _ (by decide : (13#32).toNat < 32) (by decide : (19#32).toNat < 32),
    hRound_eq _ _ _ _ _ (by decide : (15#32).toNat < 32) (by decide : (17#32).toNat < 32),
    hRound_eq _ _ _ _ _ (by decide : (26#32).toNat < 32) (by decide : (6#32).toNat < 32),
    hRound_eq _ _ _ _ _ (by decide : (6#32).toNat < 32) (by decide : (26#32).toNat < 32)]

theorem hRoundsB_eq (x0 x1 : W) (rest : W → W → α) :
    hRoundsB x0 x1 rest = kRoundsB x0 x1 rest := by
  unfold hRoundsB kRoundsB
  simp only [hRound_eq _ _ _ _ _ (by decide : (17#32).toNat < 32) (by decide : (15#32).toNat < 32),
    hRound_eq _ _ _ _ _ (by decide : (29#32).toNat < 32) (by decide : (3#32).toNat < 32),
    hRound_eq _ _ _ _ _ (by decide : (16#32).toNat < 32) (by decide : (16#32).toNat < 32),
    hRound_eq _ _ _ _ _ (by decide : (24#32).toNat < 32) (by decide : (8#32).toNat < 32)]

theorem hInject_eq (a b n x0 x1 : W) (rest : W → W → α) :
    hInject a b n x0 x1 rest = kInject a (b + n) x0 x1 rest := by
  unfold hInject kInject
  congr 1
  exact BitVec.add_assoc _ _ _

/-- The first four rounds from a counter whose high word is zero. -/
theorem firstRounds (a b cnt : W) (rest : W → W → α) :
    kRoundsA (IntOp.addi 0#32 a) (IntOp.addi cnt b) rest =
      kRounds3 (IntOp.addi cnt (a + b))
        (IntOp.xori (rotl .vector (IntOp.addi cnt b) 13#32 19#32) (IntOp.addi cnt (a + b))) rest := by
  have h : IntOp.addi (IntOp.addi 0#32 a) (IntOp.addi cnt b) = IntOp.addi cnt (a + b) := by
    show 0#32 + a + (cnt + b) = cnt + (a + b)
    rw [BitVec.zero_add, ← BitVec.add_assoc, BitVec.add_comm a cnt, BitVec.add_assoc]
  unfold kRoundsA kRound
  rw [h]

/-- The kernel's bits are the reference's: the counter's high word is zero. -/
theorem bits_eq (a b cnt : W) : hThreefry a b 0#32 cnt IntOp.xori = kBits a b cnt := by
  unfold hThreefry kBits
  simp only [hRoundsA_eq, hRoundsB_eq, hInject_eq, firstRounds]

end Cert.Draw
end
-- ==== Proof.Noise.lean ====
module
public import proofs.«01_k».proof.Proof.Bits
public import Idealize.ShloMosaic.PureOps.Ideal.Laws
public import Idealize.ShloMosaic.Lib.IdealHost
@[expose] public section
noncomputable section
/-!
# The two programs' probabilities and scores are equal over the extended reals
-/
namespace Cert.Draw
open Idealize.ShloMosaic

/-! ## Constants -/

/-- The real number that the sign, exponent and fraction of a pattern say. -/
def bitsReal (n : Bool) (ex fr : ℕ) : ℝ :=
  (if n then -1 else 1) * (2 ^ 23 + fr : ℕ) * (2 : ℝ) ^ ((ex : ℤ) - 127 - 23)

theorem f32_value (b : W) (n : Bool) (ex fr : ℕ) (hn : (b.extractLsb' 31 1 == 1#1) = n)
    (hex : (b.extractLsb' 23 8).toNat = ex) (hfr : (b.extractLsb' 0 23).toNat = fr)
    (h : ex ≠ 255) (h0 : ex ≠ 0) : f32 (F := Ideal) b = (bitsReal n ex fr : EReal) := by
  subst hn hex hfr
  show Ideal.ieee 8 23 b = _
  unfold Ideal.ieee bitsReal
  simp only []
  rw [if_neg (show ¬ _ = 2 ^ 8 - 1 from h), if_neg h0]
  norm_num

theorem f32_one : f32 (F := Ideal) 0x3F800000#32 = ((1 : ℝ) : EReal) := by
  rw [f32_value _ false 127 0 (by decide) (by decide) (by decide) (by decide) (by decide)]
  norm_num [bitsReal]
theorem f32_two : f32 (F := Ideal) 0x40000000#32 = ((2 : ℝ) : EReal) := by
  rw [f32_value _ false 128 0 (by decide) (by decide) (by decide) (by decide) (by decide)]
  norm_num [bitsReal]
theorem f32_negTwo : f32 (F := Ideal) 0xC0000000#32 = ((-2 : ℝ) : EReal) := by
  rw [f32_value _ true 128 0 (by decide) (by decide) (by decide) (by decide) (by decide)]
  norm_num [bitsReal]
theorem f32_lo : f32 (F := Ideal) 0xBF7FFFFF#32 = ((-(1 - 1 / 2 ^ 24) : ℝ) : EReal) := by
  rw [f32_value _ true 126 8388607 (by decide) (by decide) (by decide) (by decide) (by decide)]
  norm_num [bitsReal]

theorem f32_zero : f32 (F := Ideal) 0x00000000#32 = 0 := Ideal.ofBits_zero_f32

theorem f32_five : f32 (F := Ideal) 0x40A00000#32 = ((5 : ℝ) : EReal) := by
  rw [f32_value _ false 129 2097152 (by decide) (by decide) (by decide) (by decide) (by decide)]
  norm_num [bitsReal]
theorem f32_three : f32 (F := Ideal) 0x40400000#32 = ((3 : ℝ) : EReal) := by
  rw [f32_value _ false 128 4194304 (by decide) (by decide) (by decide) (by decide) (by decide)]
  norm_num [bitsReal]
theorem f32_quarter : f32 (F := Ideal) 0x3E800000#32 = ((1 / 4 : ℝ) : EReal) := by
  rw [f32_value _ false 125 0 (by decide) (by decide) (by decide) (by decide) (by decide)]
  norm_num [bitsReal]
theorem f32_half : f32 (F := Ideal) 0x3F000000#32 = ((1 / 2 : ℝ) : EReal) := by
  rw [f32_value _ false 126 0 (by decide) (by decide) (by decide) (by decide) (by decide)]
  norm_num [bitsReal]

/-- The value is a real number between `a` and `b`. -/
def Within (a b : ℝ) (x : EReal) : Prop := ∃ r : ℝ, x = r ∧ a ≤ r ∧ r ≤ b

theorem f32_within (b : W) (n : Bool) (ex fr : ℕ) (lo hi : ℝ) (hn : (b.extractLsb' 31 1 == 1#1) = n)
    (hex : (b.extractLsb' 23 8).toNat = ex) (hfr : (b.extractLsb' 0 23).toNat = fr)
    (h : ex ≠ 255) (h0 : ex ≠ 0) (hl : lo ≤ bitsReal n ex fr) (hh : bitsReal n ex fr ≤ hi) :
    Within lo hi (f32 (F := Ideal) b) := ⟨_, f32_value b n ex fr hn hex hfr h h0, hl, hh⟩

/-- The word's 23 bits, put under the exponent of 1. -/
theorem f32_unit (x : W) : ∃ k : ℕ, k < 2 ^ 23 ∧
    f32 (F := Ideal) (IntOp.ori (IntOp.shrui .vector x 9#32) 1065353216#32) = ((1 + k / 2 ^ 23 : ℝ) : EReal) := by
  have hs : IntOp.ori (IntOp.shrui .vector x 9#32) 1065353216#32 = x >>> 9 ||| 1065353216#32 := rfl
  refine ⟨_, ((x >>> 9 ||| 1065353216#32).extractLsb' 0 23).isLt, ?_⟩
  rw [hs, f32_value _ false 127 _ ?_ ?_ rfl (by decide) (by decide)]
  · congr 1
    simp only [bitsReal]
    push_cast
    norm_num
    ring
  · have : (x >>> 9 ||| 1065353216#32).extractLsb' 31 1 = 0#1 := by
      ext i hi
      have : i = 0 := by omega
      subst this
      simp
    rw [this]; rfl
  · have : (x >>> 9 ||| 1065353216#32).extractLsb' 23 8 = 127#8 := by
      ext i hi
      interval_cases i <;> simp
    rw [this]; rfl

/-- The noise's draw is a real number inside (-1, 1), by a margin. -/
theorem noiseU_within (x : W) :
    Within (-(1 - 1 / 2 ^ 24)) (1 - 1 / 2 ^ 24) (noiseU (F := Ideal) .vector x) := by
  obtain ⟨k, hk, h⟩ := f32_unit x
  have hk' : (k : ℝ) ≤ 2 ^ 23 - 1 := by
    have : k + 1 ≤ 2 ^ 23 := hk
    have : ((k + 1 : ℕ) : ℝ) ≤ ((2 ^ 23 : ℕ) : ℝ) := by exact_mod_cast this
    push_cast at this
    linarith
  have hk0 : (0 : ℝ) ≤ k := Nat.cast_nonneg k
  refine ⟨max (-(1 - 1 / 2 ^ 24)) ((1 + k / 2 ^ 23 - 1) * 2 + (-(1 - 1 / 2 ^ 24))), ?_, le_max_left _ _, ?_⟩
  · show max (f32 (F := Ideal) 0xBF7FFFFF#32)
      ((f32 (F := Ideal) (IntOp.ori (IntOp.shrui .vector x 9#32) 1065353216#32) - f32 (F := Ideal) 0x3F800000#32)
        * f32 (F := Ideal) 0x40000000#32 + f32 (F := Ideal) 0xBF7FFFFF#32) = _
    rw [h, f32_one, f32_two, f32_lo]
    norm_cast
  · refine max_le (by norm_num) ?_
    norm_num
    linarith

/-! ## The two programs' operations -/

theorem kNeg_eq (x : Ideal .f32) : kNeg (F := Ideal) x = -x := by
  show f32 (F := Ideal) 0x00000000#32 - x = -x
  rw [f32_zero, zero_sub]

theorem hWidth_eq (u : Ideal .f32) : hWidth (F := Ideal) u = kWidth (F := Ideal) u := by
  unfold kWidth
  rw [kNeg_eq, kNeg_eq]
  rfl

theorem unitFloat_host (x : W) : unitFloat (F := Ideal) .host x = unitFloat (F := Ideal) .vector x := by
  have h : IntOp.shrui .host x 9#32 = IntOp.shrui .vector x 9#32 := rfl
  unfold unitFloat
  rw [h]

theorem noiseU_host (x : W) : noiseU (F := Ideal) .host x = noiseU (F := Ideal) .vector x := by
  unfold noiseU uniform
  rw [unitFloat_host]

theorem scoreU_host (x : W) : scoreU (F := Ideal) .host x = scoreU (F := Ideal) .vector x := by
  unfold scoreU uniform
  rw [unitFloat_host]

theorem hScore_eq (p : Ideal .f32) (x : W) : hScore (F := Ideal) p x = kScore (F := Ideal) p x := by
  unfold kScore kGumbel
  rw [kNeg_eq, kNeg_eq, ← scoreU_host]
  exact add_comm _ _

theorem hLogistic_eq (x : Ideal .f32) : hLogistic (F := Ideal) x = FloatOps.logistic x := by
  show Ideal.div (f32 (F := Ideal) 0x3F800000#32) (f32 (F := Ideal) 0x3F800000#32 + Ideal.exp (-x))
    = Ideal.div 1 (1 + Ideal.exp (-x))
  rw [show f32 (F := Ideal) 0x3F800000#32 = 1 from Ideal.ofBits_one_f32]

theorem exp_nonneg (x : EReal) : 0 ≤ Ideal.exp x := by
  induction x using EReal.rec with
  | bot => exact le_refl _
  | top => exact le_top
  | coe r => exact EReal.coe_nonneg.2 (Real.exp_pos r).le

theorem logistic_nonneg (x : Ideal .f32) : (0 : EReal) ≤ FloatOps.logistic (F := Ideal) (φ := .f32) x := by
  show 0 ≤ Ideal.div 1 (1 + Ideal.exp (-x))
  have h : (1 : EReal) ≤ 1 + Ideal.exp (-x) := by
    simpa using add_le_add_right (exp_nonneg (-x)) 1
  have h0 : (0 : EReal) < 1 + Ideal.exp (-x) := lt_of_lt_of_le zero_lt_one h
  unfold Ideal.div
  rw [if_neg h0.ne', one_mul]
  exact EReal.inv_nonneg_of_nonneg h0.le

/-! ## The tail: from `w = 5` on the reference's sample is cut as the kernel's is -/

theorem kWidth_real (r : ℝ) (h : |r| < 1) : kWidth (F := Ideal) (r : EReal) = ((-Real.log (1 - r ^ 2) : ℝ) : EReal) := by
  have hr : 0 < 1 - r ^ 2 := by
    have := (sq_lt_one_iff_abs_lt_one r).2 h
    linarith
  unfold kWidth
  rw [kNeg_eq, kNeg_eq]
  show -Ideal.log (1 + -(r : EReal) * r) = _
  have : (1 : EReal) + -(r : EReal) * r = ((1 - r ^ 2 : ℝ) : EReal) := by
    rw [show (1 - r ^ 2 : ℝ) = 1 + -r * r by ring]
    norm_cast
  rw [this]
  show -(if 1 - r ^ 2 ≤ 0 then ⊥ else (Real.log (1 - r ^ 2) : EReal)) = _
  rw [if_neg (not_le.2 hr)]
  norm_cast

theorem exp_sixteen : (8388609 : ℝ) ≤ Real.exp 16 := by
  have h : (1 + 1 / 8 + (1 / 8) ^ 2 / 2 : ℝ) ≤ Real.exp (1 / 8) :=
    Real.quadratic_le_exp_of_nonneg (by norm_num)
  have h2 : (1 + 1 / 8 + (1 / 8) ^ 2 / 2 : ℝ) ^ 128 ≤ Real.exp (1 / 8) ^ 128 :=
    pow_le_pow_left₀ (by norm_num) h 128
  have h3 : Real.exp (1 / 8) ^ 128 = Real.exp 16 := by
    rw [← Real.exp_nat_mul]
    norm_num
  rw [h3] at h2
  exact le_trans (by norm_num) h2

theorem exp_five : (32 : ℝ) ≤ Real.exp 5 := by
  have h : (1 + 1 + 1 ^ 2 / 2 : ℝ) ≤ Real.exp 1 := Real.quadratic_le_exp_of_nonneg (by norm_num)
  have h2 : (1 + 1 + 1 ^ 2 / 2 : ℝ) ^ 5 ≤ Real.exp 1 ^ 5 := pow_le_pow_left₀ (by norm_num) h 5
  have h3 : Real.exp 1 ^ 5 = Real.exp 5 := by
    rw [← Real.exp_nat_mul]
    norm_num
  rw [h3] at h2
  exact le_trans (by norm_num) h2

theorem width_le (r : ℝ) (h : |r| ≤ 1 - 1 / 2 ^ 24) : -Real.log (1 - r ^ 2) ≤ 16 := by
  have hr : (1 : ℝ) / 8388609 ≤ 1 - r ^ 2 := by
    have h2 : r ^ 2 ≤ (1 - 1 / 2 ^ 24) ^ 2 := by
      rw [← sq_abs]
      exact pow_le_pow_left₀ (abs_nonneg r) h 2
    have : (1 : ℝ) / 8388609 ≤ 1 - (1 - 1 / 2 ^ 24) ^ 2 := by norm_num
    linarith
  have : -16 ≤ Real.log (1 - r ^ 2) := by
    rw [Real.le_log_iff_exp_le (lt_of_lt_of_le (by norm_num) hr), Real.exp_neg]
    refine le_trans ?_ hr
    rw [← one_div]
    exact one_div_le_one_div_of_le (by norm_num) exp_sixteen
  linarith

theorem abs_ge_of_width (r : ℝ) (h : |r| < 1) (hw : 5 ≤ -Real.log (1 - r ^ 2)) : 49 / 50 ≤ |r| := by
  have hr : 0 < 1 - r ^ 2 := by
    have := (sq_lt_one_iff_abs_lt_one r).2 h
    linarith
  have h1 : 1 - r ^ 2 ≤ Real.exp (-5) := by
    rw [← Real.log_le_iff_le_exp hr]
    linarith
  have h2 : Real.exp (-5) ≤ 1 / 32 := by
    rw [Real.exp_neg, ← one_div]
    exact one_div_le_one_div_of_le (by norm_num) exp_five
  refine abs_le_of_sq_le_sq' ?_ (abs_nonneg r) |>.2
  rw [sq_abs]
  nlinarith

/-- A step of Horner's rule inside the unit interval adds at most the coefficient's size. -/
theorem horner_within {c p : Ideal .f32} {a b t : ℝ} (hc : Within (-a) a c) (hp : Within (-b) b p) (ht : |t| ≤ 1) :
    Within (-(a + b)) (a + b) (horner (F := Ideal) c (t : EReal) p) := by
  obtain ⟨c, rfl, hc⟩ := hc
  obtain ⟨p, rfl, hp⟩ := hp
  have h : |p * t| ≤ b := by
    rw [abs_mul]
    calc |p| * |t| ≤ |p| * 1 := mul_le_mul_of_nonneg_left ht (abs_nonneg p)
      _ ≤ b := by rw [mul_one]; exact abs_le.2 hp
  have := abs_le.1 h
  refine ⟨c + p * t, ?_, by linarith, by linarith⟩
  show (c : EReal) + p * t = _
  norm_cast

/-- A coefficient's size, by its sign, exponent and fraction. -/
theorem coefficient (b : W) (n : Bool) (ex fr : ℕ) (a : ℝ) (hn : (b.extractLsb' 31 1 == 1#1) = n)
    (hex : (b.extractLsb' 23 8).toNat = ex) (hfr : (b.extractLsb' 0 23).toNat = fr)
    (h : ex ≠ 255) (h0 : ex ≠ 0) (ha : -a ≤ bitsReal n ex fr ∧ bitsReal n ex fr ≤ a) :
    Within (-a) a (f32 (F := Ideal) b) := f32_within b n ex fr _ _ hn hex hfr h h0 ha.1 ha.2

/-- The second polynomial is at least 9/5 on the unit interval. -/
theorem tailPoly_within (t : ℝ) (ht : |t| ≤ 1) : Within (9 / 5) 4 (hPoly (F := Ideal) 0#1 (t : EReal)) := by
  have k0 := coefficient 0xB951F09B#32 true 114 5370011 (21 / 100000) (by decide) (by decide) (by decide)
    (by decide) (by decide) (by norm_num [bitsReal])
  have k1 := horner_within (coefficient 0x38D3B56B#32 false 113 5485931 (11 / 100000) (by decide) (by decide)
    (by decide) (by decide) (by decide) (by norm_num [bitsReal])) k0 ht
  have k2 := horner_within (coefficient 0x3AB0DC72#32 false 117 3202162 (14 / 10000) (by decide) (by decide)
    (by decide) (by decide) (by decide) (by norm_num [bitsReal])) k1 ht
  have k3 := horner_within (coefficient 0xBB70BDE7#32 true 118 7388647 (37 / 10000) (by decide) (by decide)
    (by decide) (by decide) (by decide) (by norm_num [bitsReal])) k2 ht
  have k4 := horner_within (coefficient 0x3BBC127B#32 false 119 3936891 (58 / 10000) (by decide) (by decide)
    (by decide) (by decide) (by decide) (by norm_num [bitsReal])) k3 ht
  have k5 := horner_within (coefficient 0xBBF9C5D7#32 true 119 7980503 (77 / 10000) (by decide) (by decide)
    (by decide) (by decide) (by decide) (by norm_num [bitsReal])) k4 ht
  have k6 := horner_within (coefficient 0x3C1AA57E#32 false 120 1746302 (95 / 10000) (by decide) (by decide)
    (by decide) (by decide) (by decide) (by norm_num [bitsReal])) k5 ht
  have k7 := horner_within (coefficient 0x3F8036DB#32 false 127 14043 (10017 / 10000) (by decide) (by decide)
    (by decide) (by decide) (by decide) (by norm_num [bitsReal])) k6 ht
  obtain ⟨c, hc, hcl, hch⟩ := f32_within 0x40354F7E#32 false 128 3493758 (2832 / 1000) (2833 / 1000) (by decide)
    (by decide) (by decide) (by decide) (by decide) (by norm_num [bitsReal]) (by norm_num [bitsReal])
  obtain ⟨p, hp, hpb⟩ := k7
  have h : |p * t| ≤ 10310 / 10000 := by
    rw [abs_mul]
    calc |p| * |t| ≤ |p| * 1 := mul_le_mul_of_nonneg_left ht (abs_nonneg p)
      _ ≤ 10310 / 10000 := by
        rw [mul_one]
        exact abs_le.2 ⟨by linarith [hpb.1], by linarith [hpb.2]⟩
  have h' := abs_le.1 h
  refine ⟨c + p * t, ?_, by linarith, by linarith⟩
  rw [EReal.coe_add, EReal.coe_mul, ← hc, ← hp]
  rfl

/-- Where the kernel takes 2 or -2, the reference's sample is at least 1 or at most 0, by the draw's sign. -/
theorem tailSample (r : ℝ) (hr : |r| ≤ 1 - 1 / 2 ^ 24) (hw : 5 ≤ -Real.log (1 - r ^ 2)) :
    ∃ s : ℝ, hSample (F := Ideal) (r : EReal) = s ∧ (0 < r → 1 ≤ s) ∧ (r < 0 → s ≤ 0) := by
  have h1 : |r| < 1 := lt_of_le_of_lt hr (by norm_num)
  have hw' := width_le r hr
  have hb := abs_ge_of_width r h1 hw
  have hk := kWidth_real r h1
  generalize -Real.log (1 - r ^ 2) = w at hw hw' hk
  have hs4 : Real.sqrt w ≤ 4 := Real.sqrt_le_iff.2 ⟨by norm_num, by linarith⟩
  have hs2 : 2 ≤ Real.sqrt w := Real.le_sqrt_of_sq_le (by linarith)
  obtain ⟨q, hq, hql, hqh⟩ := tailPoly_within (Real.sqrt w - 3) (abs_le.2 ⟨by linarith, by linarith⟩)
  obtain ⟨c, hc, hcl, hch⟩ := f32_within 0x3FB504F3#32 false 127 3474675 (1414 / 1000) (1415 / 1000) (by decide)
    (by decide) (by decide) (by decide) (by decide) (by norm_num [bitsReal]) (by norm_num [bitsReal])
  have hcmp : FloatOps.cmpf .olt (hWidth (F := Ideal) (r : EReal)) (f32 (F := Ideal) 0x40A00000#32) = 0#1 := by
    rw [hWidth_eq, hk, f32_five]
    show BitVec.ofBool (decide ((w : EReal) < ((5 : ℝ) : EReal))) = _
    rw [decide_eq_false (by rw [EReal.coe_lt_coe_iff]; exact not_lt.2 hw)]
    rfl
  refine ⟨c * (q * r) * (1 / 4) + 1 / 2, ?_, fun h => ?_, fun h => ?_⟩
  · have ht : FloatOps.subf (FloatOps.hostUnary .sqrt (hWidth (F := Ideal) (r : EReal)))
        (f32 (F := Ideal) 0x40400000#32) = ((Real.sqrt w - 3 : ℝ) : EReal) := by
      rw [hWidth_eq, hk, f32_three]
      show (if w < 0 then ⊥ else (Real.sqrt w : EReal)) - ((3 : ℝ) : EReal) = _
      rw [if_neg (by linarith)]
      norm_cast
    have he : hErfInv (F := Ideal) (r : EReal) = ((q * r : ℝ) : EReal) := by
      unfold hErfInv
      simp only [hcmp]
      rw [show ∀ x y : Ideal .f32, Scalar.select 0#1 x y = y from fun _ _ => rfl, ht, hq]
      show (q : EReal) * r = _
      norm_cast
    unfold hSample
    rw [he, f32_quarter, f32_half, hc]
    show (c : EReal) * (q * r : ℝ) * ((1 / 4 : ℝ) : EReal) + ((1 / 2 : ℝ) : EReal) = _
    norm_cast
  · rw [abs_of_pos h] at hb
    have h3 : 9 / 5 * (49 / 50) ≤ q * r := mul_le_mul hql hb (by norm_num) (by linarith)
    have h4 : 1414 / 1000 * (9 / 5 * (49 / 50)) ≤ c * (q * r) := mul_le_mul hcl h3 (by norm_num) (by linarith)
    norm_num at h4 ⊢
    linarith
  · rw [abs_of_neg h] at hb
    have h3 : 9 / 5 * (49 / 50) ≤ q * -r := mul_le_mul hql hb (by norm_num) (by linarith)
    have h4 : 1414 / 1000 * (9 / 5 * (49 / 50)) ≤ c * (q * -r) := mul_le_mul hcl h3 (by norm_num) (by linarith)
    have h5 : c * (q * -r) = -(c * (q * r)) := by ring
    rw [h5] at h4
    norm_num at h4 ⊢
    linarith

/-- The cut forgets by how much a sample exceeds 1. -/
theorem clip_high (x s : EReal) (h : ((1 : ℝ) : EReal) ≤ s) :
    clip (F := Ideal) (max x s) = f32 (F := Ideal) 0x3F7D70A4#32 := by
  obtain ⟨c, hc, -, hch⟩ := f32_within 0x3F7D70A4#32 false 126 8220836 0 1 (by decide)
    (by decide) (by decide) (by decide) (by decide) (by norm_num [bitsReal]) (by norm_num [bitsReal])
  show min (f32 (F := Ideal) 0x3F7D70A4#32) (max (f32 (F := Ideal) 0x3C23D70A#32) (max x s)) = _
  refine min_eq_left (le_trans ?_ (le_trans h (le_trans (le_max_right _ _) (le_max_right _ _))))
  rw [hc]
  exact EReal.coe_le_coe_iff.2 hch

/-- The two programs' probabilities are equal. -/
theorem hProb_eq (x : Ideal .f32) (bits : W) : hProb (F := Ideal) x bits = kProb (F := Ideal) x bits := by
  unfold hProb kProb
  rw [noiseU_host, hLogistic_eq]
  obtain ⟨r, hr, hl, hh⟩ := noiseU_within bits
  rw [hr]
  have habs : |r| ≤ 1 - 1 / 2 ^ 24 := abs_le.2 ⟨hl, hh⟩
  have h1 : |r| < 1 := lt_of_le_of_lt habs (by norm_num)
  by_cases hw : -Real.log (1 - r ^ 2) < 5
  · have hc : FloatOps.cmpf .olt (kWidth (F := Ideal) (r : EReal)) (f32 (F := Ideal) 0x40A00000#32) = 1#1 := by
      rw [kWidth_real r h1, f32_five]
      show BitVec.ofBool (decide (((-Real.log (1 - r ^ 2) : ℝ) : EReal) < ((5 : ℝ) : EReal))) = _
      rw [decide_eq_true (EReal.coe_lt_coe_iff.2 hw)]
      rfl
    have : hSample (F := Ideal) (r : EReal) = kSample (F := Ideal) (r : EReal) := by
      unfold hSample kSample hErfInv
      simp only [hWidth_eq, hc]
      rfl
    rw [this]
  · obtain ⟨s, hs, hpos, hneg⟩ := tailSample r habs (not_lt.1 hw)
    have hc : FloatOps.cmpf .olt (kWidth (F := Ideal) (r : EReal)) (f32 (F := Ideal) 0x40A00000#32) = 0#1 := by
      rw [kWidth_real r h1, f32_five]
      show BitVec.ofBool (decide (((-Real.log (1 - r ^ 2) : ℝ) : EReal) < ((5 : ℝ) : EReal))) = _
      rw [decide_eq_false (by rw [EReal.coe_lt_coe_iff]; exact hw)]
      rfl
    have hb := abs_ge_of_width r h1 (not_lt.1 hw)
    rw [hs]
    unfold kSample
    rw [hc, show ∀ x y : Ideal .f32, Scalar.select 0#1 x y = y from fun _ _ => rfl]
    rcases lt_or_gt_of_ne (show r ≠ 0 by rintro rfl; norm_num at hb) with h | h
    · have hg : FloatOps.cmpf .ogt ((r : EReal) : Ideal .f32) (f32 (F := Ideal) 0x00000000#32) = 0#1 := by
        rw [f32_zero]
        show BitVec.ofBool (decide ((0 : EReal) < (r : EReal))) = _
        rw [decide_eq_false (by rw [EReal.coe_pos]; exact not_lt.2 h.le)]
        rfl
      rw [hg, show ∀ x y : Ideal .f32, Scalar.select 0#1 x y = y from fun _ _ => rfl, f32_negTwo]
      congr 1
      refine (max_eq_left ?_).trans (max_eq_left ?_).symm
      · exact le_trans (EReal.coe_le_coe_iff.2 (hneg h)) (logistic_nonneg x)
      · exact le_trans (EReal.coe_le_coe_iff.2 (show (-2 : ℝ) ≤ 0 by norm_num)) (logistic_nonneg x)
    · have hg : FloatOps.cmpf .ogt ((r : EReal) : Ideal .f32) (f32 (F := Ideal) 0x00000000#32) = 1#1 := by
        rw [f32_zero]
        show BitVec.ofBool (decide ((0 : EReal) < (r : EReal))) = _
        rw [decide_eq_true (EReal.coe_pos.2 h)]
        rfl
      rw [hg, show ∀ x y : Ideal .f32, Scalar.select 1#1 x y = x from fun _ _ => rfl, f32_two]
      exact (clip_high _ _ (EReal.coe_le_coe_iff.2 (hpos h))).trans
        (clip_high _ _ (EReal.coe_le_coe_iff.2 (by norm_num))).symm

end Cert.Draw
end
-- ==== Proof.Meet.lean ====
module
public import proofs.«01_k».proof.Proof.Mlp
public import proofs.«01_k».proof.Proof.Noise
public import proofs.«01_k».proof.Proof.Outs
public import proofs.«01_k».proof.Proof.Pick
@[expose] public section
noncomputable section
/-!
# A row of a block is a row of the reference

Row `r` of block `i` is row `512 * i + r` of the batch. Given that the two sides have the same logits
there, they have the same probabilities and the same scores.
-/
namespace Cert.Meet
open Cert.KernelIdeal.Tiles Cert.Draw Cert.RefSide
open Idealize.ShloMosaic Idealize.ShloMosaic.TcCoe Idealize.ShloMosaic.Tactic Idealize.ShloMosaic.ValueIdx

theorem rowWord_eq (i : Cert.KernelIdeal.grid0.Coords) (r : Fin 512) (R : Fin 16384) (hR : R.val = 512 * (i 0).val + r.val) :
    rowWord i r.val = BitVec.ofNat 32 R.val := by
  unfold rowWord
  show BitVec.ofNat 32 (i 0).val * BitVec.ofNat 32 512 + BitVec.ofNat 32 r.val = _
  rw [← BitVec.ofNat_mul, ← BitVec.ofNat_add, hR, Nat.mul_comm]

section Row
variable (i : Cert.KernelIdeal.grid0.Coords) (r : Fin 512) (R : Fin 16384) (hR : R.val = 512 * (i 0).val + r.val)
include hR

theorem cell (k0 k1 : W) (X : FVec Ideal ⟨2, ![512, 2048]⟩ .f32) (L : FVec Ideal ⟨2, ![16384, 2048]⟩ .f32)
    (hX : ∀ c : Fin 2048, X (ix2 r c) = L (ix2 R c)) (c : Fin 2048) :
    cellProb k0 k1 (rowWord i) X (ix2 r c)
      = hProb (F := Ideal) (L (ix2 R c))
          (hThreefry k0 k1 0#32 (RefSide.place (s := ⟨2, ![16384, 2048]⟩) 0 1 2048#32 (ix2 R c)) IntOp.xori) := by
  rw [bits_eq, hProb_eq, ← hX c]
  unfold cellProb RefSide.place
  show kProb (F := Ideal) (X (ix2 r c)) (kBits k0 k1 (IntOp.addi (IntOp.muli (rowWord i r.val) 2048#32) (BitVec.ofNat 32 c.val))) = _
  rw [rowWord_eq i r R hR]

theorem score (k0 k1 g0 g1 : W) (X : FVec Ideal ⟨2, ![512, 2048]⟩ .f32) (P Q : FVec Ideal ⟨2, ![16384, 2048]⟩ .f32)
    (hP : ∀ c : Fin 2048, cellProb k0 k1 (rowWord i) X (ix2 r c) = P (ix2 R c))
    (hQ : ∀ c : Fin 2048, oneMinus (F := Ideal) (P (ix2 R c)) = Q (ix2 R c))
    (h : Shape.Concatenates [⟨2, ![16384, 2048]⟩, ⟨2, ![16384, 2048]⟩] ⟨2, ![16384, 4096]⟩ 1) (l : Fin 4096) :
    (hScore (F := Ideal) (concatenate ⟨2, ![16384, 4096]⟩ 1 [⟨⟨2, ![16384, 2048]⟩, Q⟩, ⟨⟨2, ![16384, 2048]⟩, P⟩] h (ix2 R l))
      (hThreefry g0 g1 0#32 (RefSide.place (s := ⟨2, ![16384, 4096]⟩) 0 1 4096#32 (ix2 R l)) IntOp.xori) : EReal)
      = outcome k0 k1 g0 g1 (rowWord i) X r l.val := by
  rw [bits_eq, hScore_eq]
  unfold outcome drawBits RefSide.place
  rw [rowWord_eq i r R hR]
  have hl := l.isLt
  by_cases h0 : l.val < 2048
  · rw [dif_pos h0, hP, hQ, concatenate_pair_apply_left 1 Q P h (ix2 R l) rfl (ix2 R ⟨l.val, h0⟩) fun b => by fin_cases b <;> rfl]
  · have h1 : l.val - 2048 < 2048 := by omega
    rw [dif_neg h0, dif_pos h1, hP, concatenate_pair_apply_right 1 Q P h (ix2 R l) rfl rfl (ix2 R ⟨l.val - 2048, h1⟩)
      (fun b hb => by fin_cases b; · rfl
                      · exact absurd rfl hb)
      (show l.val - 2048 + 2048 = l.val by omega)]

end Row
end Cert.Meet
end
-- ==== Proof.RefRows.lean ====
module
public import proofs.«01_k».proof.Proof.Meet
public import proofs.«01_k».proof.On_no_tie
public import proofs.«01_k».proof.Pre_zero_biases
@[expose] public section
noncomputable section
/-!
# The rows of the reference's results, and of the mask
-/
namespace Cert.RefRows
open Cert.ReferenceIdeal Cert.ReferenceIdeal.Gen Cert.ReferenceIdeal.Read
open Cert.KernelIdeal.Tiles (rowWord cellProb outcome)
open Cert.Draw Cert.RefSide Cert.Meet Cert.Pick
open Idealize.ShloMosaic Idealize.ShloMosaic.TcCoe Idealize.ShloMosaic.Tactic Idealize.ShloMosaic.ValueIdx

/-! ## The greatest of each row, spread, counted and placed -/

section Rows
variable {F : FTy → Type} [FloatOps F]

/-- The greatest score of each row. -/
def rowMax (S : FVec F S16384x4096 .f32) : FVec F S16384 .f32 :=
  Host.reduce FloatOps.maximumf S (constant S_ .f32 0xFF800000#32) reducesTo_S16384x4096_S16384_d1 h_S_

/-- Whether a score is its row's greatest. -/
def isMax (S : FVec F S16384x4096 .f32) : IVec S16384x4096 1 :=
  cmpf .oeq S (broadcastInDim S16384x4096 ![0, 1] bcast_S16384x1_S16384x4096_0_1 (broadcastInDim S16384x1 ![0] bcast_S16384_S16384x1_0 (rowMax S)))

/-- The first place of each row's greatest score. -/
def firstMax (S : FVec F S16384x4096 .f32) : IVec S16384x1 32 :=
  broadcastInDim S16384x1 ![0] bcast_S16384_S16384x1_0 (Host.reduce IntOp.minsi
    (select (isMax S) (iotaInDim S16384x4096 32 1) (broadcastInDim S16384x4096 ![] bcast_S_S16384x4096 (constantI S_ 32 4096#32)))
    (constantI S_ 32 2147483647#32) reducesTo_S16384x4096_S16384_d1 h_S_)

theorem bcast_S_S16384x1 : S_.BroadcastsInDim S16384x1 (![] : Fin 0 → Fin S16384x1.rank) := by decide

/-- Whether each row's greatest score is reached once. -/
def once (S : FVec F S16384x4096 .f32) : IVec S16384x1 1 :=
  cmpi .eq (broadcastInDim S16384x1 ![0] bcast_S16384_S16384x1_0 (Host.reduce IntOp.addi (extui 32 (isMax S))
    (constantI S_ 32 0#32) reducesTo_S16384x4096_S16384_d1 h_S_)) (broadcastInDim S16384x1 ![] bcast_S_S16384x1 (constantI S_ 32 1#32))
end Rows

theorem column {α : Type} (y : S16384.Idx → α) (R : Fin 16384) (u : Fin 1) :
    broadcastInDim S16384x1 ![0] bcast_S16384_S16384x1_0 y (ix2 R u) = y (ix1 R) :=
  broadcastInDim_apply _ bcast_S16384_S16384x1_0 y _ _ fun a => match a with
    | ⟨0, _⟩ => by show R.val = if (16384 : Nat) = 1 then 0 else R.val; rw [if_neg (by decide)]

theorem columns {α : Type} (y : S16384x1.Idx → α) (R : Fin 16384) (l : Fin 4096) :
    broadcastInDim S16384x4096 ![0, 1] bcast_S16384x1_S16384x4096_0_1 y (ix2 R l) = y (ix2 R 0) :=
  broadcastInDim_apply _ bcast_S16384x1_S16384x4096_0_1 y _ _ fun a => match a with
    | ⟨0, _⟩ => by show R.val = if (16384 : Nat) = 1 then 0 else R.val; rw [if_neg (by decide)]
    | ⟨1, _⟩ => by show 0 = if (1 : Nat) = 1 then 0 else l.val; rw [if_pos rfl]

theorem isMax_at (S : FVec Ideal S16384x4096 .f32) (R : Fin 16384) (l : Fin 4096) :
    isMax S (ix2 R l) = FloatOps.cmpf .oeq (S (ix2 R l)) (rowMax S (ix1 R)) := by
  exact congrArg (FloatOps.cmpf .oeq (S (ix2 R l))) ((columns _ R l).trans (column _ R 0))

theorem rowMax_at (S : FVec Ideal S16384x4096 .f32) (R : Fin 16384) :
    rowMax S (ix1 R) = (Finset.univ : Finset (Fin 4096)).fold max (FloatOps.ofBits .f32 0xFF800000#32 : Ideal .f32) (fun l => S (ix2 R l)) :=
  max_host S _ _ _ R fun _ => rfl

theorem firstMax_at (S : FVec Ideal S16384x4096 .f32) (R : Fin 16384) (u : Fin 1) (T : ℕ → EReal)
    (hT : ∀ l : Fin 4096, (S (ix2 R l) : EReal) = T l.val) (a : ℕ) (ha : Top T a) : firstMax S (ix2 R u) = BitVec.ofNat 32 a := by
  unfold firstMax
  rw [column]
  refine pick_host S _ _ _ _ R (rowMax S (ix1 R)) (fun _ => rfl) (fun l => ?_) (rowMax_at S R) T hT a ha
  show Scalar.select (isMax S (ix2 R l)) (BitVec.ofNat 32 l.val) 4096#32 = _
  rw [isMax_at]

theorem eq_one {s : Shape} (x y : IVec s 32) (i : s.Idx) (hy : y i = 1#32) (h : cmpi .eq x y i = 1#1) : x i = 1#32 := by
  have h' : BitVec.ofBool (x i == y i) = 1#1 := h
  rw [hy] at h'
  by_contra hn
  rw [beq_false_of_ne hn] at h'
  exact absurd h' (by decide)

theorem once_at (S : FVec Ideal S16384x4096 .f32) (R : Fin 16384) (u : Fin 1) (T : ℕ → EReal)
    (hT : ∀ l : Fin 4096, (S (ix2 R l) : EReal) = T l.val) (h : once S (ix2 R u) = 1#1) : ∃ a, Top T a := by
  unfold once at h
  have hc := eq_one _ _ _ (RefSide.spread _ _ _ (fun _ => rfl) _) h
  rw [column] at hc
  refine count_host S _ _ _ _ R (rowMax S (ix1 R)) (fun _ => rfl) (fun l => ?_) (rowMax_at S R) hc T hT
  show (isMax S (ix2 R l)).setWidth 32 = _
  rw [isMax_at]

/-! ## The two heads -/

variable (x0 : FVec Ideal S16384x256 .f32) (x1 : FVec Ideal S256x64 .f32) (x2 : FVec Ideal S64 .f32)
  (x3 : FVec Ideal S64x64 .f32) (x4 : FVec Ideal S64 .f32) (x5 : FVec Ideal S64x2048 .f32) (x6 : FVec Ideal S2048 .f32)

theorem actionH : val_main_v1153 (F := Ideal) x0 x1 x2 x3 x4 x5 x6 = firstMax (F := Ideal) (val_main_v669 (F := Ideal) x0 x1 x2 x3 x4 x5 x6) := rfl
theorem actionD : val_main_v1161 (F := Ideal) x0 x1 x2 x3 x4 x5 x6 = firstMax (F := Ideal) (val_main_v1145 (F := Ideal) x0 x1 x2 x3 x4 x5 x6) := rfl

section Row
variable (i : Cert.KernelIdeal.grid0.Coords) (r : Fin 512) (R : Fin 16384) (hR : R.val = 512 * (i 0).val + r.val)
  (X : FVec Ideal ⟨2, ![512, 2048]⟩ .f32)
  (hX : ∀ c : Fin 2048, X (ix2 r c) = val_main_v207 (F := Ideal) x0 x1 x2 x3 x4 x5 x6 (ix2 R c))
include hR hX

theorem rowH (c : Fin 2048) : cellProb 1832780943#32 270669613#32 (rowWord i) X (ix2 r c)
    = val_main_v464 (F := Ideal) x0 x1 x2 x3 x4 x5 x6 (ix2 R c) := by
  rw [probH, noiseH]
  exact cell i r R hR _ _ X _ hX c

theorem rowD (c : Fin 2048) : cellProb 2465931498#32 255383827#32 (rowWord i) X (ix2 r c)
    = val_main_v940 (F := Ideal) x0 x1 x2 x3 x4 x5 x6 (ix2 R c) := by
  rw [probD, noiseD]
  exact cell i r R hR _ _ X _ hX c

theorem scoresH (l : Fin 4096) : (val_main_v669 (F := Ideal) x0 x1 x2 x3 x4 x5 x6 (ix2 R l) : EReal)
    = outcome 1832780943#32 270669613#32 64467757#32 2916123636#32 (rowWord i) X r l.val := by
  rw [scoreH, drawH]
  exact score i r R hR _ _ _ _ X (val_main_v464 (F := Ideal) x0 x1 x2 x3 x4 x5 x6) (val_main_v466 (F := Ideal) x0 x1 x2 x3 x4 x5 x6)
    (rowH x0 x1 x2 x3 x4 x5 x6 i r R hR X hX) (fun _ => rfl) _ l

theorem scoresD (l : Fin 4096) : (val_main_v1145 (F := Ideal) x0 x1 x2 x3 x4 x5 x6 (ix2 R l) : EReal)
    = outcome 2465931498#32 255383827#32 3134548294#32 894150801#32 (rowWord i) X r l.val := by
  rw [scoreD, drawD]
  exact score i r R hR _ _ _ _ X (val_main_v940 (F := Ideal) x0 x1 x2 x3 x4 x5 x6) (val_main_v942 (F := Ideal) x0 x1 x2 x3 x4 x5 x6)
    (rowD x0 x1 x2 x3 x4 x5 x6 i r R hR X hX) (fun _ => rfl) _ l
end Row

/-! ## The mask and the precondition -/

instance on : Cert.On_no_tie.Facts where
  bcast_S_S4 := by decide
  slices_S4_S1_0 := by decide
  shapeCasts_S1_S_ := by decide
  slices_S4_S1_1 := by decide
  slices_S4_S1_2 := by decide
  slices_S4_S1_3 := by decide
  bcast_S64_S1x64_1 := by decide
  bcast_S1x64_S16384x64_0_1 := by decide
  bcast_S_S16384x64 := by decide
  bcast_S2048_S1x2048_1 := by decide
  bcast_S1x2048_S16384x2048_0_1 := by decide
  bcast_S_S16384x2048 := by decide
  concatenates_S16384x2048_S16384x2048_S16384x4096_d1 := by decide
  bcast_S_S16384x4096 := by decide
  reducesTo_S16384x4096_S16384_d1 := by decide
  h_S_ := by decide
  bcast_S16384_S16384x1_0 := by decide
  bcast_S16384x1_S16384x4096_0_1 := by decide
  natLt_1_32 := by decide
  bcast_S_S16384x1 := by decide
  dot_S16384x256_S256x64_S16384x64_1_0_0_1_n_n_wf := by decide
  dot_S16384x64_S64x64_S16384x64_1_0_0_1_n_n_wf := by decide
  dot_S16384x64_S64x2048_S16384x2048_1_0_0_1_n_n_wf := by decide

instance pre : Cert.Pre_zero_biases.Facts where
  bcast_S_S64 := by decide
  bcast_S_S2048 := by decide

variable (x7 : FVec Ideal S256x64 .f32) (x8 : FVec Ideal S64 .f32)
  (x9 : FVec Ideal S64x64 .f32) (x10 : FVec Ideal S64 .f32) (x11 : FVec Ideal S64x2048 .f32) (x12 : FVec Ideal S2048 .f32)

theorem maskH : (Cert.On_no_tie.fn (F := Ideal) x0 x1 x2 x3 x4 x5 x6 x7 x8 x9 x10 x11 x12).2.1
    = once (F := Ideal) (val_main_v669 (F := Ideal) x0 x1 x2 x3 x4 x5 x6) := by sl_kernel_rfl

theorem maskD : (Cert.On_no_tie.fn (F := Ideal) x0 x1 x2 x3 x4 x5 x6 x7 x8 x9 x10 x11 x12).2.2.2
    = once (F := Ideal) (val_main_v1145 (F := Ideal) x0 x7 x8 x9 x10 x11 x12) := by sl_kernel_rfl

end Cert.RefRows
end
-- ==== Proof.Agree.lean ====
module
public import proofs.«01_k».proof.Proof.Blocks
public import proofs.«01_k».proof.Proof.RefRows
public import proofs.«01_k».proof.Defs
@[expose] public section
noncomputable section
/-!
# The kernel's results are the reference's

The probabilities agree everywhere where the biases are zero. An action agrees where one score of its row
is greater than every other.
-/
namespace Cert.Agree
open Cert.ReferenceIdeal Cert.ReferenceIdeal.Read
open Cert.KernelIdeal.Gen (iblk dats k0_pay1087)
open Cert.Blocks Cert.RefRows
open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ) (c : Dev Cert.KernelIdeal.nD)

/-! ## The arguments -/

abbrev x0 : FVec Ideal S16384x256 .f32 := m ((c.tc : Thread Cert.KernelIdeal.nD Cert.KernelIdeal.τ).loc Cert.KernelIdeal.main_arg0)
abbrev x1 : FVec Ideal S256x64 .f32 := m ((c.tc : Thread Cert.KernelIdeal.nD Cert.KernelIdeal.τ).loc Cert.KernelIdeal.main_arg1)
abbrev x2 : FVec Ideal S64 .f32 := m ((c.tc : Thread Cert.KernelIdeal.nD Cert.KernelIdeal.τ).loc Cert.KernelIdeal.main_arg2)
abbrev x3 : FVec Ideal S64x64 .f32 := m ((c.tc : Thread Cert.KernelIdeal.nD Cert.KernelIdeal.τ).loc Cert.KernelIdeal.main_arg3)
abbrev x4 : FVec Ideal S64 .f32 := m ((c.tc : Thread Cert.KernelIdeal.nD Cert.KernelIdeal.τ).loc Cert.KernelIdeal.main_arg4)
abbrev x5 : FVec Ideal S64x2048 .f32 := m ((c.tc : Thread Cert.KernelIdeal.nD Cert.KernelIdeal.τ).loc Cert.KernelIdeal.main_arg5)
abbrev x6 : FVec Ideal S2048 .f32 := m ((c.tc : Thread Cert.KernelIdeal.nD Cert.KernelIdeal.τ).loc Cert.KernelIdeal.main_arg6)
abbrev x7 : FVec Ideal S256x64 .f32 := m ((c.tc : Thread Cert.KernelIdeal.nD Cert.KernelIdeal.τ).loc Cert.KernelIdeal.main_arg7)
abbrev x8 : FVec Ideal S64 .f32 := m ((c.tc : Thread Cert.KernelIdeal.nD Cert.KernelIdeal.τ).loc Cert.KernelIdeal.main_arg8)
abbrev x9 : FVec Ideal S64x64 .f32 := m ((c.tc : Thread Cert.KernelIdeal.nD Cert.KernelIdeal.τ).loc Cert.KernelIdeal.main_arg9)
abbrev x10 : FVec Ideal S64 .f32 := m ((c.tc : Thread Cert.KernelIdeal.nD Cert.KernelIdeal.τ).loc Cert.KernelIdeal.main_arg10)
abbrev x11 : FVec Ideal S64x2048 .f32 := m ((c.tc : Thread Cert.KernelIdeal.nD Cert.KernelIdeal.τ).loc Cert.KernelIdeal.main_arg11)
abbrev x12 : FVec Ideal S2048 .f32 := m ((c.tc : Thread Cert.KernelIdeal.nD Cert.KernelIdeal.τ).loc Cert.KernelIdeal.main_arg12)

/-! ## Rows and blocks -/

theorem ix2_surj {a b : ℕ} (i : (⟨2, ![a, b]⟩ : Shape).Idx) : ∃ (p : Fin a) (q : Fin b), i = ix2 p q :=
  ⟨i 0, i 1, funext fun k => match k with | ⟨0, _⟩ => rfl | ⟨1, _⟩ => rfl⟩

theorem split (R : Fin 16384) : ∃ (t : Fin Cert.KernelIdeal.cfg0.N) (r : Fin 512), R.val = 512 * t.val + r.val :=
  ⟨⟨R.val / 512, by have := R.isLt; show R.val / 512 < Cert.KernelIdeal.grid0.N; rw [Cert.KernelIdeal.Gen.N_0]; omega⟩, ⟨R.val % 512, by omega⟩,
    (Nat.div_add_mod R.val 512).symm⟩

theorem at_coord (t : Fin Cert.KernelIdeal.cfg0.N) (r : Fin 512) (R : Fin 16384) (hR : R.val = 512 * t.val + r.val) :
    R.val = 512 * ((Cert.KernelIdeal.grid0.coords t) 0).val + r.val := by
  rw [coord t]; exact hR

/-! ## The two heads -/

section H
variable (h2 : ∀ i, (x2 m c i : EReal) = 0)
  (h4 : ∀ i, (x4 m c i : EReal) = 0)
  (h6 : ∀ i, (x6 m c i : EReal) = 0)
include h2 h4 h6

theorem logitsH (t : Fin Cert.KernelIdeal.cfg0.N) (r : Fin 512) (R : Fin 16384) (hR : R.val = 512 * t.val + r.val) (q : Fin 2048) :
    k0_pay1087 (F := Ideal) (iblk m c 0 t) (iblk m c 1 t) (iblk m c 3 t) (iblk m c 5 t) (ix2 r q)
      = val_main_v207 (F := Ideal) (x0 m c) (x1 m c) (x2 m c) (x3 m c) (x4 m c) (x5 m c) (x6 m c) (ix2 R q) := by
  refine (Mlp.block _ _ _ _ r q).trans (Eq.trans ?_ (Mlp.whole (x0 m c) (x1 m c) (x2 m c) (x3 m c) (x4 m c) (x5 m c) (x6 m c) h2 h4 h6 R q).symm)
  rw [weight1, weight3, weight5]
  exact congrArg (fun f => Mlp.mlp f (x1 m c) (x3 m c) (x5 m c) q) (funext fun l => rows m c t r R hR l)

theorem probH (i : S16384x2048.Idx) : (dats m 0 c).arrAt 13 Cert.KernelIdeal.cfg0.N i = val_main_v464 (F := Ideal) (x0 m c) (x1 m c) (x2 m c) (x3 m c) (x4 m c) (x5 m c) (x6 m c) i := by
  obtain ⟨R, q, rfl⟩ := ix2_surj i
  obtain ⟨t, r, hR⟩ := split R
  exact (at13 m c t r R hR q).trans (RefRows.rowH (x0 m c) (x1 m c) (x2 m c) (x3 m c) (x4 m c) (x5 m c) (x6 m c) _ r R (at_coord t r R hR) _ (logitsH m c h2 h4 h6 t r R hR) q)

theorem actH (i : S16384x1.Idx) (hi : once (F := Ideal) (val_main_v669 (F := Ideal) (x0 m c) (x1 m c) (x2 m c) (x3 m c) (x4 m c) (x5 m c) (x6 m c)) i = 1#1) :
    (dats m 0 c).arrAt 14 Cert.KernelIdeal.cfg0.N i = val_main_v1153 (F := Ideal) (x0 m c) (x1 m c) (x2 m c) (x3 m c) (x4 m c) (x5 m c) (x6 m c) i := by
  obtain ⟨R, u, rfl⟩ := ix2_surj i
  obtain ⟨t, r, hR⟩ := split R
  have hT := RefRows.scoresH (x0 m c) (x1 m c) (x2 m c) (x3 m c) (x4 m c) (x5 m c) (x6 m c) _ r R (at_coord t r R hR) _ (logitsH m c h2 h4 h6 t r R hR)
  obtain ⟨a, ha⟩ := once_at _ R u _ hT hi
  rw [actionH]
  exact (at14 m c t r R hR u a ha).trans (firstMax_at _ R u _ hT a ha).symm

end H

section D
variable (h8 : ∀ i, (x8 m c i : EReal) = 0)
  (h10 : ∀ i, (x10 m c i : EReal) = 0)
  (h12 : ∀ i, (x12 m c i : EReal) = 0)
include h8 h10 h12

theorem logitsD (t : Fin Cert.KernelIdeal.cfg0.N) (r : Fin 512) (R : Fin 16384) (hR : R.val = 512 * t.val + r.val) (q : Fin 2048) :
    k0_pay1087 (F := Ideal) (iblk m c 0 t) (iblk m c 7 t) (iblk m c 9 t) (iblk m c 11 t) (ix2 r q)
      = val_main_v207 (F := Ideal) (x0 m c) (x7 m c) (x8 m c) (x9 m c) (x10 m c) (x11 m c) (x12 m c) (ix2 R q) := by
  refine (Mlp.block _ _ _ _ r q).trans (Eq.trans ?_ (Mlp.whole (x0 m c) (x7 m c) (x8 m c) (x9 m c) (x10 m c) (x11 m c) (x12 m c) h8 h10 h12 R q).symm)
  rw [weight7, weight9, weight11]
  exact congrArg (fun f => Mlp.mlp f (x7 m c) (x9 m c) (x11 m c) q) (funext fun l => rows m c t r R hR l)

theorem probD (i : S16384x2048.Idx) : (dats m 0 c).arrAt 15 Cert.KernelIdeal.cfg0.N i = val_main_v940 (F := Ideal) (x0 m c) (x7 m c) (x8 m c) (x9 m c) (x10 m c) (x11 m c) (x12 m c) i := by
  obtain ⟨R, q, rfl⟩ := ix2_surj i
  obtain ⟨t, r, hR⟩ := split R
  exact (at15 m c t r R hR q).trans (RefRows.rowD (x0 m c) (x7 m c) (x8 m c) (x9 m c) (x10 m c) (x11 m c) (x12 m c) _ r R (at_coord t r R hR) _ (logitsD m c h8 h10 h12 t r R hR) q)

theorem actD (i : S16384x1.Idx) (hi : once (F := Ideal) (val_main_v1145 (F := Ideal) (x0 m c) (x7 m c) (x8 m c) (x9 m c) (x10 m c) (x11 m c) (x12 m c)) i = 1#1) :
    (dats m 0 c).arrAt 16 Cert.KernelIdeal.cfg0.N i = val_main_v1161 (F := Ideal) (x0 m c) (x7 m c) (x8 m c) (x9 m c) (x10 m c) (x11 m c) (x12 m c) i := by
  obtain ⟨R, u, rfl⟩ := ix2_surj i
  obtain ⟨t, r, hR⟩ := split R
  have hT := RefRows.scoresD (x0 m c) (x7 m c) (x8 m c) (x9 m c) (x10 m c) (x11 m c) (x12 m c) _ r R (at_coord t r R hR) _ (logitsD m c h8 h10 h12 t r R hR)
  obtain ⟨a, ha⟩ := once_at _ R u _ hT hi
  rw [actionD]
  exact (at16 m c t r R hR u a ha).trans (firstMax_at _ R u _ hT a ha).symm

end D

/-! ## The biases -/

theorem zero_of {s : Shape} (x z : FVec Ideal s .f32) (hz : ∀ i, (z i : EReal) = 0) (h : cmpf .oeq x z = fun _ => 1#1) (i : s.Idx) :
    (x i : EReal) = 0 :=
  ((Pick.oeq_one (x i) (z i)).mp (congrFun h i)).trans (hz i)

/-- Every bias is zero where the precondition holds. -/
theorem zeros (h : Cert.Pre_KernelIdeal_zero_biases m) :
    (∀ i, (x2 m c i : EReal) = 0) ∧ (∀ i, (x4 m c i : EReal) = 0) ∧ (∀ i, (x6 m c i : EReal) = 0)
    ∧ (∀ i, (x8 m c i : EReal) = 0) ∧ (∀ i, (x10 m c i : EReal) = 0) ∧ (∀ i, (x12 m c i : EReal) = 0) := by
  obtain ⟨h2, h4, h6, h8, h10, h12⟩ := h c
  exact ⟨zero_of _ _ (fun _ => Mlp.zero_bits) h2, zero_of _ _ (fun _ => Mlp.zero_bits) h4, zero_of _ _ (fun _ => Mlp.zero_bits) h6,
    zero_of _ _ (fun _ => Mlp.zero_bits) h8, zero_of _ _ (fun _ => Mlp.zero_bits) h10, zero_of _ _ (fun _ => Mlp.zero_bits) h12⟩

end Cert.Agree
end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Agree
public import Idealize.ShloMosaic.Lib.Claim

@[expose] public section

/-!
# The five claims

The kernel runs and leaves its arguments alone, over the words and over the reals; so does the reference;
and the four results of the two agree: the probabilities everywhere, an action wherever its row has one
greatest score.
-/
namespace Cert.Proof
open Cert.Agree Cert.ReferenceIdeal.Read
open Idealize.ShloMosaic Idealize.ShloMosaic.TcCoe Idealize.SL.Sem

/-- A function of seven arguments at equal arguments. -/
theorem same7 {A B C D E G H T : Type _} (f : A → B → C → D → E → G → H → T) {a a' : A} {b b' : B} {c c' : C} {d d' : D}
    {e e' : E} {g g' : G} {h h' : H} (ha : a' = a) (hb : b' = b) (hc : c' = c) (hd : d' = d) (he : e' = e) (hg : g' = g) (hh : h' = h) :
    f a' b' c' d' e' g' h' = f a b c d e g h := by
  subst ha hb hc hd he hg hh; rfl

/-- The reference runs, changes no argument, and signals nothing. -/
theorem frame_reference : Cert.quiescent_ReferenceIdeal := fun m g _ =>
  (θ_run (Cert.ReferenceIdeal.defs (F := Ideal)) _ _).mono
    (fun r h => ⟨fun c => (h c).2.2.2.2, sem_eq_zero_of_no_sems (by decide) r.2⟩)
    (Cert.ReferenceIdeal.Value.run (F := Ideal) m g)

/-- The four results. -/
theorem results : Cert.algebraic_KernelIdeal_ReferenceIdeal_on_no_tie_pre_zero_biases := by
  intro m g m' g' hz ha
  refine ⟨fun c => val_main_v464 (F := Ideal) (x0 m c) (x1 m c) (x2 m c) (x3 m c) (x4 m c) (x5 m c) (x6 m c),
    fun c => val_main_v1153 (F := Ideal) (x0 m c) (x1 m c) (x2 m c) (x3 m c) (x4 m c) (x5 m c) (x6 m c),
    fun c => val_main_v940 (F := Ideal) (x0 m c) (x7 m c) (x8 m c) (x9 m c) (x10 m c) (x11 m c) (x12 m c),
    fun c => val_main_v1161 (F := Ideal) (x0 m c) (x7 m c) (x8 m c) (x9 m c) (x10 m c) (x11 m c) (x12 m c), ?_, ?_⟩
  · refine (θ_run _ _ _).mono (fun r h c => ?_) (Cert.KernelIdeal.Value.run_blocks (F := Ideal) m g)
    obtain ⟨z2, z4, z6, z8, z10, z12⟩ := zeros m c hz
    obtain ⟨p, a, q, b, kept⟩ := h c
    exact ⟨fun i _ => (congrFun p i).trans (probH m c z2 z4 z6 i),
      fun i hi => (congrFun a i).trans (actH m c z2 z4 z6 i ((congrFun (Cert.RefRows.maskH ..) i).symm.trans hi)),
      fun i _ => (congrFun q i).trans (probD m c z8 z10 z12 i),
      fun i hi => (congrFun b i).trans (actD m c z8 z10 z12 i ((congrFun (Cert.RefRows.maskD ..) i).symm.trans hi)), kept⟩
  · refine (θ_run _ _ _).mono (fun r h c => ?_) (Cert.ReferenceIdeal.Value.run (F := Ideal) m' g')
    obtain ⟨e0, e1, e2, e3, e4, e5, e6, e7, e8, e9, e10, e11, e12⟩ := ha c
    obtain ⟨p, a, q, b, kept⟩ := h c
    exact ⟨fun i _ => congrFun (p.trans ((val_main_v464_eq _).trans (same7 (val_main_v464 (F := Ideal)) e0 e1 e2 e3 e4 e5 e6))) i,
      fun i _ => congrFun (a.trans ((val_main_v1153_eq _).trans (same7 (val_main_v1153 (F := Ideal)) e0 e1 e2 e3 e4 e5 e6))) i,
      fun i _ => congrFun (q.trans ((val_main_v940_eq _).trans (same7 (val_main_v940 (F := Ideal)) e0 e7 e8 e9 e10 e11 e12))) i,
      fun i _ => congrFun (b.trans ((val_main_v1161_eq _).trans (same7 (val_main_v1161 (F := Ideal)) e0 e7 e8 e9 e10 e11 e12))) i, kept⟩

/-- Everything claimed. -/
theorem claim : Cert.Claim :=
  ⟨Cert.Kernel.Gen.facts, Cert.KernelIdeal.Gen.facts, Cert.ReferenceIdeal.Gen.facts, Cert.RefRows.pre, Cert.RefRows.on,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, results⟩

end Cert.Proof

end
